-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_decaying [hPre_decaying : Cert.Pre_decaying.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_decaying.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_decaying [hPre_decaying : Cert.Pre_decaying.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_decaying.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2))) = (fun _ => 1#1)

def Pre_MlpSample (m : (ℓ : Loc Cert.MlpSample.nD Cert.MlpSample.τ Cert.MlpSample.sig) → Buf (Elt Bits) ℓ) : Prop :=
  True

def Pre_MlpSampleIdeal (m : (ℓ : Loc Cert.MlpSampleIdeal.nD Cert.MlpSampleIdeal.τ Cert.MlpSampleIdeal.sig) → Buf (Elt Ideal) ℓ) : Prop :=
  True

def Pre_MlpSampleRefIdeal (m : (ℓ : Loc Cert.MlpSampleRefIdeal.nD Cert.MlpSampleRefIdeal.τ Cert.MlpSampleRefIdeal.sig) → Buf (Elt Ideal) ℓ) : Prop :=
  True

def Pre_InprojSample (m : (ℓ : Loc Cert.InprojSample.nD Cert.InprojSample.τ Cert.InprojSample.sig) → Buf (Elt Bits) ℓ) : Prop :=
  True

def Pre_InprojSampleIdeal (m : (ℓ : Loc Cert.InprojSampleIdeal.nD Cert.InprojSampleIdeal.τ Cert.InprojSampleIdeal.sig) → Buf (Elt Ideal) ℓ) : Prop :=
  True

def Pre_InprojSampleRefIdeal (m : (ℓ : Loc Cert.InprojSampleRefIdeal.nD Cert.InprojSampleRefIdeal.τ Cert.InprojSampleRefIdeal.sig) → Buf (Elt Ideal) ℓ) : Prop :=
  True

def Pre_AttnPrompt (m : (ℓ : Loc Cert.AttnPrompt.nD Cert.AttnPrompt.τ Cert.AttnPrompt.sig) → Buf (Elt Bits) ℓ) : Prop :=
  True

def Pre_AttnPromptIdeal (m : (ℓ : Loc Cert.AttnPromptIdeal.nD Cert.AttnPromptIdeal.τ Cert.AttnPromptIdeal.sig) → Buf (Elt Ideal) ℓ) : Prop :=
  True

def Pre_AttnPromptIdeal_finite_band [hPre_finite_band : Cert.Pre_finite_band.Facts] (m : (ℓ : Loc Cert.AttnPromptIdeal.nD Cert.AttnPromptIdeal.τ Cert.AttnPromptIdeal.sig) → Buf (Elt Ideal) ℓ) : Prop :=
  ∀ c : Dev Cert.AttnPromptIdeal.nD,
    (Cert.Pre_finite_band.fn (F := Ideal) (m ((c.tc : Thread Cert.AttnPromptIdeal.nD Cert.AttnPromptIdeal.τ).loc Cert.AttnPromptIdeal.main_arg0)) (m ((c.tc : Thread Cert.AttnPromptIdeal.nD Cert.AttnPromptIdeal.τ).loc Cert.AttnPromptIdeal.main_arg1)) (m ((c.tc : Thread Cert.AttnPromptIdeal.nD Cert.AttnPromptIdeal.τ).loc Cert.AttnPromptIdeal.main_arg2)) (m ((c.tc : Thread Cert.AttnPromptIdeal.nD Cert.AttnPromptIdeal.τ).loc Cert.AttnPromptIdeal.main_arg3)) (m ((c.tc : Thread Cert.AttnPromptIdeal.nD Cert.AttnPromptIdeal.τ).loc Cert.AttnPromptIdeal.main_arg4))) = (fun _ => 1#1)

def Pre_AttnPromptRefIdeal (m : (ℓ : Loc Cert.AttnPromptRefIdeal.nD Cert.AttnPromptRefIdeal.τ Cert.AttnPromptRefIdeal.sig) → Buf (Elt Ideal) ℓ) : Prop :=
  True

def Pre_AttnPromptRefIdeal_finite_band [hPre_finite_band : Cert.Pre_finite_band.Facts] (m : (ℓ : Loc Cert.AttnPromptRefIdeal.nD Cert.AttnPromptRefIdeal.τ Cert.AttnPromptRefIdeal.sig) → Buf (Elt Ideal) ℓ) : Prop :=
  ∀ c : Dev Cert.AttnPromptRefIdeal.nD,
    (Cert.Pre_finite_band.fn (F := Ideal) (m ((c.tc : Thread Cert.AttnPromptRefIdeal.nD Cert.AttnPromptRefIdeal.τ).loc Cert.AttnPromptRefIdeal.main_arg0)) (m ((c.tc : Thread Cert.AttnPromptRefIdeal.nD Cert.AttnPromptRefIdeal.τ).loc Cert.AttnPromptRefIdeal.main_arg1)) (m ((c.tc : Thread Cert.AttnPromptRefIdeal.nD Cert.AttnPromptRefIdeal.τ).loc Cert.AttnPromptRefIdeal.main_arg2)) (m ((c.tc : Thread Cert.AttnPromptRefIdeal.nD Cert.AttnPromptRefIdeal.τ).loc Cert.AttnPromptRefIdeal.main_arg3)) (m ((c.tc : Thread Cert.AttnPromptRefIdeal.nD Cert.AttnPromptRefIdeal.τ).loc Cert.AttnPromptRefIdeal.main_arg4))) = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5)
      ∧ r.2.mem ((c.tc : Thread Cert.MlpRefIdeal.nD Cert.MlpRefIdeal.τ).loc Cert.MlpRefIdeal.main_arg6) = m ((c.tc : Thread Cert.MlpRefIdeal.nD Cert.MlpRefIdeal.τ).loc Cert.MlpRefIdeal.main_arg6)
      ∧ r.2.mem ((c.tc : Thread Cert.MlpRefIdeal.nD Cert.MlpRefIdeal.τ).loc Cert.MlpRefIdeal.main_arg7) = m ((c.tc : Thread Cert.MlpRefIdeal.nD Cert.MlpRefIdeal.τ).loc Cert.MlpRefIdeal.main_arg7))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnIdeal_pre_decaying [hHgrnIdeal : Cert.HgrnIdeal.Facts] [hPre_decaying : Cert.Pre_decaying.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_decaying m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_HgrnRefIdeal_pre_decaying [hHgrnRefIdeal : Cert.HgrnRefIdeal.Facts] [hPre_decaying : Cert.Pre_decaying.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_decaying m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2))
      ∧ r.2.sem = fun _ => 0)

def quiescent_MlpSample [hMlpSample : Cert.MlpSample.Facts] : Prop :=
  ∀ (m : (ℓ : Loc Cert.MlpSample.nD Cert.MlpSample.τ Cert.MlpSample.sig) → Buf (Elt Bits) ℓ) (g : Dev Cert.MlpSample.nD → PrngReg), Pre_MlpSample m →
    θ_run (Cert.MlpSample.defs (F := Bits)) (onTc (τ := Cert.MlpSample.τ) (Cert.MlpSample.main (F := Bits))) ⟨m, fun _ => 0, g⟩ (fun r => (∀ c : Dev Cert.MlpSample.nD,
      r.2.mem ((c.tc : Thread Cert.MlpSample.nD Cert.MlpSample.τ).loc Cert.MlpSample.main_arg0) = m ((c.tc : Thread Cert.MlpSample.nD Cert.MlpSample.τ).loc Cert.MlpSample.main_arg0)
      ∧ r.2.mem ((c.tc : Thread Cert.MlpSample.nD Cert.MlpSample.τ).loc Cert.MlpSample.main_arg1) = m ((c.tc : Thread Cert.MlpSample.nD Cert.MlpSample.τ).loc Cert.MlpSample.main_arg1)
      ∧ r.2.mem ((c.tc : Thread Cert.MlpSample.nD Cert.MlpSample.τ).loc Cert.MlpSample.main_arg2) = m ((c.tc : Thread Cert.MlpSample.nD Cert.MlpSample.τ).loc Cert.MlpSample.main_arg2)
      ∧ r.2.mem ((c.tc : Thread Cert.MlpSample.nD Cert.MlpSample.τ).loc Cert.MlpSample.main_arg3) = m ((c.tc : Thread Cert.MlpSample.nD Cert.MlpSample.τ).loc Cert.MlpSample.main_arg3)
      ∧ r.2.mem ((c.tc : Thread Cert.MlpSample.nD Cert.MlpSample.τ).loc Cert.MlpSample.main_arg4) = m ((c.tc : Thread Cert.MlpSample.nD Cert.MlpSample.τ).loc Cert.MlpSample.main_arg4)
      ∧ r.2.mem ((c.tc : Thread Cert.MlpSample.nD Cert.MlpSample.τ).loc Cert.MlpSample.main_arg5) = m ((c.tc : Thread Cert.MlpSample.nD Cert.MlpSample.τ).loc Cert.MlpSample.main_arg5)
      ∧ r.2.mem ((c.tc : Thread Cert.MlpSample.nD Cert.MlpSample.τ).loc Cert.MlpSample.main_arg6) = m ((c.tc : Thread Cert.MlpSample.nD Cert.MlpSample.τ).loc Cert.MlpSample.main_arg6)
      ∧ r.2.mem ((c.tc : Thread Cert.MlpSample.nD Cert.MlpSample.τ).loc Cert.MlpSample.main_arg7) = m ((c.tc : Thread Cert.MlpSample.nD Cert.MlpSample.τ).loc Cert.MlpSample.main_arg7))
      ∧ r.2.sem = fun _ => 0)

def quiescent_MlpSampleIdeal [hMlpSampleIdeal : Cert.MlpSampleIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg), Pre_MlpSampleIdeal m →
    θ_run (Cert.MlpSampleIdeal.defs (F := Ideal)) (onTc (τ := Cert.MlpSampleIdeal.τ) (Cert.MlpSampleIdeal.main (F := Ideal))) ⟨m, fun _ => 0, g⟩ (fun r => (∀ c : Dev Cert.MlpSampleIdeal.nD,
      r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
      ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
      ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
      ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
      ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
      ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5)
      ∧ r.2.mem ((c.tc : Thread Cert.MlpSampleIdeal.nD Cert.MlpSampleIdeal.τ).loc Cert.MlpSampleIdeal.main_arg6) = m ((c.tc : Thread Cert.MlpSampleIdeal.nD Cert.MlpSampleIdeal.τ).loc Cert.MlpSampleIdeal.main_arg6)
      ∧ r.2.mem ((c.tc : Thread Cert.MlpSampleIdeal.nD Cert.MlpSampleIdeal.τ).loc Cert.MlpSampleIdeal.main_arg7) = m ((c.tc : Thread Cert.MlpSampleIdeal.nD Cert.MlpSampleIdeal.τ).loc Cert.MlpSampleIdeal.main_arg7))
      ∧ r.2.sem = fun _ => 0)

def quiescent_MlpSampleRefIdeal [hMlpSampleRefIdeal : Cert.MlpSampleRefIdeal.Facts] : Prop :=
  ∀ (m : (ℓ : Loc Cert.MlpSampleRefIdeal.nD Cert.MlpSampleRefIdeal.τ Cert.MlpSampleRefIdeal.sig) → Buf (Elt Ideal) ℓ) (g : Dev Cert.MlpSampleRefIdeal.nD → PrngReg), Pre_MlpSampleRefIdeal m →
    θ_run (Cert.MlpSampleRefIdeal.defs (F := Ideal)) (onTc (τ := Cert.MlpSampleRefIdeal.τ) (Cert.MlpSampleRefIdeal.main (F := Ideal))) ⟨m, fun _ => 0, g⟩ (fun r => (∀ c : Dev Cert.MlpSampleRefIdeal.nD,
      r.2.mem ((c.tc : Thread Cert.MlpSampleRefIdeal.nD Cert.MlpSampleRefIdeal.τ).loc Cert.MlpSampleRefIdeal.main_arg0) = m ((c.tc : Thread Cert.MlpSampleRefIdeal.nD Cert.MlpSampleRefIdeal.τ).loc Cert.MlpSampleRefIdeal.main_arg0)
      ∧ r.2.mem ((c.tc : Thread Cert.MlpSampleRefIdeal.nD Cert.MlpSampleRefIdeal.τ).loc Cert.MlpSampleRefIdeal.main_arg1) = m ((c.tc : Thread Cert.MlpSampleRefIdeal.nD Cert.MlpSampleRefIdeal.τ).loc Cert.MlpSampleRefIdeal.main_arg1)
      ∧ r.2.mem ((c.tc : Thread Cert.MlpSampleRefIdeal.nD Cert.MlpSampleRefIdeal.τ).loc Cert.MlpSampleRefIdeal.main_arg2) = m ((c.tc : Thread Cert.MlpSampleRefIdeal.nD Cert.MlpSampleRefIdeal.τ).loc Cert.MlpSampleRefIdeal.main_arg2)
      ∧ r.2.mem ((c.tc : Thread Cert.MlpSampleRefIdeal.nD Cert.MlpSampleRefIdeal.τ).loc Cert.MlpSampleRefIdeal.main_arg3) = m ((c.tc : Thread Cert.MlpSampleRefIdeal.nD Cert.MlpSampleRefIdeal.τ).loc Cert.MlpSampleRefIdeal.main_arg3)
      ∧ r.2.mem ((c.tc : Thread Cert.MlpSampleRefIdeal.nD Cert.MlpSampleRefIdeal.τ).loc Cert.MlpSampleRefIdeal.main_arg4) = m ((c.tc : Thread Cert.MlpSampleRefIdeal.nD Cert.MlpSampleRefIdeal.τ).loc Cert.MlpSampleRefIdeal.main_arg4)
      ∧ r.2.mem ((c.tc : Thread Cert.MlpSampleRefIdeal.nD Cert.MlpSampleRefIdeal.τ).loc Cert.MlpSampleRefIdeal.main_arg5) = m ((c.tc : Thread Cert.MlpSampleRefIdeal.nD Cert.MlpSampleRefIdeal.τ).loc Cert.MlpSampleRefIdeal.main_arg5)
      ∧ r.2.mem ((c.tc : Thread Cert.MlpSampleRefIdeal.nD Cert.MlpSampleRefIdeal.τ).loc Cert.MlpSampleRefIdeal.main_arg6) = m ((c.tc : Thread Cert.MlpSampleRefIdeal.nD Cert.MlpSampleRefIdeal.τ).loc Cert.MlpSampleRefIdeal.main_arg6)
      ∧ r.2.mem ((c.tc : Thread Cert.MlpSampleRefIdeal.nD Cert.MlpSampleRefIdeal.τ).loc Cert.MlpSampleRefIdeal.main_arg7) = m ((c.tc : Thread Cert.MlpSampleRefIdeal.nD Cert.MlpSampleRefIdeal.τ).loc Cert.MlpSampleRefIdeal.main_arg7))
      ∧ r.2.sem = fun _ => 0)

def quiescent_InprojSample [hInprojSample : Cert.InprojSample.Facts] : Prop :=
  ∀ (m : (ℓ : Loc Cert.InprojSample.nD Cert.InprojSample.τ Cert.InprojSample.sig) → Buf (Elt Bits) ℓ) (g : Dev Cert.InprojSample.nD → PrngReg), Pre_InprojSample m →
    θ_run (Cert.InprojSample.defs (F := Bits)) (onTc (τ := Cert.InprojSample.τ) (Cert.InprojSample.main (F := Bits))) ⟨m, fun _ => 0, g⟩ (fun r => (∀ c : Dev Cert.InprojSample.nD,
      r.2.mem ((c.tc : Thread Cert.InprojSample.nD Cert.InprojSample.τ).loc Cert.InprojSample.main_arg0) = m ((c.tc : Thread Cert.InprojSample.nD Cert.InprojSample.τ).loc Cert.InprojSample.main_arg0)
      ∧ r.2.mem ((c.tc : Thread Cert.InprojSample.nD Cert.InprojSample.τ).loc Cert.InprojSample.main_arg1) = m ((c.tc : Thread Cert.InprojSample.nD Cert.InprojSample.τ).loc Cert.InprojSample.main_arg1)
      ∧ r.2.mem ((c.tc : Thread Cert.InprojSample.nD Cert.InprojSample.τ).loc Cert.InprojSample.main_arg2) = m ((c.tc : Thread Cert.InprojSample.nD Cert.InprojSample.τ).loc Cert.InprojSample.main_arg2)
      ∧ r.2.mem ((c.tc : Thread Cert.InprojSample.nD Cert.InprojSample.τ).loc Cert.InprojSample.main_arg3) = m ((c.tc : Thread Cert.InprojSample.nD Cert.InprojSample.τ).loc Cert.InprojSample.main_arg3))
      ∧ r.2.sem = fun _ => 0)

def quiescent_InprojSampleIdeal [hInprojSampleIdeal : Cert.InprojSampleIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg), Pre_InprojSampleIdeal m →
    θ_run (Cert.InprojSampleIdeal.defs (F := Ideal)) (onTc (τ := Cert.InprojSampleIdeal.τ) (Cert.InprojSampleIdeal.main (F := Ideal))) ⟨m, fun _ => 0, g⟩ (fun r => (∀ c : Dev Cert.InprojSampleIdeal.nD,
      r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
      ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
      ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
      ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3))
      ∧ r.2.sem = fun _ => 0)

def quiescent_InprojSampleRefIdeal [hInprojSampleRefIdeal : Cert.InprojSampleRefIdeal.Facts] : Prop :=
  ∀ (m : (ℓ : Loc Cert.InprojSampleRefIdeal.nD Cert.InprojSampleRefIdeal.τ Cert.InprojSampleRefIdeal.sig) → Buf (Elt Ideal) ℓ) (g : Dev Cert.InprojSampleRefIdeal.nD → PrngReg), Pre_InprojSampleRefIdeal m →
    θ_run (Cert.InprojSampleRefIdeal.defs (F := Ideal)) (onTc (τ := Cert.InprojSampleRefIdeal.τ) (Cert.InprojSampleRefIdeal.main (F := Ideal))) ⟨m, fun _ => 0, g⟩ (fun r => (∀ c : Dev Cert.InprojSampleRefIdeal.nD,
      r.2.mem ((c.tc : Thread Cert.InprojSampleRefIdeal.nD Cert.InprojSampleRefIdeal.τ).loc Cert.InprojSampleRefIdeal.main_arg0) = m ((c.tc : Thread Cert.InprojSampleRefIdeal.nD Cert.InprojSampleRefIdeal.τ).loc Cert.InprojSampleRefIdeal.main_arg0)
      ∧ r.2.mem ((c.tc : Thread Cert.InprojSampleRefIdeal.nD Cert.InprojSampleRefIdeal.τ).loc Cert.InprojSampleRefIdeal.main_arg1) = m ((c.tc : Thread Cert.InprojSampleRefIdeal.nD Cert.InprojSampleRefIdeal.τ).loc Cert.InprojSampleRefIdeal.main_arg1)
      ∧ r.2.mem ((c.tc : Thread Cert.InprojSampleRefIdeal.nD Cert.InprojSampleRefIdeal.τ).loc Cert.InprojSampleRefIdeal.main_arg2) = m ((c.tc : Thread Cert.InprojSampleRefIdeal.nD Cert.InprojSampleRefIdeal.τ).loc Cert.InprojSampleRefIdeal.main_arg2)
      ∧ r.2.mem ((c.tc : Thread Cert.InprojSampleRefIdeal.nD Cert.InprojSampleRefIdeal.τ).loc Cert.InprojSampleRefIdeal.main_arg3) = m ((c.tc : Thread Cert.InprojSampleRefIdeal.nD Cert.InprojSampleRefIdeal.τ).loc Cert.InprojSampleRefIdeal.main_arg3))
      ∧ r.2.sem = fun _ => 0)

def quiescent_AttnPrompt [hAttnPrompt : Cert.AttnPrompt.Facts] : Prop :=
  ∀ (m : (ℓ : Loc Cert.AttnPrompt.nD Cert.AttnPrompt.τ Cert.AttnPrompt.sig) → Buf (Elt Bits) ℓ) (g : Dev Cert.AttnPrompt.nD → PrngReg), Pre_AttnPrompt m →
    θ_run (Cert.AttnPrompt.defs (F := Bits)) (onTc (τ := Cert.AttnPrompt.τ) (Cert.AttnPrompt.main (F := Bits))) ⟨m, fun _ => 0, g⟩ (fun r => (∀ c : Dev Cert.AttnPrompt.nD,
      r.2.mem ((c.tc : Thread Cert.AttnPrompt.nD Cert.AttnPrompt.τ).loc Cert.AttnPrompt.main_arg0) = m ((c.tc : Thread Cert.AttnPrompt.nD Cert.AttnPrompt.τ).loc Cert.AttnPrompt.main_arg0)
      ∧ r.2.mem ((c.tc : Thread Cert.AttnPrompt.nD Cert.AttnPrompt.τ).loc Cert.AttnPrompt.main_arg1) = m ((c.tc : Thread Cert.AttnPrompt.nD Cert.AttnPrompt.τ).loc Cert.AttnPrompt.main_arg1)
      ∧ r.2.mem ((c.tc : Thread Cert.AttnPrompt.nD Cert.AttnPrompt.τ).loc Cert.AttnPrompt.main_arg2) = m ((c.tc : Thread Cert.AttnPrompt.nD Cert.AttnPrompt.τ).loc Cert.AttnPrompt.main_arg2)
      ∧ r.2.mem ((c.tc : Thread Cert.AttnPrompt.nD Cert.AttnPrompt.τ).loc Cert.AttnPrompt.main_arg3) = m ((c.tc : Thread Cert.AttnPrompt.nD Cert.AttnPrompt.τ).loc Cert.AttnPrompt.main_arg3)
      ∧ r.2.mem ((c.tc : Thread Cert.AttnPrompt.nD Cert.AttnPrompt.τ).loc Cert.AttnPrompt.main_arg4) = m ((c.tc : Thread Cert.AttnPrompt.nD Cert.AttnPrompt.τ).loc Cert.AttnPrompt.main_arg4))
      ∧ r.2.sem = fun _ => 0)

def quiescent_AttnPromptIdeal [hAttnPromptIdeal : Cert.AttnPromptIdeal.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
      ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
      ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4))
      ∧ r.2.sem = fun _ => 0)

def quiescent_AttnPromptIdeal_pre_finite_band [hAttnPromptIdeal : Cert.AttnPromptIdeal.Facts] [hPre_finite_band : Cert.Pre_finite_band.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg), Pre_AttnPromptIdeal_finite_band m →
    θ_run (Cert.AttnPromptIdeal.defs (F := Ideal)) (onTc (τ := Cert.AttnPromptIdeal.τ) (Cert.AttnPromptIdeal.main (F := Ideal))) ⟨m, fun _ => 0, g⟩ (fun r => (∀ c : Dev Cert.AttnPromptIdeal.nD,
      r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
      ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
      ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
      ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
      ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4))
      ∧ r.2.sem = fun _ => 0)

def quiescent_AttnPromptRefIdeal [hAttnPromptRefIdeal : Cert.AttnPromptRefIdeal.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2)
      ∧ r.2.mem ((c.tc : Thread Cert.AttnPromptRefIdeal.nD Cert.AttnPromptRefIdeal.τ).loc Cert.AttnPromptRefIdeal.main_arg3) = m ((c.tc : Thread Cert.AttnPromptRefIdeal.nD Cert.AttnPromptRefIdeal.τ).loc Cert.AttnPromptRefIdeal.main_arg3)
      ∧ r.2.mem ((c.tc : Thread Cert.AttnPromptRefIdeal.nD Cert.AttnPromptRefIdeal.τ).loc Cert.AttnPromptRefIdeal.main_arg4) = m ((c.tc : Thread Cert.AttnPromptRefIdeal.nD Cert.AttnPromptRefIdeal.τ).loc Cert.AttnPromptRefIdeal.main_arg4))
      ∧ r.2.sem = fun _ => 0)

def quiescent_AttnPromptRefIdeal_pre_finite_band [hAttnPromptRefIdeal : Cert.AttnPromptRefIdeal.Facts] [hPre_finite_band : Cert.Pre_finite_band.Facts] : Prop :=
  ∀ (m : (ℓ : Loc Cert.AttnPromptRefIdeal.nD Cert.AttnPromptRefIdeal.τ Cert.AttnPromptRefIdeal.sig) → Buf (Elt Ideal) ℓ) (g : Dev Cert.AttnPromptRefIdeal.nD → PrngReg), Pre_AttnPromptRefIdeal_finite_band m →
    θ_run (Cert.AttnPromptRefIdeal.defs (F := Ideal)) (onTc (τ := Cert.AttnPromptRefIdeal.τ) (Cert.AttnPromptRefIdeal.main (F := Ideal))) ⟨m, fun _ => 0, g⟩ (fun r => (∀ c : Dev Cert.AttnPromptRefIdeal.nD,
      r.2.mem ((c.tc : Thread Cert.AttnPromptRefIdeal.nD Cert.AttnPromptRefIdeal.τ).loc Cert.AttnPromptRefIdeal.main_arg0) = m ((c.tc : Thread Cert.AttnPromptRefIdeal.nD Cert.AttnPromptRefIdeal.τ).loc Cert.AttnPromptRefIdeal.main_arg0)
      ∧ r.2.mem ((c.tc : Thread Cert.AttnPromptRefIdeal.nD Cert.AttnPromptRefIdeal.τ).loc Cert.AttnPromptRefIdeal.main_arg1) = m ((c.tc : Thread Cert.AttnPromptRefIdeal.nD Cert.AttnPromptRefIdeal.τ).loc Cert.AttnPromptRefIdeal.main_arg1)
      ∧ r.2.mem ((c.tc : Thread Cert.AttnPromptRefIdeal.nD Cert.AttnPromptRefIdeal.τ).loc Cert.AttnPromptRefIdeal.main_arg2) = m ((c.tc : Thread Cert.AttnPromptRefIdeal.nD Cert.AttnPromptRefIdeal.τ).loc Cert.AttnPromptRefIdeal.main_arg2)
      ∧ r.2.mem ((c.tc : Thread Cert.AttnPromptRefIdeal.nD Cert.AttnPromptRefIdeal.τ).loc Cert.AttnPromptRefIdeal.main_arg3) = m ((c.tc : Thread Cert.AttnPromptRefIdeal.nD Cert.AttnPromptRefIdeal.τ).loc Cert.AttnPromptRefIdeal.main_arg3)
      ∧ r.2.mem ((c.tc : Thread Cert.AttnPromptRefIdeal.nD Cert.AttnPromptRefIdeal.τ).loc Cert.AttnPromptRefIdeal.main_arg4) = m ((c.tc : Thread Cert.AttnPromptRefIdeal.nD Cert.AttnPromptRefIdeal.τ).loc Cert.AttnPromptRefIdeal.main_arg4))
      ∧ r.2.sem = fun _ => 0)

def preserves_Attn_AttnIdeal : Prop :=
  IdealRules.named_const.Statement Cert.AttnIdeal.κ "log2e" .f32 0x3FB8AA3B#32 (((Real.log 2)⁻¹ : ℝ) : EReal)

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v8)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v8) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v69) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)
      ∧ m' ((c.tc : Thread Cert.MlpRefIdeal.nD Cert.MlpRefIdeal.τ).loc Cert.MlpRefIdeal.main_arg6) = m ((c.tc : Thread Cert.MlpIdeal.nD Cert.MlpIdeal.τ).loc Cert.MlpIdeal.main_arg6)
      ∧ m' ((c.tc : Thread Cert.MlpRefIdeal.nD Cert.MlpRefIdeal.τ).loc Cert.MlpRefIdeal.main_arg7) = m ((c.tc : Thread Cert.MlpIdeal.nD Cert.MlpIdeal.τ).loc Cert.MlpIdeal.main_arg7)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v36) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5)
          ∧ r.2.mem ((c.tc : Thread Cert.MlpRefIdeal.nD Cert.MlpRefIdeal.τ).loc Cert.MlpRefIdeal.main_arg6) = m' ((c.tc : Thread Cert.MlpRefIdeal.nD Cert.MlpRefIdeal.τ).loc Cert.MlpRefIdeal.main_arg6)
          ∧ r.2.mem ((c.tc : Thread Cert.MlpRefIdeal.nD Cert.MlpRefIdeal.τ).loc Cert.MlpRefIdeal.main_arg7) = m' ((c.tc : Thread Cert.MlpRefIdeal.nD Cert.MlpRefIdeal.τ).loc Cert.MlpRefIdeal.main_arg7))

def preserves_Inproj_InprojIdeal : Prop :=
  IdealRules.named_const.Statement Cert.InprojIdeal.κ "log2e_8" .f32 0x3E38AA3B#32 (((Real.log 256)⁻¹ : ℝ) : EReal)

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)) →
    ∃ (v0 : (c : Dev Cert.InprojIdeal.nD) → Buf (Elt Ideal) ((c.tc : Thread Cert.InprojIdeal.nD Cert.InprojIdeal.τ).loc Cert.InprojIdeal.main_v2_0)) (v1 : (c : Dev Cert.InprojIdeal.nD) → Buf (Elt Ideal) ((c.tc : Thread Cert.InprojIdeal.nD Cert.InprojIdeal.τ).loc Cert.InprojIdeal.main_v2_1)) (v2 : (c : Dev Cert.InprojIdeal.nD) → Buf (Elt Ideal) ((c.tc : Thread Cert.InprojIdeal.nD Cert.InprojIdeal.τ).loc Cert.InprojIdeal.main_v2_2)) (v3 : (c : Dev Cert.InprojIdeal.nD) → Buf (Elt Ideal) ((c.tc : Thread Cert.InprojIdeal.nD Cert.InprojIdeal.τ).loc Cert.InprojIdeal.main_v2_3)) (v4 : (c : Dev Cert.InprojIdeal.nD) → Buf (Elt Ideal) ((c.tc : Thread Cert.InprojIdeal.nD Cert.InprojIdeal.τ).loc Cert.InprojIdeal.main_v2_4)) (v5 : (c : Dev Cert.InprojIdeal.nD) → Buf (Elt Ideal) ((c.tc : Thread Cert.InprojIdeal.nD Cert.InprojIdeal.τ).loc Cert.InprojIdeal.main_v2_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v2_0) = v0 c
          ∧ r.2.mem ((c.tc : Thread Cert.InprojIdeal.nD Cert.InprojIdeal.τ).loc Cert.InprojIdeal.main_v2_1) = v1 c
          ∧ r.2.mem ((c.tc : Thread Cert.InprojIdeal.nD Cert.InprojIdeal.τ).loc Cert.InprojIdeal.main_v2_2) = v2 c
          ∧ r.2.mem ((c.tc : Thread Cert.InprojIdeal.nD Cert.InprojIdeal.τ).loc Cert.InprojIdeal.main_v2_3) = v3 c
          ∧ r.2.mem ((c.tc : Thread Cert.InprojIdeal.nD Cert.InprojIdeal.τ).loc Cert.InprojIdeal.main_v2_4) = v4 c
          ∧ r.2.mem ((c.tc : Thread Cert.InprojIdeal.nD Cert.InprojIdeal.τ).loc Cert.InprojIdeal.main_v2_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v59) = v0 c
          ∧ r.2.mem ((c.tc : Thread Cert.InprojRefIdeal.nD Cert.InprojRefIdeal.τ).loc Cert.InprojRefIdeal.main_v60) = v1 c
          ∧ r.2.mem ((c.tc : Thread Cert.InprojRefIdeal.nD Cert.InprojRefIdeal.τ).loc Cert.InprojRefIdeal.main_v61) = v2 c
          ∧ r.2.mem ((c.tc : Thread Cert.InprojRefIdeal.nD Cert.InprojRefIdeal.τ).loc Cert.InprojRefIdeal.main_v62) = v3 c
          ∧ r.2.mem ((c.tc : Thread Cert.InprojRefIdeal.nD Cert.InprojRefIdeal.τ).loc Cert.InprojRefIdeal.main_v65) = v4 c
          ∧ r.2.mem ((c.tc : Thread Cert.InprojRefIdeal.nD Cert.InprojRefIdeal.τ).loc Cert.InprojRefIdeal.main_v68) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3))

def preserves_Hgrn_HgrnIdeal : Prop :=
  True

def algebraic_HgrnIdeal_HgrnRefIdeal_pre_decaying [hHgrnIdeal : Cert.HgrnIdeal.Facts] [hHgrnRefIdeal : Cert.HgrnRefIdeal.Facts] [hPre_decaying : Cert.Pre_decaying.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_decaying m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)) →
    ∃ (v0 : (c : Dev Cert.HgrnIdeal.nD) → Buf (Elt Ideal) ((c.tc : Thread Cert.HgrnIdeal.nD Cert.HgrnIdeal.τ).loc Cert.HgrnIdeal.main_v1_0)) (v1 : (c : Dev Cert.HgrnIdeal.nD) → Buf (Elt Ideal) ((c.tc : Thread Cert.HgrnIdeal.nD Cert.HgrnIdeal.τ).loc Cert.HgrnIdeal.main_v1_1)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v1_0) = v0 c
          ∧ r.2.mem ((c.tc : Thread Cert.HgrnIdeal.nD Cert.HgrnIdeal.τ).loc Cert.HgrnIdeal.main_v1_1) = v1 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v74) = v0 c
          ∧ r.2.mem ((c.tc : Thread Cert.HgrnRefIdeal.nD Cert.HgrnRefIdeal.τ).loc Cert.HgrnRefIdeal.main_v48) = v1 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2))

def preserves_MlpSample_MlpSampleIdeal : Prop :=
  True

def algebraic_MlpSampleIdeal_MlpSampleRefIdeal [hMlpSampleIdeal : Cert.MlpSampleIdeal.Facts] [hMlpSampleRefIdeal : Cert.MlpSampleRefIdeal.Facts] : Prop :=
  ∀ (m : (ℓ : Loc Cert.MlpSampleIdeal.nD Cert.MlpSampleIdeal.τ Cert.MlpSampleIdeal.sig) → Buf (Elt Ideal) ℓ) (g : Dev Cert.MlpSampleIdeal.nD → PrngReg)
    (m' : (ℓ : Loc Cert.MlpSampleRefIdeal.nD Cert.MlpSampleRefIdeal.τ Cert.MlpSampleRefIdeal.sig) → Buf (Elt Ideal) ℓ) (g' : Dev Cert.MlpSampleRefIdeal.nD → PrngReg), Pre_MlpSampleIdeal m →
    (∀ c : Dev Cert.MlpSampleIdeal.nD,
      m' ((c.tc : Thread Cert.MlpSampleRefIdeal.nD Cert.MlpSampleRefIdeal.τ).loc Cert.MlpSampleRefIdeal.main_arg0) = m ((c.tc : Thread Cert.MlpSampleIdeal.nD Cert.MlpSampleIdeal.τ).loc Cert.MlpSampleIdeal.main_arg0)
      ∧ m' ((c.tc : Thread Cert.MlpSampleRefIdeal.nD Cert.MlpSampleRefIdeal.τ).loc Cert.MlpSampleRefIdeal.main_arg1) = m ((c.tc : Thread Cert.MlpSampleIdeal.nD Cert.MlpSampleIdeal.τ).loc Cert.MlpSampleIdeal.main_arg1)
      ∧ m' ((c.tc : Thread Cert.MlpSampleRefIdeal.nD Cert.MlpSampleRefIdeal.τ).loc Cert.MlpSampleRefIdeal.main_arg2) = m ((c.tc : Thread Cert.MlpSampleIdeal.nD Cert.MlpSampleIdeal.τ).loc Cert.MlpSampleIdeal.main_arg2)
      ∧ m' ((c.tc : Thread Cert.MlpSampleRefIdeal.nD Cert.MlpSampleRefIdeal.τ).loc Cert.MlpSampleRefIdeal.main_arg3) = m ((c.tc : Thread Cert.MlpSampleIdeal.nD Cert.MlpSampleIdeal.τ).loc Cert.MlpSampleIdeal.main_arg3)
      ∧ m' ((c.tc : Thread Cert.MlpSampleRefIdeal.nD Cert.MlpSampleRefIdeal.τ).loc Cert.MlpSampleRefIdeal.main_arg4) = m ((c.tc : Thread Cert.MlpSampleIdeal.nD Cert.MlpSampleIdeal.τ).loc Cert.MlpSampleIdeal.main_arg4)
      ∧ m' ((c.tc : Thread Cert.MlpSampleRefIdeal.nD Cert.MlpSampleRefIdeal.τ).loc Cert.MlpSampleRefIdeal.main_arg5) = m ((c.tc : Thread Cert.MlpSampleIdeal.nD Cert.MlpSampleIdeal.τ).loc Cert.MlpSampleIdeal.main_arg5)
      ∧ m' ((c.tc : Thread Cert.MlpSampleRefIdeal.nD Cert.MlpSampleRefIdeal.τ).loc Cert.MlpSampleRefIdeal.main_arg6) = m ((c.tc : Thread Cert.MlpSampleIdeal.nD Cert.MlpSampleIdeal.τ).loc Cert.MlpSampleIdeal.main_arg6)
      ∧ m' ((c.tc : Thread Cert.MlpSampleRefIdeal.nD Cert.MlpSampleRefIdeal.τ).loc Cert.MlpSampleRefIdeal.main_arg7) = m ((c.tc : Thread Cert.MlpSampleIdeal.nD Cert.MlpSampleIdeal.τ).loc Cert.MlpSampleIdeal.main_arg7)) →
    ∃ (v0 : (c : Dev Cert.MlpSampleIdeal.nD) → Buf (Elt Ideal) ((c.tc : Thread Cert.MlpSampleIdeal.nD Cert.MlpSampleIdeal.τ).loc Cert.MlpSampleIdeal.main_v5)),
      θ_run (Cert.MlpSampleIdeal.defs (F := Ideal)) (onTc (τ := Cert.MlpSampleIdeal.τ) (Cert.MlpSampleIdeal.main (F := Ideal))) ⟨m, fun _ => 0, g⟩ (fun r => ∀ c : Dev Cert.MlpSampleIdeal.nD,
          r.2.mem ((c.tc : Thread Cert.MlpSampleIdeal.nD Cert.MlpSampleIdeal.τ).loc Cert.MlpSampleIdeal.main_v5) = v0 c
          ∧ r.2.mem ((c.tc : Thread Cert.MlpSampleIdeal.nD Cert.MlpSampleIdeal.τ).loc Cert.MlpSampleIdeal.main_arg0) = m ((c.tc : Thread Cert.MlpSampleIdeal.nD Cert.MlpSampleIdeal.τ).loc Cert.MlpSampleIdeal.main_arg0)
          ∧ r.2.mem ((c.tc : Thread Cert.MlpSampleIdeal.nD Cert.MlpSampleIdeal.τ).loc Cert.MlpSampleIdeal.main_arg1) = m ((c.tc : Thread Cert.MlpSampleIdeal.nD Cert.MlpSampleIdeal.τ).loc Cert.MlpSampleIdeal.main_arg1)
          ∧ r.2.mem ((c.tc : Thread Cert.MlpSampleIdeal.nD Cert.MlpSampleIdeal.τ).loc Cert.MlpSampleIdeal.main_arg2) = m ((c.tc : Thread Cert.MlpSampleIdeal.nD Cert.MlpSampleIdeal.τ).loc Cert.MlpSampleIdeal.main_arg2)
          ∧ r.2.mem ((c.tc : Thread Cert.MlpSampleIdeal.nD Cert.MlpSampleIdeal.τ).loc Cert.MlpSampleIdeal.main_arg3) = m ((c.tc : Thread Cert.MlpSampleIdeal.nD Cert.MlpSampleIdeal.τ).loc Cert.MlpSampleIdeal.main_arg3)
          ∧ r.2.mem ((c.tc : Thread Cert.MlpSampleIdeal.nD Cert.MlpSampleIdeal.τ).loc Cert.MlpSampleIdeal.main_arg4) = m ((c.tc : Thread Cert.MlpSampleIdeal.nD Cert.MlpSampleIdeal.τ).loc Cert.MlpSampleIdeal.main_arg4)
          ∧ r.2.mem ((c.tc : Thread Cert.MlpSampleIdeal.nD Cert.MlpSampleIdeal.τ).loc Cert.MlpSampleIdeal.main_arg5) = m ((c.tc : Thread Cert.MlpSampleIdeal.nD Cert.MlpSampleIdeal.τ).loc Cert.MlpSampleIdeal.main_arg5)
          ∧ r.2.mem ((c.tc : Thread Cert.MlpSampleIdeal.nD Cert.MlpSampleIdeal.τ).loc Cert.MlpSampleIdeal.main_arg6) = m ((c.tc : Thread Cert.MlpSampleIdeal.nD Cert.MlpSampleIdeal.τ).loc Cert.MlpSampleIdeal.main_arg6)
          ∧ r.2.mem ((c.tc : Thread Cert.MlpSampleIdeal.nD Cert.MlpSampleIdeal.τ).loc Cert.MlpSampleIdeal.main_arg7) = m ((c.tc : Thread Cert.MlpSampleIdeal.nD Cert.MlpSampleIdeal.τ).loc Cert.MlpSampleIdeal.main_arg7))
      ∧ θ_run (Cert.MlpSampleRefIdeal.defs (F := Ideal)) (onTc (τ := Cert.MlpSampleRefIdeal.τ) (Cert.MlpSampleRefIdeal.main (F := Ideal))) ⟨m', fun _ => 0, g'⟩ (fun r => ∀ c : Dev Cert.MlpSampleRefIdeal.nD,
          r.2.mem ((c.tc : Thread Cert.MlpSampleRefIdeal.nD Cert.MlpSampleRefIdeal.τ).loc Cert.MlpSampleRefIdeal.main_v36) = v0 c
          ∧ r.2.mem ((c.tc : Thread Cert.MlpSampleRefIdeal.nD Cert.MlpSampleRefIdeal.τ).loc Cert.MlpSampleRefIdeal.main_arg0) = m' ((c.tc : Thread Cert.MlpSampleRefIdeal.nD Cert.MlpSampleRefIdeal.τ).loc Cert.MlpSampleRefIdeal.main_arg0)
          ∧ r.2.mem ((c.tc : Thread Cert.MlpSampleRefIdeal.nD Cert.MlpSampleRefIdeal.τ).loc Cert.MlpSampleRefIdeal.main_arg1) = m' ((c.tc : Thread Cert.MlpSampleRefIdeal.nD Cert.MlpSampleRefIdeal.τ).loc Cert.MlpSampleRefIdeal.main_arg1)
          ∧ r.2.mem ((c.tc : Thread Cert.MlpSampleRefIdeal.nD Cert.MlpSampleRefIdeal.τ).loc Cert.MlpSampleRefIdeal.main_arg2) = m' ((c.tc : Thread Cert.MlpSampleRefIdeal.nD Cert.MlpSampleRefIdeal.τ).loc Cert.MlpSampleRefIdeal.main_arg2)
          ∧ r.2.mem ((c.tc : Thread Cert.MlpSampleRefIdeal.nD Cert.MlpSampleRefIdeal.τ).loc Cert.MlpSampleRefIdeal.main_arg3) = m' ((c.tc : Thread Cert.MlpSampleRefIdeal.nD Cert.MlpSampleRefIdeal.τ).loc Cert.MlpSampleRefIdeal.main_arg3)
          ∧ r.2.mem ((c.tc : Thread Cert.MlpSampleRefIdeal.nD Cert.MlpSampleRefIdeal.τ).loc Cert.MlpSampleRefIdeal.main_arg4) = m' ((c.tc : Thread Cert.MlpSampleRefIdeal.nD Cert.MlpSampleRefIdeal.τ).loc Cert.MlpSampleRefIdeal.main_arg4)
          ∧ r.2.mem ((c.tc : Thread Cert.MlpSampleRefIdeal.nD Cert.MlpSampleRefIdeal.τ).loc Cert.MlpSampleRefIdeal.main_arg5) = m' ((c.tc : Thread Cert.MlpSampleRefIdeal.nD Cert.MlpSampleRefIdeal.τ).loc Cert.MlpSampleRefIdeal.main_arg5)
          ∧ r.2.mem ((c.tc : Thread Cert.MlpSampleRefIdeal.nD Cert.MlpSampleRefIdeal.τ).loc Cert.MlpSampleRefIdeal.main_arg6) = m' ((c.tc : Thread Cert.MlpSampleRefIdeal.nD Cert.MlpSampleRefIdeal.τ).loc Cert.MlpSampleRefIdeal.main_arg6)
          ∧ r.2.mem ((c.tc : Thread Cert.MlpSampleRefIdeal.nD Cert.MlpSampleRefIdeal.τ).loc Cert.MlpSampleRefIdeal.main_arg7) = m' ((c.tc : Thread Cert.MlpSampleRefIdeal.nD Cert.MlpSampleRefIdeal.τ).loc Cert.MlpSampleRefIdeal.main_arg7))

def preserves_InprojSample_InprojSampleIdeal : Prop :=
  IdealRules.named_const.Statement Cert.InprojSampleIdeal.κ "log2e_8" .f32 0x3E38AA3B#32 (((Real.log 256)⁻¹ : ℝ) : EReal)

def algebraic_InprojSampleIdeal_InprojSampleRefIdeal [hInprojSampleIdeal : Cert.InprojSampleIdeal.Facts] [hInprojSampleRefIdeal : Cert.InprojSampleRefIdeal.Facts] : Prop :=
  ∀ (m : (ℓ : Loc Cert.InprojSampleIdeal.nD Cert.InprojSampleIdeal.τ Cert.InprojSampleIdeal.sig) → Buf (Elt Ideal) ℓ) (g : Dev Cert.InprojSampleIdeal.nD → PrngReg)
    (m' : (ℓ : Loc Cert.InprojSampleRefIdeal.nD Cert.InprojSampleRefIdeal.τ Cert.InprojSampleRefIdeal.sig) → Buf (Elt Ideal) ℓ) (g' : Dev Cert.InprojSampleRefIdeal.nD → PrngReg), Pre_InprojSampleIdeal m →
    (∀ c : Dev Cert.InprojSampleIdeal.nD,
      m' ((c.tc : Thread Cert.InprojSampleRefIdeal.nD Cert.InprojSampleRefIdeal.τ).loc Cert.InprojSampleRefIdeal.main_arg0) = m ((c.tc : Thread Cert.InprojSampleIdeal.nD Cert.InprojSampleIdeal.τ).loc Cert.InprojSampleIdeal.main_arg0)
      ∧ m' ((c.tc : Thread Cert.InprojSampleRefIdeal.nD Cert.InprojSampleRefIdeal.τ).loc Cert.InprojSampleRefIdeal.main_arg1) = m ((c.tc : Thread Cert.InprojSampleIdeal.nD Cert.InprojSampleIdeal.τ).loc Cert.InprojSampleIdeal.main_arg1)
      ∧ m' ((c.tc : Thread Cert.InprojSampleRefIdeal.nD Cert.InprojSampleRefIdeal.τ).loc Cert.InprojSampleRefIdeal.main_arg2) = m ((c.tc : Thread Cert.InprojSampleIdeal.nD Cert.InprojSampleIdeal.τ).loc Cert.InprojSampleIdeal.main_arg2)
      ∧ m' ((c.tc : Thread Cert.InprojSampleRefIdeal.nD Cert.InprojSampleRefIdeal.τ).loc Cert.InprojSampleRefIdeal.main_arg3) = m ((c.tc : Thread Cert.InprojSampleIdeal.nD Cert.InprojSampleIdeal.τ).loc Cert.InprojSampleIdeal.main_arg3)) →
    ∃ (v0 : (c : Dev Cert.InprojSampleIdeal.nD) → Buf (Elt Ideal) ((c.tc : Thread Cert.InprojSampleIdeal.nD Cert.InprojSampleIdeal.τ).loc Cert.InprojSampleIdeal.main_v2_0)) (v1 : (c : Dev Cert.InprojSampleIdeal.nD) → Buf (Elt Ideal) ((c.tc : Thread Cert.InprojSampleIdeal.nD Cert.InprojSampleIdeal.τ).loc Cert.InprojSampleIdeal.main_v2_1)) (v2 : (c : Dev Cert.InprojSampleIdeal.nD) → Buf (Elt Ideal) ((c.tc : Thread Cert.InprojSampleIdeal.nD Cert.InprojSampleIdeal.τ).loc Cert.InprojSampleIdeal.main_v2_2)) (v3 : (c : Dev Cert.InprojSampleIdeal.nD) → Buf (Elt Ideal) ((c.tc : Thread Cert.InprojSampleIdeal.nD Cert.InprojSampleIdeal.τ).loc Cert.InprojSampleIdeal.main_v2_3)) (v4 : (c : Dev Cert.InprojSampleIdeal.nD) → Buf (Elt Ideal) ((c.tc : Thread Cert.InprojSampleIdeal.nD Cert.InprojSampleIdeal.τ).loc Cert.InprojSampleIdeal.main_v2_4)) (v5 : (c : Dev Cert.InprojSampleIdeal.nD) → Buf (Elt Ideal) ((c.tc : Thread Cert.InprojSampleIdeal.nD Cert.InprojSampleIdeal.τ).loc Cert.InprojSampleIdeal.main_v2_5)),
      θ_run (Cert.InprojSampleIdeal.defs (F := Ideal)) (onTc (τ := Cert.InprojSampleIdeal.τ) (Cert.InprojSampleIdeal.main (F := Ideal))) ⟨m, fun _ => 0, g⟩ (fun r => ∀ c : Dev Cert.InprojSampleIdeal.nD,
          r.2.mem ((c.tc : Thread Cert.InprojSampleIdeal.nD Cert.InprojSampleIdeal.τ).loc Cert.InprojSampleIdeal.main_v2_0) = v0 c
          ∧ r.2.mem ((c.tc : Thread Cert.InprojSampleIdeal.nD Cert.InprojSampleIdeal.τ).loc Cert.InprojSampleIdeal.main_v2_1) = v1 c
          ∧ r.2.mem ((c.tc : Thread Cert.InprojSampleIdeal.nD Cert.InprojSampleIdeal.τ).loc Cert.InprojSampleIdeal.main_v2_2) = v2 c
          ∧ r.2.mem ((c.tc : Thread Cert.InprojSampleIdeal.nD Cert.InprojSampleIdeal.τ).loc Cert.InprojSampleIdeal.main_v2_3) = v3 c
          ∧ r.2.mem ((c.tc : Thread Cert.InprojSampleIdeal.nD Cert.InprojSampleIdeal.τ).loc Cert.InprojSampleIdeal.main_v2_4) = v4 c
          ∧ r.2.mem ((c.tc : Thread Cert.InprojSampleIdeal.nD Cert.InprojSampleIdeal.τ).loc Cert.InprojSampleIdeal.main_v2_5) = v5 c
          ∧ r.2.mem ((c.tc : Thread Cert.InprojSampleIdeal.nD Cert.InprojSampleIdeal.τ).loc Cert.InprojSampleIdeal.main_arg0) = m ((c.tc : Thread Cert.InprojSampleIdeal.nD Cert.InprojSampleIdeal.τ).loc Cert.InprojSampleIdeal.main_arg0)
          ∧ r.2.mem ((c.tc : Thread Cert.InprojSampleIdeal.nD Cert.InprojSampleIdeal.τ).loc Cert.InprojSampleIdeal.main_arg1) = m ((c.tc : Thread Cert.InprojSampleIdeal.nD Cert.InprojSampleIdeal.τ).loc Cert.InprojSampleIdeal.main_arg1)
          ∧ r.2.mem ((c.tc : Thread Cert.InprojSampleIdeal.nD Cert.InprojSampleIdeal.τ).loc Cert.InprojSampleIdeal.main_arg2) = m ((c.tc : Thread Cert.InprojSampleIdeal.nD Cert.InprojSampleIdeal.τ).loc Cert.InprojSampleIdeal.main_arg2)
          ∧ r.2.mem ((c.tc : Thread Cert.InprojSampleIdeal.nD Cert.InprojSampleIdeal.τ).loc Cert.InprojSampleIdeal.main_arg3) = m ((c.tc : Thread Cert.InprojSampleIdeal.nD Cert.InprojSampleIdeal.τ).loc Cert.InprojSampleIdeal.main_arg3))
      ∧ θ_run (Cert.InprojSampleRefIdeal.defs (F := Ideal)) (onTc (τ := Cert.InprojSampleRefIdeal.τ) (Cert.InprojSampleRefIdeal.main (F := Ideal))) ⟨m', fun _ => 0, g'⟩ (fun r => ∀ c : Dev Cert.InprojSampleRefIdeal.nD,
          r.2.mem ((c.tc : Thread Cert.InprojSampleRefIdeal.nD Cert.InprojSampleRefIdeal.τ).loc Cert.InprojSampleRefIdeal.main_v59) = v0 c
          ∧ r.2.mem ((c.tc : Thread Cert.InprojSampleRefIdeal.nD Cert.InprojSampleRefIdeal.τ).loc Cert.InprojSampleRefIdeal.main_v60) = v1 c
          ∧ r.2.mem ((c.tc : Thread Cert.InprojSampleRefIdeal.nD Cert.InprojSampleRefIdeal.τ).loc Cert.InprojSampleRefIdeal.main_v61) = v2 c
          ∧ r.2.mem ((c.tc : Thread Cert.InprojSampleRefIdeal.nD Cert.InprojSampleRefIdeal.τ).loc Cert.InprojSampleRefIdeal.main_v62) = v3 c
          ∧ r.2.mem ((c.tc : Thread Cert.InprojSampleRefIdeal.nD Cert.InprojSampleRefIdeal.τ).loc Cert.InprojSampleRefIdeal.main_v19) = v4 c
          ∧ r.2.mem ((c.tc : Thread Cert.InprojSampleRefIdeal.nD Cert.InprojSampleRefIdeal.τ).loc Cert.InprojSampleRefIdeal.main_v20) = v5 c
          ∧ r.2.mem ((c.tc : Thread Cert.InprojSampleRefIdeal.nD Cert.InprojSampleRefIdeal.τ).loc Cert.InprojSampleRefIdeal.main_arg0) = m' ((c.tc : Thread Cert.InprojSampleRefIdeal.nD Cert.InprojSampleRefIdeal.τ).loc Cert.InprojSampleRefIdeal.main_arg0)
          ∧ r.2.mem ((c.tc : Thread Cert.InprojSampleRefIdeal.nD Cert.InprojSampleRefIdeal.τ).loc Cert.InprojSampleRefIdeal.main_arg1) = m' ((c.tc : Thread Cert.InprojSampleRefIdeal.nD Cert.InprojSampleRefIdeal.τ).loc Cert.InprojSampleRefIdeal.main_arg1)
          ∧ r.2.mem ((c.tc : Thread Cert.InprojSampleRefIdeal.nD Cert.InprojSampleRefIdeal.τ).loc Cert.InprojSampleRefIdeal.main_arg2) = m' ((c.tc : Thread Cert.InprojSampleRefIdeal.nD Cert.InprojSampleRefIdeal.τ).loc Cert.InprojSampleRefIdeal.main_arg2)
          ∧ r.2.mem ((c.tc : Thread Cert.InprojSampleRefIdeal.nD Cert.InprojSampleRefIdeal.τ).loc Cert.InprojSampleRefIdeal.main_arg3) = m' ((c.tc : Thread Cert.InprojSampleRefIdeal.nD Cert.InprojSampleRefIdeal.τ).loc Cert.InprojSampleRefIdeal.main_arg3))

def preserves_AttnPrompt_AttnPromptIdeal : Prop :=
  IdealRules.named_const.Statement Cert.AttnPromptIdeal.κ "log2e" .f32 0x3FB8AA3B#32 (((Real.log 2)⁻¹ : ℝ) : EReal)
  ∧ IdealRules.named_const.Statement Cert.AttnPromptIdeal.κ "mask" .f32 0xF149F2CA#32 ⊥

def algebraic_AttnPromptIdeal_AttnPromptRefIdeal_pre_finite_band [hAttnPromptIdeal : Cert.AttnPromptIdeal.Facts] [hAttnPromptRefIdeal : Cert.AttnPromptRefIdeal.Facts] [hPre_finite_band : Cert.Pre_finite_band.Facts] : Prop :=
  ∀ (m : (ℓ : Loc Cert.AttnPromptIdeal.nD Cert.AttnPromptIdeal.τ Cert.AttnPromptIdeal.sig) → Buf (Elt Ideal) ℓ) (g : Dev Cert.AttnPromptIdeal.nD → PrngReg)
    (m' : (ℓ : Loc Cert.AttnPromptRefIdeal.nD Cert.AttnPromptRefIdeal.τ Cert.AttnPromptRefIdeal.sig) → Buf (Elt Ideal) ℓ) (g' : Dev Cert.AttnPromptRefIdeal.nD → PrngReg), Pre_AttnPromptIdeal_finite_band m →
    (∀ c : Dev Cert.AttnPromptIdeal.nD,
      m' ((c.tc : Thread Cert.AttnPromptRefIdeal.nD Cert.AttnPromptRefIdeal.τ).loc Cert.AttnPromptRefIdeal.main_arg0) = m ((c.tc : Thread Cert.AttnPromptIdeal.nD Cert.AttnPromptIdeal.τ).loc Cert.AttnPromptIdeal.main_arg0)
      ∧ m' ((c.tc : Thread Cert.AttnPromptRefIdeal.nD Cert.AttnPromptRefIdeal.τ).loc Cert.AttnPromptRefIdeal.main_arg1) = m ((c.tc : Thread Cert.AttnPromptIdeal.nD Cert.AttnPromptIdeal.τ).loc Cert.AttnPromptIdeal.main_arg1)
      ∧ m' ((c.tc : Thread Cert.AttnPromptRefIdeal.nD Cert.AttnPromptRefIdeal.τ).loc Cert.AttnPromptRefIdeal.main_arg2) = m ((c.tc : Thread Cert.AttnPromptIdeal.nD Cert.AttnPromptIdeal.τ).loc Cert.AttnPromptIdeal.main_arg2)
      ∧ m' ((c.tc : Thread Cert.AttnPromptRefIdeal.nD Cert.AttnPromptRefIdeal.τ).loc Cert.AttnPromptRefIdeal.main_arg3) = m ((c.tc : Thread Cert.AttnPromptIdeal.nD Cert.AttnPromptIdeal.τ).loc Cert.AttnPromptIdeal.main_arg3)
      ∧ m' ((c.tc : Thread Cert.AttnPromptRefIdeal.nD Cert.AttnPromptRefIdeal.τ).loc Cert.AttnPromptRefIdeal.main_arg4) = m ((c.tc : Thread Cert.AttnPromptIdeal.nD Cert.AttnPromptIdeal.τ).loc Cert.AttnPromptIdeal.main_arg4)) →
    ∃ (v0 : (c : Dev Cert.AttnPromptIdeal.nD) → Buf (Elt Ideal) ((c.tc : Thread Cert.AttnPromptIdeal.nD Cert.AttnPromptIdeal.τ).loc Cert.AttnPromptIdeal.main_v8)),
      θ_run (Cert.AttnPromptIdeal.defs (F := Ideal)) (onTc (τ := Cert.AttnPromptIdeal.τ) (Cert.AttnPromptIdeal.main (F := Ideal))) ⟨m, fun _ => 0, g⟩ (fun r => ∀ c : Dev Cert.AttnPromptIdeal.nD,
          r.2.mem ((c.tc : Thread Cert.AttnPromptIdeal.nD Cert.AttnPromptIdeal.τ).loc Cert.AttnPromptIdeal.main_v8) = v0 c
          ∧ r.2.mem ((c.tc : Thread Cert.AttnPromptIdeal.nD Cert.AttnPromptIdeal.τ).loc Cert.AttnPromptIdeal.main_arg0) = m ((c.tc : Thread Cert.AttnPromptIdeal.nD Cert.AttnPromptIdeal.τ).loc Cert.AttnPromptIdeal.main_arg0)
          ∧ r.2.mem ((c.tc : Thread Cert.AttnPromptIdeal.nD Cert.AttnPromptIdeal.τ).loc Cert.AttnPromptIdeal.main_arg1) = m ((c.tc : Thread Cert.AttnPromptIdeal.nD Cert.AttnPromptIdeal.τ).loc Cert.AttnPromptIdeal.main_arg1)
          ∧ r.2.mem ((c.tc : Thread Cert.AttnPromptIdeal.nD Cert.AttnPromptIdeal.τ).loc Cert.AttnPromptIdeal.main_arg2) = m ((c.tc : Thread Cert.AttnPromptIdeal.nD Cert.AttnPromptIdeal.τ).loc Cert.AttnPromptIdeal.main_arg2)
          ∧ r.2.mem ((c.tc : Thread Cert.AttnPromptIdeal.nD Cert.AttnPromptIdeal.τ).loc Cert.AttnPromptIdeal.main_arg3) = m ((c.tc : Thread Cert.AttnPromptIdeal.nD Cert.AttnPromptIdeal.τ).loc Cert.AttnPromptIdeal.main_arg3)
          ∧ r.2.mem ((c.tc : Thread Cert.AttnPromptIdeal.nD Cert.AttnPromptIdeal.τ).loc Cert.AttnPromptIdeal.main_arg4) = m ((c.tc : Thread Cert.AttnPromptIdeal.nD Cert.AttnPromptIdeal.τ).loc Cert.AttnPromptIdeal.main_arg4))
      ∧ θ_run (Cert.AttnPromptRefIdeal.defs (F := Ideal)) (onTc (τ := Cert.AttnPromptRefIdeal.τ) (Cert.AttnPromptRefIdeal.main (F := Ideal))) ⟨m', fun _ => 0, g'⟩ (fun r => ∀ c : Dev Cert.AttnPromptRefIdeal.nD,
          r.2.mem ((c.tc : Thread Cert.AttnPromptRefIdeal.nD Cert.AttnPromptRefIdeal.τ).loc Cert.AttnPromptRefIdeal.main_v95) = v0 c
          ∧ r.2.mem ((c.tc : Thread Cert.AttnPromptRefIdeal.nD Cert.AttnPromptRefIdeal.τ).loc Cert.AttnPromptRefIdeal.main_arg0) = m' ((c.tc : Thread Cert.AttnPromptRefIdeal.nD Cert.AttnPromptRefIdeal.τ).loc Cert.AttnPromptRefIdeal.main_arg0)
          ∧ r.2.mem ((c.tc : Thread Cert.AttnPromptRefIdeal.nD Cert.AttnPromptRefIdeal.τ).loc Cert.AttnPromptRefIdeal.main_arg1) = m' ((c.tc : Thread Cert.AttnPromptRefIdeal.nD Cert.AttnPromptRefIdeal.τ).loc Cert.AttnPromptRefIdeal.main_arg1)
          ∧ r.2.mem ((c.tc : Thread Cert.AttnPromptRefIdeal.nD Cert.AttnPromptRefIdeal.τ).loc Cert.AttnPromptRefIdeal.main_arg2) = m' ((c.tc : Thread Cert.AttnPromptRefIdeal.nD Cert.AttnPromptRefIdeal.τ).loc Cert.AttnPromptRefIdeal.main_arg2)
          ∧ r.2.mem ((c.tc : Thread Cert.AttnPromptRefIdeal.nD Cert.AttnPromptRefIdeal.τ).loc Cert.AttnPromptRefIdeal.main_arg3) = m' ((c.tc : Thread Cert.AttnPromptRefIdeal.nD Cert.AttnPromptRefIdeal.τ).loc Cert.AttnPromptRefIdeal.main_arg3)
          ∧ r.2.mem ((c.tc : Thread Cert.AttnPromptRefIdeal.nD Cert.AttnPromptRefIdeal.τ).loc Cert.AttnPromptRefIdeal.main_arg4) = m' ((c.tc : Thread Cert.AttnPromptRefIdeal.nD Cert.AttnPromptRefIdeal.τ).loc Cert.AttnPromptRefIdeal.main_arg4))

def Claim : Prop :=
  ∃ (hAttn : Cert.Attn.Facts) (hAttnIdeal : Cert.AttnIdeal.Facts) (hAttnRefIdeal : Cert.AttnRefIdeal.Facts) (hMlp : Cert.Mlp.Facts) (hMlpIdeal : Cert.MlpIdeal.Facts) (hMlpRefIdeal : Cert.MlpRefIdeal.Facts) (hInproj : Cert.Inproj.Facts) (hInprojIdeal : Cert.InprojIdeal.Facts) (hInprojRefIdeal : Cert.InprojRefIdeal.Facts) (hHgrn : Cert.Hgrn.Facts) (hHgrnIdeal : Cert.HgrnIdeal.Facts) (hHgrnRefIdeal : Cert.HgrnRefIdeal.Facts) (hMlpSample : Cert.MlpSample.Facts) (hMlpSampleIdeal : Cert.MlpSampleIdeal.Facts) (hMlpSampleRefIdeal : Cert.MlpSampleRefIdeal.Facts) (hInprojSample : Cert.InprojSample.Facts) (hInprojSampleIdeal : Cert.InprojSampleIdeal.Facts) (hInprojSampleRefIdeal : Cert.InprojSampleRefIdeal.Facts) (hAttnPrompt : Cert.AttnPrompt.Facts) (hAttnPromptIdeal : Cert.AttnPromptIdeal.Facts) (hAttnPromptRefIdeal : Cert.AttnPromptRefIdeal.Facts) (hPre_finite_scores : Cert.Pre_finite_scores.Facts) (hPre_decaying : Cert.Pre_decaying.Facts) (hPre_finite_band : Cert.Pre_finite_band.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_Mlp (hMlp := hMlp)
    ∧ quiescent_MlpIdeal (hMlpIdeal := hMlpIdeal)
    ∧ quiescent_MlpRefIdeal (hMlpRefIdeal := hMlpRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Hgrn (hHgrn := hHgrn)
    ∧ quiescent_HgrnIdeal (hHgrnIdeal := hHgrnIdeal)
    ∧ quiescent_HgrnIdeal_pre_decaying (hHgrnIdeal := hHgrnIdeal) (hPre_decaying := hPre_decaying)
    ∧ quiescent_HgrnRefIdeal (hHgrnRefIdeal := hHgrnRefIdeal)
    ∧ quiescent_HgrnRefIdeal_pre_decaying (hHgrnRefIdeal := hHgrnRefIdeal) (hPre_decaying := hPre_decaying)
    ∧ quiescent_MlpSample (hMlpSample := hMlpSample)
    ∧ quiescent_MlpSampleIdeal (hMlpSampleIdeal := hMlpSampleIdeal)
    ∧ quiescent_MlpSampleRefIdeal (hMlpSampleRefIdeal := hMlpSampleRefIdeal)
    ∧ quiescent_InprojSample (hInprojSample := hInprojSample)
    ∧ quiescent_InprojSampleIdeal (hInprojSampleIdeal := hInprojSampleIdeal)
    ∧ quiescent_InprojSampleRefIdeal (hInprojSampleRefIdeal := hInprojSampleRefIdeal)
    ∧ quiescent_AttnPrompt (hAttnPrompt := hAttnPrompt)
    ∧ quiescent_AttnPromptIdeal (hAttnPromptIdeal := hAttnPromptIdeal)
    ∧ quiescent_AttnPromptIdeal_pre_finite_band (hAttnPromptIdeal := hAttnPromptIdeal) (hPre_finite_band := hPre_finite_band)
    ∧ quiescent_AttnPromptRefIdeal (hAttnPromptRefIdeal := hAttnPromptRefIdeal)
    ∧ quiescent_AttnPromptRefIdeal_pre_finite_band (hAttnPromptRefIdeal := hAttnPromptRefIdeal) (hPre_finite_band := hPre_finite_band)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_Mlp_MlpIdeal
    ∧ algebraic_MlpIdeal_MlpRefIdeal (hMlpIdeal := hMlpIdeal) (hMlpRefIdeal := hMlpRefIdeal)
    ∧ preserves_Inproj_InprojIdeal
    ∧ algebraic_InprojIdeal_InprojRefIdeal (hInprojIdeal := hInprojIdeal) (hInprojRefIdeal := hInprojRefIdeal)
    ∧ preserves_Hgrn_HgrnIdeal
    ∧ algebraic_HgrnIdeal_HgrnRefIdeal_pre_decaying (hHgrnIdeal := hHgrnIdeal) (hHgrnRefIdeal := hHgrnRefIdeal) (hPre_decaying := hPre_decaying)
    ∧ preserves_MlpSample_MlpSampleIdeal
    ∧ algebraic_MlpSampleIdeal_MlpSampleRefIdeal (hMlpSampleIdeal := hMlpSampleIdeal) (hMlpSampleRefIdeal := hMlpSampleRefIdeal)
    ∧ preserves_InprojSample_InprojSampleIdeal
    ∧ algebraic_InprojSampleIdeal_InprojSampleRefIdeal (hInprojSampleIdeal := hInprojSampleIdeal) (hInprojSampleRefIdeal := hInprojSampleRefIdeal)
    ∧ preserves_AttnPrompt_AttnPromptIdeal
    ∧ algebraic_AttnPromptIdeal_AttnPromptRefIdeal_pre_finite_band (hAttnPromptIdeal := hAttnPromptIdeal) (hAttnPromptRefIdeal := hAttnPromptRefIdeal) (hPre_finite_band := hPre_finite_band)
-- ==== Pre_decaying.lean ====
abbrev S512x2560 : Shape := ⟨2, ![512, 2560]⟩
abbrev S32x4x128x128 : Shape := ⟨4, ![32, 4, 128, 128]⟩
abbrev S512 : Shape := ⟨1, ![512]⟩
abbrev S512x512 : Shape := ⟨2, ![512, 512]⟩
abbrev S_ : Shape := ⟨0, ![]⟩

class Facts : Prop where
  slices_S512x2560_S512x512_0_512 : S512x2560.Slices ![0, 512] S512x512
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x2560 .f32) (main_arg1 : FVec F S32x4x128x128 .f32) (main_arg2 : FVec F S512 .f32) : IVec S_ 1 :=
  let main_v0 : FVec F S512x512 .f32 := (extractStridedSlice S512x512 ![0, 512] · slices_S512x2560_S512x512_0_512) main_arg0
  let main_cst : FVec F S_ .f32 := constant S_ .f32 0x00000000#32
  let main_v1 : FVec F S512x512 .f32 := broadcastInDim S512x512 ![] bcast_S_S512x512 main_cst
  let main_v2 : IVec S512x512 1 := cmpf .ole main_v0 main_v1
  let main_cst_0 : FVec F S_ .f32 := constant S_ .f32 0xFF800000#32
  let main_v3 : FVec F S512x512 .f32 := broadcastInDim S512x512 ![] bcast_S_S512x512 main_cst_0
  let main_v4 : IVec S512x512 1 := cmpf .ogt main_v0 main_v3
  let main_v5 : IVec S512x512 1 := andi main_v2 main_v4
  let main_c : IVec S_ 1 := constantI S_ 1 1#1
  let main_v6 : IVec S_ 1 := (fun x v => Host.reduce IntOp.andi x v reducesTo_S512x512_S_d0_1 h_S_) main_v5 main_c
  main_v6
-- ==== Pre_finite_band.lean ====
abbrev S32768x512 : Shape := ⟨2, ![32768, 512]⟩
abbrev S8x257 : Shape := ⟨2, ![8, 257]⟩
abbrev S512 : Shape := ⟨1, ![512]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel
  bcast_S_S8x257 : S_.BroadcastsInDim S8x257 (![] : Fin 0 → Fin S8x257.rank)
  reducesTo_S8x257_S_d0_1 : S8x257.ReducesTo [0, 1] S_

variable [Facts]

def fn {F : FTy → Type} [FloatOps F] (main_arg0 : FVec F S32768x512 .bf16) (main_arg1 : FVec F S32768x512 .bf16) (main_arg2 : FVec F S32768x512 .bf16) (main_arg3 : FVec F S8x257 .f32) (main_arg4 : FVec F S512 .f32) : IVec S_ 1 :=
  let main_v0 : FVec F S32768x512 .f32 := (extf .f32 · bitsLt_bf16_f32) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_c : IVec S_ 1 := constantI S_ 1 1#1
  let main_v4 : IVec S_ 1 := (fun x v => Host.reduce IntOp.andi x v reducesTo_S32768x512_S_d0_1 h_S_) main_v3 main_c
  let main_v5 : FVec F S32768x512 .f32 := (extf .f32 · bitsLt_bf16_f32) main_arg1
  let main_v6 : FVec F S32768x512 .f32 := Host.absf main_v5
  let main_cst_0 : FVec F S_ .f32 := constant S_ .f32 0x7F800000#32
  let main_v7 : FVec F S32768x512 .f32 := broadcastInDim S32768x512 ![] bcast_S_S32768x512 main_cst_0
  let main_v8 : IVec S32768x512 1 := cmpf .olt main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v4 main_v9
  let main_v11 : FVec F S8x257 .f32 := Host.absf main_arg3
  let main_cst_2 : FVec F S_ .f32 := constant S_ .f32 0x7F800000#32
  let main_v12 : FVec F S8x257 .f32 := broadcastInDim S8x257 ![] bcast_S_S8x257 main_cst_2
  let main_v13 : IVec S8x257 1 := cmpf .olt main_v11 main_v12
  let main_c_3 : IVec S_ 1 := constantI S_ 1 1#1
  let main_v14 : IVec S_ 1 := (fun x v => Host.reduce IntOp.andi x v reducesTo_S8x257_S_d0_1 h_S_) main_v13 main_c_3
  let main_v15 : IVec S_ 1 := andi main_v10 main_v14
  main_v15
-- ==== Pre_finite_scores.lean ====
abbrev S512x512 : Shape := ⟨2, ![512, 512]⟩
abbrev S2x32x512x8x64 : Shape := ⟨5, ![2, 32, 512, 8, 64]⟩
abbrev S8x257 : Shape := ⟨2, ![8, 257]⟩
abbrev S512 : Shape := ⟨1, ![512]⟩
abbrev S_ : Shape := ⟨0, ![]⟩

class Facts : Prop where
  bitsLt_bf16_f32 : FTy.bits .bf16 < FTy.bits .f32
  bcast_S_S512x512 : S_.BroadcastsInDim S512x512 (![] : Fin 0 → Fin S512x512.rank)
  reducesTo_S512x512_S_d0_1 : S512x512.ReducesTo [0, 1] S_
  h_S_ : 0 < S_.numel
  bcast_S_S2x32x512x8x64 : S_.BroadcastsInDim S2x32x512x8x64 (![] : Fin 0 → Fin S2x32x512x8x64.rank)
  reducesTo_S2x32x512x8x64_S_d0_1_2_3_4 : S2x32x512x8x64.ReducesTo [0, 1, 2, 3, 4] S_
  bcast_S_S8x257 : S_.BroadcastsInDim S8x257 (![] : Fin 0 → Fin S8x257.rank)
  reducesTo_S8x257_S_d0_1 : S8x257.ReducesTo [0, 1] S_

variable [Facts]

def fn_part1 {F : FTy → Type} [FloatOps F] (main_v15 : IVec S_ 1) (main_v16 : FVec F S8x257 .f32) (main_cst_4 : FVec F S_ .f32) : IVec S_ 1 :=
  let main_v17 : FVec F S8x257 .f32 := broadcastInDim S8x257 ![] bcast_S_S8x257 main_cst_4
  let main_v18 : IVec S8x257 1 := cmpf .olt main_v16 main_v17
  let main_c_5 : IVec S_ 1 := constantI S_ 1 1#1
  let main_v19 : IVec S_ 1 := (fun x v => Host.reduce IntOp.andi x v reducesTo_S8x257_S_d0_1 h_S_) main_v18 main_c_5
  let main_v20 : IVec S_ 1 := andi main_v15 main_v19
  main_v20

def fn {F : FTy → Type} [FloatOps F] (main_arg0 : FVec F S512x512 .bf16) (main_arg1 : FVec F S512x512 .bf16) (main_arg2 : FVec F S512x512 .bf16) (main_arg3 : FVec F S2x32x512x8x64 .f32) (main_arg4 : FVec F S2x32x512x8x64 .f32) (main_arg5 : FVec F S8x257 .f32) (main_arg6 : FVec F S512 .f32) : IVec S_ 1 :=
  let main_v0 : FVec F S512x512 .f32 := (extf .f32 · bitsLt_bf16_f32) main_arg0
  let main_v1 : FVec F S512x512 .f32 := Host.absf main_v0
  let main_cst : FVec F S_ .f32 := constant S_ .f32 0x7F800000#32
  let main_v2 : FVec F S512x512 .f32 := broadcastInDim S512x512 ![] bcast_S_S512x512 main_cst
  let main_v3 : IVec S512x512 1 := cmpf .olt main_v1 main_v2
  let main_c : IVec S_ 1 := constantI S_ 1 1#1
  let main_v4 : IVec S_ 1 := (fun x v => Host.reduce IntOp.andi x v reducesTo_S512x512_S_d0_1 h_S_) main_v3 main_c
  let main_v5 : FVec F S512x512 .f32 := (extf .f32 · bitsLt_bf16_f32) main_arg1
  let main_v6 : FVec F S512x512 .f32 := Host.absf main_v5
  let main_cst_0 : FVec F S_ .f32 := constant S_ .f32 0x7F800000#32
  let main_v7 : FVec F S512x512 .f32 := broadcastInDim S512x512 ![] bcast_S_S512x512 main_cst_0
  let main_v8 : IVec S512x512 1 := cmpf .olt main_v6 main_v7
  let main_c_1 : IVec S_ 1 := constantI S_ 1 1#1
  let main_v9 : IVec S_ 1 := (fun x v => Host.reduce IntOp.andi x v reducesTo_S512x512_S_d0_1 h_S_) main_v8 main_c_1
  let main_v10 : IVec S_ 1 := andi main_v4 main_v9
  let main_v11 : FVec F S2x32x512x8x64 .f32 := Host.absf main_arg3
  let main_cst_2 : FVec F S_ .f32 := constant S_ .f32 0x7F800000#32
  let main_v12 : FVec F S2x32x512x8x64 .f32 := broadcastInDim S2x32x512x8x64 ![] bcast_S_S2x32x512x8x64 main_cst_2
  let main_v13 : IVec S2x32x512x8x64 1 := cmpf .olt main_v11 main_v12
  let main_c_3 : IVec S_ 1 := constantI S_ 1 1#1
  let main_v14 : IVec S_ 1 := (fun x v => Host.reduce IntOp.andi x v reducesTo_S2x32x512x8x64_S_d0_1_2_3_4 h_S_) main_v13 main_c_3
  let main_v15 : IVec S_ 1 := andi main_v10 main_v14
  let main_v16 : FVec F S8x257 .f32 := Host.absf main_arg5
  let main_cst_4 : FVec F S_ .f32 := constant S_ .f32 0x7F800000#32
  fn_part1 (F := F) main_v15 main_v16 main_cst_4
-- ==== Attn.lean ====
abbrev S512x512 : Shape := ⟨2, ![512, 512]⟩
abbrev S2x32x512x8x64 : Shape := ⟨5, ![2, 32, 512, 8, 64]⟩
abbrev S8x257 : Shape := ⟨2, ![8, 257]⟩
abbrev S512 : Shape := ⟨1, ![512]⟩
abbrev S2x32x512x512 : Shape := ⟨4, ![2, 32, 512, 512]⟩
abbrev S8x1 : Shape := ⟨2, ![8, 1]⟩
abbrev S8x399 : Shape := ⟨2, ![8, 399]⟩
abbrev S8x368 : Shape := ⟨2, ![8, 368]⟩
abbrev S8x1024 : Shape := ⟨2, ![8, 1024]⟩
abbrev S1x512 : Shape := ⟨2, ![1, 512]⟩
abbrev S16x512 : Shape := ⟨2, ![16, 512]⟩
abbrev S1x1x512x512 : Shape := ⟨4, ![1, 1, 512, 512]⟩
abbrev S1x128 : Shape := ⟨2, ![1, 128]⟩
abbrev S16x128 : Shape := ⟨2, ![16, 128]⟩
abbrev S1x1x512x128 : Shape := ⟨4, ![1, 1, 512, 128]⟩
abbrev S512x128 : Shape := ⟨2, ![512, 128]⟩
abbrev S528x128 : Shape := ⟨2, ![528, 128]⟩
abbrev S16x528 : Shape := ⟨2, ![16, 528]⟩
abbrev S1x1024 : Shape := ⟨2, ![1, 1024]⟩
abbrev S16x1024 : Shape := ⟨2, ![16, 1024]⟩
abbrev S16 : Shape := ⟨1, ![16]⟩
abbrev S16x1 : Shape := ⟨2, ![16, 1]⟩

abbrev nBuf : Space → Nat
  | .hbm => 16
  | .vmem => 14
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .hbm, ⟨2, _⟩ => ⟨S512x512, .bf16⟩
  | .hbm, ⟨3, _⟩ => ⟨S2x32x512x8x64, .f32⟩
  | .hbm, ⟨4, _⟩ => ⟨S2x32x512x8x64, .f32⟩
  | .hbm, ⟨5, _⟩ => ⟨S8x257, .f32⟩
  | .hbm, ⟨6, _⟩ => ⟨S512, .f32⟩
  | .hbm, ⟨7, _⟩ => ⟨S2x32x512x512, .f32⟩
  | .hbm, ⟨8, _⟩ => ⟨S2x32x512x512, .f32⟩
  | .hbm, ⟨9, _⟩ => ⟨S8x1, .f32⟩
  | .hbm, ⟨10, _⟩ => ⟨S8x399, .f32⟩
  | .hbm, ⟨11, _⟩ => ⟨S8x1, .f32⟩
  | .hbm, ⟨12, _⟩ => ⟨S8x368, .f32⟩
  | .hbm, ⟨13, _⟩ => ⟨S8x1024, .f32⟩
  | .hbm, ⟨14, _⟩ => ⟨S1x512, .f32⟩
  | .hbm, ⟨15, _⟩ => ⟨S512x512, .bf16⟩
  | .local _ .vmem, ⟨0, _⟩ => ⟨S16x512, .bf16⟩
  | .local _ .vmem, ⟨1, _⟩ => ⟨S16x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S1x1x512x512, .f32⟩
  | .local _ .vmem, ⟨7, _⟩ => ⟨S1x1x512x512, .f32⟩
  | .local _ .vmem, ⟨8, _⟩ => ⟨S1x1x512x512, .f32⟩
  | .local _ .vmem, ⟨9, _⟩ => ⟨S1x1x512x512, .f32⟩
  | .local _ .vmem, ⟨10, _⟩ => ⟨S8x1024, .f32⟩
  | .local _ .vmem, ⟨11, _⟩ => ⟨S1x512, .f32⟩
  | .local _ .vmem, ⟨12, _⟩ => ⟨S16x512, .bf16⟩
  | .local _ .vmem, ⟨13, _⟩ => ⟨S16x512, .bf16⟩
  | _, _ => ⟨S512x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnIdeal.lean ====
variable {F : FTy → Type} [FloatOps F] [Named F]
def κ : String → Option EReal := fun
  | "log2e" => some (((Real.log 2)⁻¹ : ℝ) : EReal)
  | _ => none
-- ==== AttnRefIdeal.lean ====
abbrev S512x512 : Shape := ⟨2, ![512, 512]⟩
abbrev S2x32x512x8x64 : Shape := ⟨5, ![2, 32, 512, 8, 64]⟩
abbrev S8x257 : Shape := ⟨2, ![8, 257]⟩
abbrev S512 : Shape := ⟨1, ![512]⟩
abbrev S_ : Shape := ⟨0, ![]⟩
abbrev S32x16x8x64 : Shape := ⟨4, ![32, 16, 8, 64]⟩
abbrev S1x32x512x8x64 : Shape := ⟨5, ![1, 32, 512, 8, 64]⟩
abbrev S32x512x8x64 : Shape := ⟨4, ![32, 512, 8, 64]⟩
abbrev S32x528x8x64 : Shape := ⟨4, ![32, 528, 8, 64]⟩
abbrev S16 : Shape := ⟨1, ![16]⟩
abbrev S528 : Shape := ⟨1, ![528]⟩
abbrev S1x528 : Shape := ⟨2, ![1, 528]⟩
abbrev S16x1 : Shape := ⟨2, ![16, 1]⟩
abbrev S16x528 : Shape := ⟨2, ![16, 528]⟩
abbrev S16x528x1 : Shape := ⟨3, ![16, 528, 1]⟩
abbrev S8x16x528 : Shape := ⟨3, ![8, 16, 528]⟩
abbrev S32x8x16x528 : Shape := ⟨4, ![32, 8, 16, 528]⟩
abbrev S1x8x16x528 : Shape := ⟨4, ![1, 8, 16, 528]⟩
abbrev S32x8x16 : Shape := ⟨3, ![32, 8, 16]⟩
abbrev S32x8x16x1 : Shape := ⟨4, ![32, 8, 16, 1]⟩
abbrev S32x8x64x16 : Shape := ⟨4, ![32, 8, 64, 16]⟩
abbrev S32x16x512 : Shape := ⟨3, ![32, 16, 512]⟩
abbrev S32x16 : Shape := ⟨2, ![32, 16]⟩
abbrev S32x16x1 : Shape := ⟨3, ![32, 16, 1]⟩
abbrev S1x1x512 : Shape := ⟨3, ![1, 1, 512]⟩

abbrev nBuf : Space → Nat
  | .hbm => 90
  | .vmem => 0
  | .smem => 0
  | _ => 0

abbrev bufTy : (tb : Table) → Fin (tcTables nBuf tb) → BufTy
  | .hbm, ⟨0, _⟩ => ⟨S512x512, .bf16⟩
  | .hbm, ⟨1, _⟩ => ⟨S512x512, .bf16⟩
  | .hbm, ⟨2, _⟩ => ⟨S512x512, .bf16⟩
  | .hbm, ⟨3, _⟩ => ⟨S2x32x512x8x64, .f32⟩
  | .hbm, ⟨4, _⟩ => ⟨S2x32x512x8x64, .f32⟩
  | .hbm, ⟨5, _⟩ => ⟨S8x257, .f32⟩
  | .hbm, ⟨6, _⟩ => ⟨S512, .f32⟩
  | .hbm, ⟨7, _⟩ => ⟨S512x512, .f32⟩
  | .hbm, ⟨8, _⟩ => ⟨S_, .f32⟩
  | .hbm, ⟨9, _⟩ => ⟨S_, .f32⟩
  | .hbm, ⟨10, _⟩ => ⟨S512x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S32x16x8x64, .f32⟩
  | .hbm, ⟨15, _⟩ => ⟨S32x16x8x64, .f32⟩
  | .hbm, ⟨16, _⟩ => ⟨S32x16x8x64, .f32⟩
  | .hbm, ⟨17, _⟩ => ⟨S1x32x512x8x64, .f32⟩
  | .hbm, ⟨18, _⟩ => ⟨S32x512x8x64, .f32⟩
  | .hbm, ⟨19, _⟩ => ⟨S32x528x8x64, .f32⟩
  | .hbm, ⟨20, _⟩ => ⟨S1x32x512x8x64, .f32⟩
  | .hbm, ⟨21, _⟩ => ⟨S32x512x8x64, .f32⟩
  | .hbm, ⟨22, _⟩ => ⟨S32x528x8x64, .f32⟩
  | .hbm, ⟨23, _⟩ => ⟨S16, .i32⟩
  | .hbm, ⟨24, _⟩ => ⟨S528, .i32⟩
  | .hbm, ⟨25, _⟩ => ⟨S_, .i32⟩
  | .hbm, ⟨26, _⟩ => ⟨S528, .i32⟩
  | .hbm, ⟨27, _⟩ => ⟨S528, .i32⟩
  | .hbm, ⟨28, _⟩ => ⟨S1x528, .i32⟩
  | .hbm, ⟨29, _⟩ => ⟨S16x1, .i32⟩
  | .hbm, ⟨30, _⟩ => ⟨S16x528, .i32⟩
  | .hbm, ⟨31, _⟩ => ⟨S16x528, .i32⟩
  | .hbm, ⟨32, _⟩ => ⟨S16x528, .i32⟩
  | .hbm, ⟨33, _⟩ => ⟨S_, .i32⟩
  | .hbm, ⟨34, _⟩ => ⟨S16x528, .i32⟩
  | .hbm, ⟨35, _⟩ => ⟨S16x528, .i32⟩
  | .hbm, ⟨36, _⟩ => ⟨S_, .i32⟩
  | .hbm, ⟨37, _⟩ => ⟨S16x528, .i32⟩
  | .hbm, ⟨38, _⟩ => ⟨S16x528, .i32⟩
  | .hbm, ⟨39, _⟩ => ⟨S_, .i32⟩
  | .hbm, ⟨40, _⟩ => ⟨S16x528, .i32⟩
  | .hbm, ⟨41, _⟩ => ⟨S16x528, .i32⟩
  | .hbm, ⟨42, _⟩ => ⟨S_, .i32⟩
  | .hbm, ⟨43, _⟩ => ⟨S16x528, .i32⟩
  | .hbm, ⟨44, _⟩ => ⟨S16x528, .i1⟩
  | .hbm, ⟨45, _⟩ => ⟨S_, .i32⟩
  | .hbm, ⟨46, _⟩ => ⟨S16x528, .i32⟩
  | .hbm, ⟨47, _⟩ => ⟨S16x528, .i32⟩
  | .hbm, ⟨48, _⟩ => ⟨S16x528, .i32⟩
  | .hbm, ⟨49, _⟩ => ⟨S16x528x1, .i32⟩
  | .hbm, ⟨50, _⟩ => ⟨S8x16x528, .f32⟩
  | .hbm, ⟨51, _⟩ => ⟨S32x8x16x528, .f32⟩
  | .hbm, ⟨52, _⟩ => ⟨S_, .f32⟩
  | .hbm, ⟨53, _⟩ => ⟨S32x8x16x528, .f32⟩
  | .hbm, ⟨54, _⟩ => ⟨S32x8x16x528, .f32⟩
  | .hbm, ⟨55, _⟩ => ⟨S1x8x16x528, .f32⟩
  | .hbm, ⟨56, _⟩ => ⟨S32x8x16x528, .f32⟩
  | .hbm, ⟨57, _⟩ => ⟨S32x8x16x528, .f32⟩
  | .hbm, ⟨58, _⟩ => ⟨S_, .f32⟩
  | .hbm, ⟨59, _⟩ => ⟨S32x8x16, .f32⟩
  | .hbm, ⟨60, _⟩ => ⟨S32x8x16x1, .f32⟩
  | .hbm, ⟨61, _⟩ => ⟨S32x8x16x528, .f32⟩
  | .hbm, ⟨62, _⟩ => ⟨S32x8x16x528, .f32⟩
  | .hbm, ⟨63, _⟩ => ⟨S32x8x16x528, .f32⟩
  | .hbm, ⟨64, _⟩ => ⟨S_, .f32⟩
  | .hbm, ⟨65, _⟩ => ⟨S32x8x16, .f32⟩
  | .hbm, ⟨66, _⟩ => ⟨S32x8x16x1, .f32⟩
  | .hbm, ⟨67, _⟩ => ⟨S32x8x16x528, .f32⟩
  | .hbm, ⟨68, _⟩ => ⟨S32x8x16x528, .f32⟩
  | .hbm, ⟨69, _⟩ => ⟨S32x8x64x16, .f32⟩
  | .hbm, ⟨70, _⟩ => ⟨S32x16x8x64, .f32⟩
  | .hbm, ⟨71, _⟩ => ⟨S32x16x512, .f32⟩
  | .hbm, ⟨72, _⟩ => ⟨S32x16x512, .f32⟩
  | .hbm, ⟨73, _⟩ => ⟨S_, .f32⟩
  | .hbm, ⟨74, _⟩ => ⟨S32x16, .f32⟩
  | .hbm, ⟨75, _⟩ => ⟨S32x16x1, .f32⟩
  | .hbm, ⟨76, _⟩ => ⟨S_, .f32⟩
  | .hbm, ⟨77, _⟩ => ⟨S32x16x1, .f32⟩
  | .hbm, ⟨78, _⟩ => ⟨S32x16x1, .f32⟩
  | .hbm, ⟨79, _⟩ => ⟨S_, .f32⟩
  | .hbm, ⟨80, _⟩ => ⟨S32x16x1, .f32⟩
  | .hbm, ⟨81, _⟩ => ⟨S32x16x1, .f32⟩
  | .hbm, ⟨82, _⟩ => ⟨S32x16x1, .f32⟩
  | .hbm, ⟨83, _⟩ => ⟨S32x16x512, .f32⟩
  | .hbm, ⟨84, _⟩ => ⟨S32x16x512, .f32⟩
  | .hbm, ⟨85, _⟩ => ⟨S1x1x512, .f32⟩
  | .hbm, ⟨86, _⟩ => ⟨S32x16x512, .f32⟩
  | .hbm, ⟨87, _⟩ => ⟨S32x16x512, .f32⟩
  | .hbm, ⟨88, _⟩ => ⟨S512x512, .f32⟩
  | .hbm, ⟨89, _⟩ => ⟨S512x512, .bf16⟩
  | _, _ => ⟨S512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_0 : Ref sig .tc := ⟨.hbm, 33, rfl⟩
abbrev main_v24 : Ref sig .tc := ⟨.hbm, 34, rfl⟩
abbrev main_v25 : Ref sig .tc := ⟨.hbm, 35, rfl⟩
abbrev main_c_1 : Ref sig .tc := ⟨.hbm, 36, rfl⟩
abbrev main_v26 : Ref sig .tc := ⟨.hbm, 37, rfl⟩
abbrev main_v27 : Ref sig .tc := ⟨.hbm, 38, rfl⟩
abbrev main_c_2 : Ref sig .tc := ⟨.hbm, 39, rfl⟩
abbrev main_v28 : Ref sig .tc := ⟨.hbm, 40, rfl⟩
abbrev main_v29 : Ref sig .tc := ⟨.hbm, 41, rfl⟩
abbrev main_c_3 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_cst_9 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩

abbrev nD : Nat := 1
abbrev τ : Topo := Topo.v7x

variable {F : FTy → Type} [FloatOps F]
-- ==== Mlp.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S1x1024, .f32⟩
  | .hbm, ⟨13, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x4096, .bf16⟩
  | .local _ .vmem, ⟨9, _⟩ => ⟨S4096x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlpRefIdeal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S32768x512, .f32⟩
  | .hbm, ⟨9, _⟩ => ⟨S32768x512, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x4096, .f32⟩
  | .hbm, ⟨30, _⟩ => ⟨S_, .f32⟩
  | .hbm, ⟨31, _⟩ => ⟨S32768x4096, .f32⟩
  | .hbm, ⟨32, _⟩ => ⟨S32768x4096, .f32⟩
  | .hbm, ⟨33, _⟩ => ⟨S32768x4096, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768, .f32⟩
  | .hbm, ⟨39, _⟩ => ⟨S32768x1, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S_, .f32⟩
  | .hbm, ⟨44, _⟩ => ⟨S32768x1, .f32⟩
  | .hbm, ⟨45, _⟩ => ⟨S32768x1, .f32⟩
  | .hbm, ⟨46, _⟩ => ⟨S32768x1, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Inproj.lean ====
abbrev S32768x1024 : Shape := ⟨2, ![32768, 1024]⟩
abbrev S1024 : Shape := ⟨1, ![1024]⟩
abbrev S1024x3584 : Shape := ⟨2, ![1024, 3584]⟩
abbrev S2x512 : Shape := ⟨2, ![2, 512]⟩
abbrev S1x1024 : Shape := ⟨2, ![1, 1024]⟩
abbrev S32768x2560 : Shape := ⟨2, ![32768, 2560]⟩
abbrev S32768x512 : Shape := ⟨2, ![32768, 512]⟩
abbrev S2048x512 : Shape := ⟨2, ![2048, 512]⟩
abbrev S512x1024 : Shape := ⟨2, ![512, 1024]⟩
abbrev S512x2560 : Shape := ⟨2, ![512, 2560]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1024x512 : Shape := ⟨2, ![1024, 512]⟩

abbrev nBuf : Space → Nat
  | .hbm => 12
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3584, .f32⟩
  | .hbm, ⟨3, _⟩ => ⟨S2x512, .f32⟩
  | .hbm, ⟨4, _⟩ => ⟨S1x1024, .f32⟩
  | .hbm, ⟨5, _⟩ => ⟨S1024x3584, .bf16⟩
  | .hbm, ⟨6, _⟩ => ⟨S32768x2560, .f32⟩
  | .hbm, ⟨7, _⟩ => ⟨S32768x512, .bf16⟩
  | .hbm, ⟨8, _⟩ => ⟨S32768x512, .bf16⟩
  | .hbm, ⟨9, _⟩ => ⟨S32768x512, .bf16⟩
  | .hbm, ⟨10, _⟩ => ⟨S2048x512, .f32⟩
  | .hbm, ⟨11, _⟩ => ⟨S2048x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S2x512, .f32⟩
  | .local _ .vmem, ⟨5, _⟩ => ⟨S512x2560, .f32⟩
  | .local _ .vmem, ⟨6, _⟩ => ⟨S512x2560, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c16_i32 : BitVec 32 := 16#32
  let c0_i32 : BitVec 32 := 0#32
  let v75 : BitVec 1 := Scalar.cmpi .eq c16_i32 c0_i32
  let c1_i32 : BitVec 32 := 1#32
  let v76 : BitVec 32 := Scalar.select v75 c1_i32 c16_i32
  let v77 : BitVec 32 := Scalar.remsi arg0 v76
  let c0_i32_44 : BitVec 32 := 0#32
  let v79 : BitVec 1 := Scalar.cmpi .slt v77 c0_i32_44
  let c0_i32_45 : BitVec 32 := 0#32
  let v80 : BitVec 1 := Scalar.cmpi .slt v76 c0_i32_45
  let v81 : BitVec 1 := Scalar.xori v79 v80
  let c0_i32_43 : BitVec 32 := 0#32
  let v78 : BitVec 1 := Scalar.cmpi .ne v77 c0_i32_43
  let v82 : BitVec 1 := Scalar.andi v81 v78
  let v83 : BitVec 32 := Scalar.addi v77 v76
  let v84 : BitVec 32 := Scalar.select v82 v83 v77
  let c15_i32 : BitVec 32 := 15#32
  let v85 : BitVec 1 := Scalar.cmpi .eq v84 c15_i32
  let v86 : BitVec 32 := Scalar.extui v85
  let c0_i32_46 : BitVec 32 := 0#32
  let v87 : BitVec 1 := Scalar.cmpi .ne v86 c0_i32_46
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_9 (i : grid0.Coords) : Fin 2 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== InprojIdeal.lean ====
variable {F : FTy → Type} [FloatOps F] [Named F]
def κ : String → Option EReal := fun
  | "log2e_8" => some (((Real.log 256)⁻¹ : ℝ) : EReal)
  | _ => none
-- ==== InprojRefIdeal.lean ====
abbrev S32768x1024 : Shape := ⟨2, ![32768, 1024]⟩
abbrev S1024 : Shape := ⟨1, ![1024]⟩
abbrev S1024x3584 : Shape := ⟨2, ![1024, 3584]⟩
abbrev S2x512 : Shape := ⟨2, ![2, 512]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3584 : Shape := ⟨2, ![32768, 3584]⟩
abbrev S32768x512 : Shape := ⟨2, ![32768, 512]⟩
abbrev S512 : Shape := ⟨1, ![512]⟩
abbrev S1x512 : Shape := ⟨2, ![1, 512]⟩
abbrev S32768x2560 : Shape := ⟨2, ![32768, 2560]⟩
abbrev S4x8192x512 : Shape := ⟨3, ![4, 8192, 512]⟩
abbrev S4x512x512 : Shape := ⟨3, ![4, 512, 512]⟩
abbrev S2048x512 : Shape := ⟨2, ![2048, 512]⟩

abbrev nBuf : Space → Nat
  | .hbm => 84
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3584, .f32⟩
  | .hbm, ⟨3, _⟩ => ⟨S2x512, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x3584, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S512, .f32⟩
  | .hbm, ⟨36, _⟩ => ⟨S1x512, .f32⟩
  | .hbm, ⟨37, _⟩ => ⟨S2x512, .f32⟩
  | .hbm, ⟨38, _⟩ => ⟨S2x512, .f32⟩
  | .hbm, ⟨39, _⟩ => ⟨S1x512, .f32⟩
  | .hbm, ⟨40, _⟩ => ⟨S512, .f32⟩
  | .hbm, ⟨41, _⟩ => ⟨S1x512, .f32⟩
  | .hbm, ⟨42, _⟩ => ⟨S512, .f32⟩
  | .hbm, ⟨43, _⟩ => ⟨S512, .f32⟩
  | .hbm, ⟨44, _⟩ => ⟨S1x512, .f32⟩
  | .hbm, ⟨45, _⟩ => ⟨S512, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S32768x512, .f32⟩
  | .hbm, ⟨51, _⟩ => ⟨S32768x512, .f32⟩
  | .hbm, ⟨52, _⟩ => ⟨S_, .f32⟩
  | .hbm, ⟨53, _⟩ => ⟨S32768x512, .f32⟩
  | .hbm, ⟨54, _⟩ => ⟨S32768x512, .f32⟩
  | .hbm, ⟨55, _⟩ => ⟨S_, .f32⟩
  | .hbm, ⟨56, _⟩ => ⟨S32768x512, .f32⟩
  | .hbm, ⟨57, _⟩ => ⟨S32768x512, .f32⟩
  | .hbm, ⟨58, _⟩ => ⟨S1x512, .f32⟩
  | .hbm, ⟨59, _⟩ => ⟨S32768x512, .f32⟩
  | .hbm, ⟨60, _⟩ => ⟨S32768x512, .f32⟩
  | .hbm, ⟨61, _⟩ => ⟨S1x512, .f32⟩
  | .hbm, ⟨62, _⟩ => ⟨S32768x512, .f32⟩
  | .hbm, ⟨63, _⟩ => ⟨S32768x512, .f32⟩
  | .hbm, ⟨64, _⟩ => ⟨S32768x512, .f32⟩
  | .hbm, ⟨65, _⟩ => ⟨S_, .f32⟩
  | .hbm, ⟨66, _⟩ => ⟨S32768x512, .f32⟩
  | .hbm, ⟨67, _⟩ => ⟨S32768x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S32768x512, .f32⟩
  | .hbm, ⟨73, _⟩ => ⟨S32768x512, .f32⟩
  | .hbm, ⟨74, _⟩ => ⟨S32768x2560, .f32⟩
  | .hbm, ⟨75, _⟩ => ⟨S32768x512, .bf16⟩
  | .hbm, ⟨76, _⟩ => ⟨S32768x512, .bf16⟩
  | .hbm, ⟨77, _⟩ => ⟨S32768x512, .bf16⟩
  | .hbm, ⟨78, _⟩ => ⟨S4x8192x512, .f32⟩
  | .hbm, ⟨79, _⟩ => ⟨S4x512x512, .f32⟩
  | .hbm, ⟨80, _⟩ => ⟨S2048x512, .f32⟩
  | .hbm, ⟨81, _⟩ => ⟨S4x8192x512, .f32⟩
  | .hbm, ⟨82, _⟩ => ⟨S4x512x512, .f32⟩
  | .hbm, ⟨83, _⟩ => ⟨S2048x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩

abbrev nD : Nat := 1
abbrev τ : Topo := Topo.v7x

variable {F : FTy → Type} [FloatOps F]
-- ==== Hgrn.lean ====
abbrev S512x2560 : Shape := ⟨2, ![512, 2560]⟩
abbrev S32x4x128x128 : Shape := ⟨4, ![32, 4, 128, 128]⟩
abbrev S512 : Shape := ⟨1, ![512]⟩
abbrev S1x512 : Shape := ⟨2, ![1, 512]⟩
abbrev S512x512 : Shape := ⟨2, ![512, 512]⟩
abbrev S16x2560 : Shape := ⟨2, ![16, 2560]⟩
abbrev S1x4x128x128 : Shape := ⟨4, ![1, 4, 128, 128]⟩
abbrev S16x512 : Shape := ⟨2, ![16, 512]⟩
abbrev S4x128x128 : Shape := ⟨3, ![4, 128, 128]⟩
abbrev S1x1x128x128 : Shape := ⟨4, ![1, 1, 128, 128]⟩
abbrev S128x128 : Shape := ⟨2, ![128, 128]⟩
abbrev S1x128x128 : Shape := ⟨3, ![1, 128, 128]⟩
abbrev S16x16 : Shape := ⟨2, ![16, 16]⟩
abbrev S16x128 : Shape := ⟨2, ![16, 128]⟩
abbrev S1x128 : Shape := ⟨2, ![1, 128]⟩
abbrev S16 : Shape := ⟨1, ![16]⟩
abbrev S16x1 : Shape := ⟨2, ![16, 1]⟩
abbrev S1x1x512 : Shape := ⟨3, ![1, 1, 512]⟩
abbrev S1 : Shape := ⟨1, ![1]⟩
abbrev S1x1x1 : Shape := ⟨3, ![1, 1, 1]⟩
abbrev S128 : Shape := ⟨1, ![128]⟩

abbrev nBuf : Space → Nat
  | .hbm => 6
  | .vmem => 11
  | .smem => 0
  | _ => 0

abbrev bufTy : (tb : Table) → Fin (tcTables nBuf tb) → BufTy
  | .hbm, ⟨0, _⟩ => ⟨S512x2560, .f32⟩
  | .hbm, ⟨1, _⟩ => ⟨S32x4x128x128, .f32⟩
  | .hbm, ⟨2, _⟩ => ⟨S512, .f32⟩
  | .hbm, ⟨3, _⟩ => ⟨S1x512, .f32⟩
  | .hbm, ⟨4, _⟩ => ⟨S512x512, .bf16⟩
  | .hbm, ⟨5, _⟩ => ⟨S32x4x128x128, .f32⟩
  | .local _ .vmem, ⟨0, _⟩ => ⟨S16x2560, .f32⟩
  | .local _ .vmem, ⟨1, _⟩ => ⟨S16x2560, .f32⟩
  | .local _ .vmem, ⟨2, _⟩ => ⟨S1x4x128x128, .f32⟩
  | .local _ .vmem, ⟨3, _⟩ => ⟨S1x4x128x128, .f32⟩
  | .local _ .vmem, ⟨4, _⟩ => ⟨S1x512, .f32⟩
  | .local _ .vmem, ⟨5, _⟩ => ⟨S16x512, .bf16⟩
  | .local _ .vmem, ⟨6, _⟩ => ⟨S16x512, .bf16⟩
  | .local _ .vmem, ⟨7, _⟩ => ⟨S1x4x128x128, .f32⟩
  | .local _ .vmem, ⟨8, _⟩ => ⟨S1x4x128x128, .f32⟩
  | .local _ .vmem, ⟨9, _⟩ => ⟨S4x128x128, .f32⟩
  | .local _ .vmem, ⟨10, _⟩ => ⟨S4x128x128, .f32⟩
  | _, _ => ⟨S512x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def k0_mult1 : BitVec 32 :=
  let c0_i32_101 : BitVec 32 := 0#32
  let c16_i32 : BitVec 32 := 16#32
  let v248 : BitVec 32 := Scalar.muli c0_i32_101 c16_i32
  v248
def k0_off1 : Fin 2 → Nat :=
  let c0_i32_101 : BitVec 32 := 0#32
  let c16_i32 : BitVec 32 := 16#32
  let v248 : BitVec 32 := Scalar.muli c0_i32_101 c16_i32
  let v249 : BitVec 32 := v248
  let v250 : Index := Scalar.indexCast v249
  let c512_102 : Index := 512#32
  ![v250.toNat, 512]
def k0_off2 : Fin 2 → Nat :=
  let c0_i32_101 : BitVec 32 := 0#32
  let c16_i32 : BitVec 32 := 16#32
  let v248 : BitVec 32 := Scalar.muli c0_i32_101 c16_i32
  let v249 : BitVec 32 := v248
  let v266 : Index := Scalar.indexCast v249
  let c0_107 : Index := 0#32
  ![v266.toNat, 0]
def k0_off3 : Fin 2 → Nat :=
  let c0_i32_101 : BitVec 32 := 0#32
  let c16_i32 : BitVec 32 := 16#32
  let v248 : BitVec 32 := Scalar.muli c0_i32_101 c16_i32
  let v249 : BitVec 32 := v248
  let v268 : Index := Scalar.indexCast v249
  let c1024_108 : Index := 1024#32
  ![v268.toNat, 1024]
@[reducible] def k0_t1_loop : Scf.Loop 32 :=
  let c0_i32_113 : BitVec 32 := 0#32
  let c16_i32_114 : BitVec 32 := 16#32
  let v279 : BitVec 32 := Scalar.addi c0_i32_113 c16_i32_114
  let c1_i32 : BitVec 32 := 1#32
  ⟨c0_i32_113, v279, c1_i32⟩
def k0_off4 : Fin 2 → Nat :=
  let c0_i32_101 : BitVec 32 := 0#32
  let c16_i32 : BitVec 32 := 16#32
  let v248 : BitVec 32 := Scalar.muli c0_i32_101 c16_i32
  let v249 : BitVec 32 := v248
  let v288 : Index := Scalar.indexCast v249
  let c1536_116 : Index := 1536#32
  ![v288.toNat, 1536]
def k0_off5 : Fin 2 → Nat :=
  let c0_i32_101 : BitVec 32 := 0#32
  let c16_i32 : BitVec 32 := 16#32
  let v248 : BitVec 32 := Scalar.muli c0_i32_101 c16_i32
  let v249 : BitVec 32 := v248
  let v291 : Index := Scalar.indexCast v249
  let c2048_117 : Index := 2048#32
  ![v291.toNat, 2048]
def k0_off6 : Fin 2 → Nat :=
  let c0_i32_101 : BitVec 32 := 0#32
  let c16_i32 : BitVec 32 := 16#32
  let v248 : BitVec 32 := Scalar.muli c0_i32_101 c16_i32
  let v249 : BitVec 32 := v248
  let v325 : Index := Scalar.indexCast v249
  let c0_130 : Index := 0#32
  ![v325.toNat, 0]
def k0_off7 : Fin 2 → Nat :=
  let c0_i32_101 : BitVec 32 := 0#32
  let c16_i32 : BitVec 32 := 16#32
  let v248 : BitVec 32 := Scalar.muli c0_i32_101 c16_i32
  let v249 : BitVec 32 := v248
  let v327 : Index := Scalar.indexCast v249
  let c128_131 : Index := 128#32
  ![v327.toNat, 128]
def k0_off8 : Fin 2 → Nat :=
  let c0_i32_101 : BitVec 32 := 0#32
  let c16_i32 : BitVec 32 := 16#32
  let v248 : BitVec 32 := Scalar.muli c0_i32_101 c16_i32
  let v249 : BitVec 32 := v248
  let v329 : Index := Scalar.indexCast v249
  let c1152 : Index := 1152#32
  ![v329.toNat, 1152]
@[reducible] def k0_t2_loop : Scf.Loop 32 :=
  let c0_i32_136 : BitVec 32 := 0#32
  let c16_i32_137 : BitVec 32 := 16#32
  let v340 : BitVec 32 := Scalar.addi c0_i32_136 c16_i32_137
  let c1_i32_138 : BitVec 32 := 1#32
  ⟨c0_i32_136, v340, c1_i32_138⟩
def k0_off9 : Fin 2 → Nat :=
  let c0_i32_101 : BitVec 32 := 0#32
  let c16_i32 : BitVec 32 := 16#32
  let v248 : BitVec 32 := Scalar.muli c0_i32_101 c16_i32
  let v249 : BitVec 32 := v248
  let v349 : Index := Scalar.indexCast v249
  let c1664_140 : Index := 1664#32
  ![v349.toNat, 1664]
def k0_off10 : Fin 2 → Nat :=
  let c0_i32_101 : BitVec 32 := 0#32
  let c16_i32 : BitVec 32 := 16#32
  let v248 : BitVec 32 := Scalar.muli c0_i32_101 c16_i32
  let v249 : BitVec 32 := v248
  let v352 : Index := Scalar.indexCast v249
  let c2176_141 : Index := 2176#32
  ![v352.toNat, 2176]
def k0_off11 : Fin 2 → Nat :=
  let c0_i32_101 : BitVec 32 := 0#32
  let c16_i32 : BitVec 32 := 16#32
  let v248 : BitVec 32 := Scalar.muli c0_i32_101 c16_i32
  let v249 : BitVec 32 := v248
  let v386 : Index := Scalar.indexCast v249
  let c128_154 : Index := 128#32
  ![v386.toNat, 128]
def k0_off12 : Fin 2 → Nat :=
  let c0_i32_101 : BitVec 32 := 0#32
  let c16_i32 : BitVec 32 := 16#32
  let v248 : BitVec 32 := Scalar.muli c0_i32_101 c16_i32
  let v249 : BitVec 32 := v248
  let v388 : Index := Scalar.indexCast v249
  let c256_155 : Index := 256#32
  ![v388.toNat, 256]
def k0_off13 : Fin 2 → Nat :=
  let c0_i32_101 : BitVec 32 := 0#32
  let c16_i32 : BitVec 32 := 16#32
  let v248 : BitVec 32 := Scalar.muli c0_i32_101 c16_i32
  let v249 : BitVec 32 := v248
  let v390 : Index := Scalar.indexCast v249
  let c1280 : Index := 1280#32
  ![v390.toNat, 1280]
@[reducible] def k0_t3_loop : Scf.Loop 32 :=
  let c0_i32_160 : BitVec 32 := 0#32
  let c16_i32_161 : BitVec 32 := 16#32
  let v401 : BitVec 32 := Scalar.addi c0_i32_160 c16_i32_161
  let c1_i32_162 : BitVec 32 := 1#32
  ⟨c0_i32_160, v401, c1_i32_162⟩
def k0_off14 : Fin 2 → Nat :=
  let c0_i32_101 : BitVec 32 := 0#32
  let c16_i32 : BitVec 32 := 16#32
  let v248 : BitVec 32 := Scalar.muli c0_i32_101 c16_i32
  let v249 : BitVec 32 := v248
  let v410 : Index := Scalar.indexCast v249
  let c1792_164 : Index := 1792#32
  ![v410.toNat, 1792]
def k0_off15 : Fin 2 → Nat :=
  let c0_i32_101 : BitVec 32 := 0#32
  let c16_i32 : BitVec 32 := 16#32
  let v248 : BitVec 32 := Scalar.muli c0_i32_101 c16_i32
  let v249 : BitVec 32 := v248
  let v413 : Index := Scalar.indexCast v249
  let c2304_165 : Index := 2304#32
  ![v413.toNat, 2304]
def k0_off16 : Fin 2 → Nat :=
  let c0_i32_101 : BitVec 32 := 0#32
  let c16_i32 : BitVec 32 := 16#32
  let v248 : BitVec 32 := Scalar.muli c0_i32_101 c16_i32
  let v249 : BitVec 32 := v248
  let v447 : Index := Scalar.indexCast v249
  let c256_178 : Index := 256#32
  ![v447.toNat, 256]
def k0_off17 : Fin 2 → Nat :=
  let c0_i32_101 : BitVec 32 := 0#32
  let c16_i32 : BitVec 32 := 16#32
  let v248 : BitVec 32 := Scalar.muli c0_i32_101 c16_i32
  let v249 : BitVec 32 := v248
  let v449 : Index := Scalar.indexCast v249
  let c384_179 : Index := 384#32
  ![v449.toNat, 384]
def k0_off18 : Fin 2 → Nat :=
  let c0_i32_101 : BitVec 32 := 0#32
  let c16_i32 : BitVec 32 := 16#32
  let v248 : BitVec 32 := Scalar.muli c0_i32_101 c16_i32
  let v249 : BitVec 32 := v248
  let v451 : Index := Scalar.indexCast v249
  let c1408 : Index := 1408#32
  ![v451.toNat, 1408]
@[reducible] def k0_t4_loop : Scf.Loop 32 :=
  let c0_i32_184 : BitVec 32 := 0#32
  let c16_i32_185 : BitVec 32 := 16#32
  let v462 : BitVec 32 := Scalar.addi c0_i32_184 c16_i32_185
  let c1_i32_186 : BitVec 32 := 1#32
  ⟨c0_i32_184, v462, c1_i32_186⟩
def k0_off19 : Fin 2 → Nat :=
  let c0_i32_101 : BitVec 32 := 0#32
  let c16_i32 : BitVec 32 := 16#32
  let v248 : BitVec 32 := Scalar.muli c0_i32_101 c16_i32
  let v249 : BitVec 32 := v248
  let v471 : Index := Scalar.indexCast v249
  let c1920_188 : Index := 1920#32
  ![v471.toNat, 1920]
def k0_off20 : Fin 2 → Nat :=
  let c0_i32_101 : BitVec 32 := 0#32
  let c16_i32 : BitVec 32 := 16#32
  let v248 : BitVec 32 := Scalar.muli c0_i32_101 c16_i32
  let v249 : BitVec 32 := v248
  let v474 : Index := Scalar.indexCast v249
  let c2432_189 : Index := 2432#32
  ![v474.toNat, 2432]
def k0_off21 : Fin 2 → Nat :=
  let c0_i32_101 : BitVec 32 := 0#32
  let c16_i32 : BitVec 32 := 16#32
  let v248 : BitVec 32 := Scalar.muli c0_i32_101 c16_i32
  let v249 : BitVec 32 := v248
  let v508 : Index := Scalar.indexCast v249
  let c384_202 : Index := 384#32
  ![v508.toNat, 384]
def k0_cond3 (i : grid0.Coords) : BitVec 1 :=
  let arg1 : BitVec 32 := BitVec.ofNat 32 (i 1).val
  let c0_i32_93 : BitVec 32 := 0#32
  let v241 : BitVec 1 := Scalar.cmpi .eq arg1 c0_i32_93
  let v242 : BitVec 32 := Scalar.extui v241
  let c0_i32_94 : BitVec 32 := 0#32
  let v243 : BitVec 1 := Scalar.cmpi .ne v242 c0_i32_94
  v243

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== HgrnRefIdeal.lean ====
abbrev S512x2560 : Shape := ⟨2, ![512, 2560]⟩
abbrev S32x4x128x128 : Shape := ⟨4, ![32, 4, 128, 128]⟩
abbrev S512 : Shape := ⟨1, ![512]⟩
abbrev S512x512 : Shape := ⟨2, ![512, 512]⟩
abbrev S32x16x4x128 : Shape := ⟨4, ![32, 16, 4, 128]⟩
abbrev S32x4x16x128 : Shape := ⟨4, ![32, 4, 16, 128]⟩
abbrev S_ : Shape := ⟨0, ![]⟩
abbrev S16x16 : Shape := ⟨2, ![16, 16]⟩
abbrev S16x16x1 : Shape := ⟨3, ![16, 16, 1]⟩
abbrev S32x4x16x1x128 : Shape := ⟨5, ![32, 4, 16, 1, 128]⟩
abbrev S32x4x1x16x128 : Shape := ⟨5, ![32, 4, 1, 16, 128]⟩
abbrev S32x4x16x16x128 : Shape := ⟨5, ![32, 4, 16, 16, 128]⟩
abbrev S32x4x16x16 : Shape := ⟨4, ![32, 4, 16, 16]⟩
abbrev S32x4x1x128 : Shape := ⟨4, ![32, 4, 1, 128]⟩
abbrev S32x4x128 : Shape := ⟨3, ![32, 4, 128]⟩
abbrev S32x4x128x1 : Shape := ⟨4, ![32, 4, 128, 1]⟩
abbrev S4x1x128 : Shape := ⟨3, ![4, 1, 128]⟩
abbrev S32x4x16 : Shape := ⟨3, ![32, 4, 16]⟩
abbrev S32x4x16x1 : Shape := ⟨4, ![32, 4, 16, 1]⟩
abbrev S1x4x1x128 : Shape := ⟨4, ![1, 4, 1, 128]⟩

abbrev nBuf : Space → Nat
  | .hbm => 99
  | .vmem => 0
  | .smem => 0
  | _ => 0

abbrev bufTy : (tb : Table) → Fin (tcTables nBuf tb) → BufTy
  | .hbm, ⟨0, _⟩ => ⟨S512x2560, .f32⟩
  | .hbm, ⟨1, _⟩ => ⟨S32x4x128x128, .f32⟩
  | .hbm, ⟨2, _⟩ => ⟨S512, .f32⟩
  | .hbm, ⟨3, _⟩ => ⟨S512x512, .f32⟩
  | .hbm, ⟨4, _⟩ => ⟨S32x16x4x128, .f32⟩
  | .hbm, ⟨5, _⟩ => ⟨S32x4x16x128, .f32⟩
  | .hbm, ⟨6, _⟩ => ⟨S512x512, .f32⟩
  | .hbm, ⟨7, _⟩ => ⟨S32x16x4x128, .f32⟩
  | .hbm, ⟨8, _⟩ => ⟨S32x4x16x128, .f32⟩
  | .hbm, ⟨9, _⟩ => ⟨S512x512, .f32⟩
  | .hbm, ⟨10, _⟩ => ⟨S32x16x4x128, .f32⟩
  | .hbm, ⟨11, _⟩ => ⟨S32x4x16x128, .f32⟩
  | .hbm, ⟨12, _⟩ => ⟨S512x512, .f32⟩
  | .hbm, ⟨13, _⟩ => ⟨S32x16x4x128, .f32⟩
  | .hbm, ⟨14, _⟩ => ⟨S32x4x16x128, .f32⟩
  | .hbm, ⟨15, _⟩ => ⟨S512x512, .f32⟩
  | .hbm, ⟨16, _⟩ => ⟨S32x16x4x128, .f32⟩
  | .hbm, ⟨17, _⟩ => ⟨S32x4x16x128, .f32⟩
  | .hbm, ⟨18, _⟩ => ⟨S_, .i1⟩
  | .hbm, ⟨19, _⟩ => ⟨S16x16, .i1⟩
  | .hbm, ⟨20, _⟩ => ⟨S16x16, .i32⟩
  | .hbm, ⟨21, _⟩ => ⟨S_, .i32⟩
  | .hbm, ⟨22, _⟩ => ⟨S16x16, .i32⟩
  | .hbm, ⟨23, _⟩ => ⟨S16x16, .i32⟩
  | .hbm, ⟨24, _⟩ => ⟨S16x16, .i32⟩
  | .hbm, ⟨25, _⟩ => ⟨S16x16, .i1⟩
  | .hbm, ⟨26, _⟩ => ⟨S_, .i1⟩
  | .hbm, ⟨27, _⟩ => ⟨S16x16, .i1⟩
  | .hbm, ⟨28, _⟩ => ⟨S16x16, .i1⟩
  | .hbm, ⟨29, _⟩ => ⟨S16x16x1, .i1⟩
  | .hbm, ⟨30, _⟩ => ⟨S_, .f32⟩
  | .hbm, ⟨31, _⟩ => ⟨S_, .f32⟩
  | .hbm, ⟨32, _⟩ => ⟨S32x4x16x128, .f32⟩
  | .hbm, ⟨33, _⟩ => ⟨S32x4x16x128, .f32⟩
  | .hbm, ⟨34, _⟩ => ⟨S32x4x16x128, .f32⟩
  | .hbm, ⟨35, _⟩ => ⟨S32x4x16x128, .f32⟩
  | .hbm, ⟨36, _⟩ => ⟨S32x4x16x1x128, .f32⟩
  | .hbm, ⟨37, _⟩ => ⟨S32x4x1x16x128, .f32⟩
  | .hbm, ⟨38, _⟩ => ⟨S32x4x16x16x128, .f32⟩
  | .hbm, ⟨39, _⟩ => ⟨S32x4x16x16x128, .f32⟩
  | .hbm, ⟨40, _⟩ => ⟨S32x4x16x16x128, .f32⟩
  | .hbm, ⟨41, _⟩ => ⟨S_, .f32⟩
  | .hbm, ⟨42, _⟩ => ⟨S32x4x16x16x128, .f32⟩
  | .hbm, ⟨43, _⟩ => ⟨S32x4x16x16x128, .f32⟩
  | .hbm, ⟨44, _⟩ => ⟨S32x4x16x16x128, .f32⟩
  | .hbm, ⟨45, _⟩ => ⟨S_, .f32⟩
  | .hbm, ⟨46, _⟩ => ⟨S_, .f32⟩
  | .hbm, ⟨47, _⟩ => ⟨S32x4x16x16x128, .i1⟩
  | .hbm, ⟨48, _⟩ => ⟨S32x4x16x16x128, .f32⟩
  | .hbm, ⟨49, _⟩ => ⟨S32x4x16x16x128, .f32⟩
  | .hbm, ⟨50, _⟩ => ⟨S32x4x16x1x128, .f32⟩
  | .hbm, ⟨51, _⟩ => ⟨S32x4x16x16x128, .f32⟩
  | .hbm, ⟨52, _⟩ => ⟨S32x4x16x16x128, .f32⟩
  | .hbm, ⟨53, _⟩ => ⟨S32x4x16x16, .f32⟩
  | .hbm, ⟨54, _⟩ => ⟨S32x4x16x16, .f32⟩
  | .hbm, ⟨55, _⟩ => ⟨S32x4x16x128, .f32⟩
  | .hbm, ⟨56, _⟩ => ⟨S32x4x1x128, .f32⟩
  | .hbm, ⟨57, _⟩ => ⟨S32x4x128, .f32⟩
  | .hbm, ⟨58, _⟩ => ⟨S32x4x128, .f32⟩
  | .hbm, ⟨59, _⟩ => ⟨S32x4x128x1, .f32⟩
  | .hbm, ⟨60, _⟩ => ⟨S32x4x128x128, .f32⟩
  | .hbm, ⟨61, _⟩ => ⟨S32x4x128x128, .f32⟩
  | .hbm, ⟨62, _⟩ => ⟨S32x4x16x128, .f32⟩
  | .hbm, ⟨63, _⟩ => ⟨S32x4x16x128, .f32⟩
  | .hbm, ⟨64, _⟩ => ⟨S32x4x16x128, .f32⟩
  | .hbm, ⟨65, _⟩ => ⟨S32x4x16x128, .f32⟩
  | .hbm, ⟨66, _⟩ => ⟨S32x4x128x128, .f32⟩
  | .hbm, ⟨67, _⟩ => ⟨S32x4x128x128, .f32⟩
  | .hbm, ⟨68, _⟩ => ⟨S32x4x16x128, .f32⟩
  | .hbm, ⟨69, _⟩ => ⟨S4x1x128, .f32⟩
  | .hbm, ⟨70, _⟩ => ⟨S32x4x16x128, .f32⟩
  | .hbm, ⟨71, _⟩ => ⟨S_, .f32⟩
  | .hbm, ⟨72, _⟩ => ⟨S32x4x16, .f32⟩
  | .hbm, ⟨73, _⟩ => ⟨S32x4x16x1, .f32⟩
  | .hbm, ⟨74, _⟩ => ⟨S_, .f32⟩
  | .hbm, ⟨75, _⟩ => ⟨S32x4x16x1, .f32⟩
  | .hbm, ⟨76, _⟩ => ⟨S32x4x16x1, .f32⟩
  | .hbm, ⟨77, _⟩ => ⟨S_, .f32⟩
  | .hbm, ⟨78, _⟩ => ⟨S32x4x16x1, .f32⟩
  | .hbm, ⟨79, _⟩ => ⟨S32x4x16x1, .f32⟩
  | .hbm, ⟨80, _⟩ => ⟨S32x4x16x1, .f32⟩
  | .hbm, ⟨81, _⟩ => ⟨S32x4x16x128, .f32⟩
  | .hbm, ⟨82, _⟩ => ⟨S32x4x16x128, .f32⟩
  | .hbm, ⟨83, _⟩ => ⟨S1x4x1x128, .f32⟩
  | .hbm, ⟨84, _⟩ => ⟨S32x4x16x128, .f32⟩
  | .hbm, ⟨85, _⟩ => ⟨S32x4x16x128, .f32⟩
  | .hbm, ⟨86, _⟩ => ⟨S32x4x16x128, .f32⟩
  | .hbm, ⟨87, _⟩ => ⟨S32x4x16x128, .f32⟩
  | .hbm, ⟨88, _⟩ => ⟨S_, .f32⟩
  | .hbm, ⟨89, _⟩ => ⟨S32x4x16x128, .f32⟩
  | .hbm, ⟨90, _⟩ => ⟨S32x4x16x128, .f32⟩
  | .hbm, ⟨91, _⟩ => ⟨S_, .f32⟩
  | .hbm, ⟨92, _⟩ => ⟨S32x4x16x128, .f32⟩
  | .hbm, ⟨93, _⟩ => ⟨S32x4x16x128, .f32⟩
  | .hbm, ⟨94, _⟩ => ⟨S32x4x16x128, .f32⟩
  | .hbm, ⟨95, _⟩ => ⟨S32x4x16x128, .f32⟩
  | .hbm, ⟨96, _⟩ => ⟨S32x16x4x128, .f32⟩
  | .hbm, ⟨97, _⟩ => ⟨S512x512, .f32⟩
  | .hbm, ⟨98, _⟩ => ⟨S512x512, .bf16⟩
  | _, _ => ⟨S512x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_v15 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_c_0 : Ref sig .tc := ⟨.hbm, 26, rfl⟩
abbrev main_call0_v5 : Ref sig .tc := ⟨.hbm, 27, rfl⟩
abbrev main_v16 : Ref sig .tc := ⟨.hbm, 28, rfl⟩
abbrev main_v17 : Ref sig .tc := ⟨.hbm, 29, rfl⟩
abbrev main_call1_call0_cst : Ref sig .tc := ⟨.hbm, 30, rfl⟩
abbrev main_call1_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_0 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_1 : Ref sig .tc := ⟨.hbm, 71, rfl⟩
abbrev main_v52 : Ref sig .tc := ⟨.hbm, 72, rfl⟩
abbrev main_v53 : Ref sig .tc := ⟨.hbm, 73, rfl⟩
abbrev main_cst_2 : Ref sig .tc := ⟨.hbm, 74, rfl⟩
abbrev main_v54 : Ref sig .tc := ⟨.hbm, 75, rfl⟩
abbrev main_v55 : Ref sig .tc := ⟨.hbm, 76, rfl⟩
abbrev main_cst_3 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_4 : Ref sig .tc := ⟨.hbm, 88, rfl⟩
abbrev main_v66 : Ref sig .tc := ⟨.hbm, 89, rfl⟩
abbrev main_v67 : Ref sig .tc := ⟨.hbm, 90, rfl⟩
abbrev main_cst_5 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩

abbrev nD : Nat := 1
abbrev τ : Topo := Topo.v7x

variable {F : FTy → Type} [FloatOps F]
-- ==== MlpSample.lean ====
abbrev S512x1024 : Shape := ⟨2, ![512, 1024]⟩
abbrev S512x512 : Shape := ⟨2, ![512, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S512 : Shape := ⟨1, ![512]⟩
abbrev S512x1 : Shape := ⟨2, ![512, 1]⟩

abbrev nBuf : Space → Nat
  | .hbm => 14
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1024x4096, .bf16⟩
  | .hbm, ⟨11, _⟩ => ⟨S4096x1024, .bf16⟩
  | .hbm, ⟨12, _⟩ => ⟨S1x1024, .f32⟩
  | .hbm, ⟨13, _⟩ => ⟨S512x1024, .f32⟩
  | .local _ .vmem, ⟨0, _⟩ => ⟨S512x1024, .f32⟩
  | .local _ .vmem, ⟨1, _⟩ => ⟨S512x512, .bf16⟩
  | .local _ .vmem, ⟨2, _⟩ => ⟨S512x512, .bf16⟩
  | .local _ .vmem, ⟨3, _⟩ => ⟨S1024x1024, .bf16⟩
  | .local _ .vmem, ⟨4, _⟩ => ⟨S1x1024, .f32⟩
  | .local _ .vmem, ⟨5, _⟩ => ⟨S1024x4096, .bf16⟩
  | .local _ .vmem, ⟨6, _⟩ => ⟨S4096x1024, .bf16⟩
  | .local _ .vmem, ⟨7, _⟩ => ⟨S1x1024, .f32⟩
  | .local _ .vmem, ⟨8, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== MlpSampleRefIdeal.lean ====
abbrev S512x1024 : Shape := ⟨2, ![512, 1024]⟩
abbrev S512x512 : Shape := ⟨2, ![512, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x4096 : Shape := ⟨2, ![512, 4096]⟩

abbrev nBuf : Space → Nat
  | .hbm => 52
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x512, .bf16⟩
  | .hbm, ⟨2, _⟩ => ⟨S512x512, .bf16⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024, .f32⟩
  | .hbm, ⟨8, _⟩ => ⟨S512x512, .f32⟩
  | .hbm, ⟨9, _⟩ => ⟨S512x512, .f32⟩
  | .hbm, ⟨10, _⟩ => ⟨S512x1024, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512, .f32⟩
  | .hbm, ⟨16, _⟩ => ⟨S512x1, .f32⟩
  | .hbm, ⟨17, _⟩ => ⟨S_, .f32⟩
  | .hbm, ⟨18, _⟩ => ⟨S512x1, .f32⟩
  | .hbm, ⟨19, _⟩ => ⟨S512x1, .f32⟩
  | .hbm, ⟨20, _⟩ => ⟨S_, .f32⟩
  | .hbm, ⟨21, _⟩ => ⟨S512x1, .f32⟩
  | .hbm, ⟨22, _⟩ => ⟨S512x1, .f32⟩
  | .hbm, ⟨23, _⟩ => ⟨S512x1, .f32⟩
  | .hbm, ⟨24, _⟩ => ⟨S512x1024, .f32⟩
  | .hbm, ⟨25, _⟩ => ⟨S512x1024, .f32⟩
  | .hbm, ⟨26, _⟩ => ⟨S1x1024, .f32⟩
  | .hbm, ⟨27, _⟩ => ⟨S512x1024, .f32⟩
  | .hbm, ⟨28, _⟩ => ⟨S512x1024, .f32⟩
  | .hbm, ⟨29, _⟩ => ⟨S512x4096, .f32⟩
  | .hbm, ⟨30, _⟩ => ⟨S_, .f32⟩
  | .hbm, ⟨31, _⟩ => ⟨S512x4096, .f32⟩
  | .hbm, ⟨32, _⟩ => ⟨S512x4096, .f32⟩
  | .hbm, ⟨33, _⟩ => ⟨S512x4096, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S512x1024, .f32⟩
  | .hbm, ⟨48, _⟩ => ⟨S512x1024, .f32⟩
  | .hbm, ⟨49, _⟩ => ⟨S1x1024, .f32⟩
  | .hbm, ⟨50, _⟩ => ⟨S512x1024, .f32⟩
  | .hbm, ⟨51, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== InprojSample.lean ====
abbrev S512x1024 : Shape := ⟨2, ![512, 1024]⟩
abbrev S1024 : Shape := ⟨1, ![1024]⟩
abbrev S1024x3584 : Shape := ⟨2, ![1024, 3584]⟩
abbrev S2x512 : Shape := ⟨2, ![2, 512]⟩
abbrev S1x1024 : Shape := ⟨2, ![1, 1024]⟩
abbrev S512x2560 : Shape := ⟨2, ![512, 2560]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1024x512 : Shape := ⟨2, ![1024, 512]⟩

abbrev nBuf : Space → Nat
  | .hbm => 12
  | .vmem => 10
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3584, .f32⟩
  | .hbm, ⟨3, _⟩ => ⟨S2x512, .f32⟩
  | .hbm, ⟨4, _⟩ => ⟨S1x1024, .f32⟩
  | .hbm, ⟨5, _⟩ => ⟨S1024x3584, .bf16⟩
  | .hbm, ⟨6, _⟩ => ⟨S512x2560, .f32⟩
  | .hbm, ⟨7, _⟩ => ⟨S512x512, .bf16⟩
  | .hbm, ⟨8, _⟩ => ⟨S512x512, .bf16⟩
  | .hbm, ⟨9, _⟩ => ⟨S512x512, .bf16⟩
  | .hbm, ⟨10, _⟩ => ⟨S512x512, .f32⟩
  | .hbm, ⟨11, _⟩ => ⟨S512x512, .f32⟩
  | .local _ .vmem, ⟨0, _⟩ => ⟨S512x1024, .f32⟩
  | .local _ .vmem, ⟨1, _⟩ => ⟨S1x1024, .f32⟩
  | .local _ .vmem, ⟨2, _⟩ => ⟨S1024x3584, .bf16⟩
  | .local _ .vmem, ⟨3, _⟩ => ⟨S2x512, .f32⟩
  | .local _ .vmem, ⟨4, _⟩ => ⟨S512x2560, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .f32⟩
  | .local _ .vmem, ⟨9, _⟩ => ⟨S512x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v2_4 : Ref sig .tc := ⟨.hbm, 10, rfl⟩
abbrev main_v2_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c1_i32 : BitVec 32 := 1#32
  let c0_i32 : BitVec 32 := 0#32
  let v75 : BitVec 1 := Scalar.cmpi .eq c1_i32 c0_i32
  let c1_i32_43 : BitVec 32 := 1#32
  let v76 : BitVec 32 := Scalar.select v75 c1_i32_43 c1_i32
  let v77 : BitVec 32 := Scalar.remsi arg0 v76
  let c0_i32_45 : BitVec 32 := 0#32
  let v79 : BitVec 1 := Scalar.cmpi .slt v77 c0_i32_45
  let c0_i32_46 : BitVec 32 := 0#32
  let v80 : BitVec 1 := Scalar.cmpi .slt v76 c0_i32_46
  let v81 : BitVec 1 := Scalar.xori v79 v80
  let c0_i32_44 : BitVec 32 := 0#32
  let v78 : BitVec 1 := Scalar.cmpi .ne v77 c0_i32_44
  let v82 : BitVec 1 := Scalar.andi v81 v78
  let v83 : BitVec 32 := Scalar.addi v77 v76
  let v84 : BitVec 32 := Scalar.select v82 v83 v77
  let c0_i32_47 : BitVec 32 := 0#32
  let v85 : BitVec 1 := Scalar.cmpi .eq v84 c0_i32_47
  let v86 : BitVec 32 := Scalar.extui v85
  let c0_i32_48 : BitVec 32 := 0#32
  let v87 : BitVec 1 := Scalar.cmpi .ne v86 c0_i32_48
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

def cc0_transform_9 (i : grid0.Coords) : Fin 2 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  ![v16.toNat, c0_i32_5.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== InprojSampleIdeal.lean ====
variable {F : FTy → Type} [FloatOps F] [Named F]
def κ : String → Option EReal := fun
  | "log2e_8" => some (((Real.log 256)⁻¹ : ℝ) : EReal)
  | _ => none
-- ==== InprojSampleRefIdeal.lean ====
abbrev S512x1024 : Shape := ⟨2, ![512, 1024]⟩
abbrev S1024 : Shape := ⟨1, ![1024]⟩
abbrev S1024x3584 : Shape := ⟨2, ![1024, 3584]⟩
abbrev S2x512 : Shape := ⟨2, ![2, 512]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x3584 : Shape := ⟨2, ![512, 3584]⟩
abbrev S512x512 : Shape := ⟨2, ![512, 512]⟩
abbrev S1x512 : Shape := ⟨2, ![1, 512]⟩
abbrev S512x2560 : Shape := ⟨2, ![512, 2560]⟩

abbrev nBuf : Space → Nat
  | .hbm => 78
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024, .f32⟩
  | .hbm, ⟨2, _⟩ => ⟨S1024x3584, .f32⟩
  | .hbm, ⟨3, _⟩ => ⟨S2x512, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x3584, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S_, .f32⟩
  | .hbm, ⟨29, _⟩ => ⟨S512, .f32⟩
  | .hbm, ⟨30, _⟩ => ⟨S1x512, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S512, .f32⟩
  | .hbm, ⟨36, _⟩ => ⟨S1x512, .f32⟩
  | .hbm, ⟨37, _⟩ => ⟨S2x512, .f32⟩
  | .hbm, ⟨38, _⟩ => ⟨S2x512, .f32⟩
  | .hbm, ⟨39, _⟩ => ⟨S1x512, .f32⟩
  | .hbm, ⟨40, _⟩ => ⟨S512, .f32⟩
  | .hbm, ⟨41, _⟩ => ⟨S1x512, .f32⟩
  | .hbm, ⟨42, _⟩ => ⟨S512, .f32⟩
  | .hbm, ⟨43, _⟩ => ⟨S512, .f32⟩
  | .hbm, ⟨44, _⟩ => ⟨S1x512, .f32⟩
  | .hbm, ⟨45, _⟩ => ⟨S512, .f32⟩
  | .hbm, ⟨46, _⟩ => ⟨S512, .f32⟩
  | .hbm, ⟨47, _⟩ => ⟨S_, .f32⟩
  | .hbm, ⟨48, _⟩ => ⟨S512, .f32⟩
  | .hbm, ⟨49, _⟩ => ⟨S512, .f32⟩
  | .hbm, ⟨50, _⟩ => ⟨S512x512, .f32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S_, .f32⟩
  | .hbm, ⟨56, _⟩ => ⟨S512x512, .f32⟩
  | .hbm, ⟨57, _⟩ => ⟨S512x512, .f32⟩
  | .hbm, ⟨58, _⟩ => ⟨S1x512, .f32⟩
  | .hbm, ⟨59, _⟩ => ⟨S512x512, .f32⟩
  | .hbm, ⟨60, _⟩ => ⟨S512x512, .f32⟩
  | .hbm, ⟨61, _⟩ => ⟨S1x512, .f32⟩
  | .hbm, ⟨62, _⟩ => ⟨S512x512, .f32⟩
  | .hbm, ⟨63, _⟩ => ⟨S512x512, .f32⟩
  | .hbm, ⟨64, _⟩ => ⟨S512x512, .f32⟩
  | .hbm, ⟨65, _⟩ => ⟨S_, .f32⟩
  | .hbm, ⟨66, _⟩ => ⟨S512x512, .f32⟩
  | .hbm, ⟨67, _⟩ => ⟨S512x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S512x512, .f32⟩
  | .hbm, ⟨73, _⟩ => ⟨S512x512, .f32⟩
  | .hbm, ⟨74, _⟩ => ⟨S512x2560, .f32⟩
  | .hbm, ⟨75, _⟩ => ⟨S512x512, .bf16⟩
  | .hbm, ⟨76, _⟩ => ⟨S512x512, .bf16⟩
  | .hbm, ⟨77, _⟩ => ⟨S512x512, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_7 : Ref sig .tc := ⟨.hbm, 65, rfl⟩
abbrev main_v53 : Ref sig .tc := ⟨.hbm, 66, rfl⟩
abbrev main_v54 : Ref sig .tc := ⟨.hbm, 67, rfl⟩
abbrev main_cst_8 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩

abbrev nD : Nat := 1
abbrev τ : Topo := Topo.v7x

variable {F : FTy → Type} [FloatOps F]
-- ==== AttnPrompt.lean ====
abbrev S32768x512 : Shape := ⟨2, ![32768, 512]⟩
abbrev S8x257 : Shape := ⟨2, ![8, 257]⟩
abbrev S512 : Shape := ⟨1, ![512]⟩
abbrev S4x8192x512 : Shape := ⟨3, ![4, 8192, 512]⟩
abbrev S8x1 : Shape := ⟨2, ![8, 1]⟩
abbrev S8x639 : Shape := ⟨2, ![8, 639]⟩
abbrev S8x128 : Shape := ⟨2, ![8, 128]⟩
abbrev S8x1024 : Shape := ⟨2, ![8, 1024]⟩
abbrev S1x512 : Shape := ⟨2, ![1, 512]⟩
abbrev S256x512 : Shape := ⟨2, ![256, 512]⟩
abbrev S1x8192x512 : Shape := ⟨3, ![1, 8192, 512]⟩
abbrev S8x768x256 : Shape := ⟨3, ![8, 768, 256]⟩
abbrev S256x768 : Shape := ⟨2, ![256, 768]⟩
abbrev S1x1024 : Shape := ⟨2, ![1, 1024]⟩
abbrev S256x1024 : Shape := ⟨2, ![256, 1024]⟩
abbrev S768x256 : Shape := ⟨2, ![768, 256]⟩
abbrev S1x768x256 : Shape := ⟨3, ![1, 768, 256]⟩
abbrev S1x128 : Shape := ⟨2, ![1, 128]⟩
abbrev S640x128 : Shape := ⟨2, ![640, 128]⟩
abbrev S256x128 : Shape := ⟨2, ![256, 128]⟩
abbrev S512x128 : Shape := ⟨2, ![512, 128]⟩
abbrev S1x256x128 : Shape := ⟨3, ![1, 256, 128]⟩
abbrev S768x128 : Shape := ⟨2, ![768, 128]⟩
abbrev S768x512 : Shape := ⟨2, ![768, 512]⟩
abbrev S128x768 : Shape := ⟨2, ![128, 768]⟩
abbrev S1x640x128 : Shape := ⟨3, ![1, 640, 128]⟩
abbrev S64x128 : Shape := ⟨2, ![64, 128]⟩
abbrev S128 : Shape := ⟨1, ![128]⟩
abbrev S128x128 : Shape := ⟨2, ![128, 128]⟩
abbrev S64x768 : Shape := ⟨2, ![64, 768]⟩
abbrev S64x256 : Shape := ⟨2, ![64, 256]⟩
abbrev S512x256 : Shape := ⟨2, ![512, 256]⟩
abbrev S256 : Shape := ⟨1, ![256]⟩
abbrev S256x1 : Shape := ⟨2, ![256, 1]⟩
abbrev S1x512x128 : Shape := ⟨3, ![1, 512, 128]⟩
abbrev S1x768x128 : Shape := ⟨3, ![1, 768, 128]⟩

abbrev nBuf : Space → Nat
  | .hbm => 14
  | .vmem => 11
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S8x257, .f32⟩
  | .hbm, ⟨4, _⟩ => ⟨S512, .f32⟩
  | .hbm, ⟨5, _⟩ => ⟨S4x8192x512, .bf16⟩
  | .hbm, ⟨6, _⟩ => ⟨S4x8192x512, .bf16⟩
  | .hbm, ⟨7, _⟩ => ⟨S8x1, .f32⟩
  | .hbm, ⟨8, _⟩ => ⟨S8x639, .f32⟩
  | .hbm, ⟨9, _⟩ => ⟨S8x1, .f32⟩
  | .hbm, ⟨10, _⟩ => ⟨S8x128, .f32⟩
  | .hbm, ⟨11, _⟩ => ⟨S8x1024, .f32⟩
  | .hbm, ⟨12, _⟩ => ⟨S1x512, .f32⟩
  | .hbm, ⟨13, _⟩ => ⟨S32768x512, .bf16⟩
  | .local _ .vmem, ⟨0, _⟩ => ⟨S256x512, .bf16⟩
  | .local _ .vmem, ⟨1, _⟩ => ⟨S256x512, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x8192x512, .bf16⟩
  | .local _ .vmem, ⟨5, _⟩ => ⟨S1x8192x512, .bf16⟩
  | .local _ .vmem, ⟨6, _⟩ => ⟨S8x1024, .f32⟩
  | .local _ .vmem, ⟨7, _⟩ => ⟨S1x512, .f32⟩
  | .local _ .vmem, ⟨8, _⟩ => ⟨S256x512, .bf16⟩
  | .local _ .vmem, ⟨9, _⟩ => ⟨S256x512, .bf16⟩
  | .local _ .vmem, ⟨10, _⟩ => ⟨S8x768x256, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 32], ![false, false]⟩

def k0_cond4 (i : grid0.Coords) : BitVec 1 :=
  let arg1 : BitVec 32 := BitVec.ofNat 32 (i 1).val
  let c2_i32 : BitVec 32 := 2#32
  let v9 : BitVec 1 := Scalar.cmpi .sge arg1 c2_i32
  let v10 : BitVec 32 := Scalar.extui v9
  let c0_i32_4 : BitVec 32 := 0#32
  let v11 : BitVec 1 := Scalar.cmpi .ne v10 c0_i32_4
  v11

def k0_mult1 (i : grid0.Coords) : BitVec 32 :=
  let arg1 : BitVec 32 := BitVec.ofNat 32 (i 1).val
  let c2_i32_5 : BitVec 32 := 2#32
  let v13 : BitVec 32 := Scalar.subi arg1 c2_i32_5
  let c256_i32 : BitVec 32 := 256#32
  let v14 : BitVec 32 := Scalar.muli v13 c256_i32
  v14
def k0_off1 (i : grid0.Coords) : Fin 3 → Nat :=
  let c0_7 : Index := 0#32
  let arg1 : BitVec 32 := BitVec.ofNat 32 (i 1).val
  let c2_i32_5 : BitVec 32 := 2#32
  let v13 : BitVec 32 := Scalar.subi arg1 c2_i32_5
  let c256_i32 : BitVec 32 := 256#32
  let v14 : BitVec 32 := Scalar.muli v13 c256_i32
  let v15 : BitVec 32 := v14
  let v17 : Index := Scalar.indexCast v15
  let c0_8 : Index := 0#32
  ![0, v17.toNat, 0]
def k0_off2 (i : grid0.Coords) : Fin 3 → Nat :=
  let c0_27 : Index := 0#32
  let arg1 : BitVec 32 := BitVec.ofNat 32 (i 1).val
  let c2_i32_5 : BitVec 32 := 2#32
  let v13 : BitVec 32 := Scalar.subi arg1 c2_i32_5
  let c256_i32 : BitVec 32 := 256#32
  let v14 : BitVec 32 := Scalar.muli v13 c256_i32
  let v15 : BitVec 32 := v14
  let v85 : Index := Scalar.indexCast v15
  let c128_28 : Index := 128#32
  ![0, v85.toNat, 128]
def k0_off3 (i : grid0.Coords) : Fin 3 → Nat :=
  let c0_76 : Index := 0#32
  let arg1 : BitVec 32 := BitVec.ofNat 32 (i 1).val
  let c2_i32_5 : BitVec 32 := 2#32
  let v13 : BitVec 32 := Scalar.subi arg1 c2_i32_5
  let c256_i32 : BitVec 32 := 256#32
  let v14 : BitVec 32 := Scalar.muli v13 c256_i32
  let v15 : BitVec 32 := v14
  let v385 : Index := Scalar.indexCast v15
  let c256_77 : Index := 256#32
  ![0, v385.toNat, 256]
def k0_off4 (i : grid0.Coords) : Fin 3 → Nat :=
  let c0_124 : Index := 0#32
  let arg1 : BitVec 32 := BitVec.ofNat 32 (i 1).val
  let c2_i32_5 : BitVec 32 := 2#32
  let v13 : BitVec 32 := Scalar.subi arg1 c2_i32_5
  let c256_i32 : BitVec 32 := 256#32
  let v14 : BitVec 32 := Scalar.muli v13 c256_i32
  let v15 : BitVec 32 := v14
  let v685 : Index := Scalar.indexCast v15
  let c384_125 : Index := 384#32
  ![0, v685.toNat, 384]
def k0_cond2 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c1_i32 : BitVec 32 := 1#32
  let v6 : BitVec 1 := Scalar.cmpi .eq arg1 c1_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnPromptIdeal.lean ====
variable {F : FTy → Type} [FloatOps F] [Named F]
def κ : String → Option EReal := fun
  | "log2e" => some (((Real.log 2)⁻¹ : ℝ) : EReal)
  | "mask" => some ⊥
  | _ => none
-- ==== AttnPromptRefIdeal.lean ====
abbrev S32768x512 : Shape := ⟨2, ![32768, 512]⟩
abbrev S8x257 : Shape := ⟨2, ![8, 257]⟩
abbrev S512 : Shape := ⟨1, ![512]⟩
abbrev S_ : Shape := ⟨0, ![]⟩
abbrev S4x128x64x8x64 : Shape := ⟨5, ![4, 128, 64, 8, 64]⟩
abbrev S4x8192x8x64 : Shape := ⟨4, ![4, 8192, 8, 64]⟩
abbrev S4x512x8x64 : Shape := ⟨4, ![4, 512, 8, 64]⟩
abbrev S4x8704x8x64 : Shape := ⟨4, ![4, 8704, 8, 64]⟩
abbrev S128 : Shape := ⟨1, ![128]⟩
abbrev S128x1 : Shape := ⟨2, ![128, 1]⟩
abbrev S576 : Shape := ⟨1, ![576]⟩
abbrev S1x576 : Shape := ⟨2, ![1, 576]⟩
abbrev S128x576 : Shape := ⟨2, ![128, 576]⟩
abbrev S128x576x1 : Shape := ⟨3, ![128, 576, 1]⟩
abbrev S4x128x576x8x64 : Shape := ⟨5, ![4, 128, 576, 8, 64]⟩
abbrev S64 : Shape := ⟨1, ![64]⟩
abbrev S64x1 : Shape := ⟨2, ![64, 1]⟩
abbrev S64x576 : Shape := ⟨2, ![64, 576]⟩
abbrev S64x576x1 : Shape := ⟨3, ![64, 576, 1]⟩
abbrev S8x64x576 : Shape := ⟨3, ![8, 64, 576]⟩
abbrev S4x128x8x64x576 : Shape := ⟨5, ![4, 128, 8, 64, 576]⟩
abbrev S1x1x8x64x576 : Shape := ⟨5, ![1, 1, 8, 64, 576]⟩
abbrev S1x128x1x1x576 : Shape := ⟨5, ![1, 128, 1, 1, 576]⟩
abbrev S4x128x8x64 : Shape := ⟨4, ![4, 128, 8, 64]⟩
abbrev S4x128x8x64x1 : Shape := ⟨5, ![4, 128, 8, 64, 1]⟩
abbrev S4x128x8x64x64 : Shape := ⟨5, ![4, 128, 8, 64, 64]⟩
abbrev S4x8192x512 : Shape := ⟨3, ![4, 8192, 512]⟩
abbrev S4x8192 : Shape := ⟨2, ![4, 8192]⟩
abbrev S4x8192x1 : Shape := ⟨3, ![4, 8192, 1]⟩
abbrev S1x1x512 : Shape := ⟨3, ![1, 1, 512]⟩

abbrev nBuf : Space → Nat
  | .hbm => 126
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S8x257, .f32⟩
  | .hbm, ⟨4, _⟩ => ⟨S512, .f32⟩
  | .hbm, ⟨5, _⟩ => ⟨S32768x512, .f32⟩
  | .hbm, ⟨6, _⟩ => ⟨S_, .f32⟩
  | .hbm, ⟨7, _⟩ => ⟨S_, .f32⟩
  | .hbm, ⟨8, _⟩ => ⟨S32768x512, .f32⟩
  | .hbm, ⟨9, _⟩ => ⟨S32768x512, .f32⟩
  | .hbm, ⟨10, _⟩ => ⟨S4x128x64x8x64, .f32⟩
  | .hbm, ⟨11, _⟩ => ⟨S32768x512, .f32⟩
  | .hbm, ⟨12, _⟩ => ⟨S4x8192x8x64, .f32⟩
  | .hbm, ⟨13, _⟩ => ⟨S32768x512, .f32⟩
  | .hbm, ⟨14, _⟩ => ⟨S4x8192x8x64, .f32⟩
  | .hbm, ⟨15, _⟩ => ⟨S_, .f32⟩
  | .hbm, ⟨16, _⟩ => ⟨S4x512x8x64, .f32⟩
  | .hbm, ⟨17, _⟩ => ⟨S4x8704x8x64, .f32⟩
  | .hbm, ⟨18, _⟩ => ⟨S4x8704x8x64, .f32⟩
  | .hbm, ⟨19, _⟩ => ⟨S128, .i32⟩
  | .hbm, ⟨20, _⟩ => ⟨S128x1, .i32⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S576, .i32⟩
  | .hbm, ⟨25, _⟩ => ⟨S1x576, .i32⟩
  | .hbm, ⟨26, _⟩ => ⟨S128x576, .i32⟩
  | .hbm, ⟨27, _⟩ => ⟨S128x576, .i32⟩
  | .hbm, ⟨28, _⟩ => ⟨S128x576, .i32⟩
  | .hbm, ⟨29, _⟩ => ⟨S_, .i32⟩
  | .hbm, ⟨30, _⟩ => ⟨S128x576, .i32⟩
  | .hbm, ⟨31, _⟩ => ⟨S128x576, .i1⟩
  | .hbm, ⟨32, _⟩ => ⟨S_, .i32⟩
  | .hbm, ⟨33, _⟩ => ⟨S128x576, .i32⟩
  | .hbm, ⟨34, _⟩ => ⟨S128x576, .i32⟩
  | .hbm, ⟨35, _⟩ => ⟨S128x576, .i32⟩
  | .hbm, ⟨36, _⟩ => ⟨S128x576x1, .i32⟩
  | .hbm, ⟨37, _⟩ => ⟨S4x128x576x8x64, .f32⟩
  | .hbm, ⟨38, _⟩ => ⟨S_, .i32⟩
  | .hbm, ⟨39, _⟩ => ⟨S128x576, .i32⟩
  | .hbm, ⟨40, _⟩ => ⟨S128x576, .i1⟩
  | .hbm, ⟨41, _⟩ => ⟨S_, .i32⟩
  | .hbm, ⟨42, _⟩ => ⟨S128x576, .i32⟩
  | .hbm, ⟨43, _⟩ => ⟨S128x576, .i32⟩
  | .hbm, ⟨44, _⟩ => ⟨S128x576, .i32⟩
  | .hbm, ⟨45, _⟩ => ⟨S128x576x1, .i32⟩
  | .hbm, ⟨46, _⟩ => ⟨S4x128x576x8x64, .f32⟩
  | .hbm, ⟨47, _⟩ => ⟨S_, .i32⟩
  | .hbm, ⟨48, _⟩ => ⟨S128x576, .i32⟩
  | .hbm, ⟨49, _⟩ => ⟨S128x576, .i32⟩
  | .hbm, ⟨50, _⟩ => ⟨S_, .i32⟩
  | .hbm, ⟨51, _⟩ => ⟨S128x576, .i32⟩
  | .hbm, ⟨52, _⟩ => ⟨S128x576, .i1⟩
  | .hbm, ⟨53, _⟩ => ⟨S576, .i32⟩
  | .hbm, ⟨54, _⟩ => ⟨S_, .i32⟩
  | .hbm, ⟨55, _⟩ => ⟨S576, .i32⟩
  | .hbm, ⟨56, _⟩ => ⟨S576, .i32⟩
  | .hbm, ⟨57, _⟩ => ⟨S1x576, .i32⟩
  | .hbm, ⟨58, _⟩ => ⟨S64, .i32⟩
  | .hbm, ⟨59, _⟩ => ⟨S64x1, .i32⟩
  | .hbm, ⟨60, _⟩ => ⟨S64x576, .i32⟩
  | .hbm, ⟨61, _⟩ => ⟨S64x576, .i32⟩
  | .hbm, ⟨62, _⟩ => ⟨S64x576, .i32⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S_, .i32⟩
  | .hbm, ⟨67, _⟩ => ⟨S64x576, .i32⟩
  | .hbm, ⟨68, _⟩ => ⟨S64x576, .i32⟩
  | .hbm, ⟨69, _⟩ => ⟨S_, .i32⟩
  | .hbm, ⟨70, _⟩ => ⟨S64x576, .i32⟩
  | .hbm, ⟨71, _⟩ => ⟨S64x576, .i32⟩
  | .hbm, ⟨72, _⟩ => ⟨S_, .i32⟩
  | .hbm, ⟨73, _⟩ => ⟨S64x576, .i32⟩
  | .hbm, ⟨74, _⟩ => ⟨S64x576, .i1⟩
  | .hbm, ⟨75, _⟩ => ⟨S_, .i32⟩
  | .hbm, ⟨76, _⟩ => ⟨S64x576, .i32⟩
  | .hbm, ⟨77, _⟩ => ⟨S64x576, .i32⟩
  | .hbm, ⟨78, _⟩ => ⟨S64x576, .i32⟩
  | .hbm, ⟨79, _⟩ => ⟨S64x576x1, .i32⟩
  | .hbm, ⟨80, _⟩ => ⟨S8x64x576, .f32⟩
  | .hbm, ⟨81, _⟩ => ⟨S4x128x8x64x576, .f32⟩
  | .hbm, ⟨82, _⟩ => ⟨S_, .f32⟩
  | .hbm, ⟨83, _⟩ => ⟨S4x128x8x64x576, .f32⟩
  | .hbm, ⟨84, _⟩ => ⟨S4x128x8x64x576, .f32⟩
  | .hbm, ⟨85, _⟩ => ⟨S1x1x8x64x576, .f32⟩
  | .hbm, ⟨86, _⟩ => ⟨S4x128x8x64x576, .f32⟩
  | .hbm, ⟨87, _⟩ => ⟨S4x128x8x64x576, .f32⟩
  | .hbm, ⟨88, _⟩ => ⟨S1x128x1x1x576, .i1⟩
  | .hbm, ⟨89, _⟩ => ⟨S_, .f32⟩
  | .hbm, ⟨90, _⟩ => ⟨S_, .f32⟩
  | .hbm, ⟨91, _⟩ => ⟨S4x128x8x64x576, .i1⟩
  | .hbm, ⟨92, _⟩ => ⟨S4x128x8x64x576, .f32⟩
  | .hbm, ⟨93, _⟩ => ⟨S4x128x8x64x576, .f32⟩
  | .hbm, ⟨94, _⟩ => ⟨S_, .f32⟩
  | .hbm, ⟨95, _⟩ => ⟨S4x128x8x64, .f32⟩
  | .hbm, ⟨96, _⟩ => ⟨S4x128x8x64x1, .f32⟩
  | .hbm, ⟨97, _⟩ => ⟨S4x128x8x64x576, .f32⟩
  | .hbm, ⟨98, _⟩ => ⟨S4x128x8x64x576, .f32⟩
  | .hbm, ⟨99, _⟩ => ⟨S4x128x8x64x576, .f32⟩
  | .hbm, ⟨100, _⟩ => ⟨S_, .f32⟩
  | .hbm, ⟨101, _⟩ => ⟨S4x128x8x64, .f32⟩
  | .hbm, ⟨102, _⟩ => ⟨S4x128x8x64x1, .f32⟩
  | .hbm, ⟨103, _⟩ => ⟨S4x128x8x64x576, .f32⟩
  | .hbm, ⟨104, _⟩ => ⟨S4x128x8x64x576, .f32⟩
  | .hbm, ⟨105, _⟩ => ⟨S4x128x8x64x64, .f32⟩
  | .hbm, ⟨106, _⟩ => ⟨S4x128x64x8x64, .f32⟩
  | .hbm, ⟨107, _⟩ => ⟨S4x8192x512, .f32⟩
  | .hbm, ⟨108, _⟩ => ⟨S4x8192x512, .f32⟩
  | .hbm, ⟨109, _⟩ => ⟨S_, .f32⟩
  | .hbm, ⟨110, _⟩ => ⟨S4x8192, .f32⟩
  | .hbm, ⟨111, _⟩ => ⟨S4x8192x1, .f32⟩
  | .hbm, ⟨112, _⟩ => ⟨S_, .f32⟩
  | .hbm, ⟨113, _⟩ => ⟨S4x8192x1, .f32⟩
  | .hbm, ⟨114, _⟩ => ⟨S4x8192x1, .f32⟩
  | .hbm, ⟨115, _⟩ => ⟨S_, .f32⟩
  | .hbm, ⟨116, _⟩ => ⟨S4x8192x1, .f32⟩
  | .hbm, ⟨117, _⟩ => ⟨S4x8192x1, .f32⟩
  | .hbm, ⟨118, _⟩ => ⟨S4x8192x1, .f32⟩
  | .hbm, ⟨119, _⟩ => ⟨S4x8192x512, .f32⟩
  | .hbm, ⟨120, _⟩ => ⟨S4x8192x512, .f32⟩
  | .hbm, ⟨121, _⟩ => ⟨S1x1x512, .f32⟩
  | .hbm, ⟨122, _⟩ => ⟨S4x8192x512, .f32⟩
  | .hbm, ⟨123, _⟩ => ⟨S4x8192x512, .f32⟩
  | .hbm, ⟨124, _⟩ => ⟨S32768x512, .f32⟩
  | .hbm, ⟨125, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_1 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_c_3 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_c_8 : Ref sig .tc := ⟨.hbm, 63, rfl⟩
abbrev main_v48 : Ref sig .tc := ⟨.hbm, 64, rfl⟩
abbrev main_v49 : Ref sig .tc := ⟨.hbm, 65, rfl⟩
abbrev main_c_9 : Ref sig .tc := ⟨.hbm, 66, rfl⟩
abbrev main_v50 : Ref sig .tc := ⟨.hbm, 67, rfl⟩
abbrev main_v51 : Ref sig .tc := ⟨.hbm, 68, rfl⟩
abbrev main_c_10 : Ref sig .tc := ⟨.hbm, 69, rfl⟩
abbrev main_v52 : Ref sig .tc := ⟨.hbm, 70, rfl⟩
abbrev main_v53 : Ref sig .tc := ⟨.hbm, 71, rfl⟩
abbrev main_c_11 : Ref sig .tc := ⟨.hbm, 72, rfl⟩
abbrev main_v54 : Ref sig .tc := ⟨.hbm, 73, rfl⟩
abbrev main_v55 : Ref sig .tc := ⟨.hbm, 74, rfl⟩
abbrev main_c_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_14 : Ref sig .tc := ⟨.hbm, 89, rfl⟩
abbrev main_call0_v0 : Ref sig .tc := ⟨.hbm, 90, rfl⟩
abbrev main_call0_v1 : Ref sig .tc := ⟨.hbm, 91, rfl⟩
abbrev main_call0_v2 : Ref sig .tc := ⟨.hbm, 92, rfl⟩
abbrev main_v68 : Ref sig .tc := ⟨.hbm, 93, rfl⟩
abbrev main_cst_15 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_cst_18 : Ref sig .tc := ⟨.hbm, 112, rfl⟩
abbrev main_v84 : Ref sig .tc := ⟨.hbm, 113, rfl⟩
abbrev main_v85 : Ref sig .tc := ⟨.hbm, 114, rfl⟩
abbrev main_cst_19 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩

abbrev nD : Nat := 1
abbrev τ : Topo := Topo.v7x

variable {F : FTy → Type} [FloatOps F]
-- ==== Proof.Pre.lean ====
/- The side conditions of the precondition's own operations. -/
module

public import proofs.«01_k».proof.Pre_finite_scores

@[expose] public section

namespace Cert.Pre

open Idealize.ShloMosaic Cert.Pre_finite_scores

/-- They hold. -/
instance facts : Cert.Pre_finite_scores.Facts where
  bitsLt_bf16_f32 := by decide
  bcast_S_S512x512 := by decide
  reducesTo_S512x512_S_d0_1 := by decide
  h_S_ := by decide
  bcast_S_S2x32x512x8x64 := by decide
  reducesTo_S2x32x512x8x64_S_d0_1_2_3_4 := by decide
  bcast_S_S8x257 := by decide
  reducesTo_S8x257_S_d0_1 := by decide

end Cert.Pre

end
-- ==== Proof.AttnMath.lean ====
/- One row of attention: weights in powers of two against weights in powers of e. -/
module

public import Idealize.ShloMosaic.Lib.Pointwise

@[expose] public section

set_option maxRecDepth 16384

noncomputable section

namespace Cert.AttnMath

open Idealize.ShloMosaic

/-- The largest of the numbers. -/
def top {n : ℕ} (s : Fin n → EReal) : EReal := Finset.univ.fold max ⊥ s

/-- The values `v` averaged with weights that are powers of two, divided once at the end. -/
def avg2 {n : ℕ} (s v : Fin n → EReal) : EReal :=
  Ideal.div (∑ c, Ideal.exp2 (s c - top s) * v c) (∑ c, Ideal.exp2 (s c - top s))

/-- The values `v` averaged with the softmax of `s`. -/
def avg {n : ℕ} (s v : Fin n → EReal) : EReal :=
  ∑ c, v c * Ideal.div (Ideal.exp (s c - top s)) (∑ c, Ideal.exp (s c - top s))

/-- The largest of finitely many real numbers is real. -/
theorem top_real {n : ℕ} (hn : 0 < n) (σ : Fin n → ℝ) : ∃ μ : ℝ, top (fun c => (σ c : EReal)) = μ := by
  have hlo : (σ ⟨0, hn⟩ : EReal) ≤ top (fun c => (σ c : EReal)) :=
    (Finset.le_fold_max _).2 (.inr ⟨_, Finset.mem_univ _, le_rfl⟩)
  have hhi : top (fun c => (σ c : EReal)) < ⊤ :=
    (Finset.fold_max_lt _).2 ⟨bot_lt_top, fun c _ => EReal.coe_lt_top _⟩
  lift top (fun c => (σ c : EReal)) to ℝ using ⟨hhi.ne, (lt_of_lt_of_le (EReal.bot_lt_coe _) hlo).ne'⟩ with μ
  exact ⟨μ, rfl⟩

/-- A sum of real numbers is real. -/
theorem coe_sum {ι : Type} [Fintype ι] (f : ι → ℝ) : ∑ i, (f i : EReal) = ((∑ i, f i : ℝ) : EReal) :=
  (map_sum (⟨⟨fun r : ℝ => (r : EReal), EReal.coe_zero⟩, EReal.coe_add⟩ : ℝ →+ EReal) f Finset.univ).symm

/-- A positive real factor passes through a sum. -/
theorem sum_mul_pos {n : ℕ} (f : Fin n → EReal) (a : ℝ) (ha : 0 ≤ a) : (∑ c, f c) * (a : EReal) = ∑ c, f c * (a : EReal) := by
  induction n with
  | zero => simp
  | succ n ih =>
    rw [Fin.sum_univ_castSucc, Fin.sum_univ_castSucc, ← ih, mul_comm, EReal.left_distrib_of_nonneg_of_ne_top (by exact_mod_cast ha) (EReal.coe_ne_top _),
      mul_comm, mul_comm (a : EReal)]

/-- A power of two is a power of e. -/
theorem two_pow (x : ℝ) : Real.rpow 2 x = Real.exp (Real.log 2 * x) := Real.rpow_def_of_pos (by norm_num) x

/-- The two averages agree when the second's scores are the first's times the logarithm of two. -/
theorem avg2_eq {n : ℕ} (hn : 0 < n) (σ : Fin n → ℝ) (v : Fin n → EReal) :
    avg2 (fun c => (σ c : EReal)) v = avg (fun c => ((Real.log 2 * σ c : ℝ) : EReal)) v := by
  obtain ⟨μ, hμ⟩ := top_real hn σ
  obtain ⟨ν, hν⟩ := top_real hn (fun c => Real.log 2 * σ c)
  unfold avg2 avg
  rw [hμ, hν]
  simp only [← EReal.coe_sub, Ideal.exp2_coe, Ideal.exp_coe, two_pow, coe_sum]
  have hpos : ∀ f : Fin n → ℝ, (∑ c, Real.exp (f c)) ≠ 0 := fun f =>
    (Finset.sum_pos (fun c _ => Real.exp_pos _) ⟨⟨0, hn⟩, Finset.mem_univ _⟩).ne'
  simp only [Ideal.div_coe (hpos _)]
  rw [sum_mul_pos _ _ (by positivity)]
  refine Finset.sum_congr rfl fun c _ => ?_
  rw [mul_comm _ (v c), mul_assoc, ← EReal.coe_mul, ← EReal.coe_mul]
  congr 2
  have e1 : ∀ x, Real.exp (Real.log 2 * (x - μ)) = Real.exp (Real.log 2 * x) * Real.exp (-(Real.log 2 * μ)) := fun x => by
    rw [← Real.exp_add]; ring_nf
  have e2 : ∀ x, Real.exp (Real.log 2 * x - ν) = Real.exp (Real.log 2 * x) * Real.exp (-ν) := fun x => by
    rw [← Real.exp_add]; ring_nf
  simp only [e1, e2, ← Finset.sum_mul]
  have := hpos fun c => Real.log 2 * σ c
  have := (Real.exp_pos (-ν)).ne'
  have := (Real.exp_pos (-(Real.log 2 * μ))).ne'
  field_simp

/-- The average of nothing but zeros is zero. -/
theorem avg2_zero {n : ℕ} (hn : 0 < n) (σ : Fin n → ℝ) : avg2 (fun c => (σ c : EReal)) (fun _ => 0) = 0 := by
  obtain ⟨μ, hμ⟩ := top_real hn σ
  unfold avg2
  rw [hμ]
  simp only [← EReal.coe_sub, Ideal.exp2_coe, two_pow, coe_sum, mul_zero, Finset.sum_const_zero]
  rw [Ideal.div_coe (Finset.sum_pos (fun c _ => Real.exp_pos _) ⟨⟨0, hn⟩, Finset.mem_univ _⟩).ne', zero_mul]

/-- Lane `d` of head `h`. -/
def at64 (h : Fin 8) (d : Fin 64) : Fin 512 := ⟨64 * h.val + d.val, by omega⟩

/-- The head of a lane. -/
def hd (j : Fin 512) : Fin 8 := ⟨j.val / 64, by omega⟩

/-- A head's scores of one query against each key, in powers of two: the bias is divided by the logarithm of two. -/
def score2 {n : ℕ} (q : Fin 512 → EReal) (k : Fin n → Fin 512 → EReal) (β : Fin 8 → Fin n → EReal) (h : Fin 8) (c : Fin n) : EReal :=
  ∑ d : Fin 64, q (at64 h d) * k c (at64 h d) + β h c * (((Real.log 2)⁻¹ : ℝ) : EReal)

/-- A head's scores of one query against each key: the query multiplied by `log 256`, the product by an eighth. -/
def score {n : ℕ} (q : Fin 512 → EReal) (k : Fin n → Fin 512 → EReal) (β : Fin 8 → Fin n → EReal) (h : Fin 8) (c : Fin n) : EReal :=
  (∑ d : Fin 64, q (at64 h d) * ((Real.log 256 : ℝ) : EReal) * k c (at64 h d)) * ((1 / 8 : ℝ) : EReal) + β h c

/-- The heads' outputs side by side, with powers of two. -/
def heads2 {n : ℕ} (q : Fin 512 → EReal) (k v : Fin n → Fin 512 → EReal) (β : Fin 8 → Fin n → EReal) (j : Fin 512) : EReal :=
  avg2 (score2 q k β (hd j)) (fun c => v c j)

/-- The heads' outputs side by side. -/
def heads {n : ℕ} (q : Fin 512 → EReal) (k v : Fin n → Fin 512 → EReal) (β : Fin 8 → Fin n → EReal) (j : Fin 512) : EReal :=
  avg (score q k β (hd j)) (fun c => v c j)

/-- A number that is neither infinity. -/
def IsFin (x : EReal) : Prop := ∃ r : ℝ, x = r

/-- With finite scores the first head score is real. -/
theorem score2_real {n : ℕ} {q : Fin 512 → EReal} {k : Fin n → Fin 512 → EReal} {β : Fin 8 → Fin n → EReal}
    (hq : ∀ j, IsFin (q j)) (hk : ∀ c j, IsFin (k c j)) (hβ : ∀ h c, IsFin (β h c)) (h : Fin 8) :
    ∃ σ : Fin n → ℝ, score2 q k β h = (fun c => (σ c : EReal)) ∧ score q k β h = fun c => ((Real.log 2 * σ c : ℝ) : EReal) := by
  choose q' hq using hq
  choose k' hk using hk
  choose b' hβ using hβ
  refine ⟨fun c => ∑ d : Fin 64, q' (at64 h d) * k' c (at64 h d) + b' h c * (Real.log 2)⁻¹, funext fun c => ?_, funext fun c => ?_⟩
  · simp only [score2, hq, hk, hβ, ← EReal.coe_mul, coe_sum, ← EReal.coe_add]
  · simp only [score, hq, hk, hβ, ← EReal.coe_mul, coe_sum, ← EReal.coe_add]
    congr 1
    have e : Real.log 256 = 8 * Real.log 2 := by
      rw [show (256 : ℝ) = 2 ^ 8 by norm_num, Real.log_pow]; norm_num
    have h2 : Real.log 2 ≠ 0 := (Real.log_pos (by norm_num)).ne'
    rw [mul_add, Finset.mul_sum, Finset.sum_mul, e]
    congr 1
    · exact Finset.sum_congr rfl fun d _ => by ring
    · field_simp

/-- The heads' outputs agree where the scores are finite. -/
theorem heads2_eq {n : ℕ} (hn : 0 < n) {q : Fin 512 → EReal} {k : Fin n → Fin 512 → EReal} {β : Fin 8 → Fin n → EReal}
    (hq : ∀ j, IsFin (q j)) (hk : ∀ c j, IsFin (k c j)) (hβ : ∀ h c, IsFin (β h c)) (v : Fin n → Fin 512 → EReal) :
    heads2 q k v β = heads q k v β := by
  funext j
  obtain ⟨σ, h2, h1⟩ := score2_real hq hk hβ (hd j)
  unfold heads2 heads
  rw [h2, h1, avg2_eq hn]

/-- A row divided by the root of its mean square, each entry then scaled. -/
def nrm (x g : Fin 512 → EReal) (j : Fin 512) : EReal :=
  x j * Ideal.rsqrt (Ideal.div (∑ k : Fin 512, x k * x k) (Ideal.ofBits .f32 0x44000000#32) + Ideal.ofBits .f32 0x358637BD#32) * g j

end Cert.AttnMath

end
-- ==== Proof.Consts.lean ====
/- The numbers that the programs' constants are. -/
module

public import Idealize.ShloMosaic.Lib.Pointwise

@[expose] public section

noncomputable section

namespace Cert.Consts

open Idealize.ShloMosaic

/-- The start of a maximum. -/
theorem neg_inf : Ideal.ofBits .f32 0xFF800000#32 = ⊥ := by
  simp [Ideal.ofBits, Ideal.ieee, -EReal.coe_mul]

/-- The bound of a finite number. -/
theorem pos_inf : Ideal.ofBits .f32 0x7F800000#32 = ⊤ := by
  simp [Ideal.ofBits, Ideal.ieee, -EReal.coe_mul]

/-- The base of the logarithm that scales the queries. -/
theorem c256 : Ideal.ofBits .f32 0x43800000#32 = ((256 : ℝ) : EReal) := by
  simp [Ideal.ofBits, Ideal.ieee, -EReal.coe_mul]
  norm_num

/-- The root of a head's width, inverted. -/
theorem eighth : Ideal.ofBits .f32 0x3E000000#32 = ((1 / 8 : ℝ) : EReal) := by
  simp [Ideal.ofBits, Ideal.ieee, -EReal.coe_mul]
  norm_num

/-- The number whose logarithm turns powers of e into powers of two. -/
theorem two : Ideal.ofBits .f32 0x40000000#32 = ((2 : ℝ) : EReal) := by
  simp [Ideal.ofBits, Ideal.ieee, -EReal.coe_mul]
  norm_num

/-- The root of a head's width. -/
theorem eight : Ideal.ofBits .f32 0x41000000#32 = ((8 : ℝ) : EReal) := by
  simp [Ideal.ofBits, Ideal.ieee, -EReal.coe_mul]
  norm_num

end Cert.Consts

end
-- ==== Proof.AttnPre.lean ====
/- What the precondition says of the attention's arguments. -/
module

public import proofs.«01_k».proof.Defs
public import proofs.«01_k».proof.Proof.Pre
public import proofs.«01_k».proof.Proof.AttnMath
public import proofs.«01_k».proof.Proof.Consts
public import Idealize.ShloMosaic.Lib.ReduceAll
public import Idealize.ShloMosaic.Lib.Affine

@[expose] public section

set_option maxRecDepth 16384

noncomputable section

namespace Cert.AttnPre

open Idealize.ShloMosaic Cert.AttnMath

instance : Subsingleton Cert.Pre_finite_scores.S_.Idx := ⟨fun a b => funext fun i => i.elim0⟩

/-- An extended real whose absolute value compares below `+∞` is a real. -/
theorem isFin_of_lt {x : EReal} (h : Ideal.cmp .olt (max x (-x)) ⊤ = 1#1) : IsFin x := by
  induction x using EReal.rec with
  | bot => simp [Ideal.cmp] at h
  | top => simp [Ideal.cmp] at h
  | coe r => exact ⟨r, rfl⟩

/-- An array all of whose absolute values compare below `+∞` has only reals. -/
theorem isFin_of_reduce {s : Shape} {axes : List (Fin s.rank)} (x : FVec Ideal s .f32) (hb : Cert.Pre_finite_scores.S_.BroadcastsInDim s (![] : Fin 0 → Fin s.rank))
    (h : s.ReducesTo axes Cert.Pre_finite_scores.S_) (hu : 0 < Cert.Pre_finite_scores.S_.numel) (j : Cert.Pre_finite_scores.S_.Idx)
    (e : Host.reduce IntOp.andi (cmpf .olt (Host.absf x) (broadcastInDim s ![] hb (constant Cert.Pre_finite_scores.S_ .f32 0x7F800000#32)))
      (constantI Cert.Pre_finite_scores.S_ 1 1#1) h hu j = 1#1) (i : s.Idx) : IsFin (x i) := by
  have := Host.reduce_andi_all _ _ _ _ _ e i
  refine isFin_of_lt ((congrArg (Ideal.cmp .olt (max (x i) (-(x i)))) Cert.Consts.pos_inf.symm).trans this)

/-- The precondition: queries, new keys, cached keys and biases are reals. -/
theorem finite {m : (ℓ : Loc Cert.AttnIdeal.nD Cert.AttnIdeal.τ Cert.AttnIdeal.sig) → Buf (Elt Ideal) ℓ} (h : Cert.Pre_AttnIdeal_finite_scores m) (c : Dev Cert.AttnIdeal.nD) :
    (∀ i, IsFin (m ((c.tc : Thread Cert.AttnIdeal.nD Cert.AttnIdeal.τ).loc Cert.AttnIdeal.main_arg0) i)) ∧
    (∀ i, IsFin (m ((c.tc : Thread Cert.AttnIdeal.nD Cert.AttnIdeal.τ).loc Cert.AttnIdeal.main_arg1) i)) ∧
    (∀ i, IsFin (m ((c.tc : Thread Cert.AttnIdeal.nD Cert.AttnIdeal.τ).loc Cert.AttnIdeal.main_arg3) i)) ∧
    (∀ i, IsFin (m ((c.tc : Thread Cert.AttnIdeal.nD Cert.AttnIdeal.τ).loc Cert.AttnIdeal.main_arg5) i)) := by
  have e := congrFun (h c) (fun i => i.elim0)
  obtain ⟨e, e5⟩ := IntOp.andi_eq_one.1 e
  obtain ⟨e, e3⟩ := IntOp.andi_eq_one.1 e
  obtain ⟨e0, e1⟩ := IntOp.andi_eq_one.1 e
  exact ⟨fun i => isFin_of_reduce _ _ _ _ _ e0 i, fun i => isFin_of_reduce _ _ _ _ _ e1 i, fun i => isFin_of_reduce _ _ _ _ _ e3 i, fun i => isFin_of_reduce _ _ _ _ _ e5 i⟩

end Cert.AttnPre

end
-- ==== Proof.BandPre.lean ====
/- What the precondition says of the prompt attention's arguments. -/
module

public import proofs.«01_k».proof.Defs
public import proofs.«01_k».proof.Proof.AttnPre

@[expose] public section

set_option maxRecDepth 16384

noncomputable section

namespace Cert.BandPre

open Idealize.ShloMosaic Cert.AttnMath Cert.AttnPre

/-- The side conditions of the precondition's own operations hold. -/
instance facts : Cert.Pre_finite_band.Facts where
  bitsLt_bf16_f32 := by decide
  bcast_S_S32768x512 := by decide
  reducesTo_S32768x512_S_d0_1 := by decide
  h_S_ := by decide
  bcast_S_S8x257 := by decide
  reducesTo_S8x257_S_d0_1 := by decide

/-- The precondition: queries, keys and biases are reals. -/
theorem finite {m : (ℓ : Loc Cert.AttnPromptIdeal.nD Cert.AttnPromptIdeal.τ Cert.AttnPromptIdeal.sig) → Buf (Elt Ideal) ℓ} (h : Cert.Pre_AttnPromptIdeal_finite_band m) (c : Dev Cert.AttnPromptIdeal.nD) :
    (∀ i, IsFin (m ((c.tc : Thread Cert.AttnPromptIdeal.nD Cert.AttnPromptIdeal.τ).loc Cert.AttnPromptIdeal.main_arg0) i)) ∧
    (∀ i, IsFin (m ((c.tc : Thread Cert.AttnPromptIdeal.nD Cert.AttnPromptIdeal.τ).loc Cert.AttnPromptIdeal.main_arg1) i)) ∧
    (∀ i, IsFin (m ((c.tc : Thread Cert.AttnPromptIdeal.nD Cert.AttnPromptIdeal.τ).loc Cert.AttnPromptIdeal.main_arg3) i)) := by
  have e := congrFun (h c) (fun i => i.elim0)
  obtain ⟨e, e3⟩ := IntOp.andi_eq_one.1 e
  obtain ⟨e0, e1⟩ := IntOp.andi_eq_one.1 e
  exact ⟨fun i => isFin_of_reduce _ _ _ _ _ e0 i, fun i => isFin_of_reduce _ _ _ _ _ e1 i, fun i => isFin_of_reduce _ _ _ _ _ e3 i⟩

end Cert.BandPre

end
-- ==== Proof.AttnRef.lean ====
/- The reference of the attention, read one row at a time. -/
module

public import proofs.«01_k».proof.Proof.Gen.AttnRefIdeal.Run
public import proofs.«01_k».proof.Proof.AttnMath
public import proofs.«01_k».proof.Proof.Consts
public import Idealize.ShloMosaic.Lib.Pointwise

@[expose] public section

set_option maxRecDepth 16384

noncomputable section

namespace Cert.AttnRef

open Idealize.ShloMosaic Idealize.ShloMosaic.TcCoe Idealize.SL.Sem
open Cert.AttnRefIdeal Cert.AttnRefIdeal.Gen Cert.AttnMath

/-- The keys or values of every sequence: the cached ones and then the new ones. -/
def allR (cache : FVec Ideal S2x32x512x8x64 .f32) (n : FVec Ideal S512x512 .bf16) : FVec Ideal S32x528x8x64 .f32 :=
  concatenate S32x528x8x64 1 [⟨S32x512x8x64, (shapeCast _ (extractStridedSlice S1x32x512x8x64 ![0, 0, 0, 0, 0] cache slices_S2x32x512x8x64_S1x32x512x8x64_0_0_0_0_0) shapeCasts_S1x32x512x8x64_S32x512x8x64)⟩, ⟨S32x16x8x64, (shapeCast _ (extf .f32 n bitsLt_bf16_f32) shapeCasts_S512x512_S32x16x8x64)⟩] concatenates_S32x512x8x64_S32x16x8x64_S32x528x8x64_d1

/-- The distance of each key from each query, clipped, counted from zero. -/
def relR : IVec S16x528 32 :=
  addi (minsi (maxsi (subi (broadcastInDim S16x528 ![0, 1] bcast_S1x528_S16x528_0_1 (broadcastInDim S1x528 ![1] bcast_S528_S1x528_1 (subi (iotaInDim S528 32 0) (broadcastInDim S528 ![] bcast_S_S528 (constantI S_ 32 512#32))))) (broadcastInDim S16x528 ![0, 1] bcast_S16x1_S16x528_0_1 (broadcastInDim S16x1 ![0] bcast_S16_S16x1_0 (iotaInDim S16 32 0)))) (broadcastInDim S16x528 ![] bcast_S_S16x528 (constantI S_ 32 4294967168#32))) (broadcastInDim S16x528 ![] bcast_S_S16x528 (constantI S_ 32 128#32))) (broadcastInDim S16x528 ![] bcast_S_S16x528 (constantI S_ 32 128#32))

/-- The biases taken at the distances. -/
def biasR (rel : FVec Ideal S8x257 .f32) : FVec Ideal S8x16x528 .f32 :=
  Host.gather gather_S8x257_S16x528x1_S8x16x528_0_1_n_n_1_2_81 rel (broadcastInDim S16x528x1 ![0, 1] bcast_S16x528_S16x528x1_0_1 (select (cmpi .slt relR (broadcastInDim S16x528 ![] bcast_S_S16x528 (constantI S_ 32 0#32))) (addi relR (broadcastInDim S16x528 ![] bcast_S_S16x528 (constantI S_ 32 257#32))) relR))

/-- The scores. -/
def scoreR (q k : FVec Ideal S512x512 .bf16) (ck : FVec Ideal S2x32x512x8x64 .f32) (rel : FVec Ideal S8x257 .f32) : FVec Ideal S32x8x16x528 .f32 :=
  addf (mulf (Host.dotGeneral dot_S32x16x8x64_S32x528x8x64_S32x8x16x528_3_3_1_1_02_02 none (shapeCast S32x16x8x64 (mulf (extf .f32 q bitsLt_bf16_f32) (broadcastInDim S512x512 ![] bcast_S_S512x512 (Host.log (constant S_ .f32 0x43800000#32)))) shapeCasts_S512x512_S32x16x8x64) (allR ck k)) (broadcastInDim S32x8x16x528 ![] bcast_S_S32x8x16x528 (constant S_ .f32 0x3E000000#32))) (broadcastInDim S32x8x16x528 ![0, 1, 2, 3] bcast_S1x8x16x528_S32x8x16x528_0_1_2_3 (broadcastInDim S1x8x16x528 ![1, 2, 3] bcast_S8x16x528_S1x8x16x528_1_2_3 (biasR rel)))

/-- The exponentials of the scores less their largest. -/
def expR (s : FVec Ideal S32x8x16x528 .f32) : FVec Ideal S32x8x16x528 .f32 :=
  Host.exp (subf s (broadcastInDim S32x8x16x528 ![0, 1, 2, 3] bcast_S32x8x16x1_S32x8x16x528_0_1_2_3 (broadcastInDim S32x8x16x1 ![0, 1, 2] bcast_S32x8x16_S32x8x16x1_0_1_2 (Host.reduce FloatOps.maximumf s (constant S_ .f32 0xFF800000#32) reducesTo_S32x8x16x528_S32x8x16_d3 h_S_))))

/-- The softmax of the scores. -/
def softR (s : FVec Ideal S32x8x16x528 .f32) : FVec Ideal S32x8x16x528 .f32 :=
  Host.divf (expR s) (broadcastInDim S32x8x16x528 ![0, 1, 2, 3] bcast_S32x8x16x1_S32x8x16x528_0_1_2_3 (broadcastInDim S32x8x16x1 ![0, 1, 2] bcast_S32x8x16_S32x8x16x1_0_1_2 (Host.reduceAdd (expR s) (constant S_ .f32 0x00000000#32) reducesTo_S32x8x16x528_S32x8x16_d3 h_S_)))

/-- The heads' outputs side by side. -/
def outR (s : FVec Ideal S32x8x16x528 .f32) (v : FVec Ideal S32x528x8x64 .f32) : FVec Ideal S32x16x512 .f32 :=
  shapeCast _ (transpose S32x16x8x64 [0, 3, 1, 2] (Host.dotGeneral dot_S32x528x8x64_S32x8x16x528_S32x8x64x16_1_3_3_2_02_01 none v (softR s)) transposes_S32x8x64x16_S32x16x8x64_0_3_1_2) shapeCasts_S32x16x8x64_S32x16x512

/-- The norm of the rows. -/
def nrmR (o : FVec Ideal S32x16x512 .f32) (g : FVec Ideal S512 .f32) : FVec Ideal S32x16x512 .f32 :=
  mulf (mulf o (broadcastInDim S32x16x512 ![0, 1, 2] bcast_S32x16x1_S32x16x512_0_1_2 (Host.rsqrt (addf (Host.divf (broadcastInDim S32x16x1 ![0, 1] bcast_S32x16_S32x16x1_0_1 (Host.reduceAdd (mulf o o) (constant S_ .f32 0x00000000#32) reducesTo_S32x16x512_S32x16_d2 h_S_)) (broadcastInDim S32x16x1 ![] bcast_S_S32x16x1 (constant S_ .f32 0x44000000#32))) (broadcastInDim S32x16x1 ![] bcast_S_S32x16x1 (constant S_ .f32 0x358637BD#32)))))) (broadcastInDim S32x16x512 ![0, 1, 2] bcast_S1x1x512_S32x16x512_0_1_2 (broadcastInDim S1x1x512 ![2] bcast_S512_S1x1x512_2 g))

/-- The reference's composed term. -/
def REF (q k v : FVec Ideal S512x512 .bf16) (ck cv : FVec Ideal S2x32x512x8x64 .f32) (rel : FVec Ideal S8x257 .f32) (g : FVec Ideal S512 .f32) : FVec Ideal S512x512 .bf16 :=
  truncf .bf16 (shapeCast S512x512 (nrmR (outR (scoreR q k ck rel) (allR cv v)) g) shapeCasts_S32x16x512_S512x512) bitsLt_bf16_f32

/-- The reference's run states this term. -/
theorem res_eq (m : (ℓ : Loc nD τ sig) → Buf (Elt Ideal) ℓ) (c : Dev nD) :
    Cert.AttnRefIdeal.Value.res_out0 m c = REF (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  unfold Cert.AttnRefIdeal.Value.res_out0 Cert.AttnRefIdeal.Value.res_main_v69
  rfl

/-- One key or value. -/
theorem allR_at (cache : FVec Ideal S2x32x512x8x64 .f32) (n : FVec Ideal S512x512 .bf16) (b : Fin 32) (c : Fin 528) (h : Fin 8) (d : Fin 64) :
    allR cache n (ix4 b c h d) = if hc : c.val < 512 then cache (ix5 0 b ⟨c.val, hc⟩ h d) else n (ix2 ⟨b.val * 16 + (c.val - 512), by omega⟩ ⟨h.val * 64 + d.val, by omega⟩) := by
  pointwise [allR]

/-- The distance as a word, by cases. -/
theorem dist_word : ∀ (t : Fin 16) (c : Fin 528), IntOp.addi (IntOp.minsi (IntOp.maxsi (IntOp.subi (IntOp.subi (BitVec.ofNat 32 c.val) 512#32) (BitVec.ofNat 32 t.val))
    4294967168#32) 128#32) 128#32 = BitVec.ofNat 32 (min (c.val - (t.val + 384)) 256) := by
  decide +kernel

/-- One distance. -/
theorem relR_at (t : Fin 16) (c : Fin 528) : relR (ix2 t c) = BitVec.ofNat 32 (min (c.val - (t.val + 384)) 256) := by
  rw [← dist_word]
  pointwise [relR]

/-- A bias is the one at the index, clamped. -/
theorem gather_at (rel : FVec Ideal S8x257 .f32) (ind : IVec S16x528x1 32) (h : Fin 8) (t : Fin 16) (c : Fin 528) :
    Host.gather gather_S8x257_S16x528x1_S8x16x528_0_1_n_n_1_2_81 rel ind (ix3 h t c)
      = rel (ix2 h ⟨min (ind (ix3 t c 0)).toInt.toNat 256, by omega⟩) := by
  refine congrArg rel (funext fun a => Fin.ext ?_)
  match a with
  | ⟨0, _⟩ => exact Nat.zero_add _
  | ⟨1, _⟩ =>
    refine (congrArg (fun i => min (ind i).toInt.toNat 256) (?_ : _ = ix3 t c 0) : _)
    funext b
    match b with
    | ⟨0, _⟩ => rfl
    | ⟨1, _⟩ => rfl
    | ⟨2, _⟩ => rfl

/-- The chosen index as a number, by cases. -/
theorem ind_word : ∀ n : Fin 257, min (Scalar.select (IntOp.cmpi .slt (BitVec.ofNat 32 n.val) 0#32) (IntOp.addi (BitVec.ofNat 32 n.val) 257#32) (BitVec.ofNat 32 n.val)).toInt.toNat 256 = n.val := by
  decide +kernel

/-- One bias. -/
theorem biasR_at (rel : FVec Ideal S8x257 .f32) (h : Fin 8) (t : Fin 16) (c : Fin 528) :
    biasR rel (ix3 h t c) = rel (ix2 h ⟨min (c.val - (t.val + 384)) 256, by omega⟩) := by
  unfold biasR
  rw [gather_at]
  refine congrArg (fun i => rel (ix2 h i)) (Fin.ext ?_)
  show min _ 256 = _
  pointwise
  simp only [relR_at]
  exact ind_word ⟨min (c.val - (t.val + 384)) 256, by omega⟩

/-- The keys or values of one sequence, heads side by side. -/
def rows (cache : FVec Ideal S2x32x512x8x64 .f32) (n : FVec Ideal S512x512 .bf16) (b : Fin 32) (c : Fin 528) (j : Fin 512) : EReal :=
  if hc : c.val < 512 then cache (ix5 0 b ⟨c.val, hc⟩ (hd j) ⟨j.val % 64, by omega⟩) else n (ix2 ⟨b.val * 16 + (c.val - 512), by omega⟩ j)

/-- The bias of each key for one query. -/
def bias (rel : FVec Ideal S8x257 .f32) (t : Fin 16) (h : Fin 8) (c : Fin 528) : EReal :=
  rel (ix2 h ⟨min (c.val - (t.val + 384)) 256, by omega⟩)

/-- A lane of a head, its head and its place in the head. -/
theorem rows_at (cache : FVec Ideal S2x32x512x8x64 .f32) (n : FVec Ideal S512x512 .bf16) (b : Fin 32) (c : Fin 528) (h : Fin 8) (d : Fin 64) :
    allR cache n (ix4 b c h d) = rows cache n b c (at64 h d) := by
  rw [allR_at]
  unfold rows
  have e1 : hd (at64 h d) = h := Fin.ext (by show (64 * h.val + d.val) / 64 = h.val; omega)
  have e2 : (⟨(at64 h d).val % 64, by omega⟩ : Fin 64) = d := Fin.ext (by show (64 * h.val + d.val) % 64 = d.val; omega)
  have e3 : (⟨h.val * 64 + d.val, by omega⟩ : Fin 512) = at64 h d := Fin.ext (by show h.val * 64 + d.val = 64 * h.val + d.val; omega)
  rw [e1, e2, e3]

/-- One score. -/
theorem scoreR_at (q k : FVec Ideal S512x512 .bf16) (ck : FVec Ideal S2x32x512x8x64 .f32) (rel : FVec Ideal S8x257 .f32) (b : Fin 32) (h : Fin 8) (t : Fin 16) (c : Fin 528) :
    scoreR q k ck rel (ix4 b h t c) = score (fun j => q (ix2 ⟨b.val * 16 + t.val, by omega⟩ j)) (rows ck k b) (bias rel t) h c := by
  have h1 : scoreR q k ck rel (ix4 b h t c) = (∑ d : Fin 64, q (ix2 ⟨b.val * 16 + t.val, by omega⟩ ⟨h.val * 64 + d.val, by omega⟩)
      * Ideal.log (Ideal.ofBits .f32 0x43800000#32) * allR ck k (ix4 b c h d)) * Ideal.ofBits .f32 0x3E000000#32 + biasR rel (ix3 h t c) := by
    pointwise [scoreR]
  have e3 : ∀ d : Fin 64, (⟨h.val * 64 + d.val, by omega⟩ : Fin 512) = at64 h d := fun d => Fin.ext (by show h.val * 64 + d.val = 64 * h.val + d.val; omega)
  have e4 : Ideal.log ((256 : ℝ) : EReal) = ((Real.log 256 : ℝ) : EReal) := if_neg (by norm_num)
  rw [h1, biasR_at, Cert.Consts.c256, Cert.Consts.eighth, e4]
  simp only [rows_at, e3]
  rfl

/-- One exponential. -/
theorem expR_at (s : FVec Ideal S32x8x16x528 .f32) (b : Fin 32) (h : Fin 8) (t : Fin 16) (c : Fin 528) :
    expR s (ix4 b h t c) = Ideal.exp (s (ix4 b h t c) - top (fun c => s (ix4 b h t c))) := by
  pointwise [expR]
  rw [Cert.Consts.neg_inf]
  rfl

/-- One weight. -/
theorem softR_at (s : FVec Ideal S32x8x16x528 .f32) (b : Fin 32) (h : Fin 8) (t : Fin 16) (c : Fin 528) :
    softR s (ix4 b h t c) = Ideal.div (expR s (ix4 b h t c)) (∑ c, expR s (ix4 b h t c)) := by
  pointwise [softR]

/-- One output. -/
theorem outR_at (s : FVec Ideal S32x8x16x528 .f32) (cv : FVec Ideal S2x32x512x8x64 .f32) (v : FVec Ideal S512x512 .bf16) (b : Fin 32) (t : Fin 16) (j : Fin 512) :
    outR s (allR cv v) (ix3 b t j) = avg (fun c => s (ix4 b (hd j) t c)) (fun c => rows cv v b c j) := by
  have h1 : outR s (allR cv v) (ix3 b t j) = ∑ c : Fin 528, allR cv v (ix4 b c (hd j) ⟨j.val % 64, by omega⟩) * softR s (ix4 b (hd j) t c) := by
    pointwise [outR]
    rfl
  have e : at64 (hd j) ⟨j.val % 64, by omega⟩ = j := Fin.ext (by show 64 * (j.val / 64) + j.val % 64 = j.val; omega)
  rw [h1]
  simp only [rows_at, e, softR_at, expR_at]
  rfl

/-- One entry of the norm. -/
theorem nrmR_at (o : FVec Ideal S32x16x512 .f32) (g : FVec Ideal S512 .f32) (b : Fin 32) (t : Fin 16) (j : Fin 512) :
    nrmR o g (ix3 b t j) = nrm (fun j => o (ix3 b t j)) (fun j => g (ix1 j)) j := by
  pointwise [nrmR, nrm]

/-- One entry of the reference. -/
theorem REF_at (q k v : FVec Ideal S512x512 .bf16) (ck cv : FVec Ideal S2x32x512x8x64 .f32) (rel : FVec Ideal S8x257 .f32) (g : FVec Ideal S512 .f32) (b : Fin 32) (t : Fin 16) (j : Fin 512) :
    REF q k v ck cv rel g (ix2 ⟨b.val * 16 + t.val, by omega⟩ j)
      = nrm (heads (fun j => q (ix2 ⟨b.val * 16 + t.val, by omega⟩ j)) (rows ck k b) (rows cv v b) (bias rel t)) (fun j => g (ix1 j)) j := by
  have h1 : REF q k v ck cv rel g (ix2 ⟨b.val * 16 + t.val, by omega⟩ j) = nrmR (outR (scoreR q k ck rel) (allR cv v)) g (ix3 b t j) := by
    pointwise [REF]
  rw [h1, nrmR_at]
  congr 1
  funext j
  rw [outR_at]
  simp only [scoreR_at]
  rfl

end Cert.AttnRef

end
-- ==== Proof.BandMath.lean ====
/- One row of attention of which some keys are masked: weights in powers of two against weights in powers of e. -/
module

public import proofs.«01_k».proof.Proof.AttnMath
public import Idealize.ShloMosaic.Lib.Pointwise

@[expose] public section

set_option maxRecDepth 16384

noncomputable section

namespace Cert.BandMath

open Idealize.ShloMosaic Cert.AttnMath

/-- A score, or minus infinity where the key is masked. -/
def masked {n : ℕ} (M : Fin n → Prop) [DecidablePred M] (σ : Fin n → ℝ) (c : Fin n) : EReal := if M c then (σ c : EReal) else ⊥

/-- The exponential of a score, or zero where the key is masked. -/
def wt {n : ℕ} (M : Fin n → Prop) [DecidablePred M] (σ : Fin n → ℝ) (c : Fin n) : ℝ := if M c then Real.exp (σ c) else 0

/-- The values averaged with real weights. -/
def wavg {n : ℕ} (w : Fin n → ℝ) (v : Fin n → EReal) : EReal := ∑ c, v c * ((w c / ∑ c, w c : ℝ) : EReal)

/-- The largest of masked real numbers, one of which is not masked, is real. -/
theorem top_masked {n : ℕ} (M : Fin n → Prop) [DecidablePred M] (σ : Fin n → ℝ) (a : Fin n) (ha : M a) : ∃ μ : ℝ, top (masked M σ) = μ := by
  have hlo : (σ a : EReal) ≤ top (masked M σ) :=
    (Finset.le_fold_max _).2 (.inr ⟨a, Finset.mem_univ _, by unfold masked; rw [if_pos ha]⟩)
  have hhi : top (masked M σ) < ⊤ :=
    (Finset.fold_max_lt _).2 ⟨bot_lt_top, fun c _ => by
      unfold masked
      split
      · exact EReal.coe_lt_top _
      · exact bot_lt_top⟩
  lift top (masked M σ) to ℝ using ⟨hhi.ne, (lt_of_lt_of_le (EReal.bot_lt_coe _) hlo).ne'⟩ with μ
  exact ⟨μ, rfl⟩

/-- The sum of the weights is positive. -/
theorem wt_pos {n : ℕ} (M : Fin n → Prop) [DecidablePred M] (σ : Fin n → ℝ) (a : Fin n) (ha : M a) : 0 < ∑ c, wt M σ c := by
  refine Finset.sum_pos' (fun c _ => ?_) ⟨a, Finset.mem_univ _, ?_⟩
  · unfold wt
    split
    · exact (Real.exp_pos _).le
    · exact le_rfl
  · unfold wt
    rw [if_pos ha]
    exact Real.exp_pos _

/-- A masked exponential less the largest score, base two. -/
theorem exp2_masked {n : ℕ} (M : Fin n → Prop) [DecidablePred M] (σ : Fin n → ℝ) (μ : ℝ) (c : Fin n) :
    Ideal.exp2 (masked M σ c - (μ : EReal)) = ((wt M (fun c => Real.log 2 * σ c) c * Real.exp (-(Real.log 2 * μ)) : ℝ) : EReal) := by
  unfold masked wt
  split
  · rw [← EReal.coe_sub, Ideal.exp2_coe, two_pow, ← Real.exp_add]
    ring_nf
  · rw [EReal.bot_sub, zero_mul]
    rfl

/-- A masked exponential less the largest score. -/
theorem exp_masked {n : ℕ} (M : Fin n → Prop) [DecidablePred M] (σ : Fin n → ℝ) (μ : ℝ) (c : Fin n) :
    Ideal.exp (masked M σ c - (μ : EReal)) = ((wt M σ c * Real.exp (-μ) : ℝ) : EReal) := by
  unfold masked wt
  split
  · rw [← EReal.coe_sub, Ideal.exp_coe, ← Real.exp_add]
    ring_nf
  · rw [EReal.bot_sub, zero_mul]
    rfl

/-- The average in powers of two, of masked scores. -/
theorem avg2_masked {n : ℕ} (M : Fin n → Prop) [DecidablePred M] (σ : Fin n → ℝ) (a : Fin n) (ha : M a) (v : Fin n → EReal) :
    Ideal.div (∑ c, v c * Ideal.exp2 (masked M σ c - top (masked M σ))) (∑ c, Ideal.exp2 (masked M σ c - top (masked M σ)))
      = wavg (wt M fun c => Real.log 2 * σ c) v := by
  obtain ⟨μ, hμ⟩ := top_masked M σ a ha
  have hp := wt_pos M (fun c => Real.log 2 * σ c) a ha
  have he := Real.exp_pos (-(Real.log 2 * μ))
  rw [hμ]
  simp only [exp2_masked, coe_sum, ← Finset.sum_mul]
  rw [Ideal.div_coe (mul_pos hp he).ne', sum_mul_pos _ _ (by positivity)]
  refine Finset.sum_congr rfl fun c _ => ?_
  rw [mul_assoc, ← EReal.coe_mul]
  congr 2
  have := hp.ne'
  have := he.ne'
  field_simp

/-- The softmax average of masked scores. -/
theorem avg_masked {n : ℕ} (M : Fin n → Prop) [DecidablePred M] (σ : Fin n → ℝ) (a : Fin n) (ha : M a) (v : Fin n → EReal) :
    avg (masked M σ) v = wavg (wt M σ) v := by
  obtain ⟨μ, hμ⟩ := top_masked M σ a ha
  have hp := wt_pos M σ a ha
  have he := Real.exp_pos (-μ)
  unfold avg
  rw [hμ]
  simp only [exp_masked, coe_sum, ← Finset.sum_mul]
  refine Finset.sum_congr rfl fun c _ => ?_
  rw [Ideal.div_coe (mul_pos hp he).ne', ← EReal.coe_mul]
  congr 2
  have := hp.ne'
  have := he.ne'
  field_simp

/-- Keys of zero weight at both ends may be dropped. -/
theorem wavg_shift {n k : ℕ} (o : ℕ) (ho : o + k ≤ n) (w : Fin n → ℝ) (v : Fin n → EReal)
    (hz : ∀ c : Fin n, ¬ (o ≤ c.val ∧ c.val < o + k) → w c = 0) :
    wavg w v = wavg (fun c : Fin k => w ⟨o + c.val, by omega⟩) (fun c : Fin k => v ⟨o + c.val, by omega⟩) := by
  have key : ∀ {A : Type} [AddCommMonoid A] (f : Fin n → A), (∀ c : Fin n, ¬ (o ≤ c.val ∧ c.val < o + k) → f c = 0) →
      ∑ c, f c = ∑ c : Fin k, f ⟨o + c.val, by omega⟩ := by
    intro A _ f hf
    refine (Finset.sum_of_injOn (fun c : Fin k => (⟨o + c.val, by omega⟩ : Fin n)) ?_ ?_ ?_ ?_).symm
    · intro a _ b _ hab
      have := congrArg Fin.val hab
      exact Fin.ext (by simpa using this)
    · intro a _
      simp
    · intro c _ hc
      refine hf c fun h => hc ?_
      exact ⟨⟨c.val - o, by omega⟩, by simp, Fin.ext (by show o + (c.val - o) = c.val; omega)⟩
    · intro c _
      rfl
  unfold wavg
  rw [key w hz, key]
  intro c hc
  rw [hz c hc, zero_div, EReal.coe_zero, mul_zero]

/-- The largest of ten stretches of 64 numbers, taken stretch against stretch and then across one, is the largest of all. -/
theorem top_slabs (f : Fin 640 → EReal) (g : Fin 64 → EReal)
    (hg : ∀ i x, g i ≤ x ↔ ∀ a : Fin 10, f ⟨64 * a.val + i.val, by omega⟩ ≤ x) : top g = top f := by
  refine eq_of_forall_ge_iff fun x => ?_
  unfold top
  rw [Finset.fold_max_le, Finset.fold_max_le]
  refine and_congr_right fun _ => ⟨fun h c _ => ?_, fun h i _ => (hg i x).2 fun a => h _ (Finset.mem_univ _)⟩
  have := (hg ⟨c.val % 64, by omega⟩ x).1 (h _ (Finset.mem_univ _)) ⟨c.val / 64, by omega⟩
  rwa [show (⟨64 * (c.val / 64) + c.val % 64, by omega⟩ : Fin 640) = c from Fin.ext (by show 64 * (c.val / 64) + c.val % 64 = c.val; omega)] at this

/-- The sum of ten stretches of 64 numbers, taken stretch by stretch and then across one, is the sum of all. -/
theorem sum_slabs (f : Fin 640 → EReal) : (∑ i : Fin 64, ∑ a : Fin 10, f ⟨64 * a.val + i.val, by omega⟩) = ∑ c, f c := by
  rw [Finset.sum_comm, Fin.sum_univ_tiles 10 64 rfl]
  exact Finset.sum_congr rfl fun a _ => Finset.sum_congr rfl fun i _ => congrArg f (Fin.ext (by show 64 * a.val + i.val = a.val * 64 + i.val; omega))

end Cert.BandMath

end
-- ==== Proof.BandRef.lean ====
/- The reference of the attention over the band, read one query at a time. -/
module

public import proofs.«01_k».proof.Proof.Gen.AttnPromptRefIdeal.Run
public import proofs.«01_k».proof.Proof.AttnRef
public import proofs.«01_k».proof.Proof.BandMath
public import proofs.«01_k».proof.Proof.Consts
public import Idealize.ShloMosaic.Lib.Pointwise

@[expose] public section

set_option maxRecDepth 16384

noncomputable section

namespace Cert.BandRef

open Idealize.ShloMosaic Idealize.ShloMosaic.TcCoe Idealize.SL.Sem
open Cert.AttnPromptRefIdeal Cert.AttnPromptRefIdeal.Gen Cert.AttnMath Cert.BandMath

/-- The keys or values of every stream, 512 rows of zeros before them. -/
def padR (a : FVec Ideal S32768x512 .bf16) : FVec Ideal S4x8704x8x64 .f32 :=
  concatenate S4x8704x8x64 1 [⟨S4x512x8x64, (broadcastInDim S4x512x8x64 ![] bcast_S_S4x512x8x64 (constant S_ .f32 0x00000000#32))⟩, ⟨S4x8192x8x64, (shapeCast _ (extf .f32 a bitsLt_bf16_f32) shapeCasts_S32768x512_S4x8192x8x64)⟩] concatenates_S4x512x8x64_S4x8192x8x64_S4x8704x8x64_d1

/-- The row of each key of each chunk's band. -/
def rowR : IVec S128x576 32 :=
  addi (broadcastInDim S128x576 ![0, 1] bcast_S128x1_S128x576_0_1 (muli (broadcastInDim S128x1 ![0] bcast_S128_S128x1_0 (iotaInDim S128 32 0)) (broadcastInDim S128x1 ![] bcast_S_S128x1 (constantI S_ 32 64#32)))) (broadcastInDim S128x576 ![0, 1] bcast_S1x576_S128x576_0_1 (broadcastInDim S1x576 ![1] bcast_S576_S1x576_1 (iotaInDim S576 32 0)))

/-- The bands of all the chunks. -/
def bandR (a : FVec Ideal S32768x512 .bf16) : FVec Ideal S4x128x576x8x64 .f32 :=
  Host.gather gather_S4x8704x8x64_S128x576x1_S4x128x576x8x64_034_1_n_n_1_2_41864 (padR a) (broadcastInDim S128x576x1 ![0, 1] bcast_S128x576_S128x576x1_0_1 (select (cmpi .slt rowR (broadcastInDim S128x576 ![] bcast_S_S128x576 (constantI S_ 32 0#32))) (addi rowR (broadcastInDim S128x576 ![] bcast_S_S128x576 (constantI S_ 32 8704#32))) rowR))

/-- The distance of each key from each query, clipped, counted from zero. -/
def relR : IVec S64x576 32 :=
  addi (minsi (maxsi (subi (broadcastInDim S64x576 ![0, 1] bcast_S1x576_S64x576_0_1 (broadcastInDim S1x576 ![1] bcast_S576_S1x576_1 (subi (iotaInDim S576 32 0) (broadcastInDim S576 ![] bcast_S_S576 (constantI S_ 32 512#32))))) (broadcastInDim S64x576 ![0, 1] bcast_S64x1_S64x576_0_1 (broadcastInDim S64x1 ![0] bcast_S64_S64x1_0 (iotaInDim S64 32 0)))) (broadcastInDim S64x576 ![] bcast_S_S64x576 (constantI S_ 32 4294967168#32))) (broadcastInDim S64x576 ![] bcast_S_S64x576 (constantI S_ 32 128#32))) (broadcastInDim S64x576 ![] bcast_S_S64x576 (constantI S_ 32 128#32))

/-- The biases taken at the distances. -/
def biasR (rel : FVec Ideal S8x257 .f32) : FVec Ideal S8x64x576 .f32 :=
  Host.gather gather_S8x257_S64x576x1_S8x64x576_0_1_n_n_1_2_81 rel (broadcastInDim S64x576x1 ![0, 1] bcast_S64x576_S64x576x1_0_1 (select (cmpi .slt relR (broadcastInDim S64x576 ![] bcast_S_S64x576 (constantI S_ 32 0#32))) (addi relR (broadcastInDim S64x576 ![] bcast_S_S64x576 (constantI S_ 32 257#32))) relR))

/-- The scores. -/
def scoreR (q k : FVec Ideal S32768x512 .bf16) (rel : FVec Ideal S8x257 .f32) : FVec Ideal S4x128x8x64x576 .f32 :=
  addf (mulf (Host.dotGeneral dot_S4x128x64x8x64_S4x128x576x8x64_S4x128x8x64x576_4_4_2_2_013_013 none (shapeCast _ (mulf (extf .f32 q bitsLt_bf16_f32) (broadcastInDim S32768x512 ![] bcast_S_S32768x512 (Host.log (constant S_ .f32 0x43800000#32)))) shapeCasts_S32768x512_S4x128x64x8x64) (bandR k)) (broadcastInDim S4x128x8x64x576 ![] bcast_S_S4x128x8x64x576 (constant S_ .f32 0x3E000000#32))) (broadcastInDim S4x128x8x64x576 ![0, 1, 2, 3, 4] bcast_S1x1x8x64x576_S4x128x8x64x576_0_1_2_3_4 (broadcastInDim S1x1x8x64x576 ![2, 3, 4] bcast_S8x64x576_S1x1x8x64x576_2_3_4 (biasR rel)))

/-- The scores, minus infinity before the stream. -/
def maskR (s : FVec Ideal S4x128x8x64x576 .f32) : FVec Ideal S4x128x8x64x576 .f32 :=
  select (broadcastInDim S4x128x8x64x576 ![0, 1, 2, 3, 4] bcast_S1x128x1x1x576_S4x128x8x64x576_0_1_2_3_4 (broadcastInDim S1x128x1x1x576 ![1, 4] bcast_S128x576_S1x128x1x1x576_1_4 (cmpi .sge (subi rowR (broadcastInDim S128x576 ![] bcast_S_S128x576 (constantI S_ 32 512#32))) (broadcastInDim S128x576 ![] bcast_S_S128x576 (constantI S_ 32 0#32))))) s (broadcastInDim S4x128x8x64x576 ![] bcast_S_S4x128x8x64x576 (id (constant S_ .f32 0xFF800000#32)))

/-- The exponentials of the scores less their largest. -/
def expR (s : FVec Ideal S4x128x8x64x576 .f32) : FVec Ideal S4x128x8x64x576 .f32 :=
  Host.exp (subf s (broadcastInDim S4x128x8x64x576 ![0, 1, 2, 3, 4] bcast_S4x128x8x64x1_S4x128x8x64x576_0_1_2_3_4 (broadcastInDim S4x128x8x64x1 ![0, 1, 2, 3] bcast_S4x128x8x64_S4x128x8x64x1_0_1_2_3 (Host.reduce FloatOps.maximumf s (constant S_ .f32 0xFF800000#32) reducesTo_S4x128x8x64x576_S4x128x8x64_d4 h_S_))))

/-- The softmax of the scores. -/
def softR (s : FVec Ideal S4x128x8x64x576 .f32) : FVec Ideal S4x128x8x64x576 .f32 :=
  Host.divf (expR s) (broadcastInDim S4x128x8x64x576 ![0, 1, 2, 3, 4] bcast_S4x128x8x64x1_S4x128x8x64x576_0_1_2_3_4 (broadcastInDim S4x128x8x64x1 ![0, 1, 2, 3] bcast_S4x128x8x64_S4x128x8x64x1_0_1_2_3 (Host.reduceAdd (expR s) (constant S_ .f32 0x00000000#32) reducesTo_S4x128x8x64x576_S4x128x8x64_d4 h_S_)))

/-- The heads' outputs side by side. -/
def outR (s : FVec Ideal S4x128x8x64x576 .f32) (v : FVec Ideal S4x128x576x8x64 .f32) : FVec Ideal S4x8192x512 .f32 :=
  shapeCast _ (transpose S4x128x64x8x64 [0, 1, 4, 2, 3] (Host.dotGeneral dot_S4x128x576x8x64_S4x128x8x64x576_S4x128x8x64x64_2_4_4_3_013_012 none v (softR s)) transposes_S4x128x8x64x64_S4x128x64x8x64_0_1_4_2_3) shapeCasts_S4x128x64x8x64_S4x8192x512

/-- The norm of the rows. -/
def nrmR (o : FVec Ideal S4x8192x512 .f32) (g : FVec Ideal S512 .f32) : FVec Ideal S4x8192x512 .f32 :=
  mulf (mulf o (broadcastInDim S4x8192x512 ![0, 1, 2] bcast_S4x8192x1_S4x8192x512_0_1_2 (Host.rsqrt (addf (Host.divf (broadcastInDim S4x8192x1 ![0, 1] bcast_S4x8192_S4x8192x1_0_1 (Host.reduceAdd (mulf o o) (constant S_ .f32 0x00000000#32) reducesTo_S4x8192x512_S4x8192_d2 h_S_)) (broadcastInDim S4x8192x1 ![] bcast_S_S4x8192x1 (constant S_ .f32 0x44000000#32))) (broadcastInDim S4x8192x1 ![] bcast_S_S4x8192x1 (constant S_ .f32 0x358637BD#32)))))) (broadcastInDim S4x8192x512 ![0, 1, 2] bcast_S1x1x512_S4x8192x512_0_1_2 (broadcastInDim S1x1x512 ![2] bcast_S512_S1x1x512_2 g))

/-- The reference's composed term. -/
def REF (q k v : FVec Ideal S32768x512 .bf16) (rel : FVec Ideal S8x257 .f32) (g : FVec Ideal S512 .f32) : FVec Ideal S32768x512 .bf16 :=
  truncf .bf16 (shapeCast _ (nrmR (outR (maskR (scoreR q k rel)) (bandR v)) g) shapeCasts_S4x8192x512_S32768x512) bitsLt_bf16_f32

/-- The reference's run states this term. -/
theorem res_eq (m : (ℓ : Loc nD τ sig) → Buf (Elt Ideal) ℓ) (c : Dev nD) :
    Cert.AttnPromptRefIdeal.Value.res_out0 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Cert.AttnPromptRefIdeal.Value.res_out0 Cert.AttnPromptRefIdeal.Value.res_main_v95
  rfl

/-- One key or value. -/
theorem padR_at (a : FVec Ideal S32768x512 .bf16) (b : Fin 4) (y : Fin 8704) (h : Fin 8) (d : Fin 64) :
    padR a (ix4 b y h d) = if hy : y.val < 512 then 0 else a (ix2 ⟨b.val * 8192 + (y.val - 512), by omega⟩ ⟨h.val * 64 + d.val, by omega⟩) := by
  pointwise [padR]

/-- A row number as a word, by cases. -/
theorem row_word (n : Fin 128) (c : Fin 576) : IntOp.addi (IntOp.muli (BitVec.ofNat 32 n.val) 64#32) (BitVec.ofNat 32 c.val) = BitVec.ofNat 32 (n.val * 64 + c.val) := by
  apply BitVec.eq_of_toNat_eq
  have := n.isLt
  have := c.isLt
  simp [IntOp.addi, IntOp.muli]

/-- One row number. -/
theorem rowR_at (n : Fin 128) (c : Fin 576) : rowR (ix2 n c) = BitVec.ofNat 32 (n.val * 64 + c.val) := by
  rw [← row_word]
  pointwise [rowR]

/-- The chosen row as a number, by cases. -/
theorem sel_word : ∀ n : Fin 8704, min (Scalar.select (IntOp.cmpi .slt (BitVec.ofNat 32 n.val) 0#32) (IntOp.addi (BitVec.ofNat 32 n.val) 8704#32) (BitVec.ofNat 32 n.val)).toInt.toNat 8703 = n.val := by
  decide +kernel

/-- Whether a row is of the stream, by cases. -/
theorem valid_word : ∀ n : Fin 8704, IntOp.cmpi .sge (IntOp.subi (BitVec.ofNat 32 n.val) 512#32) 0#32 = if 512 ≤ n.val then 1#1 else 0#1 := by
  decide +kernel

/-- A gathered row is the one at the index, clamped. -/
theorem gather_at (a : FVec Ideal S4x8704x8x64 .f32) (ind : IVec S128x576x1 32) (b : Fin 4) (n : Fin 128) (c : Fin 576) (h : Fin 8) (d : Fin 64) :
    Host.gather gather_S4x8704x8x64_S128x576x1_S4x128x576x8x64_034_1_n_n_1_2_41864 a ind (ix5 b n c h d)
      = a (ix4 b ⟨min (ind (ix3 n c 0)).toInt.toNat 8703, by omega⟩ h d) := by
  refine congrArg a (funext fun i => Fin.ext ?_)
  match i with
  | ⟨0, _⟩ => exact Nat.zero_add _
  | ⟨1, _⟩ =>
    refine (congrArg (fun i => min (ind i).toInt.toNat 8703) (?_ : _ = ix3 n c 0) : _)
    funext b
    match b with
    | ⟨0, _⟩ => rfl
    | ⟨1, _⟩ => rfl
    | ⟨2, _⟩ => rfl
  | ⟨2, _⟩ => exact Nat.zero_add _
  | ⟨3, _⟩ => exact Nat.zero_add _

/-- The band of one chunk, heads side by side: zeros before the stream. -/
def rows (a : FVec Ideal S32768x512 .bf16) (b : Fin 4) (n : Fin 128) (c : Fin 576) (j : Fin 512) : EReal :=
  if hy : n.val * 64 + c.val < 512 then 0 else a (ix2 ⟨b.val * 8192 + (n.val * 64 + c.val - 512), by omega⟩ j)

/-- One row of a chunk's band. -/
theorem bandR_at (a : FVec Ideal S32768x512 .bf16) (b : Fin 4) (n : Fin 128) (c : Fin 576) (h : Fin 8) (d : Fin 64) :
    bandR a (ix5 b n c h d) = rows a b n c (at64 h d) := by
  unfold bandR
  rw [gather_at]
  have e : ∀ hb, (⟨min (broadcastInDim S128x576x1 ![0, 1] bcast_S128x576_S128x576x1_0_1 (select (cmpi .slt rowR (broadcastInDim S128x576 ![] bcast_S_S128x576 (constantI S_ 32 0#32))) (addi rowR (broadcastInDim S128x576 ![] bcast_S_S128x576 (constantI S_ 32 8704#32))) rowR) (ix3 n c 0)).toInt.toNat 8703, hb⟩ : Fin 8704)
      = ⟨n.val * 64 + c.val, by omega⟩ := fun hb => by
    refine Fin.ext ?_
    show min _ 8703 = _
    pointwise
    simp only [rowR_at]
    exact sel_word ⟨n.val * 64 + c.val, by omega⟩
  rw [e, padR_at]
  unfold rows
  have e3 : (⟨h.val * 64 + d.val, by omega⟩ : Fin 512) = at64 h d := Fin.ext (by show h.val * 64 + d.val = 64 * h.val + d.val; omega)
  rw [e3]

/-- The distance as a word, by cases. -/
theorem dist_word : ∀ (t : Fin 64) (c : Fin 576), IntOp.addi (IntOp.minsi (IntOp.maxsi (IntOp.subi (IntOp.subi (BitVec.ofNat 32 c.val) 512#32) (BitVec.ofNat 32 t.val))
    4294967168#32) 128#32) 128#32 = BitVec.ofNat 32 (min (c.val - (t.val + 384)) 256) := by
  decide +kernel

/-- One distance. -/
theorem relR_at (t : Fin 64) (c : Fin 576) : relR (ix2 t c) = BitVec.ofNat 32 (min (c.val - (t.val + 384)) 256) := by
  rw [← dist_word]
  pointwise [relR]

/-- A bias is the one at the index, clamped. -/
theorem gatherB_at (rel : FVec Ideal S8x257 .f32) (ind : IVec S64x576x1 32) (h : Fin 8) (t : Fin 64) (c : Fin 576) :
    Host.gather gather_S8x257_S64x576x1_S8x64x576_0_1_n_n_1_2_81 rel ind (ix3 h t c)
      = rel (ix2 h ⟨min (ind (ix3 t c 0)).toInt.toNat 256, by omega⟩) := by
  refine congrArg rel (funext fun a => Fin.ext ?_)
  match a with
  | ⟨0, _⟩ => exact Nat.zero_add _
  | ⟨1, _⟩ =>
    refine (congrArg (fun i => min (ind i).toInt.toNat 256) (?_ : _ = ix3 t c 0) : _)
    funext b
    match b with
    | ⟨0, _⟩ => rfl
    | ⟨1, _⟩ => rfl
    | ⟨2, _⟩ => rfl

/-- The bias of each key for one query. -/
def bias (rel : FVec Ideal S8x257 .f32) (t : Fin 64) (h : Fin 8) (c : Fin 576) : EReal :=
  rel (ix2 h ⟨min (c.val - (t.val + 384)) 256, by omega⟩)

/-- One bias. -/
theorem biasR_at (rel : FVec Ideal S8x257 .f32) (h : Fin 8) (t : Fin 64) (c : Fin 576) : biasR rel (ix3 h t c) = bias rel t h c := by
  unfold biasR bias
  rw [gatherB_at]
  refine congrArg (fun i => rel (ix2 h i)) (Fin.ext ?_)
  show min _ 256 = _
  pointwise
  simp only [relR_at]
  exact Cert.AttnRef.ind_word ⟨min (c.val - (t.val + 384)) 256, by omega⟩

/-- One score. -/
theorem scoreR_at (q k : FVec Ideal S32768x512 .bf16) (rel : FVec Ideal S8x257 .f32) (b : Fin 4) (n : Fin 128) (h : Fin 8) (t : Fin 64) (c : Fin 576) :
    scoreR q k rel (ix5 b n h t c) = score (fun j => q (ix2 ⟨b.val * 8192 + n.val * 64 + t.val, by omega⟩ j)) (rows k b n) (bias rel t) h c := by
  have h1 : scoreR q k rel (ix5 b n h t c) = (∑ d : Fin 64, q (ix2 ⟨b.val * 8192 + n.val * 64 + t.val, by omega⟩ ⟨h.val * 64 + d.val, by omega⟩)
      * Ideal.log (Ideal.ofBits .f32 0x43800000#32) * bandR k (ix5 b n c h d)) * Ideal.ofBits .f32 0x3E000000#32 + biasR rel (ix3 h t c) := by
    pointwise [scoreR]
  have e3 : ∀ d : Fin 64, (⟨h.val * 64 + d.val, by omega⟩ : Fin 512) = at64 h d := fun d => Fin.ext (by show h.val * 64 + d.val = 64 * h.val + d.val; omega)
  have e4 : Ideal.log ((256 : ℝ) : EReal) = ((Real.log 256 : ℝ) : EReal) := if_neg (by norm_num)
  rw [h1, biasR_at, Cert.Consts.c256, Cert.Consts.eighth, e4]
  simp only [bandR_at, e3]
  rfl

/-- One masked score. -/
theorem maskR_at (s : FVec Ideal S4x128x8x64x576 .f32) (b : Fin 4) (n : Fin 128) (h : Fin 8) (t : Fin 64) (c : Fin 576) :
    maskR s (ix5 b n h t c) = if 512 ≤ n.val * 64 + c.val then s (ix5 b n h t c) else ⊥ := by
  have h1 : maskR s (ix5 b n h t c) = Scalar.select (IntOp.cmpi .sge (IntOp.subi (rowR (ix2 n c)) 512#32) 0#32) (s (ix5 b n h t c)) (Ideal.ofBits .f32 0xFF800000#32) := by
    pointwise [maskR]
    rfl
  rw [h1, rowR_at, valid_word ⟨n.val * 64 + c.val, by omega⟩, Cert.Consts.neg_inf]
  show Scalar.select (if 512 ≤ n.val * 64 + c.val then 1#1 else 0#1) _ _ = _
  split <;> rfl

/-- One exponential. -/
theorem expR_at (s : FVec Ideal S4x128x8x64x576 .f32) (b : Fin 4) (n : Fin 128) (h : Fin 8) (t : Fin 64) (c : Fin 576) :
    expR s (ix5 b n h t c) = Ideal.exp (s (ix5 b n h t c) - top (fun c => s (ix5 b n h t c))) := by
  pointwise [expR]
  rw [Cert.Consts.neg_inf]
  rfl

/-- One weight. -/
theorem softR_at (s : FVec Ideal S4x128x8x64x576 .f32) (b : Fin 4) (n : Fin 128) (h : Fin 8) (t : Fin 64) (c : Fin 576) :
    softR s (ix5 b n h t c) = Ideal.div (expR s (ix5 b n h t c)) (∑ c, expR s (ix5 b n h t c)) := by
  pointwise [softR]

/-- One output. -/
theorem outR_at (s : FVec Ideal S4x128x8x64x576 .f32) (v : FVec Ideal S32768x512 .bf16) (b : Fin 4) (n : Fin 128) (t : Fin 64) (j : Fin 512) :
    outR s (bandR v) (ix3 b ⟨n.val * 64 + t.val, by omega⟩ j) = avg (fun c => s (ix5 b n (hd j) t c)) (fun c => rows v b n c j) := by
  have h1 : outR s (bandR v) (ix3 b ⟨n.val * 64 + t.val, by omega⟩ j) = ∑ c : Fin 576, bandR v (ix5 b n c (hd j) ⟨j.val % 64, by omega⟩) * softR s (ix5 b n (hd j) t c) := by
    unfold hd
    pointwise [outR]
  have e : at64 (hd j) ⟨j.val % 64, by omega⟩ = j := Fin.ext (by show 64 * (j.val / 64) + j.val % 64 = j.val; omega)
  rw [h1]
  simp only [bandR_at, e, softR_at, expR_at]
  rfl

/-- One entry of the norm. -/
theorem nrmR_at (o : FVec Ideal S4x8192x512 .f32) (g : FVec Ideal S512 .f32) (b : Fin 4) (t : Fin 8192) (j : Fin 512) :
    nrmR o g (ix3 b t j) = nrm (fun j => o (ix3 b t j)) (fun j => g (ix1 j)) j := by
  pointwise [nrmR, nrm]

/-- The heads' outputs side by side, of one query over a band of which some keys are masked. -/
def mheads {k : ℕ} (M : Fin k → Prop) [DecidablePred M] (Q : Fin 512 → EReal) (K V : Fin k → Fin 512 → EReal) (β : Fin 8 → Fin k → EReal) (j : Fin 512) : EReal :=
  avg (fun c => if M c then score Q K β (hd j) c else ⊥) (fun c => V c j)

/-- One entry of the reference. -/
theorem REF_at (q k v : FVec Ideal S32768x512 .bf16) (rel : FVec Ideal S8x257 .f32) (g : FVec Ideal S512 .f32) (b : Fin 4) (n : Fin 128) (t : Fin 64) (j : Fin 512) :
    REF q k v rel g (ix2 ⟨b.val * 8192 + n.val * 64 + t.val, by omega⟩ j)
      = nrm (mheads (fun c => 512 ≤ n.val * 64 + c.val) (fun j => q (ix2 ⟨b.val * 8192 + n.val * 64 + t.val, by omega⟩ j)) (rows k b n) (rows v b n) (bias rel t)) (fun j => g (ix1 j)) j := by
  have h1 : REF q k v rel g (ix2 ⟨b.val * 8192 + n.val * 64 + t.val, by omega⟩ j) = nrmR (outR (maskR (scoreR q k rel)) (bandR v)) g (ix3 b ⟨n.val * 64 + t.val, by omega⟩ j) := by
    pointwise [REF]
    exact congrArg (fun y => nrmR (outR (maskR (scoreR q k rel)) (bandR v)) g (ix3 b y j)) (Fin.ext (by show (b.val * 8192 + n.val * 64 + t.val) % 8192 = n.val * 64 + t.val; omega))
  rw [h1, nrmR_at]
  refine congrArg (fun f => nrm f (fun j => g (ix1 j)) j) (funext fun j => ?_)
  rw [outR_at]
  simp only [maskR_at, scoreR_at]
  rfl

end Cert.BandRef

end
-- ==== Proof.BandKernel.lean ====
/- The body of the attention over the band: the operations of one block of queries. -/
module

public import proofs.«01_k».proof.Proof.Gen.AttnPromptIdeal.Frame
public import proofs.«01_k».proof.Proof.BandMath
public import proofs.«01_k».proof.Proof.Consts
public import Idealize.ShloMosaic.Lib.Pipeline.ValueKit
public import Idealize.ShloMosaic.Lib.Pointwise

@[expose] public section

set_option maxRecDepth 16384

noncomputable section

namespace Cert.BandKernel

open Idealize.ShloMosaic Idealize.ShloMosaic.TcCoe Idealize.SL.Sem
open Cert.AttnPromptIdeal Cert.AttnPromptIdeal.Gen

/-- The lane numbers. -/
abbrev lane : IVec S1x128 32 := iota .tc S1x128 32 [1] iota_S1x128_d1_w32

/-- The row numbers of a group of keys. -/
abbrev grow : IVec S640x128 32 := iota .tc S640x128 32 [0] iota_S640x128_d0_w32

/-- The head of each of 128 lanes: its number over 64, rounded down. -/
def half : IVec S1x128 32 :=
  select (andi (cmpi .ne (subi (extui 32 (cmpi .sgt lane (broadcast S1x128 0#32)) natLt_1_32) (extui 32 (cmpi .slt lane (broadcast S1x128 0#32)) natLt_1_32))
      (broadcast S1x128 (Scalar.subi (Scalar.extui (Scalar.cmpi .sgt 64#32 0#32)) (Scalar.extui (Scalar.cmpi .slt 64#32 0#32)))))
      (cmpi .ne (remsi lane (broadcast S1x128 64#32)) (broadcast S1x128 0#32)))
    (subi (divsi lane (broadcast S1x128 64#32)) (broadcast S1x128 1#32)) (divsi lane (broadcast S1x128 64#32))

/-- The lanes of one of the two heads that share 128 lanes. -/
def lanes (b : BitVec 32) : IVec S1x128 1 := cmpi .eq half (broadcast S1x128 b)

/-- The queries, zero off one head's lanes. -/
def pickV (b : BitVec 32) (q : Vec Ideal S256x128 .bf16) : FVec Ideal S256x128 .bf16 :=
  select (broadcastTo S256x128 (shapeCast S1x128 (lanes b) shapeCasts_S1x128_S1x128) broadcasts_S1x128_S256x128) q
    (broadcast S256x128 (Scalar.sitofp .bf16 0#32))

/-- The products of the window's keys with the queries of the two heads. -/
def pairS (q : Vec Ideal S256x128 .bf16) (k : FVec Ideal S768x128 .bf16) : FVec Ideal S768x512 .f32 :=
  matmul dot_S768x128_S512x128_S768x512_1_1_0_0_n_n none k
    (concatenate S512x128 0 [⟨S256x128, pickV 0#32 q⟩, ⟨S256x128, pickV 1#32 q⟩] concatenates_S256x128_S256x128_S512x128_d0)
    (constant S768x512 .f32 0x00000000#32)

/-- The window of the first block: 512 rows of zeros and 256 of the stream. -/
def winA (x : Vec Ideal S1x256x128 .bf16) : FVec Ideal S768x128 .bf16 :=
  concatenate S768x128 0 [⟨S512x128, broadcast S512x128 (Scalar.ofBits .bf16 0x0000#16)⟩, ⟨S256x128, shapeCast S256x128 x shapeCasts_S1x256x128_S256x128⟩]
    concatenates_S512x128_S256x128_S768x128_d0

/-- The window of the second block: 256 rows of zeros and 512 of the stream. -/
def winB (x : Vec Ideal S1x512x128 .bf16) : FVec Ideal S768x128 .bf16 :=
  concatenate S768x128 0 [⟨S256x128, broadcast S256x128 (Scalar.ofBits .bf16 0x0000#16)⟩, ⟨S512x128, shapeCast S512x128 x shapeCasts_S1x512x128_S512x128⟩]
    concatenates_S256x128_S512x128_S768x128_d0

/-- The window of a later block. -/
def winC (x : Vec Ideal S1x768x128 .bf16) : FVec Ideal S768x128 .bf16 := shapeCast S768x128 x shapeCasts_S1x768x128_S768x128

/-- Minus infinity on the keys before the stream. -/
def maskV (r m : BitVec 32) (s : FVec Ideal S640x128 .f32) : FVec Ideal S640x128 .f32 :=
  select (cmpi .sge (addi grow (broadcast S640x128 r)) (broadcast S640x128 m)) s (broadcast S640x128 (Named.named κ "mask" 0xF149F2CA#32))

/-- The largest of ten stretches of 64 rows, stretch against stretch. -/
def maxV (s : FVec Ideal S640x128 .f32) : FVec Ideal S64x128 .f32 :=
  maximumf (maximumf (maximumf (maximumf (maximumf (maximumf (maximumf (maximumf (maximumf (extractStridedSlice S64x128 ![0, 0] s slices_S640x128_o0_0_S64x128) (extractStridedSlice S64x128 ![64, 0] s slices_S640x128_o64_0_S64x128)) (extractStridedSlice S64x128 ![128, 0] s slices_S640x128_o128_0_S64x128)) (extractStridedSlice S64x128 ![192, 0] s slices_S640x128_o192_0_S64x128)) (extractStridedSlice S64x128 ![256, 0] s slices_S640x128_o256_0_S64x128)) (extractStridedSlice S64x128 ![320, 0] s slices_S640x128_o320_0_S64x128)) (extractStridedSlice S64x128 ![384, 0] s slices_S640x128_o384_0_S64x128)) (extractStridedSlice S64x128 ![448, 0] s slices_S640x128_o448_0_S64x128)) (extractStridedSlice S64x128 ![512, 0] s slices_S640x128_o512_0_S64x128)) (extractStridedSlice S64x128 ![576, 0] s slices_S640x128_o576_0_S64x128)

/-- The sum of ten stretches of 64 rows. -/
def addV (s : FVec Ideal S640x128 .f32) : FVec Ideal S64x128 .f32 :=
  addf (addf (addf (addf (addf (addf (addf (addf (addf (extractStridedSlice S64x128 ![0, 0] s slices_S640x128_o0_0_S64x128) (extractStridedSlice S64x128 ![64, 0] s slices_S640x128_o64_0_S64x128)) (extractStridedSlice S64x128 ![128, 0] s slices_S640x128_o128_0_S64x128)) (extractStridedSlice S64x128 ![192, 0] s slices_S640x128_o192_0_S64x128)) (extractStridedSlice S64x128 ![256, 0] s slices_S640x128_o256_0_S64x128)) (extractStridedSlice S64x128 ![320, 0] s slices_S640x128_o320_0_S64x128)) (extractStridedSlice S64x128 ![384, 0] s slices_S640x128_o384_0_S64x128)) (extractStridedSlice S64x128 ![448, 0] s slices_S640x128_o448_0_S64x128)) (extractStridedSlice S64x128 ![512, 0] s slices_S640x128_o512_0_S64x128)) (extractStridedSlice S64x128 ![576, 0] s slices_S640x128_o576_0_S64x128)

/-- The unscaled weights of one group of queries. -/
def weightV (s : FVec Ideal S640x128 .f32) : FVec Ideal S640x128 .f32 :=
  exp2 (subf s (broadcastTo S640x128 (shapeCast S1x128 (multiReduction .maximumf [0] S128 (maxV s) 0xFF800000#32 reduces_S64x128_S128 (.inl rfl) rfl)
    shapeCasts_S128_S1x128) broadcasts_S1x128_S640x128))

/-- Their sum. -/
def sumV (p : FVec Ideal S640x128 .f32) : FVec Ideal S1x128 .f32 :=
  shapeCast S1x128 (multiReduction .add [0] S128 (addV p) 0x00000000#32 reduces_S64x128_S128 (.inl rfl) rfl) shapeCasts_S128_S1x128

/-- The first group's weights over the whole window. -/
def wide0 (p : FVec Ideal S640x128 .f32) : FVec Ideal S768x128 .bf16 :=
  concatenate S768x128 0 [⟨S640x128, truncf .bf16 p bitsLt_bf16_f32⟩, ⟨S128x128, broadcast S128x128 (Scalar.ofBits .bf16 0x0000#16)⟩]
    concatenates_S640x128_S128x128_S768x128_d0

/-- The second group's weights over the whole window. -/
def wide1 (p : FVec Ideal S640x128 .f32) : FVec Ideal S768x128 .bf16 :=
  concatenate S768x128 0 [⟨S128x128, broadcast S128x128 (Scalar.ofBits .bf16 0x0000#16)⟩, ⟨S640x128, truncf .bf16 p bitsLt_bf16_f32⟩]
    concatenates_S128x128_S640x128_S768x128_d0

/-- One head's output, a column to each query. -/
def headV (s0 s1 : FVec Ideal S640x128 .f32) (vt : FVec Ideal S64x768 .bf16) : FVec Ideal S64x256 .f32 :=
  concatenate S64x256 1 [
    ⟨S64x128, divf (extractStridedSlice S64x128 ![0, 0] (matmul dot_S64x768_S768x256_S64x256_1_0_0_1_n_n none vt
      (concatenate S768x256 1 [⟨S768x128, wide0 (weightV s0)⟩, ⟨S768x128, wide1 (weightV s1)⟩] concatenates_S768x128_S768x128_S768x256_d1)
      (constant S64x256 .f32 0x00000000#32)) slices_S64x256_o0_0_S64x128) (broadcastTo S64x128 (sumV (weightV s0)) broadcasts_S1x128_S64x128)⟩,
    ⟨S64x128, divf (extractStridedSlice S64x128 ![0, 128] (matmul dot_S64x768_S768x256_S64x256_1_0_0_1_n_n none vt
      (concatenate S768x256 1 [⟨S768x128, wide0 (weightV s0)⟩, ⟨S768x128, wide1 (weightV s1)⟩] concatenates_S768x128_S768x128_S768x256_d1)
      (constant S64x256 .f32 0x00000000#32)) slices_S64x256_o0_128_S64x128) (broadcastTo S64x128 (sumV (weightV s1)) broadcasts_S1x128_S64x128)⟩]
    concatenates_S64x128_S64x128_S64x256_d1

/-- A group's scores with their biases. -/
def biased (x : FVec Ideal S640x128 .f32) (b : Vec Ideal S1x640x128 .f32) : FVec Ideal S640x128 .f32 :=
  addf x (shapeCast S640x128 b shapeCasts_S1x640x128_S640x128)

/-- The first head of a pair. -/
def even (T0 T1 : FVec Ideal S640x128 .f32 → FVec Ideal S640x128 .f32) (q : Vec Ideal S256x128 .bf16) (k v : FVec Ideal S768x128 .bf16)
    (b0 b1 : Vec Ideal S1x640x128 .f32) : FVec Ideal S64x256 .f32 :=
  headV (T0 (biased (extractStridedSlice S640x128 ![0, 0] (pairS q k) slices_S768x512_o0_0_S640x128) b0))
    (T1 (biased (extractStridedSlice S640x128 ![128, 128] (pairS q k) slices_S768x512_o128_128_S640x128) b1))
    (extractStridedSlice S64x768 ![0, 0] (transpose S128x768 [1, 0] v transposes_S768x128_p1_0_S128x768) slices_S128x768_o0_0_S64x768)

/-- The second head of a pair. -/
def odd (T0 T1 : FVec Ideal S640x128 .f32 → FVec Ideal S640x128 .f32) (q : Vec Ideal S256x128 .bf16) (k v : FVec Ideal S768x128 .bf16)
    (b0 b1 : Vec Ideal S1x640x128 .f32) : FVec Ideal S64x256 .f32 :=
  headV (T0 (biased (extractStridedSlice S640x128 ![0, 256] (pairS q k) slices_S768x512_o0_256_S640x128) b0))
    (T1 (biased (extractStridedSlice S640x128 ![128, 384] (pairS q k) slices_S768x512_o128_384_S640x128) b1))
    (extractStridedSlice S64x768 ![64, 0] (transpose S128x768 [1, 0] v transposes_S768x128_p1_0_S128x768) slices_S128x768_o64_0_S64x768)

/-- The heads' outputs one over another. -/
def stackV (h0 h1 h2 h3 h4 h5 h6 h7 : FVec Ideal S64x256 .f32) : FVec Ideal S512x256 .f32 :=
  concatenate S512x256 0 [⟨S64x256, h0⟩, ⟨S64x256, h1⟩, ⟨S64x256, h2⟩, ⟨S64x256, h3⟩, ⟨S64x256, h4⟩, ⟨S64x256, h5⟩, ⟨S64x256, h6⟩, ⟨S64x256, h7⟩]
    concatenates_S64x256_S64x256_S64x256_S64x256_S64x256_S64x256_S64x256_S64x256_S512x256_d0

/-- The rows of the block, normed. -/
def nrmV (x : FVec Ideal S256x512 .f32) (g : Vec Ideal S1x512 .f32) : FVec Ideal S256x512 .bf16 :=
  truncf .bf16 (mulf (mulf x (broadcastTo S256x512 (rsqrt (addf (divf (shapeCast S256x1 (multiReduction .add [1] S256 (mulf x x) 0x00000000#32 reduces_S256x512_S256 (.inl rfl) rfl) shapeCasts_S256_S256x1)
    (broadcast S256x1 (Scalar.ofBits .f32 0x44000000#32))) (broadcast S256x1 (Scalar.ofBits .f32 0x358637BD#32)))) broadcasts_S256x1_S256x512))
    (broadcastTo S256x512 (shapeCast S1x512 g shapeCasts_S1x512_S1x512) broadcasts_S1x512_S256x512)) bitsLt_bf16_f32

/-- What a block of queries leaves. -/
def outV (T0 T1 : FVec Ideal S640x128 .f32 → FVec Ideal S640x128 .f32) (q0 q1 q2 q3 : Vec Ideal S256x128 .bf16) (k0 k1 k2 k3 v0 v1 v2 v3 : FVec Ideal S768x128 .bf16)
    (b0 b1 b2 b3 b4 b5 b6 b7 b8 b9 b10 b11 b12 b13 b14 b15 : Vec Ideal S1x640x128 .f32) (g : Vec Ideal S1x512 .f32) : FVec Ideal S256x512 .bf16 :=
  nrmV (transpose S256x512 [1, 0] (stackV (even T0 T1 q0 k0 v0 b0 b1) (odd T0 T1 q0 k0 v0 b2 b3) (even T0 T1 q1 k1 v1 b4 b5) (odd T0 T1 q1 k1 v1 b6 b7)
    (even T0 T1 q2 k2 v2 b8 b9) (odd T0 T1 q2 k2 v2 b10 b11) (even T0 T1 q3 k3 v3 b12 b13) (odd T0 T1 q3 k3 v3 b14 b15)) transposes_S512x256_p1_0_S256x512) g

set_option maxHeartbeats 4000000 in
/-- The first block of a stream. -/
theorem outA (q0 q1 q2 q3 : Vec Ideal S256x128 .bf16) (k0 k1 v0 k2 v1 k3 v2 v3 : Vec Ideal S1x256x128 .bf16) (b0 b1 b2 b3 b4 b5 b6 b7 b8 b9 b10 b11 b12 b13 b14 b15 : Vec Ideal S1x640x128 .f32) (g : Vec Ideal S1x512 .f32) :
    k0_pay2 (k0_pay113 (k0_pay38 (k0_pay31 v0) (k0_pay33 (k0_pay32 grow (k0_pay23 lane q0 (k0_pay19 k0) (k0_pay20 q0) 64#32 k0_pay21 k0_pay22) b0)) (k0_pay34 (k0_pay32 grow (k0_pay23 lane q0 (k0_pay19 k0) (k0_pay20 q0) 64#32 k0_pay21 k0_pay22) b0)) (k0_pay35 grow (k0_pay23 lane q0 (k0_pay19 k0) (k0_pay20 q0) 64#32 k0_pay21 k0_pay22) b1) (k0_pay36 grow (k0_pay23 lane q0 (k0_pay19 k0) (k0_pay20 q0) 64#32 k0_pay21 k0_pay22) b1) (k0_pay37 grow (k0_pay23 lane q0 (k0_pay19 k0) (k0_pay20 q0) 64#32 k0_pay21 k0_pay22) b1)) (k0_pay49 (k0_pay41 (k0_pay39 grow (k0_pay23 lane q0 (k0_pay19 k0) (k0_pay20 q0) 64#32 k0_pay21 k0_pay22) b2)) (k0_pay46 grow (k0_pay43 (k0_pay23 lane q0 (k0_pay19 k0) (k0_pay20 q0) 64#32 k0_pay21 k0_pay22) b3) k0_pay44) (k0_pay47 (k0_pay31 v0)) (k0_pay48 grow (k0_pay42 (k0_pay39 grow (k0_pay23 lane q0 (k0_pay19 k0) (k0_pay20 q0) 64#32 k0_pay21 k0_pay22) b2)) (k0_pay43 (k0_pay23 lane q0 (k0_pay19 k0) (k0_pay20 q0) 64#32 k0_pay21 k0_pay22) b3) k0_pay44)) (k0_pay61 (k0_pay53 v1) (k0_pay56 grow (k0_pay54 (k0_pay30 q1 (k0_pay24 k1) (k0_pay27 lane q1 64#32 (k0_pay25 lane) (k0_pay26 lane) 0#32) (k0_pay28 lane) k0_pay29) b4) 0#32) (k0_pay57 grow (k0_pay54 (k0_pay30 q1 (k0_pay24 k1) (k0_pay27 lane q1 64#32 (k0_pay25 lane) (k0_pay26 lane) 0#32) (k0_pay28 lane) k0_pay29) b4) 0#32) (k0_pay59 grow (k0_pay58 (k0_pay30 q1 (k0_pay24 k1) (k0_pay27 lane q1 64#32 (k0_pay25 lane) (k0_pay26 lane) 0#32) (k0_pay28 lane) k0_pay29)) b5) (k0_pay60 grow (k0_pay58 (k0_pay30 q1 (k0_pay24 k1) (k0_pay27 lane q1 64#32 (k0_pay25 lane) (k0_pay26 lane) 0#32) (k0_pay28 lane) k0_pay29)) b5)) (k0_pay69 (k0_pay53 v1) (k0_pay65 (k0_pay62 grow (k0_pay30 q1 (k0_pay24 k1) (k0_pay27 lane q1 64#32 (k0_pay25 lane) (k0_pay26 lane) 0#32) (k0_pay28 lane) k0_pay29) b6) (k0_pay63 grow (k0_pay30 q1 (k0_pay24 k1) (k0_pay27 lane q1 64#32 (k0_pay25 lane) (k0_pay26 lane) 0#32) (k0_pay28 lane) k0_pay29) b6) (k0_pay64 grow (k0_pay30 q1 (k0_pay24 k1) (k0_pay27 lane q1 64#32 (k0_pay25 lane) (k0_pay26 lane) 0#32) (k0_pay28 lane) k0_pay29) b6)) (k0_pay66 (k0_pay62 grow (k0_pay30 q1 (k0_pay24 k1) (k0_pay27 lane q1 64#32 (k0_pay25 lane) (k0_pay26 lane) 0#32) (k0_pay28 lane) k0_pay29) b6)) (k0_pay67 grow (k0_pay30 q1 (k0_pay24 k1) (k0_pay27 lane q1 64#32 (k0_pay25 lane) (k0_pay26 lane) 0#32) (k0_pay28 lane) k0_pay29) b7) (k0_pay68 grow (k0_pay30 q1 (k0_pay24 k1) (k0_pay27 lane q1 64#32 (k0_pay25 lane) (k0_pay26 lane) 0#32) (k0_pay28 lane) k0_pay29) b7)) (k0_pay86 (k0_pay77 v2) (k0_pay81 (k0_pay78 grow (k0_pay52 lane q2 (k0_pay50 k2) (k0_pay51 lane q2)) b8) (k0_pay79 grow (k0_pay52 lane q2 (k0_pay50 k2) (k0_pay51 lane q2)) b8)) (k0_pay82 (k0_pay78 grow (k0_pay52 lane q2 (k0_pay50 k2) (k0_pay51 lane q2)) b8) (k0_pay79 grow (k0_pay52 lane q2 (k0_pay50 k2) (k0_pay51 lane q2)) b8)) (k0_pay83 grow (k0_pay52 lane q2 (k0_pay50 k2) (k0_pay51 lane q2)) b9) (k0_pay84 grow (k0_pay52 lane q2 (k0_pay50 k2) (k0_pay51 lane q2)) b9) (k0_pay85 grow (k0_pay52 lane q2 (k0_pay50 k2) (k0_pay51 lane q2)) b9)) (k0_pay95 (k0_pay77 v2) (k0_pay90 (k0_pay87 (k0_pay52 lane q2 (k0_pay50 k2) (k0_pay51 lane q2)) b10) (k0_pay88 grow)) (k0_pay91 (k0_pay87 (k0_pay52 lane q2 (k0_pay50 k2) (k0_pay51 lane q2)) b10) (k0_pay88 grow)) (k0_pay93 grow (k0_pay92 (k0_pay52 lane q2 (k0_pay50 k2) (k0_pay51 lane q2))) b11) (k0_pay94 grow (k0_pay92 (k0_pay52 lane q2 (k0_pay50 k2) (k0_pay51 lane q2))) b11)) (k0_pay96 v3) (k0_pay104 (k0_pay96 v3) (k0_pay100 (k0_pay97 grow (k0_pay76 q3 (k0_pay70 k3) (k0_pay73 lane q3 64#32 (k0_pay71 lane) (k0_pay72 lane)) (k0_pay74 lane) (k0_pay75 lane)) b12) (k0_pay98 grow (k0_pay76 q3 (k0_pay70 k3) (k0_pay73 lane q3 64#32 (k0_pay71 lane) (k0_pay72 lane)) (k0_pay74 lane) (k0_pay75 lane)) b12)) (k0_pay101 (k0_pay97 grow (k0_pay76 q3 (k0_pay70 k3) (k0_pay73 lane q3 64#32 (k0_pay71 lane) (k0_pay72 lane)) (k0_pay74 lane) (k0_pay75 lane)) b12) (k0_pay98 grow (k0_pay76 q3 (k0_pay70 k3) (k0_pay73 lane q3 64#32 (k0_pay71 lane) (k0_pay72 lane)) (k0_pay74 lane) (k0_pay75 lane)) b12)) (k0_pay102 grow (k0_pay76 q3 (k0_pay70 k3) (k0_pay73 lane q3 64#32 (k0_pay71 lane) (k0_pay72 lane)) (k0_pay74 lane) (k0_pay75 lane)) b13) (k0_pay103 grow (k0_pay76 q3 (k0_pay70 k3) (k0_pay73 lane q3 64#32 (k0_pay71 lane) (k0_pay72 lane)) (k0_pay74 lane) (k0_pay75 lane)) b13)) (k0_pay108 (k0_pay105 (k0_pay76 q3 (k0_pay70 k3) (k0_pay73 lane q3 64#32 (k0_pay71 lane) (k0_pay72 lane)) (k0_pay74 lane) (k0_pay75 lane)) b14) (k0_pay106 grow) 512#32) (k0_pay109 (k0_pay105 (k0_pay76 q3 (k0_pay70 k3) (k0_pay73 lane q3 64#32 (k0_pay71 lane) (k0_pay72 lane)) (k0_pay74 lane) (k0_pay75 lane)) b14) (k0_pay106 grow) 512#32) (k0_pay111 grow (k0_pay110 (k0_pay76 q3 (k0_pay70 k3) (k0_pay73 lane q3 64#32 (k0_pay71 lane) (k0_pay72 lane)) (k0_pay74 lane) (k0_pay75 lane))) b15) (k0_pay112 grow (k0_pay110 (k0_pay76 q3 (k0_pay70 k3) (k0_pay73 lane q3 64#32 (k0_pay71 lane) (k0_pay72 lane)) (k0_pay74 lane) (k0_pay75 lane))) b15) (Scalar.ofBits .bf16 0x0000#16)) (k0_pay114 g)
      = outV (maskV 0#32 512#32) (maskV 128#32 512#32) q0 q1 q2 q3 (winA k0) (winA k1) (winA k2) (winA k3) (winA v0) (winA v1) (winA v2) (winA v3) b0 b1 b2 b3 b4 b5 b6 b7 b8 b9 b10 b11 b12 b13 b14 b15 g := rfl

set_option maxHeartbeats 4000000 in
/-- The second block of a stream. -/
theorem outB (q0 q1 q2 q3 : Vec Ideal S256x128 .bf16) (k0 k1 v0 k2 v1 k3 v2 v3 : Vec Ideal S1x512x128 .bf16) (b0 b1 b2 b3 b4 b5 b6 b7 b8 b9 b10 b11 b12 b13 b14 b15 : Vec Ideal S1x640x128 .f32) (g : Vec Ideal S1x512 .f32) :
    k0_pay3 (k0_pay209 (k0_pay134 (k0_pay127 v0) (k0_pay129 (k0_pay128 grow (k0_pay119 lane q0 (k0_pay115 k0) (k0_pay116 q0) 64#32 k0_pay117 k0_pay118) b0)) (k0_pay130 (k0_pay128 grow (k0_pay119 lane q0 (k0_pay115 k0) (k0_pay116 q0) 64#32 k0_pay117 k0_pay118) b0)) (k0_pay131 grow (k0_pay119 lane q0 (k0_pay115 k0) (k0_pay116 q0) 64#32 k0_pay117 k0_pay118) b1) (k0_pay132 grow (k0_pay119 lane q0 (k0_pay115 k0) (k0_pay116 q0) 64#32 k0_pay117 k0_pay118) b1) (k0_pay133 grow (k0_pay119 lane q0 (k0_pay115 k0) (k0_pay116 q0) 64#32 k0_pay117 k0_pay118) b1)) (k0_pay145 (k0_pay137 (k0_pay135 grow (k0_pay119 lane q0 (k0_pay115 k0) (k0_pay116 q0) 64#32 k0_pay117 k0_pay118) b2)) (k0_pay142 grow (k0_pay139 (k0_pay119 lane q0 (k0_pay115 k0) (k0_pay116 q0) 64#32 k0_pay117 k0_pay118) b3) k0_pay140) (k0_pay143 (k0_pay127 v0)) (k0_pay144 grow (k0_pay138 (k0_pay135 grow (k0_pay119 lane q0 (k0_pay115 k0) (k0_pay116 q0) 64#32 k0_pay117 k0_pay118) b2)) (k0_pay139 (k0_pay119 lane q0 (k0_pay115 k0) (k0_pay116 q0) 64#32 k0_pay117 k0_pay118) b3) k0_pay140)) (k0_pay157 (k0_pay149 v1) (k0_pay152 grow (k0_pay150 (k0_pay126 q1 (k0_pay120 k1) (k0_pay123 lane q1 64#32 (k0_pay121 lane) (k0_pay122 lane) 0#32) (k0_pay124 lane) k0_pay125) b4) 0#32) (k0_pay153 grow (k0_pay150 (k0_pay126 q1 (k0_pay120 k1) (k0_pay123 lane q1 64#32 (k0_pay121 lane) (k0_pay122 lane) 0#32) (k0_pay124 lane) k0_pay125) b4) 0#32) (k0_pay155 grow (k0_pay154 (k0_pay126 q1 (k0_pay120 k1) (k0_pay123 lane q1 64#32 (k0_pay121 lane) (k0_pay122 lane) 0#32) (k0_pay124 lane) k0_pay125)) b5) (k0_pay156 grow (k0_pay154 (k0_pay126 q1 (k0_pay120 k1) (k0_pay123 lane q1 64#32 (k0_pay121 lane) (k0_pay122 lane) 0#32) (k0_pay124 lane) k0_pay125)) b5)) (k0_pay165 (k0_pay149 v1) (k0_pay161 (k0_pay158 grow (k0_pay126 q1 (k0_pay120 k1) (k0_pay123 lane q1 64#32 (k0_pay121 lane) (k0_pay122 lane) 0#32) (k0_pay124 lane) k0_pay125) b6) (k0_pay159 grow (k0_pay126 q1 (k0_pay120 k1) (k0_pay123 lane q1 64#32 (k0_pay121 lane) (k0_pay122 lane) 0#32) (k0_pay124 lane) k0_pay125) b6) (k0_pay160 grow (k0_pay126 q1 (k0_pay120 k1) (k0_pay123 lane q1 64#32 (k0_pay121 lane) (k0_pay122 lane) 0#32) (k0_pay124 lane) k0_pay125) b6)) (k0_pay162 (k0_pay158 grow (k0_pay126 q1 (k0_pay120 k1) (k0_pay123 lane q1 64#32 (k0_pay121 lane) (k0_pay122 lane) 0#32) (k0_pay124 lane) k0_pay125) b6)) (k0_pay163 grow (k0_pay126 q1 (k0_pay120 k1) (k0_pay123 lane q1 64#32 (k0_pay121 lane) (k0_pay122 lane) 0#32) (k0_pay124 lane) k0_pay125) b7) (k0_pay164 grow (k0_pay126 q1 (k0_pay120 k1) (k0_pay123 lane q1 64#32 (k0_pay121 lane) (k0_pay122 lane) 0#32) (k0_pay124 lane) k0_pay125) b7)) (k0_pay182 (k0_pay173 v2) (k0_pay177 (k0_pay174 grow (k0_pay148 lane q2 (k0_pay146 k2) (k0_pay147 lane q2)) b8) (k0_pay175 grow (k0_pay148 lane q2 (k0_pay146 k2) (k0_pay147 lane q2)) b8)) (k0_pay178 (k0_pay174 grow (k0_pay148 lane q2 (k0_pay146 k2) (k0_pay147 lane q2)) b8) (k0_pay175 grow (k0_pay148 lane q2 (k0_pay146 k2) (k0_pay147 lane q2)) b8)) (k0_pay179 grow (k0_pay148 lane q2 (k0_pay146 k2) (k0_pay147 lane q2)) b9) (k0_pay180 grow (k0_pay148 lane q2 (k0_pay146 k2) (k0_pay147 lane q2)) b9) (k0_pay181 grow (k0_pay148 lane q2 (k0_pay146 k2) (k0_pay147 lane q2)) b9)) (k0_pay191 (k0_pay173 v2) (k0_pay186 (k0_pay183 (k0_pay148 lane q2 (k0_pay146 k2) (k0_pay147 lane q2)) b10) (k0_pay184 grow)) (k0_pay187 (k0_pay183 (k0_pay148 lane q2 (k0_pay146 k2) (k0_pay147 lane q2)) b10) (k0_pay184 grow)) (k0_pay189 grow (k0_pay188 (k0_pay148 lane q2 (k0_pay146 k2) (k0_pay147 lane q2))) b11) (k0_pay190 grow (k0_pay188 (k0_pay148 lane q2 (k0_pay146 k2) (k0_pay147 lane q2))) b11)) (k0_pay192 v3) (k0_pay200 (k0_pay192 v3) (k0_pay196 (k0_pay193 grow (k0_pay172 q3 (k0_pay166 k3) (k0_pay169 lane q3 64#32 (k0_pay167 lane) (k0_pay168 lane)) (k0_pay170 lane) (k0_pay171 lane)) b12) (k0_pay194 grow (k0_pay172 q3 (k0_pay166 k3) (k0_pay169 lane q3 64#32 (k0_pay167 lane) (k0_pay168 lane)) (k0_pay170 lane) (k0_pay171 lane)) b12)) (k0_pay197 (k0_pay193 grow (k0_pay172 q3 (k0_pay166 k3) (k0_pay169 lane q3 64#32 (k0_pay167 lane) (k0_pay168 lane)) (k0_pay170 lane) (k0_pay171 lane)) b12) (k0_pay194 grow (k0_pay172 q3 (k0_pay166 k3) (k0_pay169 lane q3 64#32 (k0_pay167 lane) (k0_pay168 lane)) (k0_pay170 lane) (k0_pay171 lane)) b12)) (k0_pay198 grow (k0_pay172 q3 (k0_pay166 k3) (k0_pay169 lane q3 64#32 (k0_pay167 lane) (k0_pay168 lane)) (k0_pay170 lane) (k0_pay171 lane)) b13) (k0_pay199 grow (k0_pay172 q3 (k0_pay166 k3) (k0_pay169 lane q3 64#32 (k0_pay167 lane) (k0_pay168 lane)) (k0_pay170 lane) (k0_pay171 lane)) b13)) (k0_pay204 (k0_pay201 (k0_pay172 q3 (k0_pay166 k3) (k0_pay169 lane q3 64#32 (k0_pay167 lane) (k0_pay168 lane)) (k0_pay170 lane) (k0_pay171 lane)) b14) (k0_pay202 grow) 256#32) (k0_pay205 (k0_pay201 (k0_pay172 q3 (k0_pay166 k3) (k0_pay169 lane q3 64#32 (k0_pay167 lane) (k0_pay168 lane)) (k0_pay170 lane) (k0_pay171 lane)) b14) (k0_pay202 grow) 256#32) (k0_pay207 grow (k0_pay206 (k0_pay172 q3 (k0_pay166 k3) (k0_pay169 lane q3 64#32 (k0_pay167 lane) (k0_pay168 lane)) (k0_pay170 lane) (k0_pay171 lane))) b15) (k0_pay208 grow (k0_pay206 (k0_pay172 q3 (k0_pay166 k3) (k0_pay169 lane q3 64#32 (k0_pay167 lane) (k0_pay168 lane)) (k0_pay170 lane) (k0_pay171 lane))) b15) (Scalar.ofBits .bf16 0x0000#16)) (k0_pay210 g)
      = outV (maskV 0#32 256#32) (maskV 128#32 256#32) q0 q1 q2 q3 (winB k0) (winB k1) (winB k2) (winB k3) (winB v0) (winB v1) (winB v2) (winB v3) b0 b1 b2 b3 b4 b5 b6 b7 b8 b9 b10 b11 b12 b13 b14 b15 g := rfl

set_option maxHeartbeats 4000000 in
/-- A later block. -/
theorem outC (q0 q1 q2 q3 : Vec Ideal S256x128 .bf16) (k0 k1 v0 k2 v1 k3 v2 v3 : Vec Ideal S1x768x128 .bf16) (b0 b1 b2 b3 b4 b5 b6 b7 b8 b9 b10 b11 b12 b13 b14 b15 : Vec Ideal S1x640x128 .f32) (g : Vec Ideal S1x512 .f32) :
    k0_pay4 (k0_pay306 (k0_pay231 (k0_pay222 v0) (k0_pay226 (k0_pay223 (k0_pay215 lane q0 (k0_pay211 k0) (k0_pay212 q0) 64#32 k0_pay213 k0_pay214) b0) (k0_pay224 (k0_pay215 lane q0 (k0_pay211 k0) (k0_pay212 q0) 64#32 k0_pay213 k0_pay214) b0) (k0_pay225 (k0_pay215 lane q0 (k0_pay211 k0) (k0_pay212 q0) 64#32 k0_pay213 k0_pay214) b0)) (k0_pay227 (k0_pay223 (k0_pay215 lane q0 (k0_pay211 k0) (k0_pay212 q0) 64#32 k0_pay213 k0_pay214) b0)) (k0_pay228 (k0_pay215 lane q0 (k0_pay211 k0) (k0_pay212 q0) 64#32 k0_pay213 k0_pay214) b1) (k0_pay229 (k0_pay215 lane q0 (k0_pay211 k0) (k0_pay212 q0) 64#32 k0_pay213 k0_pay214) b1) (k0_pay230 (k0_pay215 lane q0 (k0_pay211 k0) (k0_pay212 q0) 64#32 k0_pay213 k0_pay214) b1)) (k0_pay238 (k0_pay222 v0) (k0_pay234 (k0_pay232 (k0_pay215 lane q0 (k0_pay211 k0) (k0_pay212 q0) 64#32 k0_pay213 k0_pay214) b2) (k0_pay233 (k0_pay215 lane q0 (k0_pay211 k0) (k0_pay212 q0) 64#32 k0_pay213 k0_pay214) b2)) (k0_pay235 (k0_pay232 (k0_pay215 lane q0 (k0_pay211 k0) (k0_pay212 q0) 64#32 k0_pay213 k0_pay214) b2)) (k0_pay236 (k0_pay215 lane q0 (k0_pay211 k0) (k0_pay212 q0) 64#32 k0_pay213 k0_pay214) b3) (k0_pay237 (k0_pay215 lane q0 (k0_pay211 k0) (k0_pay212 q0) 64#32 k0_pay213 k0_pay214) b3)) (k0_pay253 (k0_pay244 v1) (k0_pay246 (k0_pay221 q1 (k0_pay216 k1) (k0_pay219 lane q1 64#32 (k0_pay217 lane) (k0_pay218 lane) (Scalar.extui (Scalar.cmpi .sgt 64#32 0#32))) (k0_pay220 lane) 0#32) b4) (k0_pay248 (k0_pay247 (k0_pay221 q1 (k0_pay216 k1) (k0_pay219 lane q1 64#32 (k0_pay217 lane) (k0_pay218 lane) (Scalar.extui (Scalar.cmpi .sgt 64#32 0#32))) (k0_pay220 lane) 0#32) b4)) (k0_pay250 (k0_pay221 q1 (k0_pay216 k1) (k0_pay219 lane q1 64#32 (k0_pay217 lane) (k0_pay218 lane) (Scalar.extui (Scalar.cmpi .sgt 64#32 0#32))) (k0_pay220 lane) 0#32) b5) (k0_pay251 (F := Ideal)) (k0_pay252 (k0_pay221 q1 (k0_pay216 k1) (k0_pay219 lane q1 64#32 (k0_pay217 lane) (k0_pay218 lane) (Scalar.extui (Scalar.cmpi .sgt 64#32 0#32))) (k0_pay220 lane) 0#32) b5)) (k0_pay262 (k0_pay244 v1) (k0_pay257 (k0_pay254 (k0_pay221 q1 (k0_pay216 k1) (k0_pay219 lane q1 64#32 (k0_pay217 lane) (k0_pay218 lane) (Scalar.extui (Scalar.cmpi .sgt 64#32 0#32))) (k0_pay220 lane) 0#32) b6) (k0_pay255 (k0_pay221 q1 (k0_pay216 k1) (k0_pay219 lane q1 64#32 (k0_pay217 lane) (k0_pay218 lane) (Scalar.extui (Scalar.cmpi .sgt 64#32 0#32))) (k0_pay220 lane) 0#32) b6) (k0_pay256 (k0_pay221 q1 (k0_pay216 k1) (k0_pay219 lane q1 64#32 (k0_pay217 lane) (k0_pay218 lane) (Scalar.extui (Scalar.cmpi .sgt 64#32 0#32))) (k0_pay220 lane) 0#32) b6)) (k0_pay258 (k0_pay254 (k0_pay221 q1 (k0_pay216 k1) (k0_pay219 lane q1 64#32 (k0_pay217 lane) (k0_pay218 lane) (Scalar.extui (Scalar.cmpi .sgt 64#32 0#32))) (k0_pay220 lane) 0#32) b6)) (k0_pay259 (k0_pay221 q1 (k0_pay216 k1) (k0_pay219 lane q1 64#32 (k0_pay217 lane) (k0_pay218 lane) (Scalar.extui (Scalar.cmpi .sgt 64#32 0#32))) (k0_pay220 lane) 0#32) b7) (k0_pay260 (k0_pay221 q1 (k0_pay216 k1) (k0_pay219 lane q1 64#32 (k0_pay217 lane) (k0_pay218 lane) (Scalar.extui (Scalar.cmpi .sgt 64#32 0#32))) (k0_pay220 lane) 0#32) b7) (k0_pay261 (k0_pay221 q1 (k0_pay216 k1) (k0_pay219 lane q1 64#32 (k0_pay217 lane) (k0_pay218 lane) (Scalar.extui (Scalar.cmpi .sgt 64#32 0#32))) (k0_pay220 lane) 0#32) b7)) (k0_pay279 (k0_pay275 (k0_pay272 (k0_pay243 lane q2 (k0_pay239 k2) (k0_pay240 lane) (k0_pay241 lane) (k0_pay242 lane) 0#32)) (k0_pay273 b9)) (k0_pay277 (k0_pay267 v2) (k0_pay270 (k0_pay268 (k0_pay243 lane q2 (k0_pay239 k2) (k0_pay240 lane) (k0_pay241 lane) (k0_pay242 lane) 0#32)) b8) (k0_pay271 (k0_pay268 (k0_pay243 lane q2 (k0_pay239 k2) (k0_pay240 lane) (k0_pay241 lane) (k0_pay242 lane) 0#32)) b8) (k0_pay272 (k0_pay243 lane q2 (k0_pay239 k2) (k0_pay240 lane) (k0_pay241 lane) (k0_pay242 lane) 0#32)) (k0_pay273 b9)) (k0_pay278 (k0_pay267 v2) (k0_pay271 (k0_pay268 (k0_pay243 lane q2 (k0_pay239 k2) (k0_pay240 lane) (k0_pay241 lane) (k0_pay242 lane) 0#32)) b8) (k0_pay272 (k0_pay243 lane q2 (k0_pay239 k2) (k0_pay240 lane) (k0_pay241 lane) (k0_pay242 lane) 0#32)) (k0_pay273 b9))) (k0_pay289 (k0_pay281 (k0_pay243 lane q2 (k0_pay239 k2) (k0_pay240 lane) (k0_pay241 lane) (k0_pay242 lane) 0#32) b10) (k0_pay284 (k0_pay282 (k0_pay243 lane q2 (k0_pay239 k2) (k0_pay240 lane) (k0_pay241 lane) (k0_pay242 lane) 0#32) b10) (k0_pay283 (F := Ideal))) (k0_pay286 (k0_pay243 lane q2 (k0_pay239 k2) (k0_pay240 lane) (k0_pay241 lane) (k0_pay242 lane) 0#32) b11) (k0_pay287 (k0_pay243 lane q2 (k0_pay239 k2) (k0_pay240 lane) (k0_pay241 lane) (k0_pay242 lane) 0#32) b11) (k0_pay288 (k0_pay267 v2))) (k0_pay290 v3) (k0_pay299 (k0_pay290 v3) (k0_pay294 (k0_pay291 (k0_pay266 lane q3 (k0_pay263 k3) (k0_pay264 lane) k0_pay265) b12) (k0_pay292 (k0_pay266 lane q3 (k0_pay263 k3) (k0_pay264 lane) k0_pay265) b12) (k0_pay293 (k0_pay266 lane q3 (k0_pay263 k3) (k0_pay264 lane) k0_pay265) b12)) (k0_pay295 (k0_pay291 (k0_pay266 lane q3 (k0_pay263 k3) (k0_pay264 lane) k0_pay265) b12)) (k0_pay296 (k0_pay266 lane q3 (k0_pay263 k3) (k0_pay264 lane) k0_pay265) b13) (k0_pay297 (k0_pay266 lane q3 (k0_pay263 k3) (k0_pay264 lane) k0_pay265) b13) (k0_pay298 (k0_pay266 lane q3 (k0_pay263 k3) (k0_pay264 lane) k0_pay265) b13)) (k0_pay302 (k0_pay300 (k0_pay266 lane q3 (k0_pay263 k3) (k0_pay264 lane) k0_pay265) b14) (k0_pay301 (k0_pay266 lane q3 (k0_pay263 k3) (k0_pay264 lane) k0_pay265) b14)) (k0_pay303 (k0_pay300 (k0_pay266 lane q3 (k0_pay263 k3) (k0_pay264 lane) k0_pay265) b14)) (k0_pay304 (k0_pay266 lane q3 (k0_pay263 k3) (k0_pay264 lane) k0_pay265) b15) (k0_pay305 (k0_pay266 lane q3 (k0_pay263 k3) (k0_pay264 lane) k0_pay265) b15)) (k0_pay307 g) (k0_pay308 (k0_pay231 (k0_pay222 v0) (k0_pay226 (k0_pay223 (k0_pay215 lane q0 (k0_pay211 k0) (k0_pay212 q0) 64#32 k0_pay213 k0_pay214) b0) (k0_pay224 (k0_pay215 lane q0 (k0_pay211 k0) (k0_pay212 q0) 64#32 k0_pay213 k0_pay214) b0) (k0_pay225 (k0_pay215 lane q0 (k0_pay211 k0) (k0_pay212 q0) 64#32 k0_pay213 k0_pay214) b0)) (k0_pay227 (k0_pay223 (k0_pay215 lane q0 (k0_pay211 k0) (k0_pay212 q0) 64#32 k0_pay213 k0_pay214) b0)) (k0_pay228 (k0_pay215 lane q0 (k0_pay211 k0) (k0_pay212 q0) 64#32 k0_pay213 k0_pay214) b1) (k0_pay229 (k0_pay215 lane q0 (k0_pay211 k0) (k0_pay212 q0) 64#32 k0_pay213 k0_pay214) b1) (k0_pay230 (k0_pay215 lane q0 (k0_pay211 k0) (k0_pay212 q0) 64#32 k0_pay213 k0_pay214) b1)) (k0_pay238 (k0_pay222 v0) (k0_pay234 (k0_pay232 (k0_pay215 lane q0 (k0_pay211 k0) (k0_pay212 q0) 64#32 k0_pay213 k0_pay214) b2) (k0_pay233 (k0_pay215 lane q0 (k0_pay211 k0) (k0_pay212 q0) 64#32 k0_pay213 k0_pay214) b2)) (k0_pay235 (k0_pay232 (k0_pay215 lane q0 (k0_pay211 k0) (k0_pay212 q0) 64#32 k0_pay213 k0_pay214) b2)) (k0_pay236 (k0_pay215 lane q0 (k0_pay211 k0) (k0_pay212 q0) 64#32 k0_pay213 k0_pay214) b3) (k0_pay237 (k0_pay215 lane q0 (k0_pay211 k0) (k0_pay212 q0) 64#32 k0_pay213 k0_pay214) b3)) (k0_pay253 (k0_pay244 v1) (k0_pay246 (k0_pay221 q1 (k0_pay216 k1) (k0_pay219 lane q1 64#32 (k0_pay217 lane) (k0_pay218 lane) (Scalar.extui (Scalar.cmpi .sgt 64#32 0#32))) (k0_pay220 lane) 0#32) b4) (k0_pay248 (k0_pay247 (k0_pay221 q1 (k0_pay216 k1) (k0_pay219 lane q1 64#32 (k0_pay217 lane) (k0_pay218 lane) (Scalar.extui (Scalar.cmpi .sgt 64#32 0#32))) (k0_pay220 lane) 0#32) b4)) (k0_pay250 (k0_pay221 q1 (k0_pay216 k1) (k0_pay219 lane q1 64#32 (k0_pay217 lane) (k0_pay218 lane) (Scalar.extui (Scalar.cmpi .sgt 64#32 0#32))) (k0_pay220 lane) 0#32) b5) (k0_pay251 (F := Ideal)) (k0_pay252 (k0_pay221 q1 (k0_pay216 k1) (k0_pay219 lane q1 64#32 (k0_pay217 lane) (k0_pay218 lane) (Scalar.extui (Scalar.cmpi .sgt 64#32 0#32))) (k0_pay220 lane) 0#32) b5)) (k0_pay262 (k0_pay244 v1) (k0_pay257 (k0_pay254 (k0_pay221 q1 (k0_pay216 k1) (k0_pay219 lane q1 64#32 (k0_pay217 lane) (k0_pay218 lane) (Scalar.extui (Scalar.cmpi .sgt 64#32 0#32))) (k0_pay220 lane) 0#32) b6) (k0_pay255 (k0_pay221 q1 (k0_pay216 k1) (k0_pay219 lane q1 64#32 (k0_pay217 lane) (k0_pay218 lane) (Scalar.extui (Scalar.cmpi .sgt 64#32 0#32))) (k0_pay220 lane) 0#32) b6) (k0_pay256 (k0_pay221 q1 (k0_pay216 k1) (k0_pay219 lane q1 64#32 (k0_pay217 lane) (k0_pay218 lane) (Scalar.extui (Scalar.cmpi .sgt 64#32 0#32))) (k0_pay220 lane) 0#32) b6)) (k0_pay258 (k0_pay254 (k0_pay221 q1 (k0_pay216 k1) (k0_pay219 lane q1 64#32 (k0_pay217 lane) (k0_pay218 lane) (Scalar.extui (Scalar.cmpi .sgt 64#32 0#32))) (k0_pay220 lane) 0#32) b6)) (k0_pay259 (k0_pay221 q1 (k0_pay216 k1) (k0_pay219 lane q1 64#32 (k0_pay217 lane) (k0_pay218 lane) (Scalar.extui (Scalar.cmpi .sgt 64#32 0#32))) (k0_pay220 lane) 0#32) b7) (k0_pay260 (k0_pay221 q1 (k0_pay216 k1) (k0_pay219 lane q1 64#32 (k0_pay217 lane) (k0_pay218 lane) (Scalar.extui (Scalar.cmpi .sgt 64#32 0#32))) (k0_pay220 lane) 0#32) b7) (k0_pay261 (k0_pay221 q1 (k0_pay216 k1) (k0_pay219 lane q1 64#32 (k0_pay217 lane) (k0_pay218 lane) (Scalar.extui (Scalar.cmpi .sgt 64#32 0#32))) (k0_pay220 lane) 0#32) b7)) (k0_pay279 (k0_pay275 (k0_pay272 (k0_pay243 lane q2 (k0_pay239 k2) (k0_pay240 lane) (k0_pay241 lane) (k0_pay242 lane) 0#32)) (k0_pay273 b9)) (k0_pay277 (k0_pay267 v2) (k0_pay270 (k0_pay268 (k0_pay243 lane q2 (k0_pay239 k2) (k0_pay240 lane) (k0_pay241 lane) (k0_pay242 lane) 0#32)) b8) (k0_pay271 (k0_pay268 (k0_pay243 lane q2 (k0_pay239 k2) (k0_pay240 lane) (k0_pay241 lane) (k0_pay242 lane) 0#32)) b8) (k0_pay272 (k0_pay243 lane q2 (k0_pay239 k2) (k0_pay240 lane) (k0_pay241 lane) (k0_pay242 lane) 0#32)) (k0_pay273 b9)) (k0_pay278 (k0_pay267 v2) (k0_pay271 (k0_pay268 (k0_pay243 lane q2 (k0_pay239 k2) (k0_pay240 lane) (k0_pay241 lane) (k0_pay242 lane) 0#32)) b8) (k0_pay272 (k0_pay243 lane q2 (k0_pay239 k2) (k0_pay240 lane) (k0_pay241 lane) (k0_pay242 lane) 0#32)) (k0_pay273 b9))) (k0_pay289 (k0_pay281 (k0_pay243 lane q2 (k0_pay239 k2) (k0_pay240 lane) (k0_pay241 lane) (k0_pay242 lane) 0#32) b10) (k0_pay284 (k0_pay282 (k0_pay243 lane q2 (k0_pay239 k2) (k0_pay240 lane) (k0_pay241 lane) (k0_pay242 lane) 0#32) b10) (k0_pay283 (F := Ideal))) (k0_pay286 (k0_pay243 lane q2 (k0_pay239 k2) (k0_pay240 lane) (k0_pay241 lane) (k0_pay242 lane) 0#32) b11) (k0_pay287 (k0_pay243 lane q2 (k0_pay239 k2) (k0_pay240 lane) (k0_pay241 lane) (k0_pay242 lane) 0#32) b11) (k0_pay288 (k0_pay267 v2))) (k0_pay290 v3) (k0_pay299 (k0_pay290 v3) (k0_pay294 (k0_pay291 (k0_pay266 lane q3 (k0_pay263 k3) (k0_pay264 lane) k0_pay265) b12) (k0_pay292 (k0_pay266 lane q3 (k0_pay263 k3) (k0_pay264 lane) k0_pay265) b12) (k0_pay293 (k0_pay266 lane q3 (k0_pay263 k3) (k0_pay264 lane) k0_pay265) b12)) (k0_pay295 (k0_pay291 (k0_pay266 lane q3 (k0_pay263 k3) (k0_pay264 lane) k0_pay265) b12)) (k0_pay296 (k0_pay266 lane q3 (k0_pay263 k3) (k0_pay264 lane) k0_pay265) b13) (k0_pay297 (k0_pay266 lane q3 (k0_pay263 k3) (k0_pay264 lane) k0_pay265) b13) (k0_pay298 (k0_pay266 lane q3 (k0_pay263 k3) (k0_pay264 lane) k0_pay265) b13)) (k0_pay302 (k0_pay300 (k0_pay266 lane q3 (k0_pay263 k3) (k0_pay264 lane) k0_pay265) b14) (k0_pay301 (k0_pay266 lane q3 (k0_pay263 k3) (k0_pay264 lane) k0_pay265) b14)) (k0_pay303 (k0_pay300 (k0_pay266 lane q3 (k0_pay263 k3) (k0_pay264 lane) k0_pay265) b14)) (k0_pay304 (k0_pay266 lane q3 (k0_pay263 k3) (k0_pay264 lane) k0_pay265) b15) (k0_pay305 (k0_pay266 lane q3 (k0_pay263 k3) (k0_pay264 lane) k0_pay265) b15))
      = outV id id q0 q1 q2 q3 (winC k0) (winC k1) (winC k2) (winC k3) (winC v0) (winC v1) (winC v2) (winC v3) b0 b1 b2 b3 b4 b5 b6 b7 b8 b9 b10 b11 b12 b13 b14 b15 g := rfl

end Cert.BandKernel

end
-- ==== Proof.AttnKernel.lean ====
/- The body of the attention, read one row and one lane at a time. -/
module

public import proofs.«01_k».proof.Proof.Gen.AttnIdeal.Frame
public import proofs.«01_k».proof.Proof.AttnMath
public import proofs.«01_k».proof.Proof.Consts
public import Idealize.ShloMosaic.Lib.Pipeline.ValueKit
public import Idealize.ShloMosaic.Lib.Pointwise

@[expose] public section

set_option maxRecDepth 16384

noncomputable section

namespace Cert.AttnKernel

open Idealize.ShloMosaic Idealize.ShloMosaic.TcCoe Idealize.SL.Sem
open Cert.AttnIdeal Cert.AttnIdeal.Gen

/-- The lanes of one of the two heads that share 128 lanes. -/
def lanes (b : BitVec 32) : IVec S1x128 1 := cmpi .eq k0_pay5 (broadcast S1x128 b)

/-- They are the lower or the upper half. -/
theorem lanes_at : ∀ (i : Fin 2) (l : Fin 128), lanes (BitVec.ofNat 32 i.val) (ix2 0 l) = if l.val / 64 = i.val then 1#1 else 0#1 := by
  decide +kernel

/-- The scores of one head: its lanes of the queries against the keys, and the bias row shifted by one per query. -/
def scoreV (b : BitVec 32) (q : Vec Ideal S16x128 .bf16) (k : FVec Ideal S528x128 .bf16) (e : Vec Ideal S1x1024 .f32) : FVec Ideal S16x528 .f32 :=
  addf (matmul dot_S16x128_S528x128_S16x528_1_1_0_0_n_n none
      (select (broadcastTo S16x128 (shapeCast S1x128 (lanes b) shapeCasts_S1x128_S1x128) broadcasts_S1x128_S16x128) q
        (broadcast S16x128 (Scalar.sitofp .bf16 0#32))) k (constant S16x528 .f32 0x00000000#32))
    (mulf (extractStridedSlice S16x528 ![0, 0] (dynamicRotate 1 1009#32 (some (1, 0))
        (broadcastTo S16x1024 (shapeCast S1x1024 (shapeCast S1x1024 e shapeCasts_S1x1024_S1x1024) shapeCasts_S1x1024_S1x1024) broadcasts_S1x1024_S16x1024)
        rotates_S16x1024_d1s1a0) slices_S16x1024_o0_0_S16x528)
      (broadcast S16x528 (Named.named κ "log2e" 0x3FB8AA3B#32)))

/-- The unscaled weights of one head. -/
def weightV (s : FVec Ideal S16x528 .f32) : FVec Ideal S16x528 .f32 :=
  exp2 (subf s (broadcastTo S16x528 (shapeCast S16x1 (multiReduction .maximumf [1] S16 s 0xFF800000#32 reduces_S16x528_S16 (.inl rfl) rfl)
    shapeCasts_S16_S16x1) broadcasts_S16x1_S16x528))

/-- One head's output: its lanes of the values by the weights, over the weights' sum. -/
def headV (b : BitVec 32) (q : Vec Ideal S16x128 .bf16) (k v : FVec Ideal S528x128 .bf16) (e : Vec Ideal S1x1024 .f32) : FVec Ideal S16x128 .f32 :=
  divf (matmul dot_S16x528_S528x128_S16x128_1_0_0_1_n_n none (truncf .bf16 (weightV (scoreV b q k e)) bitsLt_bf16_f32)
      (select (broadcastTo S528x128 (shapeCast S1x128 (lanes b) shapeCasts_S1x128_S1x128) broadcasts_S1x128_S528x128) v
        (broadcast S528x128 (Scalar.sitofp .bf16 0#32))) (constant S16x128 .f32 0x00000000#32))
    (broadcastTo S16x128 (shapeCast S16x1 (multiReduction .add [1] S16 (weightV (scoreV b q k e)) 0x00000000#32 reduces_S16x528_S16 (.inl rfl) rfl)
      shapeCasts_S16_S16x1) broadcasts_S16x1_S16x128)

/-- The keys or values of a pair of heads: the cached ones and then the new ones. -/
def rowsV (c : Vec Ideal S1x1x512x128 .f32) (n : Vec Ideal S16x128 .bf16) : FVec Ideal S528x128 .bf16 :=
  concatenate S528x128 0 [⟨S512x128, truncf .bf16 (shapeCast S512x128 c shapeCasts_S1x1x512x128_S512x128) bitsLt_bf16_f32⟩, ⟨S16x128, n⟩]
    concatenates_S512x128_S16x128_S528x128_d0

/-- The outputs of a pair of heads, one added to the other. -/
def pairV (q : Vec Ideal S16x128 .bf16) (k v : FVec Ideal S528x128 .bf16) (e e' : Vec Ideal S1x1024 .f32) : FVec Ideal S16x128 .f32 :=
  addf (addf (broadcast S16x128 (Scalar.ofBits .f32 0x00000000#32)) (headV 0#32 q k v e)) (headV 1#32 q k v e')

variable (q : Vec Ideal S16x128 .bf16) (k v : FVec Ideal S528x128 .bf16) (e e' : Vec Ideal S1x1024 .f32)
  (o0 o1 o2 : FVec Ideal S16x128 .f32)

/-- The lane numbers. -/
abbrev lane : IVec S1x128 32 := iota .tc S1x128 32 [1] iota_S1x128_d1_w32

/-- The first pair of heads. -/
theorem pair0 : k0_pay10 (k0_pay6 q k v (k0_pay4 (F := Ideal)) k0_pay5 e)
    (k0_pay9 lane q k v 64#32 (k0_pay7 lane) (k0_pay8 lane) (Scalar.extui (Scalar.cmpi .sgt 64#32 0#32)) e') = pairV q k v e e' := rfl

/-- The second pair of heads. -/
theorem pair1 : k0_pay18 lane q k v (k0_pay15 q k v (k0_pay13 (F := Ideal)) (k0_pay14 lane) 0#32 e) 64#32 (k0_pay16 lane) (k0_pay17 lane)
    (Scalar.extui (Scalar.cmpi .sgt 64#32 0#32)) 0#32 e' = pairV q k v e e' := rfl

/-- The third pair of heads. -/
theorem pair2 : k0_pay27 lane q k v (k0_pay24 q k v (k0_pay21 (F := Ideal)) (k0_pay22 lane) k0_pay23 e) 64#32 (k0_pay25 lane) (k0_pay26 lane)
    (Scalar.extui (Scalar.cmpi .sgt 64#32 0#32)) (Scalar.cmpi .slt 64#32 0#32) e' = pairV q k v e e' := rfl

/-- The fourth pair of heads, set beside the other three. -/
theorem pair3 : k0_pay35 lane o0 o1 o2 q k v (k0_pay32 q k v (k0_pay30 (F := Ideal)) (k0_pay31 lane) e) 64#32 (k0_pay33 lane) (k0_pay34 lane)
    (Scalar.extui (Scalar.cmpi .sgt 64#32 0#32)) (Scalar.extui (Scalar.cmpi .slt 64#32 0#32)) e'
    = concatenate S16x512 1 [⟨S16x128, o0⟩, ⟨S16x128, o1⟩, ⟨S16x128, o2⟩, ⟨S16x128, pairV q k v e e'⟩]
        concatenates_S16x128_S16x128_S16x128_S16x128_S16x512_d1 := rfl

/-- A choice on a lane's bit is the choice on the lane. -/
theorem pick (P : Prop) [Decidable P] (a : EReal) : Scalar.select (if P then 1#1 else 0#1) a 0 = if P then a else 0 := by
  split <;> rfl

/-- A sum over one half of 128 lanes. -/
theorem sum_half (i : Fin 2) (f : Fin 128 → EReal) : (∑ l : Fin 128, if l.val / 64 = i.val then f l else 0) = ∑ d : Fin 64, f ⟨64 * i.val + d.val, by omega⟩ := by
  rw [Fin.sum_univ_tiles 2 64 rfl, Fin.sum_univ_two]
  have h0 : ∀ d : Fin 64, d.val / 64 = 0 := fun d => by omega
  have h1 : ∀ d : Fin 64, (64 + d.val) / 64 = 1 := fun d => by omega
  obtain rfl | rfl : i = 0 ∨ i = 1 := by omega
  · simp [h0, h1]
  · simp [h0, h1]

/-- One entry of a head's scores, its lanes picked out of the pair's. -/
theorem scoreV_at (i : Fin 2) (r : Fin 16) (c : Fin 528) : scoreV (BitVec.ofNat 32 i.val) q k e (ix2 r c)
    = ∑ d : Fin 64, q (ix2 r ⟨64 * i.val + d.val, by omega⟩) * k (ix2 c ⟨64 * i.val + d.val, by omega⟩)
      + e (ix2 0 ⟨c.val + 15 - r.val, by omega⟩) * (((Real.log 2)⁻¹ : ℝ) : EReal) := by
  have h1 : scoreV (BitVec.ofNat 32 i.val) q k e (ix2 r c)
      = ∑ x : Fin 128, Scalar.select (lanes (BitVec.ofNat 32 i.val) (ix2 0 x)) (q (ix2 r x) * k (ix2 c x)) (0 : EReal)
        + e (ix2 0 ⟨(c.val + 1024 - (1009 + r.val) % 1024) % 1024, Nat.mod_lt _ (by norm_num)⟩) * Named.named κ "log2e" 0x3FB8AA3B#32 := by
    pointwise [scoreV]
    simp only [BitVec.toInt_zero, Int.cast_zero, EReal.coe_zero]
    refine congrArg (· + _) (Finset.sum_congr rfl fun x _ => ?_)
    rw [lanes_at]
    split
    · rfl
    · exact zero_mul _
  have h2 : (⟨(c.val + 1024 - (1009 + r.val) % 1024) % 1024, Nat.mod_lt _ (by norm_num)⟩ : Fin 1024) = ⟨c.val + 15 - r.val, by omega⟩ :=
    Fin.ext (by show (c.val + 1024 - (1009 + r.val) % 1024) % 1024 = c.val + 15 - r.val; omega)
  rw [h1, h2]
  simp only [lanes_at, pick, sum_half i]
  rfl

/-- A head's output is the average of its lanes of the values, and zero on the other head's lanes. -/
theorem headV_at (i : Fin 2) (r : Fin 16) (j : Fin 128) (s : Fin 528 → EReal) (hs : ∀ c, scoreV (BitVec.ofNat 32 i.val) q k e (ix2 r c) = s c) :
    headV (BitVec.ofNat 32 i.val) q k v e (ix2 r j) = Cert.AttnMath.avg2 s (fun c => if j.val / 64 = i.val then v (ix2 c j) else 0) := by
  have hw : ∀ c, weightV (scoreV (BitVec.ofNat 32 i.val) q k e) (ix2 r c) = Ideal.exp2 (s c - Cert.AttnMath.top s) := fun c => by
    pointwise [weightV]
    simp only [hs, Cert.Consts.neg_inf]
    rfl
  have h1 : headV (BitVec.ofNat 32 i.val) q k v e (ix2 r j)
      = Ideal.div (∑ x, weightV (scoreV (BitVec.ofNat 32 i.val) q k e) (ix2 r x) * (if j.val / 64 = i.val then v (ix2 x j) else 0))
        (∑ x, weightV (scoreV (BitVec.ofNat 32 i.val) q k e) (ix2 r x)) := by
    pointwise [headV]
    simp only [BitVec.toInt_zero, Int.cast_zero, EReal.coe_zero, lanes_at, pick]
  rw [h1]
  simp only [hw]
  rfl

open Cert.AttnMath in
/-- A pair's row is the two heads' outputs, each on its own lanes, when the scores are finite. -/
theorem pair_row (p : Fin 4) (r : Fin 16) (Q : Fin 512 → EReal) (K V : Fin 528 → Fin 512 → EReal) (β : Fin 8 → Fin 528 → EReal)
    (fQ : ∀ j, IsFin (Q j)) (fK : ∀ c j, IsFin (K c j)) (fβ : ∀ h c, IsFin (β h c))
    (hq : ∀ l : Fin 128, q (ix2 r l) = Q ⟨128 * p.val + l.val, by omega⟩)
    (hk : ∀ c (l : Fin 128), k (ix2 c l) = K c ⟨128 * p.val + l.val, by omega⟩)
    (hv : ∀ c (l : Fin 128), v (ix2 c l) = V c ⟨128 * p.val + l.val, by omega⟩)
    (he : ∀ c : Fin 528, e (ix2 0 ⟨c.val + 15 - r.val, by omega⟩) = β ⟨2 * p.val, by omega⟩ c)
    (he' : ∀ c : Fin 528, e' (ix2 0 ⟨c.val + 15 - r.val, by omega⟩) = β ⟨2 * p.val + 1, by omega⟩ c) (l : Fin 128) :
    pairV q k v e e' (ix2 r l) = heads2 Q K V β ⟨128 * p.val + l.val, by omega⟩ := by
  have s0 : ∀ c, scoreV (BitVec.ofNat 32 (0 : Fin 2).val) q k e (ix2 r c) = score2 Q K β ⟨2 * p.val, by omega⟩ c := fun c => by
    rw [scoreV_at, he]
    unfold score2 at64
    simp only [hq, hk]
    refine congrArg (· + _) (Finset.sum_congr rfl fun d _ => ?_)
    rw [show (⟨128 * p.val + (64 * (0 : Fin 2).val + d.val), by omega⟩ : Fin 512) = ⟨64 * (2 * p.val) + d.val, by omega⟩ from
      Fin.ext (by show 128 * p.val + (64 * 0 + d.val) = 64 * (2 * p.val) + d.val; omega)]
  have s1 : ∀ c, scoreV (BitVec.ofNat 32 (1 : Fin 2).val) q k e' (ix2 r c) = score2 Q K β ⟨2 * p.val + 1, by omega⟩ c := fun c => by
    rw [scoreV_at, he']
    unfold score2 at64
    simp only [hq, hk]
    refine congrArg (· + _) (Finset.sum_congr rfl fun d _ => ?_)
    rw [show (⟨128 * p.val + (64 * (1 : Fin 2).val + d.val), by omega⟩ : Fin 512) = ⟨64 * (2 * p.val + 1) + d.val, by omega⟩ from
      Fin.ext (by show 128 * p.val + (64 * 1 + d.val) = 64 * (2 * p.val + 1) + d.val; omega)]
  have hp : pairV q k v e e' (ix2 r l) = headV (BitVec.ofNat 32 (0 : Fin 2).val) q k v e (ix2 r l) + headV (BitVec.ofNat 32 (1 : Fin 2).val) q k v e' (ix2 r l) := by
    pointwise [pairV]
  rw [hp, headV_at q k v e 0 r l _ s0, headV_at q k v e' 1 r l _ s1]
  have z : ∀ h, avg2 (score2 Q K β h) (fun _ => 0) = 0 := fun h => by
    obtain ⟨σ, h2, -⟩ := score2_real fQ fK fβ h
    rw [h2]
    exact avg2_zero (by norm_num) σ
  unfold heads2
  simp only [hv]
  rcases Nat.lt_or_ge l.val 64 with hl | hl
  · have a : l.val / 64 = (0 : Fin 2).val := by show l.val / 64 = 0; omega
    have b : ¬ l.val / 64 = (1 : Fin 2).val := by show ¬ l.val / 64 = 1; omega
    have c : hd ⟨128 * p.val + l.val, by omega⟩ = ⟨2 * p.val, by omega⟩ := Fin.ext (by show (128 * p.val + l.val) / 64 = 2 * p.val; omega)
    simp only [if_pos a, if_neg b, z, add_zero, c]
  · have a : ¬ l.val / 64 = (0 : Fin 2).val := by show ¬ l.val / 64 = 0; omega
    have b : l.val / 64 = (1 : Fin 2).val := by show l.val / 64 = 1; omega
    have c : hd ⟨128 * p.val + l.val, by omega⟩ = ⟨2 * p.val + 1, by omega⟩ := Fin.ext (by show (128 * p.val + l.val) / 64 = 2 * p.val + 1; omega)
    simp only [if_neg a, if_pos b, z, zero_add, c]

/-- The norm of the four pairs' outputs set side by side. -/
theorem pay1_at (P0 P1 P2 P3 : FVec Ideal S16x128 .f32) (g : Vec Ideal S1x512 .f32) (r : Fin 16) (O : Fin 512 → EReal)
    (h0 : ∀ l : Fin 128, P0 (ix2 r l) = O ⟨128 * (0 : Fin 4).val + l.val, by omega⟩)
    (h1 : ∀ l : Fin 128, P1 (ix2 r l) = O ⟨128 * (1 : Fin 4).val + l.val, by omega⟩)
    (h2 : ∀ l : Fin 128, P2 (ix2 r l) = O ⟨128 * (2 : Fin 4).val + l.val, by omega⟩)
    (h3 : ∀ l : Fin 128, P3 (ix2 r l) = O ⟨128 * (3 : Fin 4).val + l.val, by omega⟩) (j : Fin 512) :
    k0_pay1 (concatenate S16x512 1 [⟨S16x128, P0⟩, ⟨S16x128, P1⟩, ⟨S16x128, P2⟩, ⟨S16x128, P3⟩]
      concatenates_S16x128_S16x128_S16x128_S16x128_S16x512_d1) g (ix2 r j) = Cert.AttnMath.nrm O (fun j => g (ix2 0 j)) j := by
  have hc : ∀ j : Fin 512, concatenate S16x512 1 [⟨S16x128, P0⟩, ⟨S16x128, P1⟩, ⟨S16x128, P2⟩, ⟨S16x128, P3⟩]
      concatenates_S16x128_S16x128_S16x128_S16x128_S16x512_d1 (ix2 r j) = O j := fun j => by
    pointwise
    repeat' split
    · exact (h0 _).trans (congrArg O (Fin.ext (by show 128 * 0 + j.val = j.val; omega)))
    · exact (h1 _).trans (congrArg O (Fin.ext (by show 128 * 1 + (j.val - 128) = j.val; omega)))
    · exact (h2 _).trans (congrArg O (Fin.ext (by show 128 * 2 + (j.val - 128 - 128) = j.val; omega)))
    · exact (h3 _).trans (congrArg O (Fin.ext (by show 128 * 3 + (j.val - 128 - 128 - 128) = j.val; omega)))
  generalize concatenate S16x512 1 [⟨S16x128, P0⟩, ⟨S16x128, P1⟩, ⟨S16x128, P2⟩, ⟨S16x128, P3⟩]
      concatenates_S16x128_S16x128_S16x128_S16x128_S16x512_d1 = x at hc ⊢
  pointwise [k0_pay1, Cert.AttnMath.nrm]
  simp only [hc]

end Cert.AttnKernel

end
-- ==== Proof.BandRows.lean ====
/- The body of the attention over the band, read one query and one lane at a time. -/
module

public import proofs.«01_k».proof.Proof.BandKernel
public import proofs.«01_k».proof.Proof.AttnKernel

@[expose] public section

set_option maxRecDepth 16384

noncomputable section

namespace Cert.BandRows

open Idealize.ShloMosaic Idealize.ShloMosaic.TcCoe Idealize.SL.Sem
open Cert.AttnPromptIdeal Cert.AttnPromptIdeal.Gen Cert.AttnMath Cert.BandMath Cert.BandKernel

/-- The lanes of a head are the lower or the upper half. -/
theorem lanes_at : ∀ (i : Fin 2) (l : Fin 128), lanes (BitVec.ofNat 32 i.val) (ix2 0 l) = if l.val / 64 = i.val then 1#1 else 0#1 := by
  decide +kernel

/-- One product of a key with a query, over the lanes of the query's head. -/
theorem pairS_at (q : Vec Ideal S256x128 .bf16) (k : FVec Ideal S768x128 .bf16) (i : Fin 2) (y : Fin 768) (r : Fin 256) :
    pairS q k (ix2 y ⟨256 * i.val + r.val, by omega⟩)
      = ∑ d : Fin 64, q (ix2 r ⟨64 * i.val + d.val, by omega⟩) * k (ix2 y ⟨64 * i.val + d.val, by omega⟩) := by
  have hp : ∀ (i : Fin 2) (l : Fin 128), pickV (BitVec.ofNat 32 i.val) q (ix2 r l) = if l.val / 64 = i.val then q (ix2 r l) else 0 := fun i l => by
    pointwise [pickV]
    simp only [BitVec.toInt_zero, Int.cast_zero, EReal.coe_zero, lanes_at, Cert.AttnKernel.pick]
  have h1 : pairS q k (ix2 y ⟨256 * i.val + r.val, by omega⟩)
      = ∑ l : Fin 128, k (ix2 y l) * pickV (BitVec.ofNat 32 i.val) q (ix2 r l) := by
    obtain rfl | rfl : i = 0 ∨ i = 1 := by omega
    · pointwise [pairS]
    · pointwise [pairS]
  rw [h1, ← Cert.AttnKernel.sum_half i fun l => q (ix2 r l) * k (ix2 y l)]
  refine Finset.sum_congr rfl fun l _ => ?_
  rw [hp]
  split
  · exact mul_comm _ _
  · exact mul_zero _

/-- The stretches' largest. -/
theorem maxV_at (s : FVec Ideal S640x128 .f32) (i : Fin 64) (x : Fin 128) (z : EReal) :
    maxV s (ix2 i x) ≤ z ↔ ∀ a : Fin 10, s (ix2 (⟨64 * a.val + i.val, by omega⟩ : Fin 640) x) ≤ z := by
  have h : maxV s (ix2 i x) = max (max (max (max (max (max (max (max (max (s (ix2 (⟨0 + i.val, by omega⟩ : Fin 640) x)) (s (ix2 (⟨64 + i.val, by omega⟩ : Fin 640) x)))
      (s (ix2 (⟨128 + i.val, by omega⟩ : Fin 640) x))) (s (ix2 (⟨192 + i.val, by omega⟩ : Fin 640) x))) (s (ix2 (⟨256 + i.val, by omega⟩ : Fin 640) x)))
      (s (ix2 (⟨320 + i.val, by omega⟩ : Fin 640) x))) (s (ix2 (⟨384 + i.val, by omega⟩ : Fin 640) x))) (s (ix2 (⟨448 + i.val, by omega⟩ : Fin 640) x)))
      (s (ix2 (⟨512 + i.val, by omega⟩ : Fin 640) x))) (s (ix2 (⟨576 + i.val, by omega⟩ : Fin 640) x)) := by
    pointwise [maxV]
  rw [h]
  simp only [max_le_iff]
  constructor
  · rintro ⟨⟨⟨⟨⟨⟨⟨⟨⟨h0, h1⟩, h2⟩, h3⟩, h4⟩, h5⟩, h6⟩, h7⟩, h8⟩, h9⟩ a
    match a with
    | 0 => exact h0
    | 1 => exact h1
    | 2 => exact h2
    | 3 => exact h3
    | 4 => exact h4
    | 5 => exact h5
    | 6 => exact h6
    | 7 => exact h7
    | 8 => exact h8
    | 9 => exact h9
  · intro h
    exact ⟨⟨⟨⟨⟨⟨⟨⟨⟨h 0, h 1⟩, h 2⟩, h 3⟩, h 4⟩, h 5⟩, h 6⟩, h 7⟩, h 8⟩, h 9⟩

/-- The stretches' sum. -/
theorem addV_at (s : FVec Ideal S640x128 .f32) (i : Fin 64) (x : Fin 128) :
    addV s (ix2 i x) = ∑ a : Fin 10, s (ix2 (⟨64 * a.val + i.val, by omega⟩ : Fin 640) x) := by
  have h : addV s (ix2 i x) = s (ix2 (⟨0 + i.val, by omega⟩ : Fin 640) x) + s (ix2 (⟨64 + i.val, by omega⟩ : Fin 640) x)
      + s (ix2 (⟨128 + i.val, by omega⟩ : Fin 640) x) + s (ix2 (⟨192 + i.val, by omega⟩ : Fin 640) x) + s (ix2 (⟨256 + i.val, by omega⟩ : Fin 640) x)
      + s (ix2 (⟨320 + i.val, by omega⟩ : Fin 640) x) + s (ix2 (⟨384 + i.val, by omega⟩ : Fin 640) x) + s (ix2 (⟨448 + i.val, by omega⟩ : Fin 640) x)
      + s (ix2 (⟨512 + i.val, by omega⟩ : Fin 640) x) + s (ix2 (⟨576 + i.val, by omega⟩ : Fin 640) x) := by
    pointwise [addV]
  rw [h]
  simp only [Fin.sum_univ_succ, Finset.univ_eq_empty, Finset.sum_empty, add_zero, ← add_assoc]
  rfl

/-- One unscaled weight. -/
theorem weightV_at (s : FVec Ideal S640x128 .f32) (c : Fin 640) (x : Fin 128) :
    weightV s (ix2 c x) = Ideal.exp2 (s (ix2 c x) - top (fun c => s (ix2 c x))) := by
  have h : weightV s (ix2 c x) = Ideal.exp2 (s (ix2 c x) - top (fun i => maxV s (ix2 i x))) := by
    pointwise [weightV]
    rw [Cert.Consts.neg_inf]
    rfl
  rw [h, top_slabs (fun c => s (ix2 c x)) _ fun i z => maxV_at s i x z]

/-- One sum of weights. -/
theorem sumV_at (p : FVec Ideal S640x128 .f32) (x : Fin 128) : sumV p (ix2 0 x) = ∑ c, p (ix2 c x) := by
  have h : sumV p (ix2 0 x) = ∑ i, addV p (ix2 i x) := by
    pointwise [sumV]
  rw [h, ← sum_slabs]
  simp only [addV_at]

/-- A sum against a vector that is zero off a stretch is the sum over the stretch. -/
theorem sum_stretch (o : ℕ) (ho : o + 640 ≤ 768) (f g : Fin 768 → EReal) (p : Fin 640 → EReal)
    (hp : ∀ c : Fin 640, g ⟨o + c.val, by omega⟩ = p c) (hz : ∀ w : Fin 768, ¬ (o ≤ w.val ∧ w.val < o + 640) → g w = 0) :
    ∑ w, f w * g w = ∑ c : Fin 640, f ⟨o + c.val, by omega⟩ * p c := by
  refine (Finset.sum_of_injOn (fun c : Fin 640 => (⟨o + c.val, by omega⟩ : Fin 768)) ?_ ?_ ?_ ?_).symm
  · intro a _ b _ hab
    have := congrArg Fin.val hab
    exact Fin.ext (by simpa using this)
  · intro a _
    simp
  · intro c _ hc
    rw [hz c fun h => hc ⟨⟨c.val - o, by omega⟩, by simp, Fin.ext (by show o + (c.val - o) = c.val; omega)⟩, mul_zero]
  · intro c _
    rw [← hp c]

/-- A weight of the first group in the window. -/
theorem wide0_at (p : FVec Ideal S640x128 .f32) (w : Fin 768) (x : Fin 128) :
    wide0 p (ix2 w x) = if h : w.val < 640 then p (ix2 ⟨w.val, h⟩ x) else Ideal.ofBits .bf16 0x0000#16 := by
  pointwise [wide0]

/-- A weight of the second group in the window. -/
theorem wide1_at (p : FVec Ideal S640x128 .f32) (w : Fin 768) (x : Fin 128) :
    wide1 p (ix2 w x) = if h : w.val < 128 then Ideal.ofBits .bf16 0x0000#16 else p (ix2 ⟨w.val - 128, by omega⟩ x) := by
  pointwise [wide1]

/-- The zero. -/
theorem zero16 : Ideal.ofBits .bf16 0x0000#16 = 0 := by
  simp [Ideal.ofBits, Ideal.ieee]

/-- One head's output for a query of the first group. -/
theorem headV_lo (s0 s1 : FVec Ideal S640x128 .f32) (vt : FVec Ideal S64x768 .bf16) (d : Fin 64) (x : Fin 128) :
    headV s0 s1 vt (ix2 d ⟨x.val, by omega⟩) = Ideal.div (∑ c : Fin 640, vt (ix2 d ⟨0 + c.val, by omega⟩) * weightV s0 (ix2 c x)) (∑ c, weightV s0 (ix2 c x)) := by
  have h : headV s0 s1 vt (ix2 d ⟨x.val, by omega⟩) = Ideal.div (∑ w : Fin 768, vt (ix2 d w) * wide0 (weightV s0) (ix2 w x)) (sumV (weightV s0) (ix2 0 x)) := by
    pointwise [headV]
  rw [h, sumV_at, sum_stretch 0 (by norm_num) _ _ (fun c => weightV s0 (ix2 c x))]
  · intro c
    rw [wide0_at, dif_pos (by show 0 + c.val < 640; omega)]
    exact congrArg (fun z => weightV s0 (ix2 z x)) (Fin.ext (Nat.zero_add _))
  · intro w hw
    rw [wide0_at, dif_neg (by omega), zero16]

/-- One head's output for a query of the second group. -/
theorem headV_hi (s0 s1 : FVec Ideal S640x128 .f32) (vt : FVec Ideal S64x768 .bf16) (d : Fin 64) (x : Fin 128) :
    headV s0 s1 vt (ix2 d ⟨128 + x.val, by omega⟩) = Ideal.div (∑ c : Fin 640, vt (ix2 d ⟨128 + c.val, by omega⟩) * weightV s1 (ix2 c x)) (∑ c, weightV s1 (ix2 c x)) := by
  have h : headV s0 s1 vt (ix2 d ⟨128 + x.val, by omega⟩) = Ideal.div (∑ w : Fin 768, vt (ix2 d w) * wide1 (weightV s1) (ix2 w x)) (sumV (weightV s1) (ix2 0 x)) := by
    pointwise [headV]
  rw [h, sumV_at, sum_stretch 128 (by norm_num) _ _ (fun c => weightV s1 (ix2 c x))]
  · intro c
    rw [wide1_at, dif_neg (by show ¬ 128 + c.val < 128; omega)]
    exact congrArg (fun z => weightV s1 (ix2 z x)) (Fin.ext (Nat.add_sub_cancel_left _ _))
  · intro w hw
    rw [wide1_at, dif_pos (by omega), zero16]

end Cert.BandRows

end
-- ==== Proof.BandHead.lean ====
/- The body of the attention over the band, read one query at a time. -/
module

public import proofs.«01_k».proof.Proof.BandRows
public import proofs.«01_k».proof.Proof.BandRef

@[expose] public section

set_option maxRecDepth 16384

noncomputable section

namespace Cert.BandHead

open Idealize.ShloMosaic Idealize.ShloMosaic.TcCoe Idealize.SL.Sem
open Cert.AttnPromptIdeal Cert.AttnPromptIdeal.Gen Cert.AttnMath Cert.BandMath Cert.BandKernel Cert.BandRows Cert.BandRef

/-- A group's scores of one query against each key, in powers of two. -/
def coreS (o : ℕ) (ho : o + 640 ≤ 768) (valid : Fin 768 → Prop) [DecidablePred valid] (Q : Fin 512 → EReal) (K : Fin 768 → Fin 512 → EReal)
    (B : Fin 8 → Fin 768 → EReal) (h : Fin 8) (c : Fin 640) : EReal :=
  if valid ⟨o + c.val, by omega⟩ then ∑ d : Fin 64, Q (at64 h d) * K ⟨o + c.val, by omega⟩ (at64 h d) + B h ⟨o + c.val, by omega⟩ else ⊥

/-- A group's output, one lane of one query. -/
def core (o : ℕ) (ho : o + 640 ≤ 768) (valid : Fin 768 → Prop) [DecidablePred valid] (Q : Fin 512 → EReal) (K V : Fin 768 → Fin 512 → EReal)
    (B : Fin 8 → Fin 768 → EReal) (h : Fin 8) (j : Fin 512) : EReal :=
  Ideal.div (∑ c : Fin 640, V ⟨o + c.val, by omega⟩ j * Ideal.exp2 (coreS o ho valid Q K B h c - top (coreS o ho valid Q K B h)))
    (∑ c : Fin 640, Ideal.exp2 (coreS o ho valid Q K B h c - top (coreS o ho valid Q K B h)))

/-- Where the biases are minus infinity off the band and all else is finite, a group's output is the softmax average over the band. -/
theorem core_eq (o : ℕ) (ho : o + 640 ≤ 768) (u : ℕ) (hu : o ≤ 64 * u) (hu' : 64 * u + 576 ≤ o + 640) (valid : Fin 768 → Prop) [DecidablePred valid]
    (Q : Fin 512 → EReal) (K V : Fin 768 → Fin 512 → EReal) (B : Fin 8 → Fin 768 → EReal) (β : Fin 8 → Fin 576 → EReal)
    (fQ : ∀ j, IsFin (Q j)) (fK : ∀ c j, IsFin (K c j)) (fβ : ∀ h c, IsFin (β h c))
    (hB : ∀ h w, B h w = if hw : 64 * u ≤ w.val ∧ w.val < 64 * u + 576 then β h ⟨w.val - 64 * u, by omega⟩ * (((Real.log 2)⁻¹ : ℝ) : EReal) else ⊥)
    (hval : valid ⟨64 * u + 512, by omega⟩) (j : Fin 512) :
    core o ho valid Q K V B (hd j) j
      = mheads (fun c => valid ⟨64 * u + c.val, by omega⟩) Q (fun c => K ⟨64 * u + c.val, by omega⟩) (fun c => V ⟨64 * u + c.val, by omega⟩) β j := by
  obtain ⟨σ, h2, h1⟩ := score2_real (n := 576) (q := Q) (k := fun c => K ⟨64 * u + c.val, by omega⟩) (β := β) fQ (fun c j => fK _ j) fβ (hd j)
  let M : Fin 640 → Prop := fun c => valid ⟨o + c.val, by omega⟩ ∧ 64 * u ≤ o + c.val ∧ o + c.val < 64 * u + 576
  let τ : Fin 640 → ℝ := fun c => if hw : 64 * u ≤ o + c.val ∧ o + c.val < 64 * u + 576 then σ ⟨o + c.val - 64 * u, by omega⟩ else 0
  let M' : Fin 576 → Prop := fun c => valid ⟨64 * u + c.val, by omega⟩
  haveI : DecidablePred M := fun c => inferInstanceAs (Decidable (_ ∧ _ ∧ _))
  letI : DecidablePred M' := fun c => ‹DecidablePred valid› _
  have hS : coreS o ho valid Q K B (hd j) = masked M τ := by
    funext c
    unfold coreS masked
    by_cases hv : valid ⟨o + c.val, by omega⟩
    · rw [if_pos hv, hB]
      by_cases hw : 64 * u ≤ o + c.val ∧ o + c.val < 64 * u + 576
      · rw [dif_pos hw, if_pos ⟨hv, hw⟩]
        have e := congrFun h2 ⟨o + c.val - 64 * u, by omega⟩
        have e' : (⟨64 * u + (o + c.val - 64 * u), by omega⟩ : Fin 768) = ⟨o + c.val, by omega⟩ := Fin.ext (by show 64 * u + (o + c.val - 64 * u) = o + c.val; omega)
        unfold score2 at e
        simp only [e'] at e
        have et : τ c = σ ⟨o + c.val - 64 * u, by omega⟩ := dif_pos hw
        rw [e, et]
      · rw [dif_neg hw, if_neg (fun h => hw h.2), EReal.add_bot]
    · rw [if_neg hv, if_neg (fun h => hv h.1)]
  have ha : M ⟨64 * u + 512 - o, by omega⟩ := by
    refine ⟨?_, ?_, ?_⟩
    · have e : (⟨o + (64 * u + 512 - o), by omega⟩ : Fin 768) = ⟨64 * u + 512, by omega⟩ := Fin.ext (by show o + (64 * u + 512 - o) = 64 * u + 512; omega)
      show valid ⟨o + (64 * u + 512 - o), _⟩
      rw [e]
      exact hval
    · show 64 * u ≤ o + (64 * u + 512 - o); omega
    · show o + (64 * u + 512 - o) < 64 * u + 576; omega
  unfold core
  rw [hS, avg2_masked M τ _ ha, wavg_shift (k := 576) (64 * u - o) (by omega)]
  · have hm : (fun c => if M' c then score Q (fun c : Fin 576 => K ⟨64 * u + c.val, by omega⟩) β (hd j) c else ⊥) = masked M' (fun c => Real.log 2 * σ c) := by
      funext c
      rw [h1]
      rfl
    have hR : mheads M' Q (fun c => K ⟨64 * u + c.val, by omega⟩) (fun c => V ⟨64 * u + c.val, by omega⟩) β j
        = wavg (wt M' fun c => Real.log 2 * σ c) (fun c => V ⟨64 * u + c.val, by omega⟩ j) := by
      unfold mheads
      rw [hm]
      exact avg_masked M' _ ⟨512, by norm_num⟩ hval _
    refine Eq.trans ?_ hR.symm
    have ef : ∀ c : Fin 576, (⟨o + (64 * u - o + c.val), by omega⟩ : Fin 768) = ⟨64 * u + c.val, by omega⟩ := fun c => Fin.ext (by show o + (64 * u - o + c.val) = 64 * u + c.val; omega)
    have e1 : (fun c : Fin 576 => wt M (fun c => Real.log 2 * τ c) ⟨64 * u - o + c.val, by omega⟩) = wt M' fun c => Real.log 2 * σ c := by
      funext c
      have hb : 64 * u ≤ o + (64 * u - o + c.val) ∧ o + (64 * u - o + c.val) < 64 * u + 576 := by omega
      have et : τ ⟨64 * u - o + c.val, by omega⟩ = σ c := by
        refine (dif_pos hb).trans (congrArg σ (Fin.ext ?_))
        show o + (64 * u - o + c.val) - 64 * u = c.val
        omega
      have em : M ⟨64 * u - o + c.val, by omega⟩ ↔ M' c := by
        show (valid ⟨o + (64 * u - o + c.val), _⟩ ∧ _) ↔ valid ⟨64 * u + c.val, _⟩
        rw [ef c]
        exact ⟨fun h => h.1, fun h => ⟨h, hb⟩⟩
      unfold wt
      by_cases hc : M' c
      · rw [if_pos hc, if_pos (em.2 hc)]
        show Real.exp (Real.log 2 * τ _) = Real.exp (Real.log 2 * σ c)
        rw [et]
      · rw [if_neg hc, if_neg (fun h => hc (em.1 h))]
    have e2 : (fun c : Fin 576 => V ⟨o + (64 * u - o + c.val), by omega⟩ j) = fun c => V ⟨64 * u + c.val, by omega⟩ j := by
      funext c
      rw [ef c]
    rw [← e1, ← e2]
  · intro c hc
    unfold wt
    rw [if_neg]
    rintro ⟨_, h1, h2⟩
    exact hc ⟨by omega, by omega⟩

/-- A head's output for a query of the first group. -/
theorem head_lo (s0 s1 : FVec Ideal S640x128 .f32) (vt : FVec Ideal S64x768 .bf16) (d : Fin 64) (x : Fin 128) (valid : Fin 768 → Prop) [DecidablePred valid]
    (Q : Fin 512 → EReal) (K V : Fin 768 → Fin 512 → EReal) (B : Fin 8 → Fin 768 → EReal) (h : Fin 8) (j : Fin 512)
    (hs : ∀ c, s0 (ix2 c x) = coreS 0 (by norm_num) valid Q K B h c) (hv : ∀ w, vt (ix2 d w) = V w j) :
    headV s0 s1 vt (ix2 d ⟨x.val, by omega⟩) = core 0 (by norm_num) valid Q K V B h j := by
  rw [headV_lo]
  simp only [weightV_at, hs, hv]
  rfl

/-- A head's output for a query of the second group. -/
theorem head_hi (s0 s1 : FVec Ideal S640x128 .f32) (vt : FVec Ideal S64x768 .bf16) (d : Fin 64) (x : Fin 128) (valid : Fin 768 → Prop) [DecidablePred valid]
    (Q : Fin 512 → EReal) (K V : Fin 768 → Fin 512 → EReal) (B : Fin 8 → Fin 768 → EReal) (h : Fin 8) (j : Fin 512)
    (hs : ∀ c, s1 (ix2 c x) = coreS 128 (by norm_num) valid Q K B h c) (hv : ∀ w, vt (ix2 d w) = V w j) :
    headV s0 s1 vt (ix2 d ⟨128 + x.val, by omega⟩) = core 128 (by norm_num) valid Q K V B h j := by
  rw [headV_hi]
  simp only [weightV_at, hs, hv]
  rfl

/-- The first head of a pair, for a query of the first group. -/
theorem even_lo (T0 T1 : FVec Ideal S640x128 .f32 → FVec Ideal S640x128 .f32) (q : Vec Ideal S256x128 .bf16) (k v : FVec Ideal S768x128 .bf16)
    (b0 b1 : Vec Ideal S1x640x128 .f32) (p : Fin 4) (d : Fin 64) (x : Fin 128) (valid : Fin 768 → Prop) [DecidablePred valid]
    (Q : Fin 512 → EReal) (K V : Fin 768 → Fin 512 → EReal) (B : Fin 8 → Fin 768 → EReal)
    (hT : ∀ s c x, T0 s (ix2 c x) = if valid ⟨0 + c.val, by omega⟩ then s (ix2 c x) else ⊥)
    (hq : ∀ l, q (ix2 (⟨x.val, by omega⟩ : Fin 256) l) = Q ⟨128 * p.val + l.val, by omega⟩) (hk : ∀ w l, k (ix2 w l) = K w ⟨128 * p.val + l.val, by omega⟩)
    (hv : ∀ w l, v (ix2 w l) = V w ⟨128 * p.val + l.val, by omega⟩) (hb : ∀ c, b0 (ix3 0 c x) = B ⟨2 * p.val + 0, by omega⟩ ⟨0 + c.val, by omega⟩) :
    even T0 T1 q k v b0 b1 (ix2 d ⟨x.val, by omega⟩) = core 0 (by norm_num) valid Q K V B ⟨2 * p.val + 0, by omega⟩ (at64 ⟨2 * p.val + 0, by omega⟩ d) := by
  have hl : ∀ d : Fin 64, (⟨128 * p.val + (64 * (⟨0, by norm_num⟩ : Fin 2).val + d.val), by show 128 * p.val + (64 * 0 + d.val) < 512; omega⟩ : Fin 512) = at64 ⟨2 * p.val + 0, by omega⟩ d := fun d =>
    Fin.ext (by show 128 * p.val + (64 * 0 + d.val) = 64 * (2 * p.val + 0) + d.val; omega)
  refine head_lo _ _ _ d x valid Q K V B _ _ (fun c => ?_) fun w => ?_
  · rw [hT]
    unfold coreS
    have h1 : biased (extractStridedSlice S640x128 ![0, 0] (pairS q k) slices_S768x512_o0_0_S640x128) b0 (ix2 c x)
        = pairS q k (ix2 ⟨0 + c.val, by omega⟩ ⟨256 * (⟨0, by norm_num⟩ : Fin 2).val + (⟨x.val, by omega⟩ : Fin 256).val, by show 256 * 0 + (x.val) < 512; omega⟩) + b0 (ix3 0 c x) := by
      pointwise [biased]
    rw [h1, pairS_at, hb]
    simp only [hq, hk, hl]
  · have h1 : extractStridedSlice S64x768 ![0, 0] (transpose S128x768 [1, 0] v transposes_S768x128_p1_0_S128x768) slices_S128x768_o0_0_S64x768 (ix2 d w)
        = v (ix2 w ⟨64 * (⟨0, by norm_num⟩ : Fin 2).val + d.val, by show 64 * 0 + d.val < 128; omega⟩) := by
      pointwise
    rw [h1, hv, hl]

/-- The first head of a pair, for a query of the second group. -/
theorem even_hi (T0 T1 : FVec Ideal S640x128 .f32 → FVec Ideal S640x128 .f32) (q : Vec Ideal S256x128 .bf16) (k v : FVec Ideal S768x128 .bf16)
    (b0 b1 : Vec Ideal S1x640x128 .f32) (p : Fin 4) (d : Fin 64) (x : Fin 128) (valid : Fin 768 → Prop) [DecidablePred valid]
    (Q : Fin 512 → EReal) (K V : Fin 768 → Fin 512 → EReal) (B : Fin 8 → Fin 768 → EReal)
    (hT : ∀ s c x, T1 s (ix2 c x) = if valid ⟨128 + c.val, by omega⟩ then s (ix2 c x) else ⊥)
    (hq : ∀ l, q (ix2 (⟨128 + x.val, by omega⟩ : Fin 256) l) = Q ⟨128 * p.val + l.val, by omega⟩) (hk : ∀ w l, k (ix2 w l) = K w ⟨128 * p.val + l.val, by omega⟩)
    (hv : ∀ w l, v (ix2 w l) = V w ⟨128 * p.val + l.val, by omega⟩) (hb : ∀ c, b1 (ix3 0 c x) = B ⟨2 * p.val + 0, by omega⟩ ⟨128 + c.val, by omega⟩) :
    even T0 T1 q k v b0 b1 (ix2 d ⟨128 + x.val, by omega⟩) = core 128 (by norm_num) valid Q K V B ⟨2 * p.val + 0, by omega⟩ (at64 ⟨2 * p.val + 0, by omega⟩ d) := by
  have hl : ∀ d : Fin 64, (⟨128 * p.val + (64 * (⟨0, by norm_num⟩ : Fin 2).val + d.val), by show 128 * p.val + (64 * 0 + d.val) < 512; omega⟩ : Fin 512) = at64 ⟨2 * p.val + 0, by omega⟩ d := fun d =>
    Fin.ext (by show 128 * p.val + (64 * 0 + d.val) = 64 * (2 * p.val + 0) + d.val; omega)
  refine head_hi _ _ _ d x valid Q K V B _ _ (fun c => ?_) fun w => ?_
  · rw [hT]
    unfold coreS
    have h1 : biased (extractStridedSlice S640x128 ![128, 128] (pairS q k) slices_S768x512_o128_128_S640x128) b1 (ix2 c x)
        = pairS q k (ix2 ⟨128 + c.val, by omega⟩ ⟨256 * (⟨0, by norm_num⟩ : Fin 2).val + (⟨128 + x.val, by omega⟩ : Fin 256).val, by show 256 * 0 + (128 + x.val) < 512; omega⟩) + b1 (ix3 0 c x) := by
      pointwise [biased]
    rw [h1, pairS_at, hb]
    simp only [hq, hk, hl]
  · have h1 : extractStridedSlice S64x768 ![0, 0] (transpose S128x768 [1, 0] v transposes_S768x128_p1_0_S128x768) slices_S128x768_o0_0_S64x768 (ix2 d w)
        = v (ix2 w ⟨64 * (⟨0, by norm_num⟩ : Fin 2).val + d.val, by show 64 * 0 + d.val < 128; omega⟩) := by
      pointwise
    rw [h1, hv, hl]

/-- The second head of a pair, for a query of the first group. -/
theorem odd_lo (T0 T1 : FVec Ideal S640x128 .f32 → FVec Ideal S640x128 .f32) (q : Vec Ideal S256x128 .bf16) (k v : FVec Ideal S768x128 .bf16)
    (b0 b1 : Vec Ideal S1x640x128 .f32) (p : Fin 4) (d : Fin 64) (x : Fin 128) (valid : Fin 768 → Prop) [DecidablePred valid]
    (Q : Fin 512 → EReal) (K V : Fin 768 → Fin 512 → EReal) (B : Fin 8 → Fin 768 → EReal)
    (hT : ∀ s c x, T0 s (ix2 c x) = if valid ⟨0 + c.val, by omega⟩ then s (ix2 c x) else ⊥)
    (hq : ∀ l, q (ix2 (⟨x.val, by omega⟩ : Fin 256) l) = Q ⟨128 * p.val + l.val, by omega⟩) (hk : ∀ w l, k (ix2 w l) = K w ⟨128 * p.val + l.val, by omega⟩)
    (hv : ∀ w l, v (ix2 w l) = V w ⟨128 * p.val + l.val, by omega⟩) (hb : ∀ c, b0 (ix3 0 c x) = B ⟨2 * p.val + 1, by omega⟩ ⟨0 + c.val, by omega⟩) :
    odd T0 T1 q k v b0 b1 (ix2 d ⟨x.val, by omega⟩) = core 0 (by norm_num) valid Q K V B ⟨2 * p.val + 1, by omega⟩ (at64 ⟨2 * p.val + 1, by omega⟩ d) := by
  have hl : ∀ d : Fin 64, (⟨128 * p.val + (64 * (⟨1, by norm_num⟩ : Fin 2).val + d.val), by show 128 * p.val + (64 * 1 + d.val) < 512; omega⟩ : Fin 512) = at64 ⟨2 * p.val + 1, by omega⟩ d := fun d =>
    Fin.ext (by show 128 * p.val + (64 * 1 + d.val) = 64 * (2 * p.val + 1) + d.val; omega)
  refine head_lo _ _ _ d x valid Q K V B _ _ (fun c => ?_) fun w => ?_
  · rw [hT]
    unfold coreS
    have h1 : biased (extractStridedSlice S640x128 ![0, 256] (pairS q k) slices_S768x512_o0_256_S640x128) b0 (ix2 c x)
        = pairS q k (ix2 ⟨0 + c.val, by omega⟩ ⟨256 * (⟨1, by norm_num⟩ : Fin 2).val + (⟨x.val, by omega⟩ : Fin 256).val, by show 256 * 1 + (x.val) < 512; omega⟩) + b0 (ix3 0 c x) := by
      pointwise [biased]
    rw [h1, pairS_at, hb]
    simp only [hq, hk, hl]
  · have h1 : extractStridedSlice S64x768 ![64, 0] (transpose S128x768 [1, 0] v transposes_S768x128_p1_0_S128x768) slices_S128x768_o64_0_S64x768 (ix2 d w)
        = v (ix2 w ⟨64 * (⟨1, by norm_num⟩ : Fin 2).val + d.val, by show 64 * 1 + d.val < 128; omega⟩) := by
      pointwise
    rw [h1, hv, hl]

/-- The second head of a pair, for a query of the second group. -/
theorem odd_hi (T0 T1 : FVec Ideal S640x128 .f32 → FVec Ideal S640x128 .f32) (q : Vec Ideal S256x128 .bf16) (k v : FVec Ideal S768x128 .bf16)
    (b0 b1 : Vec Ideal S1x640x128 .f32) (p : Fin 4) (d : Fin 64) (x : Fin 128) (valid : Fin 768 → Prop) [DecidablePred valid]
    (Q : Fin 512 → EReal) (K V : Fin 768 → Fin 512 → EReal) (B : Fin 8 → Fin 768 → EReal)
    (hT : ∀ s c x, T1 s (ix2 c x) = if valid ⟨128 + c.val, by omega⟩ then s (ix2 c x) else ⊥)
    (hq : ∀ l, q (ix2 (⟨128 + x.val, by omega⟩ : Fin 256) l) = Q ⟨128 * p.val + l.val, by omega⟩) (hk : ∀ w l, k (ix2 w l) = K w ⟨128 * p.val + l.val, by omega⟩)
    (hv : ∀ w l, v (ix2 w l) = V w ⟨128 * p.val + l.val, by omega⟩) (hb : ∀ c, b1 (ix3 0 c x) = B ⟨2 * p.val + 1, by omega⟩ ⟨128 + c.val, by omega⟩) :
    odd T0 T1 q k v b0 b1 (ix2 d ⟨128 + x.val, by omega⟩) = core 128 (by norm_num) valid Q K V B ⟨2 * p.val + 1, by omega⟩ (at64 ⟨2 * p.val + 1, by omega⟩ d) := by
  have hl : ∀ d : Fin 64, (⟨128 * p.val + (64 * (⟨1, by norm_num⟩ : Fin 2).val + d.val), by show 128 * p.val + (64 * 1 + d.val) < 512; omega⟩ : Fin 512) = at64 ⟨2 * p.val + 1, by omega⟩ d := fun d =>
    Fin.ext (by show 128 * p.val + (64 * 1 + d.val) = 64 * (2 * p.val + 1) + d.val; omega)
  refine head_hi _ _ _ d x valid Q K V B _ _ (fun c => ?_) fun w => ?_
  · rw [hT]
    unfold coreS
    have h1 : biased (extractStridedSlice S640x128 ![128, 384] (pairS q k) slices_S768x512_o128_384_S640x128) b1 (ix2 c x)
        = pairS q k (ix2 ⟨128 + c.val, by omega⟩ ⟨256 * (⟨1, by norm_num⟩ : Fin 2).val + (⟨128 + x.val, by omega⟩ : Fin 256).val, by show 256 * 1 + (128 + x.val) < 512; omega⟩) + b1 (ix3 0 c x) := by
      pointwise [biased]
      exact congrArg (fun y => pairS q k (ix2 ⟨128 + c.val, by omega⟩ y) + b1 (ix3 0 c x)) (Fin.ext (by show 384 + x.val = 256 + (128 + x.val); omega))
    rw [h1, pairS_at, hb]
    simp only [hq, hk, hl]
  · have h1 : extractStridedSlice S64x768 ![64, 0] (transpose S128x768 [1, 0] v transposes_S768x128_p1_0_S128x768) slices_S128x768_o64_0_S64x768 (ix2 d w)
        = v (ix2 w ⟨64 * (⟨1, by norm_num⟩ : Fin 2).val + d.val, by show 64 * 1 + d.val < 128; omega⟩) := by
      pointwise
    rw [h1, hv, hl]

/-- One entry of the norm. -/
theorem nrmV_at (x : FVec Ideal S256x512 .f32) (g : Vec Ideal S1x512 .f32) (r : Fin 256) (j : Fin 512) :
    nrmV x g (ix2 r j) = nrm (fun j => x (ix2 r j)) (fun j => g (ix2 0 j)) j := by
  pointwise [nrmV, nrm]

/-- One entry of the stack of heads. -/
theorem stackV_at (h0 h1 h2 h3 h4 h5 h6 h7 : FVec Ideal S64x256 .f32) (j : Fin 512) (r : Fin 256) (z : EReal)

    (e0 : hd j = 0 → h0 (ix2 (⟨j.val % 64, by omega⟩ : Fin 64) r) = z)
    (e1 : hd j = 1 → h1 (ix2 (⟨j.val % 64, by omega⟩ : Fin 64) r) = z)
    (e2 : hd j = 2 → h2 (ix2 (⟨j.val % 64, by omega⟩ : Fin 64) r) = z)
    (e3 : hd j = 3 → h3 (ix2 (⟨j.val % 64, by omega⟩ : Fin 64) r) = z)
    (e4 : hd j = 4 → h4 (ix2 (⟨j.val % 64, by omega⟩ : Fin 64) r) = z)
    (e5 : hd j = 5 → h5 (ix2 (⟨j.val % 64, by omega⟩ : Fin 64) r) = z)
    (e6 : hd j = 6 → h6 (ix2 (⟨j.val % 64, by omega⟩ : Fin 64) r) = z)
    (e7 : hd j = 7 → h7 (ix2 (⟨j.val % 64, by omega⟩ : Fin 64) r) = z)
    :
    stackV h0 h1 h2 h3 h4 h5 h6 h7 (ix2 j r) = z := by
  unfold hd at *
  pointwise [stackV]
  split
  · refine (congrArg (fun y => h0 (ix2 y r)) (Fin.ext (by clear e0 e1 e2 e3 e4 e5 e6 e7; show j.val = j.val % 64; omega))).trans (e0 (Fin.ext (by clear e0 e1 e2 e3 e4 e5 e6 e7; show j.val / 64 = 0; omega)))
  split
  · refine (congrArg (fun y => h1 (ix2 y r)) (Fin.ext (by clear e0 e1 e2 e3 e4 e5 e6 e7; show j.val - 64 = j.val % 64; omega))).trans (e1 (Fin.ext (by clear e0 e1 e2 e3 e4 e5 e6 e7; show j.val / 64 = 1; omega)))
  split
  · refine (congrArg (fun y => h2 (ix2 y r)) (Fin.ext (by clear e0 e1 e2 e3 e4 e5 e6 e7; show j.val - 64 - 64 = j.val % 64; omega))).trans (e2 (Fin.ext (by clear e0 e1 e2 e3 e4 e5 e6 e7; show j.val / 64 = 2; omega)))
  split
  · refine (congrArg (fun y => h3 (ix2 y r)) (Fin.ext (by clear e0 e1 e2 e3 e4 e5 e6 e7; show j.val - 64 - 64 - 64 = j.val % 64; omega))).trans (e3 (Fin.ext (by clear e0 e1 e2 e3 e4 e5 e6 e7; show j.val / 64 = 3; omega)))
  split
  · refine (congrArg (fun y => h4 (ix2 y r)) (Fin.ext (by clear e0 e1 e2 e3 e4 e5 e6 e7; show j.val - 64 - 64 - 64 - 64 = j.val % 64; omega))).trans (e4 (Fin.ext (by clear e0 e1 e2 e3 e4 e5 e6 e7; show j.val / 64 = 4; omega)))
  split
  · refine (congrArg (fun y => h5 (ix2 y r)) (Fin.ext (by clear e0 e1 e2 e3 e4 e5 e6 e7; show j.val - 64 - 64 - 64 - 64 - 64 = j.val % 64; omega))).trans (e5 (Fin.ext (by clear e0 e1 e2 e3 e4 e5 e6 e7; show j.val / 64 = 5; omega)))
  split
  · refine (congrArg (fun y => h6 (ix2 y r)) (Fin.ext (by clear e0 e1 e2 e3 e4 e5 e6 e7; show j.val - 64 - 64 - 64 - 64 - 64 - 64 = j.val % 64; omega))).trans (e6 (Fin.ext (by clear e0 e1 e2 e3 e4 e5 e6 e7; show j.val / 64 = 6; omega)))
  refine (congrArg (fun y => h7 (ix2 y r)) (Fin.ext (by clear e0 e1 e2 e3 e4 e5 e6 e7; show j.val - 64 - 64 - 64 - 64 - 64 - 64 - 64 = j.val % 64; omega))).trans (e7 (Fin.ext (by clear e0 e1 e2 e3 e4 e5 e6 e7; show j.val / 64 = 7; omega)))

/-- The first head of a pair, one lane of one query: the softmax average over the query's band. -/
theorem pair_even (T0 T1 : FVec Ideal S640x128 .f32 → FVec Ideal S640x128 .f32) (q : Vec Ideal S256x128 .bf16) (k v : FVec Ideal S768x128 .bf16)
    (b0 b1 : Vec Ideal S1x640x128 .f32) (p : Fin 4) (r : Fin 256) (valid : Fin 768 → Prop) [DecidablePred valid]
    (Q : Fin 512 → EReal) (K V : Fin 768 → Fin 512 → EReal) (TB : FVec Ideal S8x768x256 .f32) (β : Fin 8 → Fin 576 → EReal)
    (fQ : ∀ j, IsFin (Q j)) (fK : ∀ c j, IsFin (K c j)) (fβ : ∀ h c, IsFin (β h c))
    (hB : ∀ h w, TB (ix3 h w r) = if hw : 64 * (r.val / 64) ≤ w.val ∧ w.val < 64 * (r.val / 64) + 576 then β h ⟨w.val - 64 * (r.val / 64), by omega⟩ * (((Real.log 2)⁻¹ : ℝ) : EReal) else ⊥)
    (hval : valid ⟨64 * (r.val / 64) + 512, by omega⟩)
    (hT0 : ∀ s c x, T0 s (ix2 c x) = if valid ⟨0 + c.val, by omega⟩ then s (ix2 c x) else ⊥)
    (hT1 : ∀ s c x, T1 s (ix2 c x) = if valid ⟨128 + c.val, by omega⟩ then s (ix2 c x) else ⊥)
    (hq : ∀ l, q (ix2 r l) = Q ⟨128 * p.val + l.val, by omega⟩) (hk : ∀ w l, k (ix2 w l) = K w ⟨128 * p.val + l.val, by omega⟩)
    (hv : ∀ w l, v (ix2 w l) = V w ⟨128 * p.val + l.val, by omega⟩)
    (hb0 : ∀ (c : Fin 640) (x : Fin 128), b0 (ix3 0 c x) = TB (ix3 (⟨2 * p.val + 0, by omega⟩ : Fin 8) (⟨0 + c.val, by omega⟩ : Fin 768) (⟨x.val, by omega⟩ : Fin 256)))
    (hb1 : ∀ (c : Fin 640) (x : Fin 128), b1 (ix3 0 c x) = TB (ix3 (⟨2 * p.val + 0, by omega⟩ : Fin 8) (⟨128 + c.val, by omega⟩ : Fin 768) (⟨128 + x.val, by omega⟩ : Fin 256)))
    (j : Fin 512) (hj : hd j = ⟨2 * p.val + 0, by omega⟩) :
    even T0 T1 q k v b0 b1 (ix2 (⟨j.val % 64, by omega⟩ : Fin 64) r)
      = mheads (fun c => valid ⟨64 * (r.val / 64) + c.val, by omega⟩) Q (fun c => K ⟨64 * (r.val / 64) + c.val, by omega⟩) (fun c => V ⟨64 * (r.val / 64) + c.val, by omega⟩) β j := by
  have ej : at64 (hd j) ⟨j.val % 64, by omega⟩ = j := Fin.ext (by show 64 * (j.val / 64) + j.val % 64 = j.val; omega)
  by_cases hr : r.val < 128
  · have h := even_lo T0 T1 q k v b0 b1 p ⟨j.val % 64, by omega⟩ ⟨r.val, hr⟩ valid Q K V (fun h w => TB (ix3 h w r)) hT0 hq hk hv (fun c => hb0 c ⟨r.val, hr⟩)
    rw [← hj, ej] at h
    exact h.trans (core_eq 0 (by norm_num) (r.val / 64) (by omega) (by omega) valid Q K V _ β fQ fK fβ hB hval j)
  · have er : (⟨128 + (r.val - 128), by omega⟩ : Fin 256) = r := Fin.ext (by show 128 + (r.val - 128) = r.val; omega)
    have h := even_hi T0 T1 q k v b0 b1 p ⟨j.val % 64, by omega⟩ ⟨r.val - 128, by omega⟩ valid Q K V (fun h w => TB (ix3 h w r)) hT1 (fun l => by rw [er]; exact hq l) hk hv
      (fun c => by
        rw [hb1 c ⟨r.val - 128, by omega⟩]
        exact congrArg (fun y => TB (ix3 (⟨2 * p.val + 0, by omega⟩ : Fin 8) (⟨128 + c.val, by omega⟩ : Fin 768) y)) er)
    rw [← hj, ej, er] at h
    exact h.trans (core_eq 128 (by norm_num) (r.val / 64) (by omega) (by omega) valid Q K V _ β fQ fK fβ hB hval j)

/-- The second head of a pair, one lane of one query: the softmax average over the query's band. -/
theorem pair_odd (T0 T1 : FVec Ideal S640x128 .f32 → FVec Ideal S640x128 .f32) (q : Vec Ideal S256x128 .bf16) (k v : FVec Ideal S768x128 .bf16)
    (b0 b1 : Vec Ideal S1x640x128 .f32) (p : Fin 4) (r : Fin 256) (valid : Fin 768 → Prop) [DecidablePred valid]
    (Q : Fin 512 → EReal) (K V : Fin 768 → Fin 512 → EReal) (TB : FVec Ideal S8x768x256 .f32) (β : Fin 8 → Fin 576 → EReal)
    (fQ : ∀ j, IsFin (Q j)) (fK : ∀ c j, IsFin (K c j)) (fβ : ∀ h c, IsFin (β h c))
    (hB : ∀ h w, TB (ix3 h w r) = if hw : 64 * (r.val / 64) ≤ w.val ∧ w.val < 64 * (r.val / 64) + 576 then β h ⟨w.val - 64 * (r.val / 64), by omega⟩ * (((Real.log 2)⁻¹ : ℝ) : EReal) else ⊥)
    (hval : valid ⟨64 * (r.val / 64) + 512, by omega⟩)
    (hT0 : ∀ s c x, T0 s (ix2 c x) = if valid ⟨0 + c.val, by omega⟩ then s (ix2 c x) else ⊥)
    (hT1 : ∀ s c x, T1 s (ix2 c x) = if valid ⟨128 + c.val, by omega⟩ then s (ix2 c x) else ⊥)
    (hq : ∀ l, q (ix2 r l) = Q ⟨128 * p.val + l.val, by omega⟩) (hk : ∀ w l, k (ix2 w l) = K w ⟨128 * p.val + l.val, by omega⟩)
    (hv : ∀ w l, v (ix2 w l) = V w ⟨128 * p.val + l.val, by omega⟩)
    (hb0 : ∀ (c : Fin 640) (x : Fin 128), b0 (ix3 0 c x) = TB (ix3 (⟨2 * p.val + 1, by omega⟩ : Fin 8) (⟨0 + c.val, by omega⟩ : Fin 768) (⟨x.val, by omega⟩ : Fin 256)))
    (hb1 : ∀ (c : Fin 640) (x : Fin 128), b1 (ix3 0 c x) = TB (ix3 (⟨2 * p.val + 1, by omega⟩ : Fin 8) (⟨128 + c.val, by omega⟩ : Fin 768) (⟨128 + x.val, by omega⟩ : Fin 256)))
    (j : Fin 512) (hj : hd j = ⟨2 * p.val + 1, by omega⟩) :
    odd T0 T1 q k v b0 b1 (ix2 (⟨j.val % 64, by omega⟩ : Fin 64) r)
      = mheads (fun c => valid ⟨64 * (r.val / 64) + c.val, by omega⟩) Q (fun c => K ⟨64 * (r.val / 64) + c.val, by omega⟩) (fun c => V ⟨64 * (r.val / 64) + c.val, by omega⟩) β j := by
  have ej : at64 (hd j) ⟨j.val % 64, by omega⟩ = j := Fin.ext (by show 64 * (j.val / 64) + j.val % 64 = j.val; omega)
  by_cases hr : r.val < 128
  · have h := odd_lo T0 T1 q k v b0 b1 p ⟨j.val % 64, by omega⟩ ⟨r.val, hr⟩ valid Q K V (fun h w => TB (ix3 h w r)) hT0 hq hk hv (fun c => hb0 c ⟨r.val, hr⟩)
    rw [← hj, ej] at h
    exact h.trans (core_eq 0 (by norm_num) (r.val / 64) (by omega) (by omega) valid Q K V _ β fQ fK fβ hB hval j)
  · have er : (⟨128 + (r.val - 128), by omega⟩ : Fin 256) = r := Fin.ext (by show 128 + (r.val - 128) = r.val; omega)
    have h := odd_hi T0 T1 q k v b0 b1 p ⟨j.val % 64, by omega⟩ ⟨r.val - 128, by omega⟩ valid Q K V (fun h w => TB (ix3 h w r)) hT1 (fun l => by rw [er]; exact hq l) hk hv
      (fun c => by
        rw [hb1 c ⟨r.val - 128, by omega⟩]
        exact congrArg (fun y => TB (ix3 (⟨2 * p.val + 1, by omega⟩ : Fin 8) (⟨128 + c.val, by omega⟩ : Fin 768) y)) er)
    rw [← hj, ej, er] at h
    exact h.trans (core_eq 128 (by norm_num) (r.val / 64) (by omega) (by omega) valid Q K V _ β fQ fK fβ hB hval j)

end Cert.BandHead

end
-- ==== Proof.BandBlock.lean ====
/- The body of the attention over the band: a block of queries. -/
module

public import proofs.«01_k».proof.Proof.BandHead

@[expose] public section

set_option maxRecDepth 16384

noncomputable section

namespace Cert.BandBlock

open Idealize.ShloMosaic Idealize.ShloMosaic.TcCoe Idealize.SL.Sem
open Cert.AttnPromptIdeal Cert.AttnPromptIdeal.Gen Cert.AttnMath Cert.BandMath Cert.BandKernel Cert.BandRows Cert.BandRef Cert.BandHead

/-- A pair of heads' lanes of the row of queries. -/
def QOf (r : Fin 256) (Q : Fin 512 → EReal) (q : Vec Ideal S256x128 .bf16) (p : Fin 4) : Prop := ∀ l : Fin 128, q (ix2 r l) = Q ⟨128 * p.val + l.val, by omega⟩

/-- A pair of heads' lanes of the window. -/
def KOf (K : Fin 768 → Fin 512 → EReal) (k : FVec Ideal S768x128 .bf16) (p : Fin 4) : Prop := ∀ (w : Fin 768) (l : Fin 128), k (ix2 w l) = K w ⟨128 * p.val + l.val, by omega⟩

/-- A head's biases of the first group. -/
def BOf0 (TB : FVec Ideal S8x768x256 .f32) (b : Vec Ideal S1x640x128 .f32) (h : Fin 8) : Prop :=
  ∀ (c : Fin 640) (x : Fin 128), b (ix3 0 c x) = TB (ix3 h (⟨0 + c.val, by omega⟩ : Fin 768) (⟨x.val, by omega⟩ : Fin 256))

/-- A head's biases of the second group. -/
def BOf1 (TB : FVec Ideal S8x768x256 .f32) (b : Vec Ideal S1x640x128 .f32) (h : Fin 8) : Prop :=
  ∀ (c : Fin 640) (x : Fin 128), b (ix3 0 c x) = TB (ix3 h (⟨128 + c.val, by omega⟩ : Fin 768) (⟨128 + x.val, by omega⟩ : Fin 256))

/-- The bias table's row for a query: minus infinity off the query's band. -/
def TOf (TB : FVec Ideal S8x768x256 .f32) (r : Fin 256) (β : Fin 8 → Fin 576 → EReal) : Prop :=
  ∀ h w, TB (ix3 h w r) = if hw : 64 * (r.val / 64) ≤ w.val ∧ w.val < 64 * (r.val / 64) + 576 then β h ⟨w.val - 64 * (r.val / 64), by omega⟩ * (((Real.log 2)⁻¹ : ℝ) : EReal) else ⊥

/-- What a mask does from one row on. -/
def MOf (valid : Fin 768 → Prop) [DecidablePred valid] (o : ℕ) (ho : o + 640 ≤ 768) (T : FVec Ideal S640x128 .f32 → FVec Ideal S640x128 .f32) : Prop :=
  ∀ s c x, T s (ix2 c x) = if valid ⟨o + c.val, by omega⟩ then s (ix2 c x) else ⊥

/-- A key of a query's band in the window. -/
def bnd (r : Fin 256) (c : Fin 576) : Fin 768 := ⟨64 * (r.val / 64) + c.val, by omega⟩

/-- What a block of queries leaves, one entry: the row of softmax averages, normed. -/
theorem out_row (T0 T1 : FVec Ideal S640x128 .f32 → FVec Ideal S640x128 .f32) (q0 q1 q2 q3 : Vec Ideal S256x128 .bf16) (k0 k1 k2 k3 v0 v1 v2 v3 : FVec Ideal S768x128 .bf16)
    (b0 b1 b2 b3 b4 b5 b6 b7 b8 b9 b10 b11 b12 b13 b14 b15 : Vec Ideal S1x640x128 .f32) (g : Vec Ideal S1x512 .f32) (r : Fin 256) (valid : Fin 768 → Prop) [DecidablePred valid]
    (Q : Fin 512 → EReal) (K V : Fin 768 → Fin 512 → EReal) (TB : FVec Ideal S8x768x256 .f32) (β : Fin 8 → Fin 576 → EReal)
    (fQ : ∀ j, IsFin (Q j)) (fK : ∀ c j, IsFin (K c j)) (fβ : ∀ h c, IsFin (β h c))
    (hB : TOf TB r β)
    (hval : valid (bnd r 512))
    (hT0 : MOf valid 0 (by norm_num) T0)
    (hT1 : MOf valid 128 (by norm_num) T1)
    (hq0 : QOf r Q q0 0)
    (hq1 : QOf r Q q1 1)
    (hq2 : QOf r Q q2 2)
    (hq3 : QOf r Q q3 3)
    (hk0 : KOf K k0 0)
    (hk1 : KOf K k1 1)
    (hk2 : KOf K k2 2)
    (hk3 : KOf K k3 3)
    (hv0 : KOf V v0 0)
    (hv1 : KOf V v1 1)
    (hv2 : KOf V v2 2)
    (hv3 : KOf V v3 3)
    (hb0 : BOf0 TB b0 0)
    (hb1 : BOf1 TB b1 0)
    (hb2 : BOf0 TB b2 1)
    (hb3 : BOf1 TB b3 1)
    (hb4 : BOf0 TB b4 2)
    (hb5 : BOf1 TB b5 2)
    (hb6 : BOf0 TB b6 3)
    (hb7 : BOf1 TB b7 3)
    (hb8 : BOf0 TB b8 4)
    (hb9 : BOf1 TB b9 4)
    (hb10 : BOf0 TB b10 5)
    (hb11 : BOf1 TB b11 5)
    (hb12 : BOf0 TB b12 6)
    (hb13 : BOf1 TB b13 6)
    (hb14 : BOf0 TB b14 7)
    (hb15 : BOf1 TB b15 7)
    (j : Fin 512) :
    outV T0 T1 q0 q1 q2 q3 k0 k1 k2 k3 v0 v1 v2 v3 b0 b1 b2 b3 b4 b5 b6 b7 b8 b9 b10 b11 b12 b13 b14 b15 g (ix2 r j)
      = nrm (mheads (fun c => valid (bnd r c)) Q (fun c => K (bnd r c)) (fun c => V (bnd r c)) β)
          (fun j => g (ix2 0 j)) j := by
  unfold outV
  rw [nrmV_at]
  refine congrArg (fun f => nrm f (fun j => g (ix2 0 j)) j) (funext fun j => ?_)
  have ht : ∀ x : FVec Ideal S512x256 .f32, transpose S256x512 [1, 0] x transposes_S512x256_p1_0_S256x512 (ix2 r j) = x (ix2 j r) := fun x => by
    pointwise
  rw [ht]
  refine stackV_at _ _ _ _ _ _ _ _ j r _ ?_ ?_ ?_ ?_ ?_ ?_ ?_ ?_
  · exact fun hj => pair_even T0 T1 q0 k0 v0 b0 b1 0 r valid Q K V TB β fQ fK fβ hB hval hT0 hT1 hq0 hk0 hv0 hb0 hb1 j hj
  · exact fun hj => pair_odd T0 T1 q0 k0 v0 b2 b3 0 r valid Q K V TB β fQ fK fβ hB hval hT0 hT1 hq0 hk0 hv0 hb2 hb3 j hj
  · exact fun hj => pair_even T0 T1 q1 k1 v1 b4 b5 1 r valid Q K V TB β fQ fK fβ hB hval hT0 hT1 hq1 hk1 hv1 hb4 hb5 j hj
  · exact fun hj => pair_odd T0 T1 q1 k1 v1 b6 b7 1 r valid Q K V TB β fQ fK fβ hB hval hT0 hT1 hq1 hk1 hv1 hb6 hb7 j hj
  · exact fun hj => pair_even T0 T1 q2 k2 v2 b8 b9 2 r valid Q K V TB β fQ fK fβ hB hval hT0 hT1 hq2 hk2 hv2 hb8 hb9 j hj
  · exact fun hj => pair_odd T0 T1 q2 k2 v2 b10 b11 2 r valid Q K V TB β fQ fK fβ hB hval hT0 hT1 hq2 hk2 hv2 hb10 hb11 j hj
  · exact fun hj => pair_even T0 T1 q3 k3 v3 b12 b13 3 r valid Q K V TB β fQ fK fβ hB hval hT0 hT1 hq3 hk3 hv3 hb12 hb13 j hj
  · exact fun hj => pair_odd T0 T1 q3 k3 v3 b14 b15 3 r valid Q K V TB β fQ fK fβ hB hval hT0 hT1 hq3 hk3 hv3 hb14 hb15 j hj

end Cert.BandBlock

end
-- ==== Proof.BandWin.lean ====
/- The windows of keys and the masks of the attention over the band. -/
module

public import proofs.«01_k».proof.Proof.BandBlock
public import Idealize.ShloMosaic.Lib.Pipeline.ValueKit
public import Idealize.ShloMosaic.Lib.Pointwise

@[expose] public section

set_option maxRecDepth 16384

noncomputable section

namespace Cert.BandWin

open Idealize.ShloMosaic Idealize.ShloMosaic.TcCoe Idealize.SL.Sem
open Cert.AttnPromptIdeal Cert.AttnPromptIdeal.Gen Cert.AttnMath Cert.BandMath Cert.BandKernel Cert.BandRows Cert.BandBlock

/-- Whether a row of a block's window is in the stream. -/
def valid (qb : ℕ) (w : Fin 768) : Prop := 512 ≤ 256 * qb + w.val

instance (qb : ℕ) : DecidablePred (valid qb) := fun w => inferInstanceAs (Decidable (512 ≤ 256 * qb + w.val))

/-- A block's window of a stream: zeros before the stream. -/
def win (a : FVec Ideal S32768x512 .bf16) (b : Fin 4) (qb : Fin 32) (w : Fin 768) (j : Fin 512) : EReal :=
  if h : 512 ≤ 256 * qb.val + w.val then a (ix2 (⟨b.val * 8192 + (256 * qb.val + w.val - 512), by omega⟩ : Fin 32768) j) else 0

/-- A comparison of a row number. -/
theorem row_ge : ∀ c : Fin 640, (Scalar.cmpi .sge (Scalar.addi (BitVec.ofNat 32 c.val) 0#32) 512#32 = if 512 ≤ c.val then 1#1 else 0#1)
    ∧ (Scalar.cmpi .sge (Scalar.addi (BitVec.ofNat 32 c.val) 128#32) 512#32 = if 384 ≤ c.val then 1#1 else 0#1)
    ∧ (Scalar.cmpi .sge (Scalar.addi (BitVec.ofNat 32 c.val) 0#32) 256#32 = if 256 ≤ c.val then 1#1 else 0#1)
    ∧ (Scalar.cmpi .sge (Scalar.addi (BitVec.ofNat 32 c.val) 128#32) 256#32 = if 128 ≤ c.val then 1#1 else 0#1) := by
  decide +kernel

/-- A mask, one entry. -/
theorem mask_at (r m : BitVec 32) (s : FVec Ideal S640x128 .f32) (c : Fin 640) (x : Fin 128) :
    maskV r m s (ix2 c x) = if Scalar.cmpi .sge (Scalar.addi (BitVec.ofNat 32 c.val) r) m = 1#1 then s (ix2 c x) else ⊥ := by
  pointwise [maskV]
  rfl

/-- The first block's masks. -/
theorem maskA0 : MOf (valid 0) 0 (by norm_num) (maskV 0#32 512#32) := fun s c x => by
  rw [mask_at, (row_ge c).1]
  by_cases h : 512 ≤ c.val
  · rw [if_pos (by rw [if_pos h]), if_pos (show valid 0 ⟨0 + c.val, by omega⟩ by unfold valid; dsimp only; omega)]
  · rw [if_neg (by rw [if_neg h]; decide), if_neg (show ¬ valid 0 ⟨0 + c.val, by omega⟩ by unfold valid; dsimp only; omega)]

/-- The first block's masks. -/
theorem maskA1 : MOf (valid 0) 128 (by norm_num) (maskV 128#32 512#32) := fun s c x => by
  rw [mask_at, (row_ge c).2.1]
  by_cases h : 384 ≤ c.val
  · rw [if_pos (by rw [if_pos h]), if_pos (show valid 0 ⟨128 + c.val, by omega⟩ by unfold valid; dsimp only; omega)]
  · rw [if_neg (by rw [if_neg h]; decide), if_neg (show ¬ valid 0 ⟨128 + c.val, by omega⟩ by unfold valid; dsimp only; omega)]

/-- The second block's masks. -/
theorem maskB0 : MOf (valid 1) 0 (by norm_num) (maskV 0#32 256#32) := fun s c x => by
  rw [mask_at, (row_ge c).2.2.1]
  by_cases h : 256 ≤ c.val
  · rw [if_pos (by rw [if_pos h]), if_pos (show valid 1 ⟨0 + c.val, by omega⟩ by unfold valid; dsimp only; omega)]
  · rw [if_neg (by rw [if_neg h]; decide), if_neg (show ¬ valid 1 ⟨0 + c.val, by omega⟩ by unfold valid; dsimp only; omega)]

/-- The second block's masks. -/
theorem maskB1 : MOf (valid 1) 128 (by norm_num) (maskV 128#32 256#32) := fun s c x => by
  rw [mask_at, (row_ge c).2.2.2]
  by_cases h : 128 ≤ c.val
  · rw [if_pos (by rw [if_pos h]), if_pos (show valid 1 ⟨128 + c.val, by omega⟩ by unfold valid; dsimp only; omega)]
  · rw [if_neg (by rw [if_neg h]; decide), if_neg (show ¬ valid 1 ⟨128 + c.val, by omega⟩ by unfold valid; dsimp only; omega)]

/-- A later block masks nothing. -/
theorem maskC (qb : ℕ) (h : 2 ≤ qb) (o : ℕ) (ho : o + 640 ≤ 768) : MOf (valid qb) o ho id := fun s c x =>
  (if_pos (show valid qb ⟨o + c.val, by omega⟩ by unfold valid; dsimp only; omega)).symm

/-- The first block's window. -/
theorem winA_of (a : FVec Ideal S32768x512 .bf16) (b : Fin 4) (qb : Fin 32) (hq : qb.val = 0) (p : Fin 4) (x : Vec Ideal S1x256x128 .bf16)
    (hx : ∀ (i : Fin 256) (l : Fin 128), x (ix3 0 i l) = a (ix2 (⟨b.val * 8192 + i.val, by omega⟩ : Fin 32768) (⟨128 * p.val + l.val, by omega⟩ : Fin 512))) :
    KOf (win a b qb) (winA x) p := fun w l => by
  unfold win
  by_cases h : w.val < 512
  · rw [dif_neg (by omega)]
    pointwise [winA]
    refine (dif_pos ?_).trans ?_
    · omega
    · rfl
  · rw [dif_pos (by omega)]
    pointwise [winA]
    rw [dif_neg (by omega), hx]
    exact congrArg (fun i => a (ix2 i _)) (Fin.ext (by dsimp only; omega))

/-- The second block's window. -/
theorem winB_of (a : FVec Ideal S32768x512 .bf16) (b : Fin 4) (qb : Fin 32) (hq : qb.val = 1) (p : Fin 4) (x : Vec Ideal S1x512x128 .bf16)
    (hx : ∀ (i : Fin 512) (l : Fin 128), x (ix3 0 i l) = a (ix2 (⟨b.val * 8192 + i.val, by omega⟩ : Fin 32768) (⟨128 * p.val + l.val, by omega⟩ : Fin 512))) :
    KOf (win a b qb) (winB x) p := fun w l => by
  unfold win
  by_cases h : w.val < 256
  · rw [dif_neg (by omega)]
    pointwise [winB]
    refine (dif_pos ?_).trans ?_
    · omega
    · rfl
  · rw [dif_pos (by omega)]
    pointwise [winB]
    rw [dif_neg (by omega), hx]
    exact congrArg (fun i => a (ix2 i _)) (Fin.ext (by dsimp only; omega))

/-- A later block's window. -/
theorem winC_of (a : FVec Ideal S32768x512 .bf16) (b : Fin 4) (qb : Fin 32) (hq : 2 ≤ qb.val) (p : Fin 4) (x : Vec Ideal S1x768x128 .bf16)
    (hx : ∀ (i : Fin 768) (l : Fin 128), x (ix3 0 i l) = a (ix2 (⟨b.val * 8192 + (256 * qb.val + i.val - 512), by omega⟩ : Fin 32768) (⟨128 * p.val + l.val, by omega⟩ : Fin 512))) :
    KOf (win a b qb) (winC x) p := fun w l => by
  unfold win
  rw [dif_pos (by omega)]
  pointwise [winC]
  exact hx w l

/-- The band of a query within the window: the rows of the query's chunk. -/
theorem win_bnd (a : FVec Ideal S32768x512 .bf16) (b : Fin 4) (qb : Fin 32) (r : Fin 256) (c : Fin 576) :
    win a b qb (bnd r c) = Cert.BandRef.rows a b ⟨4 * qb.val + r.val / 64, by omega⟩ c := by
  funext j
  unfold win Cert.BandRef.rows bnd
  by_cases h : (4 * qb.val + r.val / 64) * 64 + c.val < 512
  · rw [dif_neg (by dsimp only; omega), dif_pos h]
  · rw [dif_pos (by dsimp only; omega), dif_neg h]
    exact congrArg (fun i => a (ix2 i j)) (Fin.ext (by dsimp only; omega))

/-- Which keys of the band are in the stream. -/
theorem valid_bnd (qb : ℕ) (r : Fin 256) (c : Fin 576) : valid qb (bnd r c) ↔ 512 ≤ (4 * qb + r.val / 64) * 64 + c.val := by
  unfold valid bnd
  dsimp only
  omega

end Cert.BandWin

end
-- ==== Proof.BandLoads.lean ====
/- What the body of the attention over the band loads. -/
module

public import proofs.«01_k».proof.Proof.BandBlock
public import proofs.«01_k».proof.Proof.BandWin
public import Idealize.ShloMosaic.Lib.Pipeline.ValueKit
public import Idealize.ShloMosaic.Lib.Pointwise

@[expose] public section

set_option maxRecDepth 16384

noncomputable section

namespace Cert.BandLoads

open Idealize.ShloMosaic Idealize.ShloMosaic.TcCoe Idealize.SL.Sem
open Cert.AttnPromptIdeal Cert.AttnPromptIdeal.Gen Cert.AttnMath Cert.BandMath Cert.BandKernel Cert.BandBlock Cert.BandWin

/-- Two heads' lanes of a block of queries. -/
theorem q_of (x : Vec Ideal S256x512 .bf16) (r : Fin 256) (Q : Fin 512 → EReal) (hx : ∀ j, x (ix2 r j) = Q j) (p : Fin 4)
    (inb : ∀ a, (![0, 128 * p.val] : Fin 2 → Nat) a + S256x128.size a ≤ S256x512.size a) :
    QOf r Q (View.ld x (Rect.unit (s := S256x512) ![0, 128 * p.val] S256x128.size inb)) p := fun l => by
  refine Eq.trans ?_ (hx ⟨128 * p.val + l.val, by omega⟩)
  pointwise
  blk_ext

/-- The first block's window, loaded. -/
theorem winA_ld (x : Vec Ideal S1x8192x512 .bf16) (a : FVec Ideal S32768x512 .bf16) (b : Fin 4)
    (hx : ∀ (i : Fin 8192) (j : Fin 512), x (ix3 0 i j) = a (ix2 (⟨b.val * 8192 + i.val, by omega⟩ : Fin 32768) j)) (qb : Fin 32) (hq : qb.val = 0) (p : Fin 4)
    (inb : ∀ a, (![0, 0, 128 * p.val] : Fin 3 → Nat) a + S1x256x128.size a ≤ S1x8192x512.size a) :
    KOf (win a b qb) (winA (View.ld x (Rect.unit (s := S1x8192x512) ![0, 0, 128 * p.val] S1x256x128.size inb))) p :=
  winA_of a b qb hq p _ fun i l => by
    refine Eq.trans (b := x (ix3 0 (⟨i.val, by omega⟩ : Fin 8192) (⟨128 * p.val + l.val, by omega⟩ : Fin 512))) ?_ ((hx _ _).trans ?_)
    · pointwise
      blk_ext
    · exact congrArg (fun i => a (ix2 i _)) (Fin.ext rfl)

/-- The second block's window, loaded. -/
theorem winB_ld (x : Vec Ideal S1x8192x512 .bf16) (a : FVec Ideal S32768x512 .bf16) (b : Fin 4)
    (hx : ∀ (i : Fin 8192) (j : Fin 512), x (ix3 0 i j) = a (ix2 (⟨b.val * 8192 + i.val, by omega⟩ : Fin 32768) j)) (qb : Fin 32) (hq : qb.val = 1) (p : Fin 4)
    (inb : ∀ a, (![0, 0, 128 * p.val] : Fin 3 → Nat) a + S1x512x128.size a ≤ S1x8192x512.size a) :
    KOf (win a b qb) (winB (View.ld x (Rect.unit (s := S1x8192x512) ![0, 0, 128 * p.val] S1x512x128.size inb))) p :=
  winB_of a b qb hq p _ fun i l => by
    refine Eq.trans (b := x (ix3 0 (⟨i.val, by omega⟩ : Fin 8192) (⟨128 * p.val + l.val, by omega⟩ : Fin 512))) ?_ ((hx _ _).trans ?_)
    · pointwise
      blk_ext
    · exact congrArg (fun i => a (ix2 i _)) (Fin.ext rfl)

/-- A later block's window, loaded. -/
theorem winC_ld (x : Vec Ideal S1x8192x512 .bf16) (a : FVec Ideal S32768x512 .bf16) (b : Fin 4)
    (hx : ∀ (i : Fin 8192) (j : Fin 512), x (ix3 0 i j) = a (ix2 (⟨b.val * 8192 + i.val, by omega⟩ : Fin 32768) j)) (qb : Fin 32) (hq : 2 ≤ qb.val) (p : Fin 4)
    (off : Fin 3 → Nat) (hoff : off = ![0, 256 * qb.val - 512, 128 * p.val])
    (inb : ∀ a, off a + S1x768x128.size a ≤ S1x8192x512.size a) :
    KOf (win a b qb) (winC (View.ld x (Rect.unit (s := S1x8192x512) off S1x768x128.size inb))) p := by
  subst hoff
  exact winC_of a b qb hq p _ fun i l => by
    refine Eq.trans (b := x (ix3 0 (⟨256 * qb.val - 512 + i.val, by omega⟩ : Fin 8192) (⟨128 * p.val + l.val, by omega⟩ : Fin 512))) ?_ ((hx _ _).trans ?_)
    · pointwise
      blk_ext
    · exact congrArg (fun i => a (ix2 i _)) (Fin.ext (by dsimp only; omega))

/-- A head's biases of the first group, loaded. -/
theorem b0_of (x : Vec Ideal S8x768x256 .f32) (h : Fin 8) (inb : ∀ a, (![h.val, 0, 0] : Fin 3 → Nat) a + S1x640x128.size a ≤ S8x768x256.size a) :
    BOf0 x (View.ld x (Rect.unit (s := S8x768x256) ![h.val, 0, 0] S1x640x128.size inb)) h := fun c y => by
  pointwise
  blk_ext

/-- A head's biases of the second group, loaded. -/
theorem b1_of (x : Vec Ideal S8x768x256 .f32) (h : Fin 8) (inb : ∀ a, (![h.val, 128, 128] : Fin 3 → Nat) a + S1x640x128.size a ≤ S8x768x256.size a) :
    BOf1 x (View.ld x (Rect.unit (s := S8x768x256) ![h.val, 128, 128] S1x640x128.size inb)) h := fun c y => by
  pointwise
  blk_ext

/-- The gains, loaded. -/
theorem g_of (x : Vec Ideal S1x512 .f32) (inb : ∀ a, (![0, 0] : Fin 2 → Nat) a + S1x512.size a ≤ S1x512.size a) (j : Fin 512) :
    (View.ld x (Rect.unit (s := S1x512) ![0, 0] S1x512.size inb) : Vec Ideal S1x512 .f32) (ix2 0 j) = x (ix2 0 j) := by
  pointwise
  blk_ext

end Cert.BandLoads

end
-- ==== Proof.BandOpen.lean ====
/- The body of the attention over the band: its stores, opened. -/
module

public import proofs.«01_k».proof.Proof.Gen.AttnPromptIdeal.Frame
public import proofs.«01_k».proof.Proof.BandKernel
public import Idealize.ShloMosaic.Lib.Pipeline.ValueKit

@[expose] public section

set_option maxRecDepth 16384

noncomputable section

namespace Cert.BandOpen

open Idealize.ShloMosaic Idealize.ShloMosaic.TcCoe Idealize.SL.Sem
open Cert.AttnPromptIdeal Cert.AttnPromptIdeal.Gen Cert.BandKernel

/-- The stores of the first block into the table, one for each head. -/
def pieces (arg5 : Memref sig .tc .vmem S8x1024 .f32) (harg5 : arg5.IsWhole) (x3 : Vec Ideal S8x1024 .f32) :
    List (Σ r : Rect S8x768x256, Vec Ideal r.shape .f32) :=
  [⟨Rect.unit (s := S8x768x256) ![7, 0, 0] S1x768x256.size inb_S8x768x256_S1x768x256_7_0_0, k0_pay1 (k0_pay8 k0_pay5 k0_pay6 k0_pay7) (k0_pay18 (View.readAt (Elt Ideal) arg5.view (Rect.unit (s := S8x1024) ![7, 0] S1x1024.size inb_S8x1024_S1x1024_7_0).toLoadRect (harg5.unread x3)))⟩,
    ⟨Rect.unit (s := S8x768x256) ![6, 0, 0] S1x768x256.size inb_S8x768x256_S1x768x256_6_0_0, k0_pay17 (k0_pay8 k0_pay5 k0_pay6 k0_pay7) (View.readAt (Elt Ideal) arg5.view (Rect.unit (s := S8x1024) ![6, 0] S1x1024.size inb_S8x1024_S1x1024_6_0).toLoadRect (harg5.unread x3))⟩,
    ⟨Rect.unit (s := S8x768x256) ![5, 0, 0] S1x768x256.size inb_S8x768x256_S1x768x256_5_0_0, k0_pay16 (k0_pay8 k0_pay5 k0_pay6 k0_pay7) (View.readAt (Elt Ideal) arg5.view (Rect.unit (s := S8x1024) ![5, 0] S1x1024.size inb_S8x1024_S1x1024_5_0).toLoadRect (harg5.unread x3))⟩,
    ⟨Rect.unit (s := S8x768x256) ![4, 0, 0] S1x768x256.size inb_S8x768x256_S1x768x256_4_0_0, k0_pay15 (k0_pay14 (k0_pay8 k0_pay5 k0_pay6 k0_pay7) (View.readAt (Elt Ideal) arg5.view (Rect.unit (s := S8x1024) ![4, 0] S1x1024.size inb_S8x1024_S1x1024_4_0).toLoadRect (harg5.unread x3)))⟩,
    ⟨Rect.unit (s := S8x768x256) ![3, 0, 0] S1x768x256.size inb_S8x768x256_S1x768x256_3_0_0, k0_pay13 (k0_pay8 k0_pay5 k0_pay6 k0_pay7) (View.readAt (Elt Ideal) arg5.view (Rect.unit (s := S8x1024) ![3, 0] S1x1024.size inb_S8x1024_S1x1024_3_0).toLoadRect (harg5.unread x3))⟩,
    ⟨Rect.unit (s := S8x768x256) ![2, 0, 0] S1x768x256.size inb_S8x768x256_S1x768x256_2_0_0, k0_pay12 (k0_pay8 k0_pay5 k0_pay6 k0_pay7) (k0_pay11 (View.readAt (Elt Ideal) arg5.view (Rect.unit (s := S8x1024) ![2, 0] S1x1024.size inb_S8x1024_S1x1024_2_0).toLoadRect (harg5.unread x3)))⟩,
    ⟨Rect.unit (s := S8x768x256) ![1, 0, 0] S1x768x256.size inb_S8x768x256_S1x768x256_1_0_0, k0_pay10 k0_pay5 k0_pay6 k0_pay7 (View.readAt (Elt Ideal) arg5.view (Rect.unit (s := S8x1024) ![1, 0] S1x1024.size inb_S8x1024_S1x1024_1_0).toLoadRect (harg5.unread x3))⟩,
    ⟨Rect.unit (s := S8x768x256) ![0, 0, 0] S1x768x256.size inb_S8x768x256_S1x768x256_0_0_0, k0_pay9 k0_pay5 k0_pay6 k0_pay7 (View.readAt (Elt Ideal) arg5.view (Rect.unit (s := S8x1024) ![0, 0] S1x1024.size inb_S8x1024_S1x1024_0_0).toLoadRect (harg5.unread x3))⟩]

/-- What the first block leaves in the table. -/
theorem openS (c : Dev nD) (i : grid0.Coords) (arg2 : Memref sig .tc .vmem S256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S8x1024 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S8x768x256 .f32) (harg8 : arg8.IsWhole) (hc0 : cond0_0 i) (hc1 : cond0_1 i) (hc2 : ¬cond0_2 i) (hc3 : ¬cond0_3 i)
    (x0 : Vec Ideal S256x512 .bf16) (x1 x2 : Vec Ideal S1x8192x512 .bf16) (x3 : Vec Ideal S8x1024 .f32) (x4 : Vec Ideal S1x512 .f32) :
    sout0_A_0 c i arg2 harg2 arg3 harg3 arg4 harg4 arg5 harg5 arg6 harg6 arg7 harg7 arg8 harg8 hc0 hc1 hc2 hc3 x0 x1 x2 x3 x4 = View.canon (pieces arg5 harg5 x3) := by
  unfold sout0_A_0
  frame_open
  rw [View.read_writes_junk_eq_canon]
  rfl

set_option maxHeartbeats 4000000 in
/-- What the first block of a stream leaves. -/
theorem openA (c : Dev nD) (i : grid0.Coords) (arg2 : Memref sig .tc .vmem S256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S8x1024 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S8x768x256 .f32) (harg8 : arg8.IsWhole) (hc0 : cond0_0 i) (hc1 : cond0_1 i) (hc2 : ¬cond0_2 i) (hc3 : ¬cond0_3 i)
    (x0 : Vec Ideal S256x512 .bf16) (x1 x2 : Vec Ideal S1x8192x512 .bf16) (x3 : Vec Ideal S8x1024 .f32) (x4 : Vec Ideal S1x512 .f32) :
    out0_A_5 c i arg2 harg2 arg3 harg3 arg4 harg4 arg5 harg5 arg6 harg6 arg7 harg7 arg8 harg8 hc0 hc1 hc2 hc3 x0 x1 x2 x3 x4 = outV (maskV 0#32 512#32) (maskV 128#32 512#32)
      (View.ld x0 (Rect.unit (s := S256x512) ![0, 0] S256x128.size inb_S256x512_S256x128_0_0))
      (View.ld x0 (Rect.unit (s := S256x512) ![0, 128] S256x128.size inb_S256x512_S256x128_0_128))
      (View.ld x0 (Rect.unit (s := S256x512) ![0, 256] S256x128.size inb_S256x512_S256x128_0_256))
      (View.ld x0 (Rect.unit (s := S256x512) ![0, 384] S256x128.size inb_S256x512_S256x128_0_384))
      (winA (View.ld x1 (Rect.unit (s := S1x8192x512) ![0, 0, 0] S1x256x128.size inb_S1x8192x512_S1x256x128_0_0_0)))
      (winA (View.ld x1 (Rect.unit (s := S1x8192x512) ![0, 0, 128] S1x256x128.size inb_S1x8192x512_S1x256x128_0_0_128)))
      (winA (View.ld x1 (Rect.unit (s := S1x8192x512) ![0, 0, 256] S1x256x128.size inb_S1x8192x512_S1x256x128_0_0_256)))
      (winA (View.ld x1 (Rect.unit (s := S1x8192x512) ![0, 0, 384] S1x256x128.size inb_S1x8192x512_S1x256x128_0_0_384)))
      (winA (View.ld x2 (Rect.unit (s := S1x8192x512) ![0, 0, 0] S1x256x128.size inb_S1x8192x512_S1x256x128_0_0_0)))
      (winA (View.ld x2 (Rect.unit (s := S1x8192x512) ![0, 0, 128] S1x256x128.size inb_S1x8192x512_S1x256x128_0_0_128)))
      (winA (View.ld x2 (Rect.unit (s := S1x8192x512) ![0, 0, 256] S1x256x128.size inb_S1x8192x512_S1x256x128_0_0_256)))
      (winA (View.ld x2 (Rect.unit (s := S1x8192x512) ![0, 0, 384] S1x256x128.size inb_S1x8192x512_S1x256x128_0_0_384)))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![0, 0, 0] S1x640x128.size inb_S8x768x256_S1x640x128_0_0_0))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![0, 128, 128] S1x640x128.size inb_S8x768x256_S1x640x128_0_128_128))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![1, 0, 0] S1x640x128.size inb_S8x768x256_S1x640x128_1_0_0))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![1, 128, 128] S1x640x128.size inb_S8x768x256_S1x640x128_1_128_128))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![2, 0, 0] S1x640x128.size inb_S8x768x256_S1x640x128_2_0_0))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![2, 128, 128] S1x640x128.size inb_S8x768x256_S1x640x128_2_128_128))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![3, 0, 0] S1x640x128.size inb_S8x768x256_S1x640x128_3_0_0))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![3, 128, 128] S1x640x128.size inb_S8x768x256_S1x640x128_3_128_128))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![4, 0, 0] S1x640x128.size inb_S8x768x256_S1x640x128_4_0_0))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![4, 128, 128] S1x640x128.size inb_S8x768x256_S1x640x128_4_128_128))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![5, 0, 0] S1x640x128.size inb_S8x768x256_S1x640x128_5_0_0))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![5, 128, 128] S1x640x128.size inb_S8x768x256_S1x640x128_5_128_128))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![6, 0, 0] S1x640x128.size inb_S8x768x256_S1x640x128_6_0_0))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![6, 128, 128] S1x640x128.size inb_S8x768x256_S1x640x128_6_128_128))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![7, 0, 0] S1x640x128.size inb_S8x768x256_S1x640x128_7_0_0))
      (View.ld (sout0_A_0 c i arg2 harg2 arg3 harg3 arg4 harg4 arg5 harg5 arg6 harg6 arg7 harg7 arg8 harg8 hc0 hc1 hc2 hc3 x0 x1 x2 x3 x4) (Rect.unit (s := S8x768x256) ![7, 128, 128] S1x640x128.size inb_S8x768x256_S1x640x128_7_128_128))
      (View.ld x4 (Rect.unit (s := S1x512) ![0, 0] S1x512.size inb_S1x512_S1x512_0_0)) := by
  rw [openS c i arg2 harg2 arg3 harg3 arg4 harg4 arg5 harg5 arg6 harg6 arg7 harg7 arg8 harg8 hc0 hc1 hc2 hc3 x0 x1 x2 x3 x4]
  unfold out0_A_5
  frame_open
  rw [View.read_writes_junk_eq_canon]
  refine (View.canon_cons_unit_lit' _ _ _ (by decide)).trans ?_
  refine Eq.trans (b := outV (maskV 0#32 512#32) (maskV 128#32 512#32)
      (View.readAt (Elt Ideal) arg2.view (Rect.unit (s := S256x512) ![0, 0] S256x128.size inb_S256x512_S256x128_0_0).toLoadRect (harg2.unread x0))
      (View.readAt (Elt Ideal) arg2.view (Rect.unit (s := S256x512) ![0, 128] S256x128.size inb_S256x512_S256x128_0_128).toLoadRect (harg2.unread x0))
      (View.readAt (Elt Ideal) arg2.view (Rect.unit (s := S256x512) ![0, 256] S256x128.size inb_S256x512_S256x128_0_256).toLoadRect (harg2.unread x0))
      (View.readAt (Elt Ideal) arg2.view (Rect.unit (s := S256x512) ![0, 384] S256x128.size inb_S256x512_S256x128_0_384).toLoadRect (harg2.unread x0))
      (winA (View.readAt (Elt Ideal) arg3.view (Rect.unit (s := S1x8192x512) ![0, 0, 0] S1x256x128.size inb_S1x8192x512_S1x256x128_0_0_0).toLoadRect (harg3.unread x1)))
      (winA (View.readAt (Elt Ideal) arg3.view (Rect.unit (s := S1x8192x512) ![0, 0, 128] S1x256x128.size inb_S1x8192x512_S1x256x128_0_0_128).toLoadRect (harg3.unread x1)))
      (winA (View.readAt (Elt Ideal) arg3.view (Rect.unit (s := S1x8192x512) ![0, 0, 256] S1x256x128.size inb_S1x8192x512_S1x256x128_0_0_256).toLoadRect (harg3.unread x1)))
      (winA (View.readAt (Elt Ideal) arg3.view (Rect.unit (s := S1x8192x512) ![0, 0, 384] S1x256x128.size inb_S1x8192x512_S1x256x128_0_0_384).toLoadRect (harg3.unread x1)))
      (winA (View.readAt (Elt Ideal) arg4.view (Rect.unit (s := S1x8192x512) ![0, 0, 0] S1x256x128.size inb_S1x8192x512_S1x256x128_0_0_0).toLoadRect (harg4.unread x2)))
      (winA (View.readAt (Elt Ideal) arg4.view (Rect.unit (s := S1x8192x512) ![0, 0, 128] S1x256x128.size inb_S1x8192x512_S1x256x128_0_0_128).toLoadRect (harg4.unread x2)))
      (winA (View.readAt (Elt Ideal) arg4.view (Rect.unit (s := S1x8192x512) ![0, 0, 256] S1x256x128.size inb_S1x8192x512_S1x256x128_0_0_256).toLoadRect (harg4.unread x2)))
      (winA (View.readAt (Elt Ideal) arg4.view (Rect.unit (s := S1x8192x512) ![0, 0, 384] S1x256x128.size inb_S1x8192x512_S1x256x128_0_0_384).toLoadRect (harg4.unread x2)))
      (arg8.view.readCov (pieces arg5 harg5 x3) (Rect.unit (s := S8x768x256) ![0, 0, 0] S1x640x128.size inb_S8x768x256_S1x640x128_0_0_0).toLoadRect)
      (arg8.view.readCov (pieces arg5 harg5 x3) (Rect.unit (s := S8x768x256) ![0, 128, 128] S1x640x128.size inb_S8x768x256_S1x640x128_0_128_128).toLoadRect)
      (arg8.view.readCov (pieces arg5 harg5 x3) (Rect.unit (s := S8x768x256) ![1, 0, 0] S1x640x128.size inb_S8x768x256_S1x640x128_1_0_0).toLoadRect)
      (arg8.view.readCov (pieces arg5 harg5 x3) (Rect.unit (s := S8x768x256) ![1, 128, 128] S1x640x128.size inb_S8x768x256_S1x640x128_1_128_128).toLoadRect)
      (arg8.view.readCov (pieces arg5 harg5 x3) (Rect.unit (s := S8x768x256) ![2, 0, 0] S1x640x128.size inb_S8x768x256_S1x640x128_2_0_0).toLoadRect)
      (arg8.view.readCov (pieces arg5 harg5 x3) (Rect.unit (s := S8x768x256) ![2, 128, 128] S1x640x128.size inb_S8x768x256_S1x640x128_2_128_128).toLoadRect)
      (arg8.view.readCov (pieces arg5 harg5 x3) (Rect.unit (s := S8x768x256) ![3, 0, 0] S1x640x128.size inb_S8x768x256_S1x640x128_3_0_0).toLoadRect)
      (arg8.view.readCov (pieces arg5 harg5 x3) (Rect.unit (s := S8x768x256) ![3, 128, 128] S1x640x128.size inb_S8x768x256_S1x640x128_3_128_128).toLoadRect)
      (arg8.view.readCov (pieces arg5 harg5 x3) (Rect.unit (s := S8x768x256) ![4, 0, 0] S1x640x128.size inb_S8x768x256_S1x640x128_4_0_0).toLoadRect)
      (arg8.view.readCov (pieces arg5 harg5 x3) (Rect.unit (s := S8x768x256) ![4, 128, 128] S1x640x128.size inb_S8x768x256_S1x640x128_4_128_128).toLoadRect)
      (arg8.view.readCov (pieces arg5 harg5 x3) (Rect.unit (s := S8x768x256) ![5, 0, 0] S1x640x128.size inb_S8x768x256_S1x640x128_5_0_0).toLoadRect)
      (arg8.view.readCov (pieces arg5 harg5 x3) (Rect.unit (s := S8x768x256) ![5, 128, 128] S1x640x128.size inb_S8x768x256_S1x640x128_5_128_128).toLoadRect)
      (arg8.view.readCov (pieces arg5 harg5 x3) (Rect.unit (s := S8x768x256) ![6, 0, 0] S1x640x128.size inb_S8x768x256_S1x640x128_6_0_0).toLoadRect)
      (arg8.view.readCov (pieces arg5 harg5 x3) (Rect.unit (s := S8x768x256) ![6, 128, 128] S1x640x128.size inb_S8x768x256_S1x640x128_6_128_128).toLoadRect)
      (arg8.view.readCov (pieces arg5 harg5 x3) (Rect.unit (s := S8x768x256) ![7, 0, 0] S1x640x128.size inb_S8x768x256_S1x640x128_7_0_0).toLoadRect)
      (arg8.view.readCov (pieces arg5 harg5 x3) (Rect.unit (s := S8x768x256) ![7, 128, 128] S1x640x128.size inb_S8x768x256_S1x640x128_7_128_128).toLoadRect)
      (View.readAt (Elt Ideal) arg6.view (Rect.unit (s := S1x512) ![0, 0] S1x512.size inb_S1x512_S1x512_0_0).toLoadRect (harg6.unread x4))) ?_ ?_
  · unfold pieces
    generalize ([⟨Rect.unit (s := S8x768x256) ![7, 0, 0] S1x768x256.size inb_S8x768x256_S1x768x256_7_0_0, k0_pay1 (k0_pay8 k0_pay5 k0_pay6 k0_pay7) (k0_pay18 (View.readAt (Elt Ideal) arg5.view (Rect.unit (s := S8x1024) ![7, 0] S1x1024.size inb_S8x1024_S1x1024_7_0).toLoadRect (harg5.unread x3)))⟩,
    ⟨Rect.unit (s := S8x768x256) ![6, 0, 0] S1x768x256.size inb_S8x768x256_S1x768x256_6_0_0, k0_pay17 (k0_pay8 k0_pay5 k0_pay6 k0_pay7) (View.readAt (Elt Ideal) arg5.view (Rect.unit (s := S8x1024) ![6, 0] S1x1024.size inb_S8x1024_S1x1024_6_0).toLoadRect (harg5.unread x3))⟩,
    ⟨Rect.unit (s := S8x768x256) ![5, 0, 0] S1x768x256.size inb_S8x768x256_S1x768x256_5_0_0, k0_pay16 (k0_pay8 k0_pay5 k0_pay6 k0_pay7) (View.readAt (Elt Ideal) arg5.view (Rect.unit (s := S8x1024) ![5, 0] S1x1024.size inb_S8x1024_S1x1024_5_0).toLoadRect (harg5.unread x3))⟩,
    ⟨Rect.unit (s := S8x768x256) ![4, 0, 0] S1x768x256.size inb_S8x768x256_S1x768x256_4_0_0, k0_pay15 (k0_pay14 (k0_pay8 k0_pay5 k0_pay6 k0_pay7) (View.readAt (Elt Ideal) arg5.view (Rect.unit (s := S8x1024) ![4, 0] S1x1024.size inb_S8x1024_S1x1024_4_0).toLoadRect (harg5.unread x3)))⟩,
    ⟨Rect.unit (s := S8x768x256) ![3, 0, 0] S1x768x256.size inb_S8x768x256_S1x768x256_3_0_0, k0_pay13 (k0_pay8 k0_pay5 k0_pay6 k0_pay7) (View.readAt (Elt Ideal) arg5.view (Rect.unit (s := S8x1024) ![3, 0] S1x1024.size inb_S8x1024_S1x1024_3_0).toLoadRect (harg5.unread x3))⟩,
    ⟨Rect.unit (s := S8x768x256) ![2, 0, 0] S1x768x256.size inb_S8x768x256_S1x768x256_2_0_0, k0_pay12 (k0_pay8 k0_pay5 k0_pay6 k0_pay7) (k0_pay11 (View.readAt (Elt Ideal) arg5.view (Rect.unit (s := S8x1024) ![2, 0] S1x1024.size inb_S8x1024_S1x1024_2_0).toLoadRect (harg5.unread x3)))⟩,
    ⟨Rect.unit (s := S8x768x256) ![1, 0, 0] S1x768x256.size inb_S8x768x256_S1x768x256_1_0_0, k0_pay10 k0_pay5 k0_pay6 k0_pay7 (View.readAt (Elt Ideal) arg5.view (Rect.unit (s := S8x1024) ![1, 0] S1x1024.size inb_S8x1024_S1x1024_1_0).toLoadRect (harg5.unread x3))⟩,
    ⟨Rect.unit (s := S8x768x256) ![0, 0, 0] S1x768x256.size inb_S8x768x256_S1x768x256_0_0_0, k0_pay9 k0_pay5 k0_pay6 k0_pay7 (View.readAt (Elt Ideal) arg5.view (Rect.unit (s := S8x1024) ![0, 0] S1x1024.size inb_S8x1024_S1x1024_0_0).toLoadRect (harg5.unread x3))⟩] : List (Σ r : Rect S8x768x256, Vec Ideal r.shape .f32)) = P
    generalize View.readAt (Elt Ideal) arg2.view (Rect.unit (s := S256x512) ![0, 0] S256x128.size inb_S256x512_S256x128_0_0).toLoadRect (harg2.unread x0) = y0
    generalize View.readAt (Elt Ideal) arg2.view (Rect.unit (s := S256x512) ![0, 128] S256x128.size inb_S256x512_S256x128_0_128).toLoadRect (harg2.unread x0) = y1
    generalize View.readAt (Elt Ideal) arg2.view (Rect.unit (s := S256x512) ![0, 256] S256x128.size inb_S256x512_S256x128_0_256).toLoadRect (harg2.unread x0) = y2
    generalize View.readAt (Elt Ideal) arg2.view (Rect.unit (s := S256x512) ![0, 384] S256x128.size inb_S256x512_S256x128_0_384).toLoadRect (harg2.unread x0) = y3
    generalize View.readAt (Elt Ideal) arg3.view (Rect.unit (s := S1x8192x512) ![0, 0, 0] S1x256x128.size inb_S1x8192x512_S1x256x128_0_0_0).toLoadRect (harg3.unread x1) = y4
    generalize View.readAt (Elt Ideal) arg3.view (Rect.unit (s := S1x8192x512) ![0, 0, 128] S1x256x128.size inb_S1x8192x512_S1x256x128_0_0_128).toLoadRect (harg3.unread x1) = y5
    generalize View.readAt (Elt Ideal) arg3.view (Rect.unit (s := S1x8192x512) ![0, 0, 256] S1x256x128.size inb_S1x8192x512_S1x256x128_0_0_256).toLoadRect (harg3.unread x1) = y6
    generalize View.readAt (Elt Ideal) arg3.view (Rect.unit (s := S1x8192x512) ![0, 0, 384] S1x256x128.size inb_S1x8192x512_S1x256x128_0_0_384).toLoadRect (harg3.unread x1) = y7
    generalize View.readAt (Elt Ideal) arg4.view (Rect.unit (s := S1x8192x512) ![0, 0, 0] S1x256x128.size inb_S1x8192x512_S1x256x128_0_0_0).toLoadRect (harg4.unread x2) = y8
    generalize View.readAt (Elt Ideal) arg4.view (Rect.unit (s := S1x8192x512) ![0, 0, 128] S1x256x128.size inb_S1x8192x512_S1x256x128_0_0_128).toLoadRect (harg4.unread x2) = y9
    generalize View.readAt (Elt Ideal) arg4.view (Rect.unit (s := S1x8192x512) ![0, 0, 256] S1x256x128.size inb_S1x8192x512_S1x256x128_0_0_256).toLoadRect (harg4.unread x2) = y10
    generalize View.readAt (Elt Ideal) arg4.view (Rect.unit (s := S1x8192x512) ![0, 0, 384] S1x256x128.size inb_S1x8192x512_S1x256x128_0_0_384).toLoadRect (harg4.unread x2) = y11
    generalize arg8.view.readCov P (Rect.unit (s := S8x768x256) ![0, 0, 0] S1x640x128.size inb_S8x768x256_S1x640x128_0_0_0).toLoadRect = y12
    generalize arg8.view.readCov P (Rect.unit (s := S8x768x256) ![0, 128, 128] S1x640x128.size inb_S8x768x256_S1x640x128_0_128_128).toLoadRect = y13
    generalize arg8.view.readCov P (Rect.unit (s := S8x768x256) ![1, 0, 0] S1x640x128.size inb_S8x768x256_S1x640x128_1_0_0).toLoadRect = y14
    generalize arg8.view.readCov P (Rect.unit (s := S8x768x256) ![1, 128, 128] S1x640x128.size inb_S8x768x256_S1x640x128_1_128_128).toLoadRect = y15
    generalize arg8.view.readCov P (Rect.unit (s := S8x768x256) ![2, 0, 0] S1x640x128.size inb_S8x768x256_S1x640x128_2_0_0).toLoadRect = y16
    generalize arg8.view.readCov P (Rect.unit (s := S8x768x256) ![2, 128, 128] S1x640x128.size inb_S8x768x256_S1x640x128_2_128_128).toLoadRect = y17
    generalize arg8.view.readCov P (Rect.unit (s := S8x768x256) ![3, 0, 0] S1x640x128.size inb_S8x768x256_S1x640x128_3_0_0).toLoadRect = y18
    generalize arg8.view.readCov P (Rect.unit (s := S8x768x256) ![3, 128, 128] S1x640x128.size inb_S8x768x256_S1x640x128_3_128_128).toLoadRect = y19
    generalize arg8.view.readCov P (Rect.unit (s := S8x768x256) ![4, 0, 0] S1x640x128.size inb_S8x768x256_S1x640x128_4_0_0).toLoadRect = y20
    generalize arg8.view.readCov P (Rect.unit (s := S8x768x256) ![4, 128, 128] S1x640x128.size inb_S8x768x256_S1x640x128_4_128_128).toLoadRect = y21
    generalize arg8.view.readCov P (Rect.unit (s := S8x768x256) ![5, 0, 0] S1x640x128.size inb_S8x768x256_S1x640x128_5_0_0).toLoadRect = y22
    generalize arg8.view.readCov P (Rect.unit (s := S8x768x256) ![5, 128, 128] S1x640x128.size inb_S8x768x256_S1x640x128_5_128_128).toLoadRect = y23
    generalize arg8.view.readCov P (Rect.unit (s := S8x768x256) ![6, 0, 0] S1x640x128.size inb_S8x768x256_S1x640x128_6_0_0).toLoadRect = y24
    generalize arg8.view.readCov P (Rect.unit (s := S8x768x256) ![6, 128, 128] S1x640x128.size inb_S8x768x256_S1x640x128_6_128_128).toLoadRect = y25
    generalize arg8.view.readCov P (Rect.unit (s := S8x768x256) ![7, 0, 0] S1x640x128.size inb_S8x768x256_S1x640x128_7_0_0).toLoadRect = y26
    generalize arg8.view.readCov P (Rect.unit (s := S8x768x256) ![7, 128, 128] S1x640x128.size inb_S8x768x256_S1x640x128_7_128_128).toLoadRect = y27
    generalize View.readAt (Elt Ideal) arg6.view (Rect.unit (s := S1x512) ![0, 0] S1x512.size inb_S1x512_S1x512_0_0).toLoadRect (harg6.unread x4) = y28
    rfl
  have hc : ∀ y, ∃ p ∈ pieces arg5 harg5 x3, y ∈ p.1.set := by
    have h := scover0_A_0 c i arg2 harg2 arg3 harg3 arg4 harg4 arg5 harg5 arg6 harg6 arg7 harg7 arg8 harg8 hc0 hc1 hc2 hc3 x0 x1 x2 x3 x4
    frame_open at h
    exact h
  simp only [View.readAt_eq_ld, Memref.IsWhole.read_unread, View.readCov_eq_canon_ld _ _ _ hc]

set_option maxHeartbeats 4000000 in
/-- What the second block of a stream leaves. -/
theorem openB (c : Dev nD) (i : grid0.Coords) (arg2 : Memref sig .tc .vmem S256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S8x1024 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S8x768x256 .f32) (harg8 : arg8.IsWhole) (hc0 : ¬cond0_0 i) (hc1 : ¬cond0_1 i) (hc2 : cond0_2 i) (hc3 : ¬cond0_3 i)
    (x0 : Vec Ideal S256x512 .bf16) (x1 x2 : Vec Ideal S1x8192x512 .bf16) (x3 : Vec Ideal S8x1024 .f32) (x4 : Vec Ideal S1x512 .f32) (xs0 : Vec Ideal S8x768x256 .f32) :
    out0_B_5 c i arg2 harg2 arg3 harg3 arg4 harg4 arg5 harg5 arg6 harg6 arg7 harg7 arg8 harg8 hc0 hc1 hc2 hc3 x0 x1 x2 x3 x4 xs0 = outV (maskV 0#32 256#32) (maskV 128#32 256#32)
      (View.ld x0 (Rect.unit (s := S256x512) ![0, 0] S256x128.size inb_S256x512_S256x128_0_0))
      (View.ld x0 (Rect.unit (s := S256x512) ![0, 128] S256x128.size inb_S256x512_S256x128_0_128))
      (View.ld x0 (Rect.unit (s := S256x512) ![0, 256] S256x128.size inb_S256x512_S256x128_0_256))
      (View.ld x0 (Rect.unit (s := S256x512) ![0, 384] S256x128.size inb_S256x512_S256x128_0_384))
      (winB (View.ld x1 (Rect.unit (s := S1x8192x512) ![0, 0, 0] S1x512x128.size inb_S1x8192x512_S1x512x128_0_0_0)))
      (winB (View.ld x1 (Rect.unit (s := S1x8192x512) ![0, 0, 128] S1x512x128.size inb_S1x8192x512_S1x512x128_0_0_128)))
      (winB (View.ld x1 (Rect.unit (s := S1x8192x512) ![0, 0, 256] S1x512x128.size inb_S1x8192x512_S1x512x128_0_0_256)))
      (winB (View.ld x1 (Rect.unit (s := S1x8192x512) ![0, 0, 384] S1x512x128.size inb_S1x8192x512_S1x512x128_0_0_384)))
      (winB (View.ld x2 (Rect.unit (s := S1x8192x512) ![0, 0, 0] S1x512x128.size inb_S1x8192x512_S1x512x128_0_0_0)))
      (winB (View.ld x2 (Rect.unit (s := S1x8192x512) ![0, 0, 128] S1x512x128.size inb_S1x8192x512_S1x512x128_0_0_128)))
      (winB (View.ld x2 (Rect.unit (s := S1x8192x512) ![0, 0, 256] S1x512x128.size inb_S1x8192x512_S1x512x128_0_0_256)))
      (winB (View.ld x2 (Rect.unit (s := S1x8192x512) ![0, 0, 384] S1x512x128.size inb_S1x8192x512_S1x512x128_0_0_384)))
      (View.ld xs0 (Rect.unit (s := S8x768x256) ![0, 0, 0] S1x640x128.size inb_S8x768x256_S1x640x128_0_0_0))
      (View.ld xs0 (Rect.unit (s := S8x768x256) ![0, 128, 128] S1x640x128.size inb_S8x768x256_S1x640x128_0_128_128))
      (View.ld xs0 (Rect.unit (s := S8x768x256) ![1, 0, 0] S1x640x128.size inb_S8x768x256_S1x640x128_1_0_0))
      (View.ld xs0 (Rect.unit (s := S8x768x256) ![1, 128, 128] S1x640x128.size inb_S8x768x256_S1x640x128_1_128_128))
      (View.ld xs0 (Rect.unit (s := S8x768x256) ![2, 0, 0] S1x640x128.size inb_S8x768x256_S1x640x128_2_0_0))
      (View.ld xs0 (Rect.unit (s := S8x768x256) ![2, 128, 128] S1x640x128.size inb_S8x768x256_S1x640x128_2_128_128))
      (View.ld xs0 (Rect.unit (s := S8x768x256) ![3, 0, 0] S1x640x128.size inb_S8x768x256_S1x640x128_3_0_0))
      (View.ld xs0 (Rect.unit (s := S8x768x256) ![3, 128, 128] S1x640x128.size inb_S8x768x256_S1x640x128_3_128_128))
      (View.ld xs0 (Rect.unit (s := S8x768x256) ![4, 0, 0] S1x640x128.size inb_S8x768x256_S1x640x128_4_0_0))
      (View.ld xs0 (Rect.unit (s := S8x768x256) ![4, 128, 128] S1x640x128.size inb_S8x768x256_S1x640x128_4_128_128))
      (View.ld xs0 (Rect.unit (s := S8x768x256) ![5, 0, 0] S1x640x128.size inb_S8x768x256_S1x640x128_5_0_0))
      (View.ld xs0 (Rect.unit (s := S8x768x256) ![5, 128, 128] S1x640x128.size inb_S8x768x256_S1x640x128_5_128_128))
      (View.ld xs0 (Rect.unit (s := S8x768x256) ![6, 0, 0] S1x640x128.size inb_S8x768x256_S1x640x128_6_0_0))
      (View.ld xs0 (Rect.unit (s := S8x768x256) ![6, 128, 128] S1x640x128.size inb_S8x768x256_S1x640x128_6_128_128))
      (View.ld xs0 (Rect.unit (s := S8x768x256) ![7, 0, 0] S1x640x128.size inb_S8x768x256_S1x640x128_7_0_0))
      (View.ld xs0 (Rect.unit (s := S8x768x256) ![7, 128, 128] S1x640x128.size inb_S8x768x256_S1x640x128_7_128_128))
      (View.ld x4 (Rect.unit (s := S1x512) ![0, 0] S1x512.size inb_S1x512_S1x512_0_0)) := by
  unfold out0_B_5
  frame_open
  rw [View.read_writes_junk_eq_canon]
  refine (View.canon_cons_unit_lit' _ _ _ (by decide)).trans ?_
  refine Eq.trans (b := outV (maskV 0#32 256#32) (maskV 128#32 256#32)
      (View.readAt (Elt Ideal) arg2.view (Rect.unit (s := S256x512) ![0, 0] S256x128.size inb_S256x512_S256x128_0_0).toLoadRect (harg2.unread x0))
      (View.readAt (Elt Ideal) arg2.view (Rect.unit (s := S256x512) ![0, 128] S256x128.size inb_S256x512_S256x128_0_128).toLoadRect (harg2.unread x0))
      (View.readAt (Elt Ideal) arg2.view (Rect.unit (s := S256x512) ![0, 256] S256x128.size inb_S256x512_S256x128_0_256).toLoadRect (harg2.unread x0))
      (View.readAt (Elt Ideal) arg2.view (Rect.unit (s := S256x512) ![0, 384] S256x128.size inb_S256x512_S256x128_0_384).toLoadRect (harg2.unread x0))
      (winB (View.readAt (Elt Ideal) arg3.view (Rect.unit (s := S1x8192x512) ![0, 0, 0] S1x512x128.size inb_S1x8192x512_S1x512x128_0_0_0).toLoadRect (harg3.unread x1)))
      (winB (View.readAt (Elt Ideal) arg3.view (Rect.unit (s := S1x8192x512) ![0, 0, 128] S1x512x128.size inb_S1x8192x512_S1x512x128_0_0_128).toLoadRect (harg3.unread x1)))
      (winB (View.readAt (Elt Ideal) arg3.view (Rect.unit (s := S1x8192x512) ![0, 0, 256] S1x512x128.size inb_S1x8192x512_S1x512x128_0_0_256).toLoadRect (harg3.unread x1)))
      (winB (View.readAt (Elt Ideal) arg3.view (Rect.unit (s := S1x8192x512) ![0, 0, 384] S1x512x128.size inb_S1x8192x512_S1x512x128_0_0_384).toLoadRect (harg3.unread x1)))
      (winB (View.readAt (Elt Ideal) arg4.view (Rect.unit (s := S1x8192x512) ![0, 0, 0] S1x512x128.size inb_S1x8192x512_S1x512x128_0_0_0).toLoadRect (harg4.unread x2)))
      (winB (View.readAt (Elt Ideal) arg4.view (Rect.unit (s := S1x8192x512) ![0, 0, 128] S1x512x128.size inb_S1x8192x512_S1x512x128_0_0_128).toLoadRect (harg4.unread x2)))
      (winB (View.readAt (Elt Ideal) arg4.view (Rect.unit (s := S1x8192x512) ![0, 0, 256] S1x512x128.size inb_S1x8192x512_S1x512x128_0_0_256).toLoadRect (harg4.unread x2)))
      (winB (View.readAt (Elt Ideal) arg4.view (Rect.unit (s := S1x8192x512) ![0, 0, 384] S1x512x128.size inb_S1x8192x512_S1x512x128_0_0_384).toLoadRect (harg4.unread x2)))
      (View.readAt (Elt Ideal) arg8.view (Rect.unit (s := S8x768x256) ![0, 0, 0] S1x640x128.size inb_S8x768x256_S1x640x128_0_0_0).toLoadRect (harg8.unread xs0))
      (View.readAt (Elt Ideal) arg8.view (Rect.unit (s := S8x768x256) ![0, 128, 128] S1x640x128.size inb_S8x768x256_S1x640x128_0_128_128).toLoadRect (harg8.unread xs0))
      (View.readAt (Elt Ideal) arg8.view (Rect.unit (s := S8x768x256) ![1, 0, 0] S1x640x128.size inb_S8x768x256_S1x640x128_1_0_0).toLoadRect (harg8.unread xs0))
      (View.readAt (Elt Ideal) arg8.view (Rect.unit (s := S8x768x256) ![1, 128, 128] S1x640x128.size inb_S8x768x256_S1x640x128_1_128_128).toLoadRect (harg8.unread xs0))
      (View.readAt (Elt Ideal) arg8.view (Rect.unit (s := S8x768x256) ![2, 0, 0] S1x640x128.size inb_S8x768x256_S1x640x128_2_0_0).toLoadRect (harg8.unread xs0))
      (View.readAt (Elt Ideal) arg8.view (Rect.unit (s := S8x768x256) ![2, 128, 128] S1x640x128.size inb_S8x768x256_S1x640x128_2_128_128).toLoadRect (harg8.unread xs0))
      (View.readAt (Elt Ideal) arg8.view (Rect.unit (s := S8x768x256) ![3, 0, 0] S1x640x128.size inb_S8x768x256_S1x640x128_3_0_0).toLoadRect (harg8.unread xs0))
      (View.readAt (Elt Ideal) arg8.view (Rect.unit (s := S8x768x256) ![3, 128, 128] S1x640x128.size inb_S8x768x256_S1x640x128_3_128_128).toLoadRect (harg8.unread xs0))
      (View.readAt (Elt Ideal) arg8.view (Rect.unit (s := S8x768x256) ![4, 0, 0] S1x640x128.size inb_S8x768x256_S1x640x128_4_0_0).toLoadRect (harg8.unread xs0))
      (View.readAt (Elt Ideal) arg8.view (Rect.unit (s := S8x768x256) ![4, 128, 128] S1x640x128.size inb_S8x768x256_S1x640x128_4_128_128).toLoadRect (harg8.unread xs0))
      (View.readAt (Elt Ideal) arg8.view (Rect.unit (s := S8x768x256) ![5, 0, 0] S1x640x128.size inb_S8x768x256_S1x640x128_5_0_0).toLoadRect (harg8.unread xs0))
      (View.readAt (Elt Ideal) arg8.view (Rect.unit (s := S8x768x256) ![5, 128, 128] S1x640x128.size inb_S8x768x256_S1x640x128_5_128_128).toLoadRect (harg8.unread xs0))
      (View.readAt (Elt Ideal) arg8.view (Rect.unit (s := S8x768x256) ![6, 0, 0] S1x640x128.size inb_S8x768x256_S1x640x128_6_0_0).toLoadRect (harg8.unread xs0))
      (View.readAt (Elt Ideal) arg8.view (Rect.unit (s := S8x768x256) ![6, 128, 128] S1x640x128.size inb_S8x768x256_S1x640x128_6_128_128).toLoadRect (harg8.unread xs0))
      (View.readAt (Elt Ideal) arg8.view (Rect.unit (s := S8x768x256) ![7, 0, 0] S1x640x128.size inb_S8x768x256_S1x640x128_7_0_0).toLoadRect (harg8.unread xs0))
      (View.readAt (Elt Ideal) arg8.view (Rect.unit (s := S8x768x256) ![7, 128, 128] S1x640x128.size inb_S8x768x256_S1x640x128_7_128_128).toLoadRect (harg8.unread xs0))
      (View.readAt (Elt Ideal) arg6.view (Rect.unit (s := S1x512) ![0, 0] S1x512.size inb_S1x512_S1x512_0_0).toLoadRect (harg6.unread x4))) ?_ ?_
  · skip
    generalize View.readAt (Elt Ideal) arg2.view (Rect.unit (s := S256x512) ![0, 0] S256x128.size inb_S256x512_S256x128_0_0).toLoadRect (harg2.unread x0) = y0
    generalize View.readAt (Elt Ideal) arg2.view (Rect.unit (s := S256x512) ![0, 128] S256x128.size inb_S256x512_S256x128_0_128).toLoadRect (harg2.unread x0) = y1
    generalize View.readAt (Elt Ideal) arg2.view (Rect.unit (s := S256x512) ![0, 256] S256x128.size inb_S256x512_S256x128_0_256).toLoadRect (harg2.unread x0) = y2
    generalize View.readAt (Elt Ideal) arg2.view (Rect.unit (s := S256x512) ![0, 384] S256x128.size inb_S256x512_S256x128_0_384).toLoadRect (harg2.unread x0) = y3
    generalize View.readAt (Elt Ideal) arg3.view (Rect.unit (s := S1x8192x512) ![0, 0, 0] S1x512x128.size inb_S1x8192x512_S1x512x128_0_0_0).toLoadRect (harg3.unread x1) = y4
    generalize View.readAt (Elt Ideal) arg3.view (Rect.unit (s := S1x8192x512) ![0, 0, 128] S1x512x128.size inb_S1x8192x512_S1x512x128_0_0_128).toLoadRect (harg3.unread x1) = y5
    generalize View.readAt (Elt Ideal) arg3.view (Rect.unit (s := S1x8192x512) ![0, 0, 256] S1x512x128.size inb_S1x8192x512_S1x512x128_0_0_256).toLoadRect (harg3.unread x1) = y6
    generalize View.readAt (Elt Ideal) arg3.view (Rect.unit (s := S1x8192x512) ![0, 0, 384] S1x512x128.size inb_S1x8192x512_S1x512x128_0_0_384).toLoadRect (harg3.unread x1) = y7
    generalize View.readAt (Elt Ideal) arg4.view (Rect.unit (s := S1x8192x512) ![0, 0, 0] S1x512x128.size inb_S1x8192x512_S1x512x128_0_0_0).toLoadRect (harg4.unread x2) = y8
    generalize View.readAt (Elt Ideal) arg4.view (Rect.unit (s := S1x8192x512) ![0, 0, 128] S1x512x128.size inb_S1x8192x512_S1x512x128_0_0_128).toLoadRect (harg4.unread x2) = y9
    generalize View.readAt (Elt Ideal) arg4.view (Rect.unit (s := S1x8192x512) ![0, 0, 256] S1x512x128.size inb_S1x8192x512_S1x512x128_0_0_256).toLoadRect (harg4.unread x2) = y10
    generalize View.readAt (Elt Ideal) arg4.view (Rect.unit (s := S1x8192x512) ![0, 0, 384] S1x512x128.size inb_S1x8192x512_S1x512x128_0_0_384).toLoadRect (harg4.unread x2) = y11
    generalize View.readAt (Elt Ideal) arg8.view (Rect.unit (s := S8x768x256) ![0, 0, 0] S1x640x128.size inb_S8x768x256_S1x640x128_0_0_0).toLoadRect (harg8.unread xs0) = y12
    generalize View.readAt (Elt Ideal) arg8.view (Rect.unit (s := S8x768x256) ![0, 128, 128] S1x640x128.size inb_S8x768x256_S1x640x128_0_128_128).toLoadRect (harg8.unread xs0) = y13
    generalize View.readAt (Elt Ideal) arg8.view (Rect.unit (s := S8x768x256) ![1, 0, 0] S1x640x128.size inb_S8x768x256_S1x640x128_1_0_0).toLoadRect (harg8.unread xs0) = y14
    generalize View.readAt (Elt Ideal) arg8.view (Rect.unit (s := S8x768x256) ![1, 128, 128] S1x640x128.size inb_S8x768x256_S1x640x128_1_128_128).toLoadRect (harg8.unread xs0) = y15
    generalize View.readAt (Elt Ideal) arg8.view (Rect.unit (s := S8x768x256) ![2, 0, 0] S1x640x128.size inb_S8x768x256_S1x640x128_2_0_0).toLoadRect (harg8.unread xs0) = y16
    generalize View.readAt (Elt Ideal) arg8.view (Rect.unit (s := S8x768x256) ![2, 128, 128] S1x640x128.size inb_S8x768x256_S1x640x128_2_128_128).toLoadRect (harg8.unread xs0) = y17
    generalize View.readAt (Elt Ideal) arg8.view (Rect.unit (s := S8x768x256) ![3, 0, 0] S1x640x128.size inb_S8x768x256_S1x640x128_3_0_0).toLoadRect (harg8.unread xs0) = y18
    generalize View.readAt (Elt Ideal) arg8.view (Rect.unit (s := S8x768x256) ![3, 128, 128] S1x640x128.size inb_S8x768x256_S1x640x128_3_128_128).toLoadRect (harg8.unread xs0) = y19
    generalize View.readAt (Elt Ideal) arg8.view (Rect.unit (s := S8x768x256) ![4, 0, 0] S1x640x128.size inb_S8x768x256_S1x640x128_4_0_0).toLoadRect (harg8.unread xs0) = y20
    generalize View.readAt (Elt Ideal) arg8.view (Rect.unit (s := S8x768x256) ![4, 128, 128] S1x640x128.size inb_S8x768x256_S1x640x128_4_128_128).toLoadRect (harg8.unread xs0) = y21
    generalize View.readAt (Elt Ideal) arg8.view (Rect.unit (s := S8x768x256) ![5, 0, 0] S1x640x128.size inb_S8x768x256_S1x640x128_5_0_0).toLoadRect (harg8.unread xs0) = y22
    generalize View.readAt (Elt Ideal) arg8.view (Rect.unit (s := S8x768x256) ![5, 128, 128] S1x640x128.size inb_S8x768x256_S1x640x128_5_128_128).toLoadRect (harg8.unread xs0) = y23
    generalize View.readAt (Elt Ideal) arg8.view (Rect.unit (s := S8x768x256) ![6, 0, 0] S1x640x128.size inb_S8x768x256_S1x640x128_6_0_0).toLoadRect (harg8.unread xs0) = y24
    generalize View.readAt (Elt Ideal) arg8.view (Rect.unit (s := S8x768x256) ![6, 128, 128] S1x640x128.size inb_S8x768x256_S1x640x128_6_128_128).toLoadRect (harg8.unread xs0) = y25
    generalize View.readAt (Elt Ideal) arg8.view (Rect.unit (s := S8x768x256) ![7, 0, 0] S1x640x128.size inb_S8x768x256_S1x640x128_7_0_0).toLoadRect (harg8.unread xs0) = y26
    generalize View.readAt (Elt Ideal) arg8.view (Rect.unit (s := S8x768x256) ![7, 128, 128] S1x640x128.size inb_S8x768x256_S1x640x128_7_128_128).toLoadRect (harg8.unread xs0) = y27
    generalize View.readAt (Elt Ideal) arg6.view (Rect.unit (s := S1x512) ![0, 0] S1x512.size inb_S1x512_S1x512_0_0).toLoadRect (harg6.unread x4) = y28
    rfl
  simp only [View.readAt_eq_ld, Memref.IsWhole.read_unread]

set_option maxHeartbeats 4000000 in
/-- What the later block leaves. -/
theorem openC (c : Dev nD) (i : grid0.Coords) (arg2 : Memref sig .tc .vmem S256x512 .bf16) (harg2 : arg2.IsWhole) (arg3 : Memref sig .tc .vmem S1x8192x512 .bf16) (harg3 : arg3.IsWhole) (arg4 : Memref sig .tc .vmem S1x8192x512 .bf16) (harg4 : arg4.IsWhole) (arg5 : Memref sig .tc .vmem S8x1024 .f32) (harg5 : arg5.IsWhole) (arg6 : Memref sig .tc .vmem S1x512 .f32) (harg6 : arg6.IsWhole) (arg7 : Memref sig .tc .vmem S256x512 .bf16) (harg7 : arg7.IsWhole) (arg8 : Memref sig .tc .vmem S8x768x256 .f32) (harg8 : arg8.IsWhole) (hc0 : ¬cond0_0 i) (hc1 : ¬cond0_1 i) (hc2 : ¬cond0_2 i) (hc3 : cond0_3 i)
    (x0 : Vec Ideal S256x512 .bf16) (x1 x2 : Vec Ideal S1x8192x512 .bf16) (x3 : Vec Ideal S8x1024 .f32) (x4 : Vec Ideal S1x512 .f32) (xs0 : Vec Ideal S8x768x256 .f32) :
    out0_C_5 c i arg2 harg2 arg3 harg3 arg4 harg4 arg5 harg5 arg6 harg6 arg7 harg7 arg8 harg8 hc0 hc1 hc2 hc3 x0 x1 x2 x3 x4 xs0 = outV id id
      (View.ld x0 (Rect.unit (s := S256x512) ![0, 0] S256x128.size inb_S256x512_S256x128_0_0))
      (View.ld x0 (Rect.unit (s := S256x512) ![0, 128] S256x128.size inb_S256x512_S256x128_0_128))
      (View.ld x0 (Rect.unit (s := S256x512) ![0, 256] S256x128.size inb_S256x512_S256x128_0_256))
      (View.ld x0 (Rect.unit (s := S256x512) ![0, 384] S256x128.size inb_S256x512_S256x128_0_384))
      (winC (View.ld x1 (Rect.unit (s := S1x8192x512) (k0_off1 i) S1x768x128.size (k0_off1_inb i hc3))))
      (winC (View.ld x1 (Rect.unit (s := S1x8192x512) (k0_off2 i) S1x768x128.size (k0_off2_inb i hc3))))
      (winC (View.ld x1 (Rect.unit (s := S1x8192x512) (k0_off3 i) S1x768x128.size (k0_off3_inb i hc3))))
      (winC (View.ld x1 (Rect.unit (s := S1x8192x512) (k0_off4 i) S1x768x128.size (k0_off4_inb i hc3))))
      (winC (View.ld x2 (Rect.unit (s := S1x8192x512) (k0_off1 i) S1x768x128.size (k0_off1_inb i hc3))))
      (winC (View.ld x2 (Rect.unit (s := S1x8192x512) (k0_off2 i) S1x768x128.size (k0_off2_inb i hc3))))
      (winC (View.ld x2 (Rect.unit (s := S1x8192x512) (k0_off3 i) S1x768x128.size (k0_off3_inb i hc3))))
      (winC (View.ld x2 (Rect.unit (s := S1x8192x512) (k0_off4 i) S1x768x128.size (k0_off4_inb i hc3))))
      (View.ld xs0 (Rect.unit (s := S8x768x256) ![0, 0, 0] S1x640x128.size inb_S8x768x256_S1x640x128_0_0_0))
      (View.ld xs0 (Rect.unit (s := S8x768x256) ![0, 128, 128] S1x640x128.size inb_S8x768x256_S1x640x128_0_128_128))
      (View.ld xs0 (Rect.unit (s := S8x768x256) ![1, 0, 0] S1x640x128.size inb_S8x768x256_S1x640x128_1_0_0))
      (View.ld xs0 (Rect.unit (s := S8x768x256) ![1, 128, 128] S1x640x128.size inb_S8x768x256_S1x640x128_1_128_128))
      (View.ld xs0 (Rect.unit (s := S8x768x256) ![2, 0, 0] S1x640x128.size inb_S8x768x256_S1x640x128_2_0_0))
      (View.ld xs0 (Rect.unit (s := S8x768x256) ![2, 128, 128] S1x640x128.size inb_S8x768x256_S1x640x128_2_128_128))
      (View.ld xs0 (Rect.unit (s := S8x768x256) ![3, 0, 0] S1x640x128.size inb_S8x768x256_S1x640x128_3_0_0))
      (View.ld xs0 (Rect.unit (s := S8x768x256) ![3, 128, 128] S1x640x128.size inb_S8x768x256_S1x640x128_3_128_128))
      (View.ld xs0 (Rect.unit (s := S8x768x256) ![4, 0, 0] S1x640x128.size inb_S8x768x256_S1x640x128_4_0_0))
      (View.ld xs0 (Rect.unit (s := S8x768x256) ![4, 128, 128] S1x640x128.size inb_S8x768x256_S1x640x128_4_128_128))
      (View.ld xs0 (Rect.unit (s := S8x768x256) ![5, 0, 0] S1x640x128.size inb_S8x768x256_S1x640x128_5_0_0))
      (View.ld xs0 (Rect.unit (s := S8x768x256) ![5, 128, 128] S1x640x128.size inb_S8x768x256_S1x640x128_5_128_128))
      (View.ld xs0 (Rect.unit (s := S8x768x256) ![6, 0, 0] S1x640x128.size inb_S8x768x256_S1x640x128_6_0_0))
      (View.ld xs0 (Rect.unit (s := S8x768x256) ![6, 128, 128] S1x640x128.size inb_S8x768x256_S1x640x128_6_128_128))
      (View.ld xs0 (Rect.unit (s := S8x768x256) ![7, 0, 0] S1x640x128.size inb_S8x768x256_S1x640x128_7_0_0))
      (View.ld xs0 (Rect.unit (s := S8x768x256) ![7, 128, 128] S1x640x128.size inb_S8x768x256_S1x640x128_7_128_128))
      (View.ld x4 (Rect.unit (s := S1x512) ![0, 0] S1x512.size inb_S1x512_S1x512_0_0)) := by
  unfold out0_C_5
  frame_open
  rw [View.read_writes_junk_eq_canon]
  refine (View.canon_cons_unit_lit' _ _ _ (by decide)).trans ?_
  refine Eq.trans (b := outV id id
      (View.readAt (Elt Ideal) arg2.view (Rect.unit (s := S256x512) ![0, 0] S256x128.size inb_S256x512_S256x128_0_0).toLoadRect (harg2.unread x0))
      (View.readAt (Elt Ideal) arg2.view (Rect.unit (s := S256x512) ![0, 128] S256x128.size inb_S256x512_S256x128_0_128).toLoadRect (harg2.unread x0))
      (View.readAt (Elt Ideal) arg2.view (Rect.unit (s := S256x512) ![0, 256] S256x128.size inb_S256x512_S256x128_0_256).toLoadRect (harg2.unread x0))
      (View.readAt (Elt Ideal) arg2.view (Rect.unit (s := S256x512) ![0, 384] S256x128.size inb_S256x512_S256x128_0_384).toLoadRect (harg2.unread x0))
      (winC (View.readAt (Elt Ideal) arg3.view (Rect.unit (s := S1x8192x512) (k0_off1 i) S1x768x128.size (k0_off1_inb i hc3)).toLoadRect (harg3.unread x1)))
      (winC (View.readAt (Elt Ideal) arg3.view (Rect.unit (s := S1x8192x512) (k0_off2 i) S1x768x128.size (k0_off2_inb i hc3)).toLoadRect (harg3.unread x1)))
      (winC (View.readAt (Elt Ideal) arg3.view (Rect.unit (s := S1x8192x512) (k0_off3 i) S1x768x128.size (k0_off3_inb i hc3)).toLoadRect (harg3.unread x1)))
      (winC (View.readAt (Elt Ideal) arg3.view (Rect.unit (s := S1x8192x512) (k0_off4 i) S1x768x128.size (k0_off4_inb i hc3)).toLoadRect (harg3.unread x1)))
      (winC (View.readAt (Elt Ideal) arg4.view (Rect.unit (s := S1x8192x512) (k0_off1 i) S1x768x128.size (k0_off1_inb i hc3)).toLoadRect (harg4.unread x2)))
      (winC (View.readAt (Elt Ideal) arg4.view (Rect.unit (s := S1x8192x512) (k0_off2 i) S1x768x128.size (k0_off2_inb i hc3)).toLoadRect (harg4.unread x2)))
      (winC (View.readAt (Elt Ideal) arg4.view (Rect.unit (s := S1x8192x512) (k0_off3 i) S1x768x128.size (k0_off3_inb i hc3)).toLoadRect (harg4.unread x2)))
      (winC (View.readAt (Elt Ideal) arg4.view (Rect.unit (s := S1x8192x512) (k0_off4 i) S1x768x128.size (k0_off4_inb i hc3)).toLoadRect (harg4.unread x2)))
      (View.readAt (Elt Ideal) arg8.view (Rect.unit (s := S8x768x256) ![0, 0, 0] S1x640x128.size inb_S8x768x256_S1x640x128_0_0_0).toLoadRect (harg8.unread xs0))
      (View.readAt (Elt Ideal) arg8.view (Rect.unit (s := S8x768x256) ![0, 128, 128] S1x640x128.size inb_S8x768x256_S1x640x128_0_128_128).toLoadRect (harg8.unread xs0))
      (View.readAt (Elt Ideal) arg8.view (Rect.unit (s := S8x768x256) ![1, 0, 0] S1x640x128.size inb_S8x768x256_S1x640x128_1_0_0).toLoadRect (harg8.unread xs0))
      (View.readAt (Elt Ideal) arg8.view (Rect.unit (s := S8x768x256) ![1, 128, 128] S1x640x128.size inb_S8x768x256_S1x640x128_1_128_128).toLoadRect (harg8.unread xs0))
      (View.readAt (Elt Ideal) arg8.view (Rect.unit (s := S8x768x256) ![2, 0, 0] S1x640x128.size inb_S8x768x256_S1x640x128_2_0_0).toLoadRect (harg8.unread xs0))
      (View.readAt (Elt Ideal) arg8.view (Rect.unit (s := S8x768x256) ![2, 128, 128] S1x640x128.size inb_S8x768x256_S1x640x128_2_128_128).toLoadRect (harg8.unread xs0))
      (View.readAt (Elt Ideal) arg8.view (Rect.unit (s := S8x768x256) ![3, 0, 0] S1x640x128.size inb_S8x768x256_S1x640x128_3_0_0).toLoadRect (harg8.unread xs0))
      (View.readAt (Elt Ideal) arg8.view (Rect.unit (s := S8x768x256) ![3, 128, 128] S1x640x128.size inb_S8x768x256_S1x640x128_3_128_128).toLoadRect (harg8.unread xs0))
      (View.readAt (Elt Ideal) arg8.view (Rect.unit (s := S8x768x256) ![4, 0, 0] S1x640x128.size inb_S8x768x256_S1x640x128_4_0_0).toLoadRect (harg8.unread xs0))
      (View.readAt (Elt Ideal) arg8.view (Rect.unit (s := S8x768x256) ![4, 128, 128] S1x640x128.size inb_S8x768x256_S1x640x128_4_128_128).toLoadRect (harg8.unread xs0))
      (View.readAt (Elt Ideal) arg8.view (Rect.unit (s := S8x768x256) ![5, 0, 0] S1x640x128.size inb_S8x768x256_S1x640x128_5_0_0).toLoadRect (harg8.unread xs0))
      (View.readAt (Elt Ideal) arg8.view (Rect.unit (s := S8x768x256) ![5, 128, 128] S1x640x128.size inb_S8x768x256_S1x640x128_5_128_128).toLoadRect (harg8.unread xs0))
      (View.readAt (Elt Ideal) arg8.view (Rect.unit (s := S8x768x256) ![6, 0, 0] S1x640x128.size inb_S8x768x256_S1x640x128_6_0_0).toLoadRect (harg8.unread xs0))
      (View.readAt (Elt Ideal) arg8.view (Rect.unit (s := S8x768x256) ![6, 128, 128] S1x640x128.size inb_S8x768x256_S1x640x128_6_128_128).toLoadRect (harg8.unread xs0))
      (View.readAt (Elt Ideal) arg8.view (Rect.unit (s := S8x768x256) ![7, 0, 0] S1x640x128.size inb_S8x768x256_S1x640x128_7_0_0).toLoadRect (harg8.unread xs0))
      (View.readAt (Elt Ideal) arg8.view (Rect.unit (s := S8x768x256) ![7, 128, 128] S1x640x128.size inb_S8x768x256_S1x640x128_7_128_128).toLoadRect (harg8.unread xs0))
      (View.readAt (Elt Ideal) arg6.view (Rect.unit (s := S1x512) ![0, 0] S1x512.size inb_S1x512_S1x512_0_0).toLoadRect (harg6.unread x4))) ?_ ?_
  · skip
    generalize View.readAt (Elt Ideal) arg2.view (Rect.unit (s := S256x512) ![0, 0] S256x128.size inb_S256x512_S256x128_0_0).toLoadRect (harg2.unread x0) = y0
    generalize View.readAt (Elt Ideal) arg2.view (Rect.unit (s := S256x512) ![0, 128] S256x128.size inb_S256x512_S256x128_0_128).toLoadRect (harg2.unread x0) = y1
    generalize View.readAt (Elt Ideal) arg2.view (Rect.unit (s := S256x512) ![0, 256] S256x128.size inb_S256x512_S256x128_0_256).toLoadRect (harg2.unread x0) = y2
    generalize View.readAt (Elt Ideal) arg2.view (Rect.unit (s := S256x512) ![0, 384] S256x128.size inb_S256x512_S256x128_0_384).toLoadRect (harg2.unread x0) = y3
    generalize View.readAt (Elt Ideal) arg3.view (Rect.unit (s := S1x8192x512) (k0_off1 i) S1x768x128.size (k0_off1_inb i hc3)).toLoadRect (harg3.unread x1) = y4
    generalize View.readAt (Elt Ideal) arg3.view (Rect.unit (s := S1x8192x512) (k0_off2 i) S1x768x128.size (k0_off2_inb i hc3)).toLoadRect (harg3.unread x1) = y5
    generalize View.readAt (Elt Ideal) arg3.view (Rect.unit (s := S1x8192x512) (k0_off3 i) S1x768x128.size (k0_off3_inb i hc3)).toLoadRect (harg3.unread x1) = y6
    generalize View.readAt (Elt Ideal) arg3.view (Rect.unit (s := S1x8192x512) (k0_off4 i) S1x768x128.size (k0_off4_inb i hc3)).toLoadRect (harg3.unread x1) = y7
    generalize View.readAt (Elt Ideal) arg4.view (Rect.unit (s := S1x8192x512) (k0_off1 i) S1x768x128.size (k0_off1_inb i hc3)).toLoadRect (harg4.unread x2) = y8
    generalize View.readAt (Elt Ideal) arg4.view (Rect.unit (s := S1x8192x512) (k0_off2 i) S1x768x128.size (k0_off2_inb i hc3)).toLoadRect (harg4.unread x2) = y9
    generalize View.readAt (Elt Ideal) arg4.view (Rect.unit (s := S1x8192x512) (k0_off3 i) S1x768x128.size (k0_off3_inb i hc3)).toLoadRect (harg4.unread x2) = y10
    generalize View.readAt (Elt Ideal) arg4.view (Rect.unit (s := S1x8192x512) (k0_off4 i) S1x768x128.size (k0_off4_inb i hc3)).toLoadRect (harg4.unread x2) = y11
    generalize View.readAt (Elt Ideal) arg8.view (Rect.unit (s := S8x768x256) ![0, 0, 0] S1x640x128.size inb_S8x768x256_S1x640x128_0_0_0).toLoadRect (harg8.unread xs0) = y12
    generalize View.readAt (Elt Ideal) arg8.view (Rect.unit (s := S8x768x256) ![0, 128, 128] S1x640x128.size inb_S8x768x256_S1x640x128_0_128_128).toLoadRect (harg8.unread xs0) = y13
    generalize View.readAt (Elt Ideal) arg8.view (Rect.unit (s := S8x768x256) ![1, 0, 0] S1x640x128.size inb_S8x768x256_S1x640x128_1_0_0).toLoadRect (harg8.unread xs0) = y14
    generalize View.readAt (Elt Ideal) arg8.view (Rect.unit (s := S8x768x256) ![1, 128, 128] S1x640x128.size inb_S8x768x256_S1x640x128_1_128_128).toLoadRect (harg8.unread xs0) = y15
    generalize View.readAt (Elt Ideal) arg8.view (Rect.unit (s := S8x768x256) ![2, 0, 0] S1x640x128.size inb_S8x768x256_S1x640x128_2_0_0).toLoadRect (harg8.unread xs0) = y16
    generalize View.readAt (Elt Ideal) arg8.view (Rect.unit (s := S8x768x256) ![2, 128, 128] S1x640x128.size inb_S8x768x256_S1x640x128_2_128_128).toLoadRect (harg8.unread xs0) = y17
    generalize View.readAt (Elt Ideal) arg8.view (Rect.unit (s := S8x768x256) ![3, 0, 0] S1x640x128.size inb_S8x768x256_S1x640x128_3_0_0).toLoadRect (harg8.unread xs0) = y18
    generalize View.readAt (Elt Ideal) arg8.view (Rect.unit (s := S8x768x256) ![3, 128, 128] S1x640x128.size inb_S8x768x256_S1x640x128_3_128_128).toLoadRect (harg8.unread xs0) = y19
    generalize View.readAt (Elt Ideal) arg8.view (Rect.unit (s := S8x768x256) ![4, 0, 0] S1x640x128.size inb_S8x768x256_S1x640x128_4_0_0).toLoadRect (harg8.unread xs0) = y20
    generalize View.readAt (Elt Ideal) arg8.view (Rect.unit (s := S8x768x256) ![4, 128, 128] S1x640x128.size inb_S8x768x256_S1x640x128_4_128_128).toLoadRect (harg8.unread xs0) = y21
    generalize View.readAt (Elt Ideal) arg8.view (Rect.unit (s := S8x768x256) ![5, 0, 0] S1x640x128.size inb_S8x768x256_S1x640x128_5_0_0).toLoadRect (harg8.unread xs0) = y22
    generalize View.readAt (Elt Ideal) arg8.view (Rect.unit (s := S8x768x256) ![5, 128, 128] S1x640x128.size inb_S8x768x256_S1x640x128_5_128_128).toLoadRect (harg8.unread xs0) = y23
    generalize View.readAt (Elt Ideal) arg8.view (Rect.unit (s := S8x768x256) ![6, 0, 0] S1x640x128.size inb_S8x768x256_S1x640x128_6_0_0).toLoadRect (harg8.unread xs0) = y24
    generalize View.readAt (Elt Ideal) arg8.view (Rect.unit (s := S8x768x256) ![6, 128, 128] S1x640x128.size inb_S8x768x256_S1x640x128_6_128_128).toLoadRect (harg8.unread xs0) = y25
    generalize View.readAt (Elt Ideal) arg8.view (Rect.unit (s := S8x768x256) ![7, 0, 0] S1x640x128.size inb_S8x768x256_S1x640x128_7_0_0).toLoadRect (harg8.unread xs0) = y26
    generalize View.readAt (Elt Ideal) arg8.view (Rect.unit (s := S8x768x256) ![7, 128, 128] S1x640x128.size inb_S8x768x256_S1x640x128_7_128_128).toLoadRect (harg8.unread xs0) = y27
    generalize View.readAt (Elt Ideal) arg6.view (Rect.unit (s := S1x512) ![0, 0] S1x512.size inb_S1x512_S1x512_0_0).toLoadRect (harg6.unread x4) = y28
    rfl
  simp only [View.readAt_eq_ld, Memref.IsWhole.read_unread]

end Cert.BandOpen

end
-- ==== Proof.BandTable.lean ====
/- The table of biases of the attention over the band. -/
module

public import proofs.«01_k».proof.Proof.BandOpen
public import proofs.«01_k».proof.Proof.BandBlock
public import Idealize.ShloMosaic.Lib.Pipeline.ValueKit
public import Idealize.ShloMosaic.Lib.Pointwise

@[expose] public section

set_option maxRecDepth 16384

noncomputable section

namespace Cert.BandTable

open Idealize.ShloMosaic Idealize.ShloMosaic.TcCoe Idealize.SL.Sem
open Cert.AttnPromptIdeal Cert.AttnPromptIdeal.Gen Cert.AttnMath Cert.BandMath Cert.BandKernel Cert.BandOpen

/-- The sub-block of a query. -/
theorem sub_q (r : Fin 256) (w : Fin 768) : k0_pay5 (ix2 r w) = BitVec.ofNat 32 (r.val / 64) :=
  (by decide +kernel : ∀ r : Fin 256, k0_pay5 (ix2 r 0) = BitVec.ofNat 32 (r.val / 64)) r

/-- The sub-block of a key. -/
theorem sub_k (r : Fin 256) (w : Fin 768) :
    (select k0_pay7 (subi k0_pay6 (broadcast S256x768 1#32)) k0_pay6 : IVec S256x768 32) (ix2 r w) = BitVec.ofNat 32 (w.val / 64) :=
  (by decide +kernel : ∀ w : Fin 768, (select k0_pay7 (subi k0_pay6 (broadcast S256x768 1#32)) k0_pay6 : IVec S256x768 32) (ix2 0 w) = BitVec.ofNat 32 (w.val / 64)) w

/-- The band of two sub-blocks. -/
def bandW (a b : BitVec 32) : BitVec 1 := Scalar.andi (Scalar.cmpi .sge b a) (Scalar.cmpi .sle b (Scalar.addi a 8#32))

/-- The band of two sub-blocks: the second is at most eight past the first. -/
theorem bandW_at : ∀ (a : Fin 4) (b : Fin 12), bandW (BitVec.ofNat 32 a.val) (BitVec.ofNat 32 b.val) = if a.val ≤ b.val ∧ b.val ≤ a.val + 8 then 1#1 else 0#1 := by
  decide +kernel

/-- The band. -/
theorem band_at (r : Fin 256) (w : Fin 768) :
    k0_pay8 k0_pay5 k0_pay6 k0_pay7 (ix2 r w) = if 64 * (r.val / 64) ≤ w.val ∧ w.val < 64 * (r.val / 64) + 576 then 1#1 else 0#1 := by
  have e : k0_pay8 k0_pay5 k0_pay6 k0_pay7 (ix2 r w) = bandW (k0_pay5 (ix2 r w)) ((select k0_pay7 (subi k0_pay6 (broadcast S256x768 1#32)) k0_pay6 : IVec S256x768 32) (ix2 r w)) := rfl
  rw [e, sub_q, sub_k]
  refine (bandW_at ⟨r.val / 64, by omega⟩ ⟨w.val / 64, by omega⟩).trans ?_
  by_cases h : 64 * (r.val / 64) ≤ w.val ∧ w.val < 64 * (r.val / 64) + 576
  · rw [if_pos h, if_pos (by constructor <;> simp only [] <;> omega)]
  · rw [if_neg h, if_neg (by simp only []; omega)]

/-- One head's part of the table. -/
theorem pay9_at (x : Vec Ideal S1x1024 .f32) (w : Fin 768) (r : Fin 256) :
    k0_pay9 (F := Ideal) k0_pay5 k0_pay6 k0_pay7 x (ix3 0 w r)
      = if 64 * (r.val / 64) ≤ w.val ∧ w.val < 64 * (r.val / 64) + 576 then x (ix2 0 ⟨w.val + 255 - r.val, by omega⟩) * (((Real.log 2)⁻¹ : ℝ) : EReal) else ⊥ := by
  unfold k0_pay9
  generalize hb : k0_pay8 k0_pay5 k0_pay6 k0_pay7 = bd
  pointwise
  rw [← hb, band_at]
  have e : (⟨(w.val + 1024 - (769 + r.val) % 1024) % 1024, Nat.mod_lt _ (by norm_num)⟩ : Fin 1024) = ⟨w.val + 255 - r.val, by omega⟩ := Fin.ext (by dsimp only; omega)
  rw [e]
  by_cases h : 64 * (r.val / 64) ≤ w.val ∧ w.val < 64 * (r.val / 64) + 576
  · rw [if_pos h, if_pos h]
    rfl
  · rw [if_neg h, if_neg h]
    rfl

/-- An index of a stored piece. -/
theorem ix_of (x : S1x768x256.Idx) (w : Fin 768) (r : Fin 256) (h1 : w.val = (x 1).val) (h2 : r.val = (x 2).val) : x = ix3 0 w r := by
  have e0 : x 0 = (0 : Fin 1) := Fin.ext (by have h : (x 0).val < 1 := (x 0).isLt; show (x 0).val = 0; omega)
  have e1 : x 1 = w := Fin.ext h1.symm
  have e2 : x 2 = r := Fin.ext h2.symm
  refine (eq_ix3 x).trans ?_
  rw [e0, e1, e2]

/-- One stored piece, read at one entry. -/
theorem piece_at (k : Fin 8) (x3 : Vec Ideal S8x1024 .f32) (h : Fin 8) (w : Fin 768) (r : Fin 256)
    (inb : ∀ a, (![k.val, 0] : Fin 2 → Nat) a + S1x1024.size a ≤ S8x1024.size a) (x : S1x768x256.Idx) (h0 : h.val = k.val + (x 0).val) (h1 : w.val = (x 1).val) (h2 : r.val = (x 2).val) :
    k0_pay9 (F := Ideal) k0_pay5 k0_pay6 k0_pay7 (View.ld x3 (Rect.unit (s := S8x1024) ![k.val, 0] S1x1024.size inb)) x
      = if 64 * (r.val / 64) ≤ w.val ∧ w.val < 64 * (r.val / 64) + 576 then x3 (ix2 h ⟨w.val + 255 - r.val, by omega⟩) * (((Real.log 2)⁻¹ : ℝ) : EReal) else ⊥ := by
  have e : h = k := Fin.ext (by have : (x 0).val < 1 := (x 0).isLt; omega)
  subst e
  refine (congrArg _ (ix_of x w r h1 h2)).trans ?_
  rw [pay9_at]
  have e : (View.ld x3 (Rect.unit (s := S8x1024) ![h.val, 0] S1x1024.size inb) : Vec Ideal S1x1024 .f32) (ix2 0 (⟨w.val + 255 - r.val, by omega⟩ : Fin 1024)) = x3 (ix2 h ⟨w.val + 255 - r.val, by omega⟩) := by
    pointwise
    blk_ext
  rw [e]

/-- The table. -/
theorem table_at (arg5 : Memref sig .tc .vmem S8x1024 .f32) (harg5 : arg5.IsWhole) (x3 : Vec Ideal S8x1024 .f32) (h : Fin 8) (w : Fin 768) (r : Fin 256) :
    View.canon (pieces arg5 harg5 x3) (ix3 h w r : S8x768x256.Idx)
      = if 64 * (r.val / 64) ≤ w.val ∧ w.val < 64 * (r.val / 64) + 576 then x3 (ix2 h ⟨w.val + 255 - r.val, by omega⟩) * (((Real.log 2)⁻¹ : ℝ) : EReal) else ⊥ := by
  unfold pieces
  simp only [View.readAt_eq_ld, Memref.IsWhole.read_unread]
  canon_tiles x hx
  · exact piece_at 7 x3 h w r _ x hx0 hx1 hx2
  · exact piece_at 6 x3 h w r _ x hx0 hx1 hx2
  · exact piece_at 5 x3 h w r _ x hx0 hx1 hx2
  · exact piece_at 4 x3 h w r _ x hx0 hx1 hx2
  · exact piece_at 3 x3 h w r _ x hx0 hx1 hx2
  · exact piece_at 2 x3 h w r _ x hx0 hx1 hx2
  · exact piece_at 1 x3 h w r _ x hx0 hx1 hx2
  · exact piece_at 0 x3 h w r _ x (by have e : h.val = (x 0).val := hx0; exact e.trans (Nat.zero_add _).symm) hx1 hx2

end Cert.BandTable

end
-- ==== Proof.BandScratch.lean ====
/- The blocks of the prompt attention and the table it keeps from block to block. -/
module

public import proofs.«01_k».proof.Proof.Gen.AttnPromptIdeal.Value
public import proofs.«01_k».proof.Proof.BandTable
public import Idealize.ShloMosaic.Lib.Pipeline.ValueKit
public import Idealize.ShloMosaic.Lib.Pointwise

@[expose] public section

set_option maxRecDepth 16384

noncomputable section

namespace Cert.BandScratch

open Idealize.ShloMosaic Idealize.ShloMosaic.TcCoe Idealize.SL.Sem
open Idealize.ShloMosaic.Pipeline (Dat)
open Cert.AttnPromptIdeal Cert.AttnPromptIdeal.Gen Cert.AttnMath Cert.BandOpen Cert.BandTable

variable (m : (ℓ : Loc nD τ sig) → Buf (Elt Ideal) ℓ)

/-- Which block each window reads or writes at each point: stream after stream, block after block. -/
theorem idx : ∀ t : Fin cfg0.N, win0_0.index t = ![t.val, 0] ∧ win0_1.index t = ![t.val / 32, 0, 0] ∧ win0_2.index t = ![t.val / 32, 0, 0]
    ∧ win0_3.index t = ![0, 0] ∧ win0_4.index t = ![0, 0] ∧ win0_5.index t = ![t.val, 0] ∧ t.val < 128 :=
  (by decide +kernel : ∀ t : Fin grid0.N, _)

/-- A row of queries. -/
theorem blk_q (c : Dev nD) (t : Fin cfg0.N) (ht : t.val < 128) (r : Fin 256) (j : Fin 512) :
    (iblk m c 0 t : Vec Ideal S256x512 .bf16) (ix2 r j) = m ((c : Thread nD τ).loc main_arg0) (ix2 (⟨t.val * 256 + r.val, by omega⟩ : Fin 32768) j) := by
  blk_ext [iblk, V, idx t]

/-- A row of keys. -/
theorem blk_k (c : Dev nD) (t : Fin cfg0.N) (ht : t.val < 128) (i : Fin 8192) (j : Fin 512) :
    (iblk m c 1 t : Vec Ideal S1x8192x512 .bf16) (ix3 0 i j) = m ((c : Thread nD τ).loc main_arg1) (ix2 (⟨t.val / 32 * 8192 + i.val, by omega⟩ : Fin 32768) j) := by
  blk_point [iblk, V, idx t]

/-- A row of values. -/
theorem blk_v (c : Dev nD) (t : Fin cfg0.N) (ht : t.val < 128) (i : Fin 8192) (j : Fin 512) :
    (iblk m c 2 t : Vec Ideal S1x8192x512 .bf16) (ix3 0 i j) = m ((c : Thread nD τ).loc main_arg2) (ix2 (⟨t.val / 32 * 8192 + i.val, by omega⟩ : Fin 32768) j) := by
  blk_point [iblk, V, idx t]

/-- The gains. -/
theorem blk_g (c : Dev nD) (t : Fin cfg0.N) (j : Fin 512) :
    (iblk m c 4 t : Vec Ideal S1x512 .f32) (ix2 0 j) = m ((c : Thread nD τ).loc main_arg4) (ix1 j) := by
  blk_point [iblk, V, idx t]

/-- The biases laid out by distance, repeated at both ends. -/
def ext (b : FVec Ideal S8x257 .f32) : FVec Ideal S8x1024 .f32 :=
  concatenate S8x1024 1 [⟨S8x639, broadcastInDim S8x639 ![0, 1] bcast_S8x1_S8x639_0_1 (extractStridedSlice S8x1 ![0, 0] b slices_S8x257_S8x1_0_0)⟩, ⟨S8x257, b⟩,
    ⟨S8x128, broadcastInDim S8x128 ![0, 1] bcast_S8x1_S8x128_0_1 (extractStridedSlice S8x1 ![0, 256] b slices_S8x257_S8x1_0_256)⟩] concatenates_S8x639_S8x257_S8x128_S8x1024_d1

/-- One of them. -/
theorem ext_at (b : FVec Ideal S8x257 .f32) (h : Fin 8) (j : Fin 1024) : ext b (ix2 h j) = b (ix2 h ⟨min (j.val - 639) 256, by omega⟩) := by
  pointwise [ext]
  repeat' split
  all_goals exact congrArg (fun i => b (ix2 h i)) (Fin.ext (by simp; omega))

/-- The block of biases. -/
theorem blk_e (c : Dev nD) (t : Fin cfg0.N) (h : Fin 8) (j : Fin 1024) :
    (iblk m c 3 t : Vec Ideal S8x1024 .f32) (ix2 h j) = ext (m ((c : Thread nD τ).loc main_arg3)) (ix2 h j) := by
  have e : V m c main_v6 = ext (m ((c : Thread nD τ).loc main_arg3)) := by
    unfold V
    rfl
  show View.read (Elt Ideal) ((cfg0.win 3).blk t).view (V m c main_v6) (ix2 h j) = _
  rw [e]
  blk_ext [idx t]

/-- One entry of the table: a bias over the natural logarithm of two, or minus infinity off the band. -/
def tab (rel : FVec Ideal S8x257 .f32) (h : Fin 8) (w : Fin 768) (r : Fin 256) : EReal :=
  if 64 * (r.val / 64) ≤ w.val ∧ w.val < 64 * (r.val / 64) + 576 then ext rel (ix2 h ⟨w.val + 255 - r.val, by omega⟩) * (((Real.log 2)⁻¹ : ℝ) : EReal) else ⊥

/-- After every block the table is in place. -/
theorem scratch (c : Dev nD) : ∀ (n : ℕ) (hn : n < cfg0.N) (h : Fin 8) (w : Fin 768) (r : Fin 256),
    (outsAt0 m c n hn).2 (ix3 h w r) = tab (m ((c : Thread nD τ).loc main_arg3)) h w r := by
  intro n
  induction n using Nat.strong_induction_on with
  | _ n ih =>
    intro hn h w r
    by_cases h0 : n % 32 = 0
    · have e := outsAt0_A m c ⟨n, hn⟩ h0 h0 (by dsimp only; omega) (by dsimp only; omega)
      rw [show outsAt0 m c n hn = _ from e]
      dsimp only
      rw [openS, table_at, blk_e]
      rfl
    · by_cases h1 : n % 32 = 1
      · have e := outsAt0_B m c ⟨n, hn⟩ h0 h0 h1 (by dsimp only; omega)
        rw [show outsAt0 m c n hn = _ from e]
        exact ih (n - 1) (by omega) _ h w r
      · have e := outsAt0_C m c ⟨n, hn⟩ h0 h0 h1 (by dsimp only; omega)
        rw [show outsAt0 m c n hn = _ from e]
        exact ih (n - 1) (by omega) _ h w r

end Cert.BandScratch

end
-- ==== Proof.BandValue.lean ====
/- What the prompt attention leaves in its result: the reference's term, where the scores are finite. -/
module

public import proofs.«01_k».proof.Proof.BandLoads
public import proofs.«01_k».proof.Proof.BandScratch
public import Idealize.ShloMosaic.Lib.Pipeline.ValueKit
public import Idealize.ShloMosaic.Lib.Pointwise

@[expose] public section

set_option maxRecDepth 16384

noncomputable section

namespace Cert.BandValue

open Idealize.ShloMosaic Idealize.ShloMosaic.TcCoe Idealize.SL.Sem
open Idealize.ShloMosaic.Pipeline (Dat)
open Cert.AttnPromptIdeal Cert.AttnPromptIdeal.Gen Cert.AttnMath Cert.BandMath Cert.BandRef Cert.BandKernel Cert.BandBlock Cert.BandWin Cert.BandOpen Cert.BandTable Cert.BandLoads Cert.BandScratch

variable (m : (ℓ : Loc nD τ sig) → Buf (Elt Ideal) ℓ)

/-- Two ways to say which keys are masked give the same averages. -/
theorem mheads_congr {k : ℕ} (M M' : Fin k → Prop) [hM : DecidablePred M] [hM' : DecidablePred M'] (h : ∀ c, M c ↔ M' c) (Q : Fin 512 → EReal) (K V : Fin k → Fin 512 → EReal)
    (β : Fin 8 → Fin k → EReal) : mheads M Q K V β = mheads M' Q K V β := by
  have e : M = M' := funext fun c => propext (h c)
  subst e
  have e : hM = hM' := Subsingleton.elim _ _
  subst e
  rfl

/-- The table holds the biases of a query. -/
theorem table_of (x : Vec Ideal S8x768x256 .f32) (rel : FVec Ideal S8x257 .f32) (hx : ∀ h w r, x (ix3 h w r) = tab rel h w r) (r : Fin 256) :
    TOf x r (bias rel ⟨r.val % 64, by omega⟩) := fun h w => by
  rw [hx]
  unfold tab bias
  by_cases hw : 64 * (r.val / 64) ≤ w.val ∧ w.val < 64 * (r.val / 64) + 576
  · rw [if_pos hw, dif_pos hw, ext_at]
    refine congrArg (fun i => rel (ix2 h i) * _) (Fin.ext ?_)
    dsimp only
    omega
  · rw [if_neg hw, dif_neg hw]

/-- A row of the reference, from a block's window. -/
theorem close (q k v : FVec Ideal S32768x512 .bf16) (rel : FVec Ideal S8x257 .f32) (g : FVec Ideal S512 .f32) (b : Fin 4) (qb : Fin 32) (r : Fin 256) (i : Fin 32768)
    (hi : i.val = b.val * 8192 + qb.val * 256 + r.val) (G : Fin 512 → EReal) (hG : ∀ j, G j = g (ix1 j)) (j : Fin 512) :
    nrm (mheads (fun c => valid qb.val (bnd r c)) (fun j => q (ix2 i j)) (fun c => win k b qb (bnd r c)) (fun c => win v b qb (bnd r c)) (bias rel ⟨r.val % 64, by omega⟩)) G j
      = REF q k v rel g (ix2 i j) := by
  have ei : i = ⟨b.val * 8192 + (4 * qb.val + r.val / 64) * 64 + r.val % 64, by omega⟩ := Fin.ext (by dsimp only; omega)
  have eg : G = fun j => g (ix1 j) := funext hG
  have h := REF_at q k v rel g b ⟨4 * qb.val + r.val / 64, by omega⟩ ⟨r.val % 64, by omega⟩ j
  rw [eg, ei]
  refine Eq.trans ?_ h.symm
  rw [mheads_congr _ (fun c : Fin 576 => 512 ≤ (4 * qb.val + r.val / 64) * 64 + c.val) (fun c => valid_bnd qb.val r c)]
  have ek : (fun c => win k b qb (bnd r c)) = rows k b ⟨4 * qb.val + r.val / 64, by omega⟩ := funext fun c => win_bnd k b qb r c
  have ev : (fun c => win v b qb (bnd r c)) = rows v b ⟨4 * qb.val + r.val / 64, by omega⟩ := funext fun c => win_bnd v b qb r c
  rw [ek, ev]

/-- The rows of keys a later block loads. -/
theorem offs : ∀ t : Fin cfg0.N, 2 ≤ t.val % 32 → k0_off1 (grid0.coords t) = ![0, 256 * (t.val % 32) - 512, 0] ∧ k0_off2 (grid0.coords t) = ![0, 256 * (t.val % 32) - 512, 128]
    ∧ k0_off3 (grid0.coords t) = ![0, 256 * (t.val % 32) - 512, 256] ∧ k0_off4 (grid0.coords t) = ![0, 256 * (t.val % 32) - 512, 384] :=
  (by decide +kernel : ∀ t : Fin grid0.N, _)

set_option maxHeartbeats 2000000 in
/-- One row of a block, of the first block of a stream. -/
theorem rowA (c : Dev nD) (t : Fin cfg0.N) (b : Fin 4) (qb : Fin 32) (hb : b.val = t.val / 32) (hqb : qb.val = t.val % 32)
    (r : Fin 256) (Q : Fin 512 → EReal) (k v : FVec Ideal S32768x512 .bf16) (rel : FVec Ideal S8x257 .f32)
    (hq : ∀ j, (iblk m c 0 t : Vec Ideal S256x512 .bf16) (ix2 r j) = Q j)
    (hk : ∀ (i : Fin 8192) (j : Fin 512), (iblk m c 1 t : Vec Ideal S1x8192x512 .bf16) (ix3 0 i j) = k (ix2 (⟨b.val * 8192 + i.val, by omega⟩ : Fin 32768) j))
    (hv : ∀ (i : Fin 8192) (j : Fin 512), (iblk m c 2 t : Vec Ideal S1x8192x512 .bf16) (ix3 0 i j) = v (ix2 (⟨b.val * 8192 + i.val, by omega⟩ : Fin 32768) j))
    (hrel : rel = m ((c : Thread nD τ).loc main_arg3))
    (fQ : ∀ j, IsFin (Q j)) (fK : ∀ w j, IsFin (win k b qb w j)) (fβ : ∀ h w, IsFin (bias rel ⟨r.val % 64, by omega⟩ h w))
    (h : t.val % 32 = 0) (j : Fin 512) :
    (outsAt0 m c t.val t.isLt).1 (ix2 r j) = nrm (mheads (fun c => valid qb.val (bnd r c)) Q (fun c => win k b qb (bnd r c)) (fun c => win v b qb (bnd r c)) (bias rel ⟨r.val % 64, by omega⟩))
      (fun j => (View.ld (iblk m c 4 t : Vec Ideal S1x512 .f32) (Rect.unit (s := S1x512) ![0, 0] S1x512.size inb_S1x512_S1x512_0_0) : Vec Ideal S1x512 .f32) (ix2 0 j)) j := by
  have e0 : qb.val = 0 := by omega
  have mm0 : MOf (valid qb.val) 0 (by norm_num) (maskV 0#32 512#32) := by rw [e0]; exact maskA0
  have mm1 : MOf (valid qb.val) 128 (by norm_num) (maskV 128#32 512#32) := by rw [e0]; exact maskA1
  have hs := scratch m c t.val t.isLt
  have e := outsAt0_A m c t h h (by omega) (by omega)
  rw [e] at hs ⊢
  dsimp only at hs ⊢
  rw [openA]
  rw [← hrel] at hs
  exact out_row _ _ _ _ _ _ _ _ _ _ _ _ _ _ _ _ _ _ _ _ _ _ _ _ _ _ _ _ _ _ _ r (valid qb.val) Q (win k b qb) (win v b qb) _ (bias rel ⟨r.val % 64, by omega⟩) fQ fK fβ
    (table_of _ rel hs r) ((valid_bnd qb.val r 512).mpr (by show 512 ≤ (4 * qb.val + r.val / 64) * 64 + 512; omega)) mm0 mm1
    (q_of _ r Q hq 0 _) (q_of _ r Q hq 1 _) (q_of _ r Q hq 2 _) (q_of _ r Q hq 3 _)
    (winA_ld _ k b hk qb e0 0 _) (winA_ld _ k b hk qb e0 1 _) (winA_ld _ k b hk qb e0 2 _) (winA_ld _ k b hk qb e0 3 _)
    (winA_ld _ v b hv qb e0 0 _) (winA_ld _ v b hv qb e0 1 _) (winA_ld _ v b hv qb e0 2 _) (winA_ld _ v b hv qb e0 3 _)
    (b0_of _ 0 _) (b1_of _ 0 _) (b0_of _ 1 _) (b1_of _ 1 _) (b0_of _ 2 _) (b1_of _ 2 _) (b0_of _ 3 _) (b1_of _ 3 _) (b0_of _ 4 _) (b1_of _ 4 _) (b0_of _ 5 _) (b1_of _ 5 _) (b0_of _ 6 _) (b1_of _ 6 _) (b0_of _ 7 _) (b1_of _ 7 _) j

set_option maxHeartbeats 2000000 in
/-- One row of a block, of the second block of a stream. -/
theorem rowB (c : Dev nD) (t : Fin cfg0.N) (b : Fin 4) (qb : Fin 32) (hb : b.val = t.val / 32) (hqb : qb.val = t.val % 32)
    (r : Fin 256) (Q : Fin 512 → EReal) (k v : FVec Ideal S32768x512 .bf16) (rel : FVec Ideal S8x257 .f32)
    (hq : ∀ j, (iblk m c 0 t : Vec Ideal S256x512 .bf16) (ix2 r j) = Q j)
    (hk : ∀ (i : Fin 8192) (j : Fin 512), (iblk m c 1 t : Vec Ideal S1x8192x512 .bf16) (ix3 0 i j) = k (ix2 (⟨b.val * 8192 + i.val, by omega⟩ : Fin 32768) j))
    (hv : ∀ (i : Fin 8192) (j : Fin 512), (iblk m c 2 t : Vec Ideal S1x8192x512 .bf16) (ix3 0 i j) = v (ix2 (⟨b.val * 8192 + i.val, by omega⟩ : Fin 32768) j))
    (hrel : rel = m ((c : Thread nD τ).loc main_arg3))
    (fQ : ∀ j, IsFin (Q j)) (fK : ∀ w j, IsFin (win k b qb w j)) (fβ : ∀ h w, IsFin (bias rel ⟨r.val % 64, by omega⟩ h w))
    (h : t.val % 32 = 1) (j : Fin 512) :
    (outsAt0 m c t.val t.isLt).1 (ix2 r j) = nrm (mheads (fun c => valid qb.val (bnd r c)) Q (fun c => win k b qb (bnd r c)) (fun c => win v b qb (bnd r c)) (bias rel ⟨r.val % 64, by omega⟩))
      (fun j => (View.ld (iblk m c 4 t : Vec Ideal S1x512 .f32) (Rect.unit (s := S1x512) ![0, 0] S1x512.size inb_S1x512_S1x512_0_0) : Vec Ideal S1x512 .f32) (ix2 0 j)) j := by
  have e0 : qb.val = 1 := by omega
  have mm0 : MOf (valid qb.val) 0 (by norm_num) (maskV 0#32 256#32) := by rw [e0]; exact maskB0
  have mm1 : MOf (valid qb.val) 128 (by norm_num) (maskV 128#32 256#32) := by rw [e0]; exact maskB1
  have hs := scratch m c (t.val - 1) (Nat.lt_of_le_of_lt (Nat.sub_le _ _) t.isLt)
  have e := outsAt0_B m c t (by omega) (by omega) h (by omega)
  rw [e]
  dsimp only
  rw [openB]
  rw [← hrel] at hs
  exact out_row _ _ _ _ _ _ _ _ _ _ _ _ _ _ _ _ _ _ _ _ _ _ _ _ _ _ _ _ _ _ _ r (valid qb.val) Q (win k b qb) (win v b qb) _ (bias rel ⟨r.val % 64, by omega⟩) fQ fK fβ
    (table_of _ rel hs r) ((valid_bnd qb.val r 512).mpr (by show 512 ≤ (4 * qb.val + r.val / 64) * 64 + 512; omega)) mm0 mm1
    (q_of _ r Q hq 0 _) (q_of _ r Q hq 1 _) (q_of _ r Q hq 2 _) (q_of _ r Q hq 3 _)
    (winB_ld _ k b hk qb e0 0 _) (winB_ld _ k b hk qb e0 1 _) (winB_ld _ k b hk qb e0 2 _) (winB_ld _ k b hk qb e0 3 _)
    (winB_ld _ v b hv qb e0 0 _) (winB_ld _ v b hv qb e0 1 _) (winB_ld _ v b hv qb e0 2 _) (winB_ld _ v b hv qb e0 3 _)
    (b0_of _ 0 _) (b1_of _ 0 _) (b0_of _ 1 _) (b1_of _ 1 _) (b0_of _ 2 _) (b1_of _ 2 _) (b0_of _ 3 _) (b1_of _ 3 _) (b0_of _ 4 _) (b1_of _ 4 _) (b0_of _ 5 _) (b1_of _ 5 _) (b0_of _ 6 _) (b1_of _ 6 _) (b0_of _ 7 _) (b1_of _ 7 _) j

set_option maxHeartbeats 2000000 in
/-- One row of a block, of the later blocks. -/
theorem rowC (c : Dev nD) (t : Fin cfg0.N) (b : Fin 4) (qb : Fin 32) (hb : b.val = t.val / 32) (hqb : qb.val = t.val % 32)
    (r : Fin 256) (Q : Fin 512 → EReal) (k v : FVec Ideal S32768x512 .bf16) (rel : FVec Ideal S8x257 .f32)
    (hq : ∀ j, (iblk m c 0 t : Vec Ideal S256x512 .bf16) (ix2 r j) = Q j)
    (hk : ∀ (i : Fin 8192) (j : Fin 512), (iblk m c 1 t : Vec Ideal S1x8192x512 .bf16) (ix3 0 i j) = k (ix2 (⟨b.val * 8192 + i.val, by omega⟩ : Fin 32768) j))
    (hv : ∀ (i : Fin 8192) (j : Fin 512), (iblk m c 2 t : Vec Ideal S1x8192x512 .bf16) (ix3 0 i j) = v (ix2 (⟨b.val * 8192 + i.val, by omega⟩ : Fin 32768) j))
    (hrel : rel = m ((c : Thread nD τ).loc main_arg3))
    (fQ : ∀ j, IsFin (Q j)) (fK : ∀ w j, IsFin (win k b qb w j)) (fβ : ∀ h w, IsFin (bias rel ⟨r.val % 64, by omega⟩ h w))
    (h : 2 ≤ t.val % 32) (j : Fin 512) :
    (outsAt0 m c t.val t.isLt).1 (ix2 r j) = nrm (mheads (fun c => valid qb.val (bnd r c)) Q (fun c => win k b qb (bnd r c)) (fun c => win v b qb (bnd r c)) (bias rel ⟨r.val % 64, by omega⟩))
      (fun j => (View.ld (iblk m c 4 t : Vec Ideal S1x512 .f32) (Rect.unit (s := S1x512) ![0, 0] S1x512.size inb_S1x512_S1x512_0_0) : Vec Ideal S1x512 .f32) (ix2 0 j)) j := by
  have e0 : 2 ≤ qb.val := by omega
  obtain ⟨o0, o1, o2, o3⟩ := offs t h
  rw [← hqb] at o0 o1 o2 o3
  have hs := scratch m c (t.val - 1) (Nat.lt_of_le_of_lt (Nat.sub_le _ _) t.isLt)
  have e := outsAt0_C m c t (by omega) (by omega) (by omega) h
  rw [e]
  dsimp only
  rw [openC]
  rw [← hrel] at hs
  exact out_row _ _ _ _ _ _ _ _ _ _ _ _ _ _ _ _ _ _ _ _ _ _ _ _ _ _ _ _ _ _ _ r (valid qb.val) Q (win k b qb) (win v b qb) _ (bias rel ⟨r.val % 64, by omega⟩) fQ fK fβ
    (table_of _ rel hs r) ((valid_bnd qb.val r 512).mpr (by show 512 ≤ (4 * qb.val + r.val / 64) * 64 + 512; omega)) (maskC qb.val e0 _ _) (maskC qb.val e0 _ _)
    (q_of _ r Q hq 0 _) (q_of _ r Q hq 1 _) (q_of _ r Q hq 2 _) (q_of _ r Q hq 3 _)
    (winC_ld _ k b hk qb e0 0 _ o0 _) (winC_ld _ k b hk qb e0 1 _ o1 _) (winC_ld _ k b hk qb e0 2 _ o2 _) (winC_ld _ k b hk qb e0 3 _ o3 _)
    (winC_ld _ v b hv qb e0 0 _ o0 _) (winC_ld _ v b hv qb e0 1 _ o1 _) (winC_ld _ v b hv qb e0 2 _ o2 _) (winC_ld _ v b hv qb e0 3 _ o3 _)
    (b0_of _ 0 _) (b1_of _ 0 _) (b0_of _ 1 _) (b1_of _ 1 _) (b0_of _ 2 _) (b1_of _ 2 _) (b0_of _ 3 _) (b1_of _ 3 _) (b0_of _ 4 _) (b1_of _ 4 _) (b0_of _ 5 _) (b1_of _ 5 _) (b0_of _ 6 _) (b1_of _ 6 _) (b0_of _ 7 _) (b1_of _ 7 _) j

/-- The result array is the reference's term over the argument arrays. -/
theorem final (c : Dev nD) (fq : ∀ i, IsFin (m ((c : Thread nD τ).loc main_arg0) i)) (fk : ∀ i, IsFin (m ((c : Thread nD τ).loc main_arg1) i))
    (fb : ∀ i, IsFin (m ((c : Thread nD τ).loc main_arg3) i)) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  obtain ⟨r, j, rfl⟩ : ∃ (r : Fin 256) (j : Fin 512), y = (ix2 r j : S256x512.Idx) := ⟨y 0, y 1, eq_ix2 y⟩
  have ht : t.val < 128 := (idx t).2.2.2.2.2.2
  have he : ((View.whole main_v8).slice (win0_5.rect t)).emb (ix2 r j : S256x512.Idx) = (ix2 (⟨t.val * 256 + r.val, by omega⟩ : Fin 32768) j : S32768x512.Idx) := by
    blk_ext [idx t]
  rw [he]
  refine Eq.trans ?_ (close _ _ _ _ _ ⟨t.val / 32, by omega⟩ ⟨t.val % 32, by omega⟩ r ⟨t.val * 256 + r.val, by omega⟩ (by dsimp only; omega) _ (fun j => (g_of _ inb_S1x512_S1x512_0_0 j).trans (blk_g m c t j)) j)
  have fK : ∀ w j, IsFin (win (m ((c : Thread nD τ).loc main_arg1)) ⟨t.val / 32, by omega⟩ ⟨t.val % 32, by omega⟩ w j) := fun w j => by
    unfold win
    split
    · exact fk _
    · exact ⟨0, EReal.coe_zero.symm⟩
  by_cases h0 : t.val % 32 = 0
  · exact rowA m c t ⟨t.val / 32, by omega⟩ ⟨t.val % 32, by omega⟩ rfl rfl r _ _ _ _ (blk_q m c t ht r) (blk_k m c t ht) (blk_v m c t ht) rfl (fun j => fq _) fK (fun h w => fb _) h0 j
  · by_cases h1 : t.val % 32 = 1
    · exact rowB m c t ⟨t.val / 32, by omega⟩ ⟨t.val % 32, by omega⟩ rfl rfl r _ _ _ _ (blk_q m c t ht r) (blk_k m c t ht) (blk_v m c t ht) rfl (fun j => fq _) fK (fun h w => fb _) h1 j
    · exact rowC m c t ⟨t.val / 32, by omega⟩ ⟨t.val % 32, by omega⟩ rfl rfl r _ _ _ _ (blk_q m c t ht r) (blk_k m c t ht) (blk_v m c t ht) rfl (fun j => fq _) fK (fun h w => fb _) (by omega) j

end Cert.BandValue

end
-- ==== Proof.BandClaims.lean ====
/- The claims about the attention of the prompt batch. -/
module

public import proofs.«01_k».proof.Defs
public import proofs.«01_k».proof.Proof.Gen.AttnPrompt.Frame
public import proofs.«01_k».proof.Proof.Gen.AttnPromptIdeal.Value
public import proofs.«01_k».proof.Proof.Gen.AttnPromptRefIdeal.Run
public import proofs.«01_k».proof.Proof.BandPre
public import proofs.«01_k».proof.Proof.BandRef
public import proofs.«01_k».proof.Proof.BandValue
public import Idealize.ShloMosaic.Lib.Quiescent

@[expose] public section

noncomputable section

namespace Cert.BandClaims

open Idealize.ShloMosaic Idealize.SL.Sem

/-- The reference runs and leaves its arguments as they were. -/
theorem frame_ri : Cert.quiescent_AttnPromptRefIdeal := fun m ρ _ =>
  (θ_run Cert.AttnPromptRefIdeal.defs _ _).mono (fun r h => ⟨fun c => (h c).2, Idealize.ShloMosaic.sem_eq_zero_of_no_sems (by decide) r.2⟩)
    (Cert.AttnPromptRefIdeal.Value.run (F := Ideal) m ρ)

/-- The named constants are the numbers they name. -/
theorem preserves : Cert.preserves_AttnPrompt_AttnPromptIdeal :=
  ⟨IdealRules.named_const.statement Cert.AttnPromptIdeal.κ "log2e" .f32 0x3FB8AA3B#32 (((Real.log 2)⁻¹ : ℝ) : EReal) rfl,
    IdealRules.named_const.statement Cert.AttnPromptIdeal.κ "mask" .f32 0xF149F2CA#32 ⊥ rfl⟩

/-- Over the reals, of finite scores, the two results are one: the kernel's result array is the reference's term. -/
theorem algebraic : Cert.algebraic_AttnPromptIdeal_AttnPromptRefIdeal_pre_finite_band := by
  intro m ρ m' ρ' hpre hagree
  refine ⟨_, Cert.AttnPromptIdeal.Value.run_blocks (F := Ideal) m ρ, ?_⟩
  refine (θ_run Cert.AttnPromptRefIdeal.defs _ _).mono (fun _ h c => ⟨(h c).1.trans ?_, (h c).2⟩)
    (Cert.AttnPromptRefIdeal.Value.run (F := Ideal) m' ρ')
  obtain ⟨f0, f1, f3⟩ := Cert.BandPre.finite hpre c
  refine (Cert.BandRef.res_eq m' c).trans (Eq.trans ?_ (Cert.BandValue.final m c f0 f1 f3).symm)
  obtain ⟨h0, h1, h2, h3, h4⟩ := hagree c
  rw [h0, h1, h2, h3, h4]

end Cert.BandClaims

end
-- ==== Proof.MlpMath.lean ====
/- One row of the output projection, the squared-ReLU network and the norms, as functions of that row. -/
module

public import Idealize.ShloMosaic.Lib.Pointwise

@[expose] public section

set_option maxRecDepth 16384

noncomputable section

namespace Cert.MlpMath

open Idealize.ShloMosaic

/-- A row divided by the root of its mean square, each entry then scaled. -/
def nrm (x g : Fin 1024 → EReal) (j : Fin 1024) : EReal :=
  x j * Ideal.rsqrt (Ideal.div (∑ k : Fin 1024, x k * x k) (Ideal.ofBits .f32 0x44800000#32) + Ideal.ofBits .f32 0x358637BD#32) * g j

/-- A row plus the projection of the two halves `a`, `b` laid side by side. -/
def hid (x : Fin 1024 → EReal) (a b : Fin 512 → EReal) (w : Fin 1024 → Fin 1024 → EReal) (j : Fin 1024) : EReal :=
  x j + (∑ k : Fin 512, a k * w ⟨k.val, by omega⟩ j + ∑ k : Fin 512, b k * w ⟨512 + k.val, by omega⟩ j)

/-- The square of the positive part. -/
def relu2 (s : EReal) : EReal := max s 0 * max s 0

/-- The network applied to the row `n`. -/
def mlp (n : Fin 1024 → EReal) (u : Fin 1024 → Fin 4096 → EReal) (d : Fin 4096 → Fin 1024 → EReal) (j : Fin 1024) : EReal :=
  ∑ k : Fin 4096, relu2 (∑ i : Fin 1024, n i * u i k) * d k j

/-- The whole row: projection and residual, network and residual, norm. -/
def row (x : Fin 1024 → EReal) (a b : Fin 512 → EReal) (w : Fin 1024 → Fin 1024 → EReal) (g : Fin 1024 → EReal)
    (u : Fin 1024 → Fin 4096 → EReal) (d : Fin 4096 → Fin 1024 → EReal) (g' : Fin 1024 → EReal) : Fin 1024 → EReal :=
  nrm (fun j => hid x a b w j + mlp (nrm (hid x a b w) g) u d j) g'

/-- The row depends on its arguments entry by entry. -/
theorem row_congr {x x' : Fin 1024 → EReal} {a a' b b' : Fin 512 → EReal} {w w' : Fin 1024 → Fin 1024 → EReal} {g g' h h' : Fin 1024 → EReal}
    {u u' : Fin 1024 → Fin 4096 → EReal} {d d' : Fin 4096 → Fin 1024 → EReal}
    (hx : ∀ j, x j = x' j) (ha : ∀ k, a k = a' k) (hb : ∀ k, b k = b' k) (hw : ∀ k j, w k j = w' k j) (hg : ∀ j, g j = g' j)
    (hu : ∀ i k, u i k = u' i k) (hd : ∀ k j, d k j = d' k j) (hh : ∀ j, h j = h' j) (j : Fin 1024) :
    row x a b w g u d h j = row x' a' b' w' g' u' d' h' j := by
  obtain rfl := funext hx
  obtain rfl := funext ha
  obtain rfl := funext hb
  obtain rfl := funext fun k => funext (hw k)
  obtain rfl := funext hg
  obtain rfl := funext fun k => funext (hu k)
  obtain rfl := funext fun k => funext (hd k)
  obtain rfl := funext hh
  rfl

/-- The network's sum over its 4096 hidden units, taken as four runs of 1024. -/
theorem mlp_four (n : Fin 1024 → EReal) (u : Fin 1024 → Fin 4096 → EReal) (d : Fin 4096 → Fin 1024 → EReal) (j : Fin 1024) :
    mlp n u d j = ((∑ k : Fin 1024, relu2 (∑ i : Fin 1024, n i * u i ⟨k.val, by omega⟩) * d ⟨k.val, by omega⟩ j
      + ∑ k : Fin 1024, relu2 (∑ i : Fin 1024, n i * u i ⟨1024 + k.val, by omega⟩) * d ⟨1024 + k.val, by omega⟩ j)
      + ∑ k : Fin 1024, relu2 (∑ i : Fin 1024, n i * u i ⟨2048 + k.val, by omega⟩) * d ⟨2048 + k.val, by omega⟩ j)
      + ∑ k : Fin 1024, relu2 (∑ i : Fin 1024, n i * u i ⟨3072 + k.val, by omega⟩) * d ⟨3072 + k.val, by omega⟩ j := by
  unfold mlp
  rw [Fin.sum_univ_tiles 4 1024 rfl, Fin.sum_univ_four]
  simp only [Fin.val_zero, Fin.val_one, Fin.val_two, zero_mul, zero_add, one_mul, Nat.reduceMul, show ((3 : Fin 4) : ℕ) = 3 from rfl]

end Cert.MlpMath

end
-- ==== Proof.MlpKernel.lean ====
/- The body of the output projection and network, read one row at a time. -/
module

public import proofs.«01_k».proof.Proof.Gen.MlpIdeal.Frame
public import proofs.«01_k».proof.Proof.MlpMath
public import Idealize.ShloMosaic.Lib.Pipeline.ValueKit
public import Idealize.ShloMosaic.Lib.Pointwise

@[expose] public section

set_option maxRecDepth 16384

noncomputable section

namespace Cert.MlpKernel

open Idealize.ShloMosaic Idealize.ShloMosaic.TcCoe Idealize.SL.Sem
open Cert.MlpIdeal Cert.MlpIdeal.Gen Cert.MlpMath

/-- The residual row after the output projection. -/
theorem pay2_at (v0 v1 : Vec Ideal S512x512 .bf16) (v3 : Vec Ideal S512x1024 .f32) (v4 : Vec Ideal S1024x1024 .bf16)
    (r : Fin 512) (j : Fin 1024) :
    k0_pay2 v0 v1 v3 v4 (ix2 r j) = hid (fun j => v3 (ix2 r j)) (fun k => v0 (ix2 r k)) (fun k => v1 (ix2 r k))
      (fun k j => v4 (ix2 k j)) j := by
  pointwise [k0_pay2, hid]

/-- The normed row that enters the network. -/
theorem pay3_at (v0 v1 : Vec Ideal S512x512 .bf16) (v3 : Vec Ideal S512x1024 .f32) (v4 : Vec Ideal S1024x1024 .bf16)
    (v8 : Vec Ideal S1x1024 .f32) (r : Fin 512) (j : Fin 1024) :
    k0_pay3 v0 v1 v3 v4 v8 (ix2 r j) = nrm (fun j => k0_pay2 v0 v1 v3 v4 (ix2 r j)) (fun j => v8 (ix2 0 j)) j := by
  pointwise [k0_pay3, nrm]

/-- The network's first quarter. -/
theorem pay4_at (v0 v1 : Vec Ideal S512x512 .bf16) (v3 : Vec Ideal S512x1024 .f32) (v4 : Vec Ideal S1024x1024 .bf16)
    (v8 : Vec Ideal S1x1024 .f32) (v23 v30 : Vec Ideal S1024x1024 .bf16) (r : Fin 512) (j : Fin 1024) :
    k0_pay4 v0 v1 v3 v4 v8 v23 v30 (ix2 r j)
      = ∑ k : Fin 1024, relu2 (∑ i : Fin 1024, k0_pay3 v0 v1 v3 v4 v8 (ix2 r i) * v23 (ix2 i k)) * v30 (ix2 k j) := by
  pointwise [k0_pay4, relu2]

/-- The other three quarters added to the first, and the residual to them. -/
theorem pay6_at (v7 : FVec Ideal S512x1024 .f32) (v22 : FVec Ideal S512x1024 .bf16) (v32 : FVec Ideal S512x1024 .f32)
    (v33 v40 v44 v51 v55 v62 : Vec Ideal S1024x1024 .bf16) (r : Fin 512) (j : Fin 1024) :
    k0_pay6 v7 v22 v32 (k0_pay5 v33) (constant S512x1024 .f32 0x00000000#32) v40 v44 v51 v55 v62 (ix2 r j)
      = v7 (ix2 r j) + (((v32 (ix2 r j)
        + ∑ k : Fin 1024, relu2 (∑ i : Fin 1024, v22 (ix2 r i) * v33 (ix2 i k)) * v40 (ix2 k j))
        + ∑ k : Fin 1024, relu2 (∑ i : Fin 1024, v22 (ix2 r i) * v44 (ix2 i k)) * v51 (ix2 k j))
        + ∑ k : Fin 1024, relu2 (∑ i : Fin 1024, v22 (ix2 r i) * v55 (ix2 i k)) * v62 (ix2 k j)) := by
  pointwise [k0_pay6, k0_pay5, relu2]

/-- The final norm of the row. -/
theorem pay1_at (v7 : FVec Ideal S512x1024 .f32) (v22 : FVec Ideal S512x1024 .bf16) (v32 : FVec Ideal S512x1024 .f32)
    (v34 : FVec Ideal S1024x1024 .bf16) (z : FVec Ideal S512x1024 .f32) (v40 v44 v51 v55 v62 : Vec Ideal S1024x1024 .bf16)
    (v67 : Vec Ideal S1x1024 .f32) (r : Fin 512) (j : Fin 1024) :
    k0_pay1 (k0_pay6 v7 v22 v32 v34 z v40 v44 v51 v55 v62) (k0_pay7 v67) (k0_pay8 v7 v22 v32 v34 z v40 v44 v51 v55 v62) k0_pay9 (ix2 r j)
      = nrm (fun j => k0_pay6 v7 v22 v32 v34 z v40 v44 v51 v55 v62 (ix2 r j)) (fun j => v67 (ix2 0 j)) j := by
  pointwise [k0_pay1, k0_pay7, k0_pay8, k0_pay9, nrm]

/-- The whole body on blocks: each row of the block it writes is the row function of the rows it reads; the
    network's weights enter as four column blocks and four row blocks. -/
theorem body_at (x : Vec Ideal S512x1024 .f32) (a b : Vec Ideal S512x512 .bf16) (w : Vec Ideal S1024x1024 .bf16)
    (g g' : Vec Ideal S1x1024 .f32) (u : Vec Ideal S1024x4096 .bf16) (d : Vec Ideal S4096x1024 .bf16)
    (u0 u1 u2 u3 d0 d1 d2 d3 : Vec Ideal S1024x1024 .bf16)
    (hu0 : ∀ i k : Fin 1024, u0 (ix2 i k) = u (ix2 i ⟨k.val, by omega⟩))
    (hu1 : ∀ i k : Fin 1024, u1 (ix2 i k) = u (ix2 i ⟨1024 + k.val, by omega⟩))
    (hu2 : ∀ i k : Fin 1024, u2 (ix2 i k) = u (ix2 i ⟨2048 + k.val, by omega⟩))
    (hu3 : ∀ i k : Fin 1024, u3 (ix2 i k) = u (ix2 i ⟨3072 + k.val, by omega⟩))
    (hd0 : ∀ k j : Fin 1024, d0 (ix2 k j) = d (ix2 ⟨k.val, by omega⟩ j))
    (hd1 : ∀ k j : Fin 1024, d1 (ix2 k j) = d (ix2 ⟨1024 + k.val, by omega⟩ j))
    (hd2 : ∀ k j : Fin 1024, d2 (ix2 k j) = d (ix2 ⟨2048 + k.val, by omega⟩ j))
    (hd3 : ∀ k j : Fin 1024, d3 (ix2 k j) = d (ix2 ⟨3072 + k.val, by omega⟩ j))
    (r : Fin 512) (j : Fin 1024) :
    k0_pay1 (k0_pay6 (k0_pay2 a b x w) (k0_pay3 a b x w g) (k0_pay4 a b x w g u0 d0) (k0_pay5 u1) (constant S512x1024 .f32 0x00000000#32) d1 u2 d2 u3 d3)
        (k0_pay7 g')
        (k0_pay8 (k0_pay2 a b x w) (k0_pay3 a b x w g) (k0_pay4 a b x w g u0 d0) (k0_pay5 u1) (constant S512x1024 .f32 0x00000000#32) d1 u2 d2 u3 d3)
        k0_pay9 (ix2 r j)
      = row (fun j => x (ix2 r j)) (fun k => a (ix2 r k)) (fun k => b (ix2 r k)) (fun k j => w (ix2 k j)) (fun j => g (ix2 0 j))
          (fun i k => u (ix2 i k)) (fun k j => d (ix2 k j)) (fun j => g' (ix2 0 j)) j := by
  rw [pay1_at]
  unfold row
  congr 1
  funext j
  rw [pay6_at, pay4_at, mlp_four]
  simp only [hu0, hu1, hu2, hu3, hd0, hd1, hd2, hd3, pay3_at, pay2_at]

end Cert.MlpKernel

end
-- ==== Proof.MlpRef.lean ====
/- The reference of the output projection and network, read one row at a time. -/
module

public import proofs.«01_k».proof.Proof.Gen.MlpRefIdeal.Run
public import proofs.«01_k».proof.Proof.MlpMath
public import Idealize.ShloMosaic.Lib.Pointwise

@[expose] public section

set_option maxRecDepth 16384

noncomputable section

namespace Cert.MlpRef

open Idealize.ShloMosaic Idealize.ShloMosaic.TcCoe Idealize.SL.Sem
open Cert.MlpRefIdeal Cert.MlpRefIdeal.Gen Cert.MlpMath

/-- The residual rows after the output projection. -/
def hidR (x : FVec Ideal S32768x1024 .f32) (a b : FVec Ideal S32768x512 .bf16) (w : FVec Ideal S1024x1024 .f32) : FVec Ideal S32768x1024 .f32 :=
  addf x (Host.dotGeneral dot_S32768x1024_S1024x1024_S32768x1024_1_0_0_1_n_n none (concatenate S32768x1024 1 [⟨S32768x512, (extf .f32 a bitsLt_bf16_f32)⟩, ⟨S32768x512, (extf .f32 b bitsLt_bf16_f32)⟩] concatenates_S32768x512_S32768x512_S32768x1024_d1) w)

/-- The rows of `x`, each divided by the root of its mean square and scaled by `g`. -/
def nrmR (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The network applied to the rows of `n`. -/
def mlpR (n : FVec Ideal S32768x1024 .f32) (u : FVec Ideal S1024x4096 .f32) (d : FVec Ideal S4096x1024 .f32) : FVec Ideal S32768x1024 .f32 :=
  Host.dotGeneral dot_S32768x4096_S4096x1024_S32768x1024_1_0_0_1_n_n none (mulf (maximumf (Host.dotGeneral dot_S32768x1024_S1024x4096_S32768x4096_1_0_0_1_n_n none n u) (broadcastInDim S32768x4096 ![] bcast_S_S32768x4096 (constant S_ .f32 0x00000000#32))) (maximumf (Host.dotGeneral dot_S32768x1024_S1024x4096_S32768x4096_1_0_0_1_n_n none n u) (broadcastInDim S32768x4096 ![] bcast_S_S32768x4096 (constant S_ .f32 0x00000000#32)))) d

/-- The reference's composed term. -/
def REF (x : FVec Ideal S32768x1024 .f32) (a b : FVec Ideal S32768x512 .bf16) (w : FVec Ideal S1024x1024 .f32) (g : FVec Ideal S1024 .f32)
    (u : FVec Ideal S1024x4096 .f32) (d : FVec Ideal S4096x1024 .f32) (g' : FVec Ideal S1024 .f32) : FVec Ideal S32768x1024 .f32 :=
  nrmR (addf (hidR x a b w) (mlpR (nrmR (hidR x a b w) g) u d)) g'

/-- The reference's run states this term. -/
theorem res_eq (m : (ℓ : Loc nD τ sig) → Buf (Elt Ideal) ℓ) (c : Dev nD) :
    Cert.MlpRefIdeal.Value.res_out0 m c = REF (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  unfold Cert.MlpRefIdeal.Value.res_out0 Cert.MlpRefIdeal.Value.res_main_v36
  rfl

/-- One entry of the projection's residual. -/
theorem hidR_at (x : FVec Ideal S32768x1024 .f32) (a b : FVec Ideal S32768x512 .bf16) (w : FVec Ideal S1024x1024 .f32) (r : Fin 32768) (j : Fin 1024) :
    hidR x a b w (ix2 r j) = hid (fun j => x (ix2 r j)) (fun k => a (ix2 r k)) (fun k => b (ix2 r k)) (fun k j => w (ix2 k j)) j := by
  pointwise [hidR, hid]

/-- One entry of the norm. -/
theorem nrmR_at (x : FVec Ideal S32768x1024 .f32) (g : FVec Ideal S1024 .f32) (r : Fin 32768) (j : Fin 1024) :
    nrmR x g (ix2 r j) = nrm (fun j => x (ix2 r j)) (fun j => g (ix1 j)) j := by
  pointwise [nrmR, nrm]

/-- One entry of the network. -/
theorem mlpR_at (n : FVec Ideal S32768x1024 .f32) (u : FVec Ideal S1024x4096 .f32) (d : FVec Ideal S4096x1024 .f32) (r : Fin 32768) (j : Fin 1024) :
    mlpR n u d (ix2 r j) = mlp (fun j => n (ix2 r j)) (fun i k => u (ix2 i k)) (fun k j => d (ix2 k j)) j := by
  pointwise [mlpR, mlp, relu2]

/-- One entry of the reference is the row function of its row. -/
theorem REF_at (x : FVec Ideal S32768x1024 .f32) (a b : FVec Ideal S32768x512 .bf16) (w : FVec Ideal S1024x1024 .f32) (g : FVec Ideal S1024 .f32)
    (u : FVec Ideal S1024x4096 .f32) (d : FVec Ideal S4096x1024 .f32) (g' : FVec Ideal S1024 .f32) (r : Fin 32768) (j : Fin 1024) :
    REF x a b w g u d g' (ix2 r j)
      = row (fun j => x (ix2 r j)) (fun k => a (ix2 r k)) (fun k => b (ix2 r k)) (fun k j => w (ix2 k j)) (fun j => g (ix1 j))
          (fun i k => u (ix2 i k)) (fun k j => d (ix2 k j)) (fun j => g' (ix1 j)) j := by
  unfold REF row
  rw [nrmR_at]
  congr 1
  funext j
  refine congrArg₂ (· + ·) (hidR_at ..) ?_
  rw [mlpR_at]
  congr 1
  funext i
  rw [nrmR_at]
  congr 1
  funext l
  exact hidR_at ..

end Cert.MlpRef

end
-- ==== Proof.MlpValue.lean ====
/- What the output projection and network leave in their result: the reference's term. -/
module

public import proofs.«01_k».proof.Proof.Gen.MlpIdeal.Value
public import proofs.«01_k».proof.Proof.MlpKernel
public import proofs.«01_k».proof.Proof.MlpRef
public import Idealize.ShloMosaic.Lib.Pipeline.ValueKit
public import Idealize.ShloMosaic.Lib.Pointwise

@[expose] public section

set_option maxRecDepth 16384

noncomputable section

namespace Cert.MlpValue

open Idealize.ShloMosaic Idealize.ShloMosaic.TcCoe Idealize.SL.Sem
open Idealize.ShloMosaic.Pipeline (Dat)
open Cert.MlpIdeal Cert.MlpIdeal.Gen Cert.MlpMath

variable (m : (ℓ : Loc nD τ sig) → Buf (Elt Ideal) ℓ)

/-- Which block each window reads or writes at each point: the row windows move, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ t.val < 64 :=
  (by decide +kernel : ∀ t : Fin grid0.N, _)

/-- The result array is the reference's term over the argument arrays. -/
theorem final (c : Dev nD) : (dats m 0 c).arrAt 8 (cfgs 0).N
    = Cert.MlpRef.REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]
  unfold_out out0_8
  frame_out
  obtain ⟨r, j, rfl⟩ : ∃ (r : Fin 512) (j : Fin 1024), y = (ix2 r j : S512x1024.Idx) := ⟨y 0, y 1, eq_ix2 y⟩
  refine (Cert.MlpKernel.body_at _ _ _ _ _ _ (iblk m c 5 t) (iblk m c 6 t) _ _ _ _ _ _ _ _
    (by intro i k; pointwise [r0_4]) (by intro i k; pointwise [r0_6]) (by intro i k; pointwise [r0_8]) (by intro i k; pointwise [r0_10])
    (by intro i k; pointwise [r0_5]) (by intro i k; pointwise [r0_7]) (by intro i k; pointwise [r0_9]) (by intro i k; pointwise [r0_11]) r j).trans ?_
  have ht : t.val < 64 := (idx t).2.2.2.2.2.2.2.2.2
  have he : ((View.whole main_v5).slice (win0_8.rect t)).emb (ix2 r j : S512x1024.Idx) = (ix2 (⟨t.val * 512 + r.val, by omega⟩ : Fin 32768) j : S32768x1024.Idx) := by
    blk_ext [idx t]
  rw [he]
  refine Eq.trans ?_ (Cert.MlpRef.REF_at _ _ _ _ _ _ _ _ _ _).symm
  refine row_congr ?_ ?_ ?_ ?_ ?_ ?_ ?_ ?_ j <;> intros
  · blk_ext [iblk, V, idx t]
  · blk_ext [iblk, V, idx t]
  · blk_ext [iblk, V, idx t]
  all_goals blk_point [iblk, idx t]

end Cert.MlpValue

end
-- ==== Proof.MlpClaims.lean ====
/- The claims about the output projection and network. -/
module

public import proofs.«01_k».proof.Defs
public import proofs.«01_k».proof.Proof.Gen.Mlp.Frame
public import proofs.«01_k».proof.Proof.MlpValue
public import Idealize.ShloMosaic.Lib.Quiescent

@[expose] public section

noncomputable section

namespace Cert.MlpClaims

open Idealize.ShloMosaic Idealize.SL.Sem

/-- The reference runs and leaves its arguments as they were. -/
theorem frame_ri : Cert.quiescent_MlpRefIdeal := fun m ρ _ =>
  (θ_run Cert.MlpRefIdeal.defs _ _).mono (fun r h => ⟨fun c => (h c).2, Idealize.ShloMosaic.sem_eq_zero_of_no_sems (by decide) r.2⟩)
    (Cert.MlpRefIdeal.Value.run (F := Ideal) m ρ)

/-- Over the reals the two results are one: the kernel's result array is the reference's term. -/
theorem algebraic : Cert.algebraic_MlpIdeal_MlpRefIdeal := by
  intro m ρ m' ρ' _ hagree
  refine ⟨_, Cert.MlpIdeal.Value.run_blocks (F := Ideal) m ρ, ?_⟩
  refine (θ_run Cert.MlpRefIdeal.defs _ _).mono (fun _ h c => ⟨(h c).1.trans ?_, (h c).2⟩)
    (Cert.MlpRefIdeal.Value.run (F := Ideal) m' ρ')
  refine (Cert.MlpRef.res_eq m' c).trans (Eq.trans ?_ (Cert.MlpValue.final m c).symm)
  obtain ⟨h0, h1, h2, h3, h4, h5, h6, h7⟩ := hagree c
  rw [h0, h1, h2, h3, h4, h5, h6, h7]

end Cert.MlpClaims

end
-- ==== Proof.AttnValue.lean ====
/- What the attention leaves in its result: the reference's term, where the scores are finite. -/
module

public import proofs.«01_k».proof.Proof.Gen.AttnIdeal.Value
public import proofs.«01_k».proof.Proof.AttnKernel
public import proofs.«01_k».proof.Proof.AttnRef
public import Idealize.ShloMosaic.Lib.Pipeline.ValueKit
public import Idealize.ShloMosaic.Lib.Pointwise

@[expose] public section

set_option maxRecDepth 16384

noncomputable section

namespace Cert.AttnValue

open Idealize.ShloMosaic Idealize.ShloMosaic.TcCoe Idealize.SL.Sem
open Idealize.ShloMosaic.Pipeline (Dat)
open Cert.AttnIdeal Cert.AttnIdeal.Gen Cert.AttnMath

variable (m : (ℓ : Loc nD τ sig) → Buf (Elt Ideal) ℓ)

/-- Which block each window reads or writes at each point: one sequence after the other. -/
theorem idx : ∀ t : Fin cfg0.N, win0_0.index t = ![t.val, 0] ∧ win0_1.index t = ![t.val, 0] ∧ win0_2.index t = ![t.val, 0]
    ∧ win0_3.index t = ![0, t.val, 0, 0] ∧ win0_4.index t = ![0, t.val, 0, 0] ∧ win0_5.index t = ![0, 0] ∧ win0_6.index t = ![0, 0]
    ∧ win0_7.index t = ![t.val, 0] ∧ t.val < 32 :=
  (by decide +kernel : ∀ t : Fin grid0.N, _)

/-- A sequence's row of queries. -/
theorem blk_q (c : Dev nD) (t : Fin cfg0.N) (ht : t.val < 32) (r : Fin 16) (j : Fin 512) :
    (iblk m c 0 t : Vec Ideal S16x512 .bf16) (ix2 r j) = m ((c : Thread nD τ).loc main_arg0) (ix2 (⟨t.val * 16 + r.val, by omega⟩ : Fin 512) j) := by
  blk_ext [iblk, V, idx t]

/-- A sequence's row of new keys. -/
theorem blk_k (c : Dev nD) (t : Fin cfg0.N) (ht : t.val < 32) (r : Fin 16) (j : Fin 512) :
    (iblk m c 1 t : Vec Ideal S16x512 .bf16) (ix2 r j) = m ((c : Thread nD τ).loc main_arg1) (ix2 (⟨t.val * 16 + r.val, by omega⟩ : Fin 512) j) := by
  blk_ext [iblk, V, idx t]

/-- A sequence's row of new values. -/
theorem blk_v (c : Dev nD) (t : Fin cfg0.N) (ht : t.val < 32) (r : Fin 16) (j : Fin 512) :
    (iblk m c 2 t : Vec Ideal S16x512 .bf16) (ix2 r j) = m ((c : Thread nD τ).loc main_arg2) (ix2 (⟨t.val * 16 + r.val, by omega⟩ : Fin 512) j) := by
  blk_ext [iblk, V, idx t]

/-- A sequence's row of cached keys. -/
theorem blk_ck (c : Dev nD) (t : Fin cfg0.N) (ht : t.val < 32) (h j : Fin 512) :
    (iblk m c 3 t : Vec Ideal S1x1x512x512 .f32) (ix4 0 0 h j) = m ((c : Thread nD τ).loc main_arg3) (ix5 (0 : Fin 2) (⟨t.val, ht⟩ : Fin 32) h (hd j) (⟨j.val % 64, by omega⟩ : Fin 64)) := by
  unfold hd
  blk_point [iblk, V, idx t]

/-- A sequence's row of cached values. -/
theorem blk_cv (c : Dev nD) (t : Fin cfg0.N) (ht : t.val < 32) (h j : Fin 512) :
    (iblk m c 4 t : Vec Ideal S1x1x512x512 .f32) (ix4 0 0 h j) = m ((c : Thread nD τ).loc main_arg4) (ix5 (0 : Fin 2) (⟨t.val, ht⟩ : Fin 32) h (hd j) (⟨j.val % 64, by omega⟩ : Fin 64)) := by
  unfold hd
  blk_point [iblk, V, idx t]

/-- The gains. -/
theorem blk_g (c : Dev nD) (t : Fin cfg0.N) (ht : t.val < 32) (j : Fin 512) :
    (iblk m c 6 t : Vec Ideal S1x512 .f32) (ix2 0 j) = m ((c : Thread nD τ).loc main_arg6) (ix1 j) := by
  blk_point [iblk, V, idx t]

/-- The biases laid out by distance, repeated at both ends. -/
def ext (b : FVec Ideal S8x257 .f32) : FVec Ideal S8x1024 .f32 :=
  concatenate S8x1024 1 [⟨S8x399, broadcastInDim S8x399 ![0, 1] bcast_S8x1_S8x399_0_1 (extractStridedSlice S8x1 ![0, 0] b slices_S8x257_S8x1_0_0)⟩, ⟨S8x257, b⟩,
    ⟨S8x368, broadcastInDim S8x368 ![0, 1] bcast_S8x1_S8x368_0_1 (extractStridedSlice S8x1 ![0, 256] b slices_S8x257_S8x1_0_256)⟩] concatenates_S8x399_S8x257_S8x368_S8x1024_d1

/-- One of them. -/
theorem ext_at (b : FVec Ideal S8x257 .f32) (h : Fin 8) (j : Fin 1024) : ext b (ix2 h j) = b (ix2 h ⟨min (j.val - 399) 256, by omega⟩) := by
  pointwise [ext]
  repeat' split
  all_goals exact congrArg (fun i => b (ix2 h i)) (Fin.ext (by simp; omega))

/-- The block of biases. -/
theorem blk_e (c : Dev nD) (t : Fin cfg0.N) (ht : t.val < 32) (h : Fin 8) (j : Fin 1024) :
    (iblk m c 5 t : Vec Ideal S8x1024 .f32) (ix2 h j) = ext (m ((c : Thread nD τ).loc main_arg5)) (ix2 h j) := by
  have e : V m c main_v6 = ext (m ((c : Thread nD τ).loc main_arg5)) := by
    unfold V
    rfl
  show View.read (Elt Ideal) ((cfg0.win 5).blk t).view (V m c main_v6) (ix2 h j) = _
  rw [e]
  blk_ext [idx t]

/-- The cached keys or values and then the new ones, of a pair of heads. -/
theorem rows_pair (p : Fin 4) (x : Vec Ideal S1x1x512x128 .f32) (n' : Vec Ideal S16x128 .bf16) (C : FVec Ideal S2x32x512x8x64 .f32)
    (n : FVec Ideal S512x512 .bf16) (b : Fin 32)
    (hx : ∀ (i : Fin 512) (l : Fin 128), x (ix4 0 0 i l) = C (ix5 (0 : Fin 2) b i (hd ⟨128 * p.val + l.val, by omega⟩) (⟨(128 * p.val + l.val) % 64, by omega⟩ : Fin 64)))
    (hn : ∀ (i : Fin 16) (l : Fin 128), n' (ix2 i l) = n (ix2 (⟨b.val * 16 + i.val, by omega⟩ : Fin 512) (⟨128 * p.val + l.val, by omega⟩ : Fin 512)))
    (c : Fin 528) (l : Fin 128) :
    Cert.AttnKernel.rowsV x n' (ix2 c l) = Cert.AttnRef.rows C n b c ⟨128 * p.val + l.val, by omega⟩ := by
  unfold Cert.AttnRef.rows
  pointwise [Cert.AttnKernel.rowsV]
  split
  · exact hx _ _
  · exact hn _ _

/-- The result array is the reference's term over the argument arrays. -/
theorem final (c : Dev nD) (fq : ∀ i, IsFin (m ((c : Thread nD τ).loc main_arg0) i)) (fk : ∀ i, IsFin (m ((c : Thread nD τ).loc main_arg1) i))
    (fc : ∀ i, IsFin (m ((c : Thread nD τ).loc main_arg3) i)) (fb : ∀ i, IsFin (m ((c : Thread nD τ).loc main_arg5) i)) : (dats m 0 c).arrAt 7 (cfgs 0).N
    = Cert.AttnRef.REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 7 _ (by decide +kernel) fun t _ y => ?_
  blk_simp
  rw [after0_7]
  unfold_out out0_7
  frame_out
  obtain ⟨r, j, rfl⟩ : ∃ (r : Fin 16) (j : Fin 512), y = (ix2 r j : S16x512.Idx) := ⟨y 0, y 1, eq_ix2 y⟩
  have ht : t.val < 32 := (idx t).2.2.2.2.2.2.2.2
  have he : ((View.whole main_v8).slice (win0_7.rect t)).emb (ix2 r j : S16x512.Idx) = (ix2 (⟨t.val * 16 + r.val, by omega⟩ : Fin 512) j : S512x512.Idx) := by
    blk_ext [idx t]
  rw [he]
  refine Eq.trans ?_ (Cert.AttnRef.REF_at _ _ _ _ _ _ _ ⟨t.val, ht⟩ r j).symm
  rw [Cert.AttnKernel.pair0, Cert.AttnKernel.pair1, Cert.AttnKernel.pair2, Cert.AttnKernel.pair3]
  have fQ : ∀ j, IsFin ((fun j => m ((c : Thread nD τ).loc main_arg0) (ix2 (⟨t.val * 16 + r.val, by omega⟩ : Fin 512) j)) j) := fun j => fq _
  have fK : ∀ i j, IsFin (Cert.AttnRef.rows (m ((c : Thread nD τ).loc main_arg3)) (m ((c : Thread nD τ).loc main_arg1)) ⟨t.val, ht⟩ i j) := fun i j => by
    unfold Cert.AttnRef.rows
    split
    · exact fc _
    · exact fk _
  have fB : ∀ h i, IsFin (Cert.AttnRef.bias (m ((c : Thread nD τ).loc main_arg5)) r h i) := fun h i => fb _
  refine (Cert.AttnKernel.pay1_at _ _ _ _ _ r (heads2 (fun j => m ((c : Thread nD τ).loc main_arg0) (ix2 (⟨t.val * 16 + r.val, by omega⟩ : Fin 512) j))
    (Cert.AttnRef.rows (m ((c : Thread nD τ).loc main_arg3)) (m ((c : Thread nD τ).loc main_arg1)) ⟨t.val, ht⟩)
    (Cert.AttnRef.rows (m ((c : Thread nD τ).loc main_arg4)) (m ((c : Thread nD τ).loc main_arg2)) ⟨t.val, ht⟩)
    (Cert.AttnRef.bias (m ((c : Thread nD τ).loc main_arg5)) r)) ?_ ?_ ?_ ?_ j).trans ?_
  · refine Cert.AttnKernel.pair_row _ _ _ _ _ 0 r _ _ _ _ fQ fK fB ?_ ?_ ?_ ?_ ?_
    · intro l
      pointwise [r0_0]
      rw [blk_q m c t ht]
      blk_ext
    · refine rows_pair 0 _ _ _ _ _ ?_ ?_ <;> intro i l
      · pointwise [r0_1]
        rw [blk_ck m c t ht]
        unfold hd
        blk_ext
      · pointwise [r0_0]
        rw [blk_k m c t ht]
        blk_ext
    · refine rows_pair 0 _ _ _ _ _ ?_ ?_ <;> intro i l
      · pointwise [r0_1]
        rw [blk_cv m c t ht]
        unfold hd
        blk_ext
      · pointwise [r0_0]
        rw [blk_v m c t ht]
        blk_ext
    · intro i
      pointwise [r0_2]
      rw [blk_e m c t ht, ext_at]
      unfold Cert.AttnRef.bias
      blk_ext
    · intro i
      pointwise [r0_3]
      rw [blk_e m c t ht, ext_at]
      unfold Cert.AttnRef.bias
      blk_ext
  · refine Cert.AttnKernel.pair_row _ _ _ _ _ 1 r _ _ _ _ fQ fK fB ?_ ?_ ?_ ?_ ?_
    · intro l
      pointwise [r0_4]
      rw [blk_q m c t ht]
      blk_ext
    · refine rows_pair 1 _ _ _ _ _ ?_ ?_ <;> intro i l
      · pointwise [r0_5]
        rw [blk_ck m c t ht]
        unfold hd
        blk_ext
      · pointwise [r0_4]
        rw [blk_k m c t ht]
        blk_ext
    · refine rows_pair 1 _ _ _ _ _ ?_ ?_ <;> intro i l
      · pointwise [r0_5]
        rw [blk_cv m c t ht]
        unfold hd
        blk_ext
      · pointwise [r0_4]
        rw [blk_v m c t ht]
        blk_ext
    · intro i
      pointwise [r0_6]
      rw [blk_e m c t ht, ext_at]
      unfold Cert.AttnRef.bias
      blk_ext
    · intro i
      pointwise [r0_7]
      rw [blk_e m c t ht, ext_at]
      unfold Cert.AttnRef.bias
      blk_ext
  · refine Cert.AttnKernel.pair_row _ _ _ _ _ 2 r _ _ _ _ fQ fK fB ?_ ?_ ?_ ?_ ?_
    · intro l
      pointwise [r0_8]
      rw [blk_q m c t ht]
      blk_ext
    · refine rows_pair 2 _ _ _ _ _ ?_ ?_ <;> intro i l
      · pointwise [r0_9]
        rw [blk_ck m c t ht]
        unfold hd
        blk_ext
      · pointwise [r0_8]
        rw [blk_k m c t ht]
        blk_ext
    · refine rows_pair 2 _ _ _ _ _ ?_ ?_ <;> intro i l
      · pointwise [r0_9]
        rw [blk_cv m c t ht]
        unfold hd
        blk_ext
      · pointwise [r0_8]
        rw [blk_v m c t ht]
        blk_ext
    · intro i
      pointwise [r0_10]
      rw [blk_e m c t ht, ext_at]
      unfold Cert.AttnRef.bias
      blk_ext
    · intro i
      pointwise [r0_11]
      rw [blk_e m c t ht, ext_at]
      unfold Cert.AttnRef.bias
      blk_ext
  · refine Cert.AttnKernel.pair_row _ _ _ _ _ 3 r _ _ _ _ fQ fK fB ?_ ?_ ?_ ?_ ?_
    · intro l
      pointwise [r0_12]
      rw [blk_q m c t ht]
      blk_ext
    · refine rows_pair 3 _ _ _ _ _ ?_ ?_ <;> intro i l
      · pointwise [r0_13]
        rw [blk_ck m c t ht]
        unfold hd
        blk_ext
      · pointwise [r0_12]
        rw [blk_k m c t ht]
        blk_ext
    · refine rows_pair 3 _ _ _ _ _ ?_ ?_ <;> intro i l
      · pointwise [r0_13]
        rw [blk_cv m c t ht]
        unfold hd
        blk_ext
      · pointwise [r0_12]
        rw [blk_v m c t ht]
        blk_ext
    · intro i
      pointwise [r0_14]
      rw [blk_e m c t ht, ext_at]
      unfold Cert.AttnRef.bias
      blk_ext
    · intro i
      pointwise [r0_15]
      rw [blk_e m c t ht, ext_at]
      unfold Cert.AttnRef.bias
      blk_ext
  · rw [heads2_eq (by norm_num) fQ fK fB]
    congr 1
    funext j
    pointwise [r0_16]
    exact blk_g m c t ht j

end Cert.AttnValue

end
-- ==== Proof.AttnClaims.lean ====
/- The claims about the attention. -/
module

public import proofs.«01_k».proof.Defs
public import proofs.«01_k».proof.Proof.Gen.Attn.Frame
public import proofs.«01_k».proof.Proof.Gen.AttnIdeal.Value
public import proofs.«01_k».proof.Proof.Gen.AttnRefIdeal.Run
public import proofs.«01_k».proof.Proof.AttnPre
public import proofs.«01_k».proof.Proof.AttnRef
public import proofs.«01_k».proof.Proof.AttnValue
public import Idealize.ShloMosaic.Lib.Quiescent

@[expose] public section

noncomputable section

namespace Cert.AttnClaims

open Idealize.ShloMosaic Idealize.SL.Sem

/-- The reference runs and leaves its arguments as they were. -/
theorem frame_ri : Cert.quiescent_AttnRefIdeal := fun m ρ _ =>
  (θ_run Cert.AttnRefIdeal.defs _ _).mono (fun r h => ⟨fun c => (h c).2, Idealize.ShloMosaic.sem_eq_zero_of_no_sems (by decide) r.2⟩)
    (Cert.AttnRefIdeal.Value.run (F := Ideal) m ρ)

/-- The named constant is the number it names. -/
theorem preserves : Cert.preserves_Attn_AttnIdeal :=
  IdealRules.named_const.statement Cert.AttnIdeal.κ "log2e" .f32 0x3FB8AA3B#32 (((Real.log 2)⁻¹ : ℝ) : EReal) rfl

/-- Over the reals, of finite scores, the two results are one: the kernel's result array is the reference's term. -/
theorem algebraic : Cert.algebraic_AttnIdeal_AttnRefIdeal_pre_finite_scores := by
  intro m ρ m' ρ' hpre hagree
  refine ⟨_, Cert.AttnIdeal.Value.run_blocks (F := Ideal) m ρ, ?_⟩
  refine (θ_run Cert.AttnRefIdeal.defs _ _).mono (fun _ h c => ⟨(h c).1.trans ?_, (h c).2⟩)
    (Cert.AttnRefIdeal.Value.run (F := Ideal) m' ρ')
  obtain ⟨f0, f1, f3, f5⟩ := Cert.AttnPre.finite hpre c
  refine (Cert.AttnRef.res_eq m' c).trans (Eq.trans ?_ (Cert.AttnValue.final m c f0 f1 f3 f5).symm)
  obtain ⟨h0, h1, h2, h3, h4, h5, h6⟩ := hagree c
  rw [h0, h1, h2, h3, h4, h5, h6]

end Cert.AttnClaims

end
-- ==== Proof.InMath.lean ====
/- One row of the input projection, the recurrence's gate and the queries' scale, as functions of that row. -/
module

public import proofs.«01_k».proof.Proof.MlpMath
public import proofs.«01_k».proof.Proof.Consts

@[expose] public section

set_option maxRecDepth 16384

noncomputable section

namespace Cert.InMath

open Idealize.ShloMosaic Cert.MlpMath

/-- The normed row against one column of the weights. -/
def proj (x g : Fin 1024 → EReal) (w : Fin 1024 → EReal) : EReal := ∑ k : Fin 1024, nrm x g k * w k

/-- A projection depends on the rows entry by entry. -/
theorem proj_congr {x x' g g' w w' : Fin 1024 → EReal} (hx : ∀ k, x k = x' k) (hg : ∀ k, g k = g' k) (hw : ∀ k, w k = w' k) : proj x g w = proj x' g' w' := by
  obtain rfl := funext hx
  obtain rfl := funext hg
  obtain rfl := funext hw
  rfl

/-- The larger of the layers' parameters, from the bottom. -/
def top (b : Fin 2 → EReal) : EReal := Finset.univ.fold max ⊥ b

/-- A layer's share of the softmax over the layers. -/
def share (b : Fin 2 → EReal) (i : Fin 2) : EReal := Ideal.div (Ideal.exp (b i - top b)) (∑ i : Fin 2, Ideal.exp (b i - top b))

/-- The second layer's lower bound: the running sum of the shares without the first. -/
def low (b : Fin 2 → EReal) : EReal := share b 0 + share b 1 - share b 0

/-- The forget gate. -/
def gate (b : Fin 2 → EReal) (z : EReal) : EReal := low b + (Ideal.ofBits .f32 0x3F800000#32 - low b) * Ideal.logistic z

/-- The five columns that the recurrence takes, side by side: queries, logarithm of the gate, one minus the gate, values, output gates. -/
def cols (b : Fin 512 → Fin 2 → EReal) (p : Fin 3584 → EReal) (j : Fin 2560) : EReal :=
  if h0 : j.val < 512 then p ⟨j.val, by omega⟩
  else if h1 : j.val - 512 < 512 then Ideal.log (gate (b ⟨j.val - 512, h1⟩) (p ⟨512 + (j.val - 512), by omega⟩))
  else if h2 : j.val - 512 - 512 < 512 then Ideal.ofBits .f32 0x3F800000#32 - gate (b ⟨j.val - 512 - 512, h2⟩) (p ⟨512 + (j.val - 512 - 512), by omega⟩)
  else if h3 : j.val - 512 - 512 - 512 < 512 then p ⟨1024 + (j.val - 512 - 512 - 512), by omega⟩
  else p ⟨1536 + (j.val - 512 - 512 - 512 - 512), by omega⟩

/-- The five sections of `cols`, one by one: the queries of the recurrence. -/
theorem cols_q (b : Fin 512 → Fin 2 → EReal) (p : Fin 3584 → EReal) {j : Fin 2560} (i : Fin 512) (h : j.val = i.val) : cols b p j = p ⟨0 + i.val, by clear h; omega⟩ := by
  obtain ⟨v, hv⟩ := j
  change v = _ at h
  subst h
  simp only [cols, dif_pos i.isLt, Nat.zero_add]

/-- The logarithm of the gate. -/
theorem cols_log (b : Fin 512 → Fin 2 → EReal) (p : Fin 3584 → EReal) {j : Fin 2560} (i : Fin 512) (h : j.val = 512 + i.val) :
    cols b p j = Ideal.log (gate (b i) (p ⟨512 + i.val, by clear h; omega⟩)) := by
  obtain ⟨v, hv⟩ := j
  change v = _ at h
  subst h
  simp only [cols, Nat.add_sub_cancel_left, dif_pos i.isLt, dif_neg (show ¬ 512 + i.val < 512 by omega)]

/-- One less the gate. -/
theorem cols_key (b : Fin 512 → Fin 2 → EReal) (p : Fin 3584 → EReal) {j : Fin 2560} (i : Fin 512) (h : j.val = 1024 + i.val) :
    cols b p j = Ideal.ofBits .f32 0x3F800000#32 - gate (b i) (p ⟨512 + i.val, by clear h; omega⟩) := by
  obtain ⟨v, hv⟩ := j
  change v = _ at h
  subst h
  have e : 1024 + i.val - 512 = 512 + i.val := by omega
  simp only [cols, e, Nat.add_sub_cancel_left, dif_pos i.isLt, dif_neg (show ¬ 512 + i.val < 512 by omega), dif_neg (show ¬ 1024 + i.val < 512 by omega)]

/-- The values of the recurrence. -/
theorem cols_val (b : Fin 512 → Fin 2 → EReal) (p : Fin 3584 → EReal) {j : Fin 2560} (i : Fin 512) (h : j.val = 1536 + i.val) : cols b p j = p ⟨1024 + i.val, by clear h; omega⟩ := by
  obtain ⟨v, hv⟩ := j
  change v = _ at h
  subst h
  have e : 1536 + i.val - 512 = 1024 + i.val := by omega
  have e' : 1024 + i.val - 512 = 512 + i.val := by omega
  simp only [cols, e, e', Nat.add_sub_cancel_left, dif_pos i.isLt, dif_neg (show ¬ 512 + i.val < 512 by omega), dif_neg (show ¬ 1024 + i.val < 512 by omega), dif_neg (show ¬ 1536 + i.val < 512 by omega)]

/-- The recurrence's output gate. -/
theorem cols_out (b : Fin 512 → Fin 2 → EReal) (p : Fin 3584 → EReal) {j : Fin 2560} (i : Fin 512) (h : j.val = 2048 + i.val) : cols b p j = p ⟨1536 + i.val, by clear h; omega⟩ := by
  obtain ⟨v, hv⟩ := j
  change v = _ at h
  subst h
  have e : 2048 + i.val - 512 = 1536 + i.val := by omega
  have e' : 1536 + i.val - 512 = 1024 + i.val := by omega
  have e'' : 1024 + i.val - 512 = 512 + i.val := by omega
  simp only [cols, e, e', e'', Nat.add_sub_cancel_left, dif_neg (show ¬ 512 + i.val < 512 by omega), dif_neg (show ¬ 1024 + i.val < 512 by omega), dif_neg (show ¬ 1536 + i.val < 512 by omega), dif_neg (show ¬ 2048 + i.val < 512 by omega)]

end Cert.InMath

end
-- ==== Proof.InKernel.lean ====
/- The body of the input projection, read one row at a time. -/
module

public import proofs.«01_k».proof.Proof.Gen.InprojIdeal.Frame
public import proofs.«01_k».proof.Proof.InMath
public import Idealize.ShloMosaic.Lib.Pipeline.ValueKit
public import Idealize.ShloMosaic.Lib.Pointwise

@[expose] public section

set_option maxRecDepth 16384

noncomputable section

namespace Cert.InKernel

open Idealize.ShloMosaic Idealize.ShloMosaic.TcCoe Idealize.SL.Sem
open Cert.InprojIdeal Cert.InprojIdeal.Gen Cert.MlpMath Cert.InMath

/-- The normed rows. -/
theorem pay4_at (x : Vec Ideal S512x1024 .f32) (g : Vec Ideal S1x1024 .f32) (r : Fin 512) (j : Fin 1024) :
    k0_pay4 x g (ix2 r j) = nrm (fun j => x (ix2 r j)) (fun j => g (ix2 0 j)) j := by
  pointwise [k0_pay4, nrm]

/-- The keys, in full width. -/
theorem pay1_at (n : FVec Ideal S512x1024 .bf16) (w : Vec Ideal S1024x512 .bf16) (r j : Fin 512) :
    k0_pay1 n w (ix2 r j) = ∑ k : Fin 1024, n (ix2 r k) * w (ix2 k j) := by
  pointwise [k0_pay1]

/-- One projection of a row on the blocks. -/
theorem pay1_proj (x : Vec Ideal S512x1024 .f32) (g : Vec Ideal S1x1024 .f32) (w : Vec Ideal S1024x512 .bf16) (r j : Fin 512) :
    k0_pay1 (k0_pay4 x g) w (ix2 r j) = proj (fun j => x (ix2 r j)) (fun j => g (ix2 0 j)) (fun k => w (ix2 k j)) := by
  rw [pay1_at]
  unfold proj
  simp only [pay4_at]

/-- The gate. -/
theorem pay5_at (x : Vec Ideal S512x1024 .f32) (g : Vec Ideal S1x1024 .f32) (b : Vec Ideal S2x512 .f32) (w : Vec Ideal S1024x512 .bf16) (r j : Fin 512) :
    k0_pay5 x g b w (ix2 r j) = gate (fun i => b (ix2 i j)) (k0_pay1 (k0_pay4 x g) w (ix2 r j)) := by
  pointwise [k0_pay5, k0_pay1, gate, low, share, top, Cert.Consts.neg_inf]

/-- The queries. -/
theorem pay11_at (n : FVec Ideal S512x1024 .bf16) (w : Vec Ideal S1024x512 .bf16) (r j : Fin 512) :
    k0_pay11 n w (ix2 r j) = k0_pay1 n w (ix2 r j) * (((Real.log 256)⁻¹ : ℝ) : EReal) := by
  rw [pay1_at]
  pointwise [k0_pay11]
  rfl

end Cert.InKernel

end
-- ==== Proof.InRef.lean ====
/- The reference of the input projection, read one row at a time. -/
module

public import proofs.«01_k».proof.Proof.Gen.InprojRefIdeal.Run
public import proofs.«01_k».proof.Proof.InMath
public import Idealize.ShloMosaic.Lib.Pointwise

@[expose] public section

set_option maxRecDepth 16384

noncomputable section

namespace Cert.InRef

open Idealize.ShloMosaic Idealize.ShloMosaic.TcCoe Idealize.SL.Sem
open Cert.InprojRefIdeal Cert.InprojRefIdeal.Gen Cert.MlpMath Cert.InMath

/-- The rows of `x`, each divided by the root of its mean square and scaled by `g`. -/
def nrmR (x : FVec Ideal S32768x1024 .f32) (g : FVec Ideal S1024 .f32) : FVec Ideal S32768x1024 .f32 :=
  (mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g)))

/-- All the projections of the normed rows. -/
def projR (x : FVec Ideal S32768x1024 .f32) (g : FVec Ideal S1024 .f32) (w : FVec Ideal S1024x3584 .f32) : FVec Ideal S32768x3584 .f32 :=
  Host.dotGeneral dot_S32768x1024_S1024x3584_S32768x3584_1_0_0_1_n_n none (nrmR x g) w

/-- The exponentials of the parameters, the largest taken off. -/
def expR (b : FVec Ideal S2x512 .f32) : FVec Ideal S2x512 .f32 :=
  (Host.exp (subf b (broadcastInDim S2x512 ![0, 1] bcast_S1x512_S2x512_0_1 (broadcastInDim S1x512 ![1] bcast_S512_S1x512_1 (Host.reduce FloatOps.maximumf b (constant S_ .f32 0xFF800000#32) reducesTo_S2x512_S512_d0 h_S_)))))

/-- The softmax over the layers. -/
def shareR (b : FVec Ideal S2x512 .f32) : FVec Ideal S2x512 .f32 :=
  Host.divf (expR b) (broadcastInDim S2x512 ![0, 1] bcast_S1x512_S2x512_0_1 (broadcastInDim S1x512 ![1] bcast_S512_S1x512_1 (Host.reduceAdd (expR b) (constant S_ .f32 0x00000000#32) reducesTo_S2x512_S512_d0 h_S_)))

/-- The second layer's lower bound. -/
def lowR (b : FVec Ideal S2x512 .f32) : FVec Ideal S512 .f32 :=
  subf (addf (shapeCast _ (extractStridedSlice S1x512 ![0, 0] (shareR b) slices_S2x512_S1x512_0_0) shapeCasts_S1x512_S512) (shapeCast _ (extractStridedSlice S1x512 ![1, 0] (shareR b) slices_S2x512_S1x512_1_0) shapeCasts_S1x512_S512)) (shapeCast _ (extractStridedSlice S1x512 ![0, 0] (shareR b) slices_S2x512_S1x512_0_0) shapeCasts_S1x512_S512)

/-- The forget gate of the projections `p`. -/
def gateR (b : FVec Ideal S2x512 .f32) (p : FVec Ideal S32768x3584 .f32) : FVec Ideal S32768x512 .f32 :=
  addf (broadcastInDim S32768x512 ![0, 1] bcast_S1x512_S32768x512_0_1 (broadcastInDim S1x512 ![1] bcast_S512_S1x512_1 (lowR b))) (mulf (broadcastInDim S32768x512 ![0, 1] bcast_S1x512_S32768x512_0_1 (broadcastInDim S1x512 ![1] bcast_S512_S1x512_1 (subf (broadcastInDim S512 ![] bcast_S_S512 (constant S_ .f32 0x3F800000#32)) (lowR b)))) (Host.divf (broadcastInDim S32768x512 ![] bcast_S_S32768x512 (constant S_ .f32 0x3F800000#32)) (addf (broadcastInDim S32768x512 ![] bcast_S_S32768x512 (constant S_ .f32 0x3F800000#32)) (Host.exp (Host.negf (extractStridedSlice S32768x512 ![0, 512] p slices_S32768x3584_S32768x512_0_512))))))

/-- The reference's first result: what the recurrence takes. -/
def hgR (b : FVec Ideal S2x512 .f32) (p : FVec Ideal S32768x3584 .f32) : FVec Ideal S32768x2560 .f32 :=
  concatenate S32768x2560 1 [⟨S32768x512, extractStridedSlice S32768x512 ![0, 0] p slices_S32768x3584_S32768x512_0_0⟩, ⟨S32768x512, Host.log (gateR b p)⟩, ⟨S32768x512, subf (broadcastInDim S32768x512 ![] bcast_S_S32768x512 (constant S_ .f32 0x3F800000#32)) (gateR b p)⟩, ⟨S32768x512, extractStridedSlice S32768x512 ![0, 1024] p slices_S32768x3584_S32768x512_0_1024⟩, ⟨S32768x512, extractStridedSlice S32768x512 ![0, 1536] p slices_S32768x3584_S32768x512_0_1536⟩] concatenates_S32768x512_S32768x512_S32768x512_S32768x512_S32768x512_S32768x2560_d1

/-- The reference's second result: the queries on the kernel's scale. -/
def aqR (p : FVec Ideal S32768x3584 .f32) : FVec Ideal S32768x512 .bf16 :=
  truncf .bf16 (Host.divf (extractStridedSlice S32768x512 ![0, 2048] p slices_S32768x3584_S32768x512_0_2048) (broadcastInDim S32768x512 ![] bcast_S_S32768x512 (mulf (Host.log (constant S_ .f32 0x40000000#32)) (constant S_ .f32 0x41000000#32)))) bitsLt_bf16_f32

/-- The reference's third result: the keys. -/
def akR (p : FVec Ideal S32768x3584 .f32) : FVec Ideal S32768x512 .bf16 :=
  truncf .bf16 (extractStridedSlice S32768x512 ![0, 2560] p slices_S32768x3584_S32768x512_0_2560) bitsLt_bf16_f32

/-- The reference's fourth result: the values. -/
def avR (p : FVec Ideal S32768x3584 .f32) : FVec Ideal S32768x512 .bf16 :=
  truncf .bf16 (extractStridedSlice S32768x512 ![0, 3072] p slices_S32768x3584_S32768x512_0_3072) bitsLt_bf16_f32

/-- The last 512 rows of each of the four streams. -/
def lastR (a : FVec Ideal S32768x512 .f32) : FVec Ideal S2048x512 .f32 :=
  shapeCast _ (extractStridedSlice S4x512x512 ![0, 7680, 0] (shapeCast _ a shapeCasts_S32768x512_S4x8192x512) slices_S4x8192x512_S4x512x512_0_7680_0) shapeCasts_S4x512x512_S2048x512

/-- The reference's fifth result: the keys that stay. -/
def kfR (p : FVec Ideal S32768x3584 .f32) : FVec Ideal S2048x512 .f32 := lastR (extractStridedSlice S32768x512 ![0, 2560] p slices_S32768x3584_S32768x512_0_2560)

/-- The reference's sixth result: the values that stay. -/
def vfR (p : FVec Ideal S32768x3584 .f32) : FVec Ideal S2048x512 .f32 := lastR (extractStridedSlice S32768x512 ![0, 3072] p slices_S32768x3584_S32768x512_0_3072)

/-- The reference's run states the first result's term. -/
theorem res_eq (m : (ℓ : Loc nD τ sig) → Buf (Elt Ideal) ℓ) (c : Dev nD) :
    Cert.InprojRefIdeal.Value.res_out0 m c = hgR (m ((c.tc : Thread nD τ).loc main_arg3)) (projR (m ((c.tc : Thread nD τ).loc main_arg0)) (m ((c.tc : Thread nD τ).loc main_arg1)) (m ((c.tc : Thread nD τ).loc main_arg2))) := by
  unfold Cert.InprojRefIdeal.Value.res_out0 Cert.InprojRefIdeal.Value.res_main_v59
  rfl

/-- One entry of the norm. -/
theorem nrmR_at (x : FVec Ideal S32768x1024 .f32) (g : FVec Ideal S1024 .f32) (r : Fin 32768) (j : Fin 1024) :
    nrmR x g (ix2 r j) = nrm (fun j => x (ix2 r j)) (fun j => g (ix1 j)) j := by
  pointwise [nrmR, nrm]

/-- One entry of the projections. -/
theorem projR_at (x : FVec Ideal S32768x1024 .f32) (g : FVec Ideal S1024 .f32) (w : FVec Ideal S1024x3584 .f32) (r : Fin 32768) (j : Fin 3584) :
    projR x g w (ix2 r j) = proj (fun j => x (ix2 r j)) (fun j => g (ix1 j)) (fun k => w (ix2 k j)) := by
  unfold proj
  simp only [← nrmR_at]
  pointwise [projR]

/-- One exponential. -/
theorem expR_at (b : FVec Ideal S2x512 .f32) (i : Fin 2) (j : Fin 512) :
    expR b (ix2 i j) = Ideal.exp (b (ix2 i j) - top (fun i => b (ix2 i j))) := by
  pointwise [expR, top, Cert.Consts.neg_inf]

/-- One share. -/
theorem shareR_at (b : FVec Ideal S2x512 .f32) (i : Fin 2) (j : Fin 512) :
    shareR b (ix2 i j) = share (fun i => b (ix2 i j)) i := by
  unfold share
  simp only [← expR_at]
  pointwise [shareR]

/-- One lower bound. -/
theorem lowR_at (b : FVec Ideal S2x512 .f32) (j : Fin 512) : lowR b (ix1 j) = low (fun i => b (ix2 i j)) := by
  unfold low
  simp only [← shareR_at]
  pointwise [lowR]

/-- One gate. -/
theorem gateR_at (b : FVec Ideal S2x512 .f32) (p : FVec Ideal S32768x3584 .f32) (r : Fin 32768) (j : Fin 512) :
    gateR b p (ix2 r j) = gate (fun i => b (ix2 i j)) (p (ix2 r ⟨512 + j.val, by omega⟩)) := by
  unfold gate
  simp only [← lowR_at]
  pointwise [gateR]
  rfl

/-- One entry of the first result. -/
theorem hgR_at (b : FVec Ideal S2x512 .f32) (p : FVec Ideal S32768x3584 .f32) (r : Fin 32768) (j : Fin 2560) :
    hgR b p (ix2 r j) = cols (fun j i => b (ix2 i j)) (fun j => p (ix2 r j)) j := by
  unfold cols
  simp only [← gateR_at]
  pointwise [hgR]

/-- One query. -/
theorem aqR_at (p : FVec Ideal S32768x3584 .f32) (r : Fin 32768) (j : Fin 512) :
    aqR p (ix2 r j) = p (ix2 r ⟨2048 + j.val, by omega⟩) * (((Real.log 256)⁻¹ : ℝ) : EReal) := by
  pointwise [aqR]
  rw [Cert.Consts.two, Cert.Consts.eight, Ideal.log_coe, if_neg (by norm_num), ← EReal.coe_mul, show Real.log 2 * 8 = Real.log 256 by
    rw [show (256 : ℝ) = 2 ^ (8 : ℕ) by norm_num, Real.log_pow]
    ring, Ideal.div_coe (Real.log_pos (by norm_num)).ne', one_div]

/-- One key. -/
theorem akR_at (p : FVec Ideal S32768x3584 .f32) (r : Fin 32768) (j : Fin 512) : akR p (ix2 r j) = p (ix2 r ⟨2560 + j.val, by omega⟩) := by
  pointwise [akR]

/-- One value. -/
theorem avR_at (p : FVec Ideal S32768x3584 .f32) (r : Fin 32768) (j : Fin 512) : avR p (ix2 r j) = p (ix2 r ⟨3072 + j.val, by omega⟩) := by
  pointwise [avR]

/-- One key that stays. -/
theorem kfR_at (p : FVec Ideal S32768x3584 .f32) (r : Fin 2048) (j : Fin 512) :
    kfR p (ix2 r j) = p (ix2 ⟨r.val / 512 * 8192 + (7680 + r.val % 512), by omega⟩ ⟨2560 + j.val, by omega⟩) := by
  pointwise [kfR, lastR]

/-- One value that stays. -/
theorem vfR_at (p : FVec Ideal S32768x3584 .f32) (r : Fin 2048) (j : Fin 512) :
    vfR p (ix2 r j) = p (ix2 ⟨r.val / 512 * 8192 + (7680 + r.val % 512), by omega⟩ ⟨3072 + j.val, by omega⟩) := by
  pointwise [vfR, lastR]

end Cert.InRef

end
-- ==== Proof.InValue.lean ====
/- What the input projection leaves in its results: the reference's terms. -/
module

public import proofs.«01_k».proof.Proof.Gen.InprojIdeal.Value
public import proofs.«01_k».proof.Proof.InKernel
public import proofs.«01_k».proof.Proof.InRef
public import Idealize.ShloMosaic.Lib.Pipeline.ValueKit
public import Idealize.ShloMosaic.Lib.Pointwise

@[expose] public section

set_option maxRecDepth 16384

noncomputable section

namespace Cert.InValue

open Idealize.ShloMosaic Idealize.ShloMosaic.TcCoe Idealize.SL.Sem
open Idealize.ShloMosaic.Pipeline (Dat)
open Cert.InprojIdeal Cert.InprojIdeal.Gen Cert.MlpMath Cert.InMath

variable (m : (ℓ : Loc nD τ sig) → Buf (Elt Ideal) ℓ)

/-- Which block each window reads or writes at each point: the row windows move, the weights stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val / 16, 0] ∧ win0_9.index t = ![t.val / 16, 0] ∧ t.val < 64 :=
  (by decide +kernel : ∀ t : Fin grid0.N, _)

/-- The projections that the reference takes of the arguments. -/
def PR (c : Dev nD) : FVec Ideal Cert.InprojRefIdeal.S32768x3584 .f32 :=
  Cert.InRef.projR (m ((c : Thread nD τ).loc main_arg0)) (m ((c : Thread nD τ).loc main_arg1)) (m ((c : Thread nD τ).loc main_arg2))

/-- One projection of a block's row: `w` is the columns from `o` on. -/
theorem block_proj (c : Dev nD) (t : Fin cfg0.N) (ht : t.val < 64) (w : Vec Ideal S1024x512 .bf16) (o : ℕ) (ho : o + 512 ≤ 3584)
    (hw : ∀ (k : Fin 1024) (j : Fin 512), w (ix2 k j) = iblk m c 2 t (ix2 k (⟨o + j.val, by omega⟩ : Fin 3584))) (r j : Fin 512) :
    k0_pay1 (k0_pay4 (iblk m c 0 t) (iblk m c 1 t)) w (ix2 r j)
      = PR m c (ix2 (⟨t.val * 512 + r.val, by omega⟩ : Fin 32768) (⟨o + j.val, by omega⟩ : Fin 3584)) := by
  unfold PR
  rw [Cert.InKernel.pay1_proj, Cert.InRef.projR_at]
  refine proj_congr ?_ ?_ ?_ <;> intro k
  · blk_ext [iblk, V, idx t]
  · blk_point [iblk, V, idx t]
  · rw [hw]
    blk_point [iblk, V, idx t]

/-- The gate of a block's row. -/
theorem block_gate (c : Dev nD) (t : Fin cfg0.N) (ht : t.val < 64) (w : Vec Ideal S1024x512 .bf16)
    (hw : ∀ (k : Fin 1024) (j : Fin 512), w (ix2 k j) = iblk m c 2 t (ix2 k (⟨512 + j.val, by omega⟩ : Fin 3584))) (r j : Fin 512) :
    k0_pay5 (iblk m c 0 t) (iblk m c 1 t) (iblk m c 3 t) w (ix2 r j)
      = gate (fun i => m ((c : Thread nD τ).loc main_arg3) (ix2 i j)) (PR m c (ix2 (⟨t.val * 512 + r.val, by omega⟩ : Fin 32768) (⟨512 + j.val, by omega⟩ : Fin 3584))) := by
  rw [Cert.InKernel.pay5_at, block_proj m c t ht w 512 (by omega) hw]
  congr 1
  funext i
  blk_point [iblk, V, idx t]

/-- What the recurrence takes. -/
theorem final4 (c : Dev nD) : (dats m 0 c).arrAt 4 (cfgs 0).N = Cert.InRef.hgR (m ((c : Thread nD τ).loc main_arg3)) (PR m c) := by
  refine (dats m 0 c).arrAt_eq_of_covers 4 _ (by decide +kernel) fun t _ y => ?_
  blk_simp
  rw [after0_4]
  obtain ⟨r, j, rfl⟩ : ∃ (r : Fin 512) (j : Fin 2560), y = (ix2 r j : S512x2560.Idx) := ⟨y 0, y 1, eq_ix2 y⟩
  have ht : t.val < 64 := (idx t).2.2.2.2.2.2.2.2.2.2
  have he : ((View.whole main_v2_0).slice (win0_4.rect t)).emb (ix2 r j : S512x2560.Idx) = (ix2 (⟨t.val * 512 + r.val, by omega⟩ : Fin 32768) j : S32768x2560.Idx) := by
    blk_ext [idx t]
  rw [he, Cert.InRef.hgR_at]
  by_cases h : t.val % 16 = 15
  on_goal 1 => rw [outsAt0_B m c t h]
  on_goal 2 => rw [outsAt0_A m c t h]
  all_goals
    frame_out
    canon_tiles x h
    all_goals
      obtain ⟨a, b, rfl⟩ : ∃ (a : Fin 512) (b : Fin 512), x = (ix2 a b : S512x512.Idx) := ⟨x 0, x 1, eq_ix2 x⟩
      obtain rfl : r = a := Fin.ext h0
      change j.val = _ at h1
    · refine Eq.trans ?_ (cols_out _ _ b h1).symm
      exact (block_proj m c t ht _ 1536 (by omega) (by intro k j; pointwise) r b)
    · refine Eq.trans ?_ (cols_val _ _ b h1).symm
      exact (block_proj m c t ht _ 1024 (by omega) (by intro k j; pointwise) r b)
    · refine Eq.trans ?_ (cols_key _ _ b h1).symm
      exact (congrArg (fun z => Ideal.ofBits .f32 0x3F800000#32 - z) (block_gate m c t ht _ (by intro k j; pointwise) r b))
    · refine Eq.trans ?_ (cols_log _ _ b h1).symm
      exact (congrArg Ideal.log (block_gate m c t ht _ (by intro k j; pointwise) r b))
    · refine Eq.trans ?_ (cols_q _ _ b h1).symm
      exact (block_proj m c t ht _ 0 (by omega) (by intro k j; pointwise) r b)

/-- The queries. -/
theorem final5 (c : Dev nD) : (dats m 0 c).arrAt 5 (cfgs 0).N = Cert.InRef.aqR (PR m c) := by
  refine (dats m 0 c).arrAt_eq_of_covers 5 _ (by decide +kernel) fun t _ y => ?_
  blk_simp
  rw [after0_5]
  obtain ⟨r, j, rfl⟩ : ∃ (r : Fin 512) (j : Fin 512), y = (ix2 r j : S512x512.Idx) := ⟨y 0, y 1, eq_ix2 y⟩
  have ht : t.val < 64 := (idx t).2.2.2.2.2.2.2.2.2.2
  have he : ((View.whole main_v2_1).slice (win0_5.rect t)).emb (ix2 r j : S512x512.Idx) = (ix2 (⟨t.val * 512 + r.val, by omega⟩ : Fin 32768) j : S32768x512.Idx) := by
    blk_ext [idx t]
  rw [he, Cert.InRef.aqR_at]
  by_cases h : t.val % 16 = 15
  on_goal 1 => rw [outsAt0_B m c t h]
  on_goal 2 => rw [outsAt0_A m c t h]
  all_goals
    frame_out
    exact (Cert.InKernel.pay11_at _ _ r j).trans (congrArg (· * _) (block_proj m c t ht _ 2048 (by omega) (by intro k j; pointwise) r j))

/-- The keys. -/
theorem final6 (c : Dev nD) : (dats m 0 c).arrAt 6 (cfgs 0).N = Cert.InRef.akR (PR m c) := by
  refine (dats m 0 c).arrAt_eq_of_covers 6 _ (by decide +kernel) fun t _ y => ?_
  blk_simp
  rw [after0_6]
  obtain ⟨r, j, rfl⟩ : ∃ (r : Fin 512) (j : Fin 512), y = (ix2 r j : S512x512.Idx) := ⟨y 0, y 1, eq_ix2 y⟩
  have ht : t.val < 64 := (idx t).2.2.2.2.2.2.2.2.2.2
  have he : ((View.whole main_v2_2).slice (win0_6.rect t)).emb (ix2 r j : S512x512.Idx) = (ix2 (⟨t.val * 512 + r.val, by omega⟩ : Fin 32768) j : S32768x512.Idx) := by
    blk_ext [idx t]
  rw [he, Cert.InRef.akR_at]
  by_cases h : t.val % 16 = 15
  on_goal 1 => rw [outsAt0_B m c t h]
  on_goal 2 => rw [outsAt0_A m c t h]
  all_goals
    frame_out
    exact block_proj m c t ht _ 2560 (by omega) (by intro k j; pointwise) r j

/-- The values. -/
theorem final7 (c : Dev nD) : (dats m 0 c).arrAt 7 (cfgs 0).N = Cert.InRef.avR (PR m c) := by
  refine (dats m 0 c).arrAt_eq_of_covers 7 _ (by decide +kernel) fun t _ y => ?_
  blk_simp
  rw [after0_7]
  obtain ⟨r, j, rfl⟩ : ∃ (r : Fin 512) (j : Fin 512), y = (ix2 r j : S512x512.Idx) := ⟨y 0, y 1, eq_ix2 y⟩
  have ht : t.val < 64 := (idx t).2.2.2.2.2.2.2.2.2.2
  have he : ((View.whole main_v2_3).slice (win0_7.rect t)).emb (ix2 r j : S512x512.Idx) = (ix2 (⟨t.val * 512 + r.val, by omega⟩ : Fin 32768) j : S32768x512.Idx) := by
    blk_ext [idx t]
  rw [he, Cert.InRef.avR_at]
  by_cases h : t.val % 16 = 15
  on_goal 1 => rw [outsAt0_B m c t h]
  on_goal 2 => rw [outsAt0_A m c t h]
  all_goals
    frame_out
    exact block_proj m c t ht _ 3072 (by omega) (by intro k j; pointwise) r j

/-- The keys that stay. -/
theorem final8 (c : Dev nD) : (dats m 0 c).arrAt 8 (cfgs 0).N = Cert.InRef.kfR (PR m c) := by
  refine (dats m 0 c).arrAt_eq_of_covers 8 _ (by decide +kernel) fun t hf y => ?_
  have h := (flush0_8 t).mp hf
  blk_simp
  rw [after0_8]
  obtain ⟨r, j, rfl⟩ : ∃ (r : Fin 512) (j : Fin 512), y = (ix2 r j : S512x512.Idx) := ⟨y 0, y 1, eq_ix2 y⟩
  have ht : t.val < 64 := (idx t).2.2.2.2.2.2.2.2.2.2
  have he : ((View.whole main_v2_4).slice (win0_8.rect t)).emb (ix2 r j : S512x512.Idx) = (ix2 (⟨t.val / 16 * 512 + r.val, by omega⟩ : Fin 2048) j : S2048x512.Idx) := by
    blk_ext [idx t]
  rw [he, Cert.InRef.kfR_at, outsAt0_B m c t h]
  frame_out
  refine (block_proj m c t ht _ 2560 (by omega) (by intro k j; pointwise) r j).trans ?_
  exact congrArg (fun i => PR m c (ix2 i _)) (Fin.ext (by show _ = _ / 512 * 8192 + (7680 + _ % 512); dsimp only; omega))

/-- The values that stay. -/
theorem final9 (c : Dev nD) : (dats m 0 c).arrAt 9 (cfgs 0).N = Cert.InRef.vfR (PR m c) := by
  refine (dats m 0 c).arrAt_eq_of_covers 9 _ (by decide +kernel) fun t hf y => ?_
  have h := (flush0_9 t).mp hf
  blk_simp
  rw [after0_9]
  obtain ⟨r, j, rfl⟩ : ∃ (r : Fin 512) (j : Fin 512), y = (ix2 r j : S512x512.Idx) := ⟨y 0, y 1, eq_ix2 y⟩
  have ht : t.val < 64 := (idx t).2.2.2.2.2.2.2.2.2.2
  have he : ((View.whole main_v2_5).slice (win0_9.rect t)).emb (ix2 r j : S512x512.Idx) = (ix2 (⟨t.val / 16 * 512 + r.val, by omega⟩ : Fin 2048) j : S2048x512.Idx) := by
    blk_ext [idx t]
  rw [he, Cert.InRef.vfR_at, outsAt0_B m c t h]
  frame_out
  refine (block_proj m c t ht _ 3072 (by omega) (by intro k j; pointwise) r j).trans ?_
  exact congrArg (fun i => PR m c (ix2 i _)) (Fin.ext (by show _ = _ / 512 * 8192 + (7680 + _ % 512); dsimp only; omega))

end Cert.InValue

end
-- ==== Proof.InClaims.lean ====
/- The claims about the input projection. -/
module

public import proofs.«01_k».proof.Defs
public import proofs.«01_k».proof.Proof.Gen.Inproj.Frame
public import proofs.«01_k».proof.Proof.InValue
public import Idealize.ShloMosaic.Lib.Quiescent

@[expose] public section

noncomputable section

namespace Cert.InClaims

open Idealize.ShloMosaic Idealize.SL.Sem

/-- The reference runs and leaves its arguments as they were. -/
theorem frame_ri : Cert.quiescent_InprojRefIdeal := fun m ρ _ =>
  (θ_run Cert.InprojRefIdeal.defs _ _).mono (fun r h => ⟨fun c => (h c).2.2.2.2.2.2, Idealize.ShloMosaic.sem_eq_zero_of_no_sems (by decide) r.2⟩)
    (Cert.InprojRefIdeal.Value.run (F := Ideal) m ρ)

/-- The scale of the queries is named: over the reals it is one over the logarithm of 256. -/
theorem preserves : Cert.preserves_Inproj_InprojIdeal :=
  IdealRules.named_const.statement Cert.InprojIdeal.κ "log2e_8" .f32 0x3E38AA3B#32 (((Real.log 256)⁻¹ : ℝ) : EReal) rfl

/-- Over the reals the six results are the reference's. -/
theorem algebraic : Cert.algebraic_InprojIdeal_InprojRefIdeal := by
  intro m ρ m' ρ' _ hagree
  refine ⟨_, _, _, _, _, _, Cert.InprojIdeal.Value.run_blocks (F := Ideal) m ρ, ?_⟩
  refine (θ_run Cert.InprojRefIdeal.defs _ _).mono (fun _ h c => ?_) (Cert.InprojRefIdeal.Value.run (F := Ideal) m' ρ')
  obtain ⟨e0, e1, e2, e3, e4, e5, hk⟩ := h c
  obtain ⟨h0, h1, h2, h3⟩ := hagree c
  have hp : Cert.InRef.projR (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = Cert.InValue.PR m c := by
    rw [h0, h1, h2]
    rfl
  refine ⟨e0.trans ((Cert.InRef.res_eq m' c).trans ?_), e1.trans (Eq.trans (congrArg Cert.InRef.aqR hp) (Cert.InValue.final5 m c).symm),
    e2.trans (Eq.trans (congrArg Cert.InRef.akR hp) (Cert.InValue.final6 m c).symm), e3.trans (Eq.trans (congrArg Cert.InRef.avR hp) (Cert.InValue.final7 m c).symm),
    e4.trans (Eq.trans (congrArg Cert.InRef.kfR hp) (Cert.InValue.final8 m c).symm), e5.trans (Eq.trans (congrArg Cert.InRef.vfR hp) (Cert.InValue.final9 m c).symm), hk⟩
  rw [hp, h3]
  exact (Cert.InValue.final4 m c).symm

end Cert.InClaims

end
-- ==== Proof.HgRun.lean ====
/- The body of the recurrence at one point, run in its two cases. -/
module

public import proofs.«01_k».proof.Proof.Gen.HgrnIdeal.Frame
public import proofs.«01_k».proof.Proof.Gen.HgrnIdeal.Skeleton
public import proofs.«01_k».proof.Proof.Gen.HgrnIdeal.Loops

@[expose] public section

set_option maxRecDepth 16384

noncomputable section

namespace Cert.HgIdeal

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic that the body's triples are stated in. -/
local notation "𝕄" => MT nD τ sig Unit (Elt F) ℕ (UR sig nD τ) ℕ

/-- The time coordinate of a point is the first. -/
abbrev first (i : grid0.Coords) : Prop := (Scalar.cmpi .ne (Scalar.extui (Scalar.cmpi .eq (BitVec.ofNat 32 (i 1).val) 0#32)) 0#32) = 1#1

/-- The time coordinate of a point is the last. -/
abbrev last (i : grid0.Coords) : Prop := k0_cond3 i = 1#1

/-- There is one block in time, so every point is at the first … -/
theorem first_all : ∀ i : grid0.Coords, first i := by decide +kernel

/-- … and at the last. -/
theorem last_all : ∀ i : grid0.Coords, last i := by decide +kernel

/-- The test on the largest decay of a block of log gates: whether the fast scores would overflow. -/
abbrev steep (g : Vec F S16x512 .f32) : Prop :=
  Scalar.cmpi .ne (Scalar.extui (Scalar.cmpf .ogt (k0_pay92 (k0_pay61 (k0_pay51 (F := F)) (k0_pay52 g) (k0_pay53 g) (k0_pay54 g))) (FloatOps.ofBits .f32 0x42A00000#32))) 0#32 = 1#1

set_option maxHeartbeats 1000000 in
/-- The body where the test says that the decay is steep: the scores are computed again, one by one. The two lists are what its stores leave in the two outputs, and the proof is that
    the body runs on whole buffers, the inputs' at their contents and the others at any. -/
def runExact (c : Dev nD) (i : grid0.Coords) (arg2 : Memref sig .tc .vmem S16x2560 .f32) (harg2 : arg2.IsWhole) (arg3 : Memref sig .tc .vmem S1x4x128x128 .f32) (harg3 : arg3.IsWhole) (arg4 : Memref sig .tc .vmem S1x512 .f32) (harg4 : arg4.IsWhole) (arg5 : Memref sig .tc .vmem S16x512 .bf16) (harg5 : arg5.IsWhole) (arg6 : Memref sig .tc .vmem S1x4x128x128 .f32) (harg6 : arg6.IsWhole) (arg7 : Memref sig .tc .vmem S4x128x128 .f32) (harg7 : arg7.IsWhole) (arg8 : Memref sig .tc .vmem S4x128x128 .f32) (harg8 : arg8.IsWhole)
    (hc0 : first i) (hc1 : last i) (x0 : Vec F S16x2560 .f32) (x1 : Vec F S1x4x128x128 .f32) (x2 : Vec F S1x512 .f32)
    (hw : steep (View.readAt (Elt F) arg2.view (Rect.unit (s := S16x2560) ![0, 512] S16x512.size inb_S16x2560_S16x512_0_512).toLoadRect (harg2.unread x0))) :
    Σ' (L3 : List (View.Piece (Elt F) S16x512 .bf16)), { L4 : List (View.Piece (Elt F) S1x4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ d, owns (c : Thread nD τ) arg7 fullShare d) ∗ (∃ d, owns (c : Thread nD τ) arg8 fullShare d)) -∗ K ⟨⟩))
          ⊢ wp frame (wpE (defs₀ (F := F)) Variants.none c none) E (cc0_hgrn_scan i arg2 harg2 arg3 harg3 arg4 harg4 arg5 harg5 arg6 harg6 arg7 harg7 arg8 harg8) K } := by
  refine ⟨?_, ?_, fun E K => ?run⟩
  case run =>
    simp only [cc0_hgrn_scan_eq_skeleton]; unfold cc0_hgrn_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0 | sl_exact hc1 | sl_exact hw)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]
    · iexists _, _; isplitr; swap; · iexact HS0
      ipureintro; rfl
    iexists _, _; isplitr; swap; · iexact HS1
    ipureintro; rfl

set_option maxHeartbeats 1000000 in
/-- The body where the test says that the decay is not steep. The two lists are what its stores leave in the two outputs, and the proof is that
    the body runs on whole buffers, the inputs' at their contents and the others at any. -/
def runFast (c : Dev nD) (i : grid0.Coords) (arg2 : Memref sig .tc .vmem S16x2560 .f32) (harg2 : arg2.IsWhole) (arg3 : Memref sig .tc .vmem S1x4x128x128 .f32) (harg3 : arg3.IsWhole) (arg4 : Memref sig .tc .vmem S1x512 .f32) (harg4 : arg4.IsWhole) (arg5 : Memref sig .tc .vmem S16x512 .bf16) (harg5 : arg5.IsWhole) (arg6 : Memref sig .tc .vmem S1x4x128x128 .f32) (harg6 : arg6.IsWhole) (arg7 : Memref sig .tc .vmem S4x128x128 .f32) (harg7 : arg7.IsWhole) (arg8 : Memref sig .tc .vmem S4x128x128 .f32) (harg8 : arg8.IsWhole)
    (hc0 : first i) (hc1 : last i) (x0 : Vec F S16x2560 .f32) (x1 : Vec F S1x4x128x128 .f32) (x2 : Vec F S1x512 .f32)
    (hw : ¬steep (View.readAt (Elt F) arg2.view (Rect.unit (s := S16x2560) ![0, 512] S16x512.size inb_S16x2560_S16x512_0_512).toLoadRect (harg2.unread x0))) :
    Σ' (L3 : List (View.Piece (Elt F) S16x512 .bf16)), { L4 : List (View.Piece (Elt F) S1x4x128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2
              ∗ (∃ f, arg5.view.loc (c : Thread nD τ) ↦[arg5.view.set]{fullShare} arg5.view.writes (Elt F) f L3)
              ∗ (∃ f, arg6.view.loc (c : Thread nD τ) ↦[arg6.view.set]{fullShare} arg6.view.writes (Elt F) f L4)
              ∗ (∃ d, owns (c : Thread nD τ) arg7 fullShare d) ∗ (∃ d, owns (c : Thread nD τ) arg8 fullShare d)) -∗ K ⟨⟩))
          ⊢ wp frame (wpE (defs₀ (F := F)) Variants.none c none) E (cc0_hgrn_scan i arg2 harg2 arg3 harg3 arg4 harg4 arg5 harg5 arg6 harg6 arg7 harg7 arg8 harg8) K } := by
  refine ⟨?_, ?_, fun E K => ?run⟩
  case run =>
    simp only [cc0_hgrn_scan_eq_skeleton]; unfold cc0_hgrn_scan_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0 | sl_exact hc1 | sl_exact hw)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]
    · iexists _, _; isplitr; swap; · iexact HS0
      ipureintro; rfl
    iexists _, _; isplitr; swap; · iexact HS1
    ipureintro; rfl

end Cert.HgIdeal

end
-- ==== Proof.HgFrame.lean ====
/- The frame of the recurrence: its arguments come back as they were. -/
module

public import proofs.«01_k».proof.Proof.Gen.HgrnIdeal.Frame
public import proofs.«01_k».proof.Proof.Gen.HgrnIdeal.Skeleton
public import proofs.«01_k».proof.Proof.Gen.HgrnIdeal.Loops
public import proofs.«01_k».proof.Proof.HgRun
public import Idealize.ShloMosaic.Lib.Claim

@[expose] public section

set_option maxRecDepth 16384

noncomputable section

namespace Cert.HgIdeal

open Cert.HgrnIdeal Cert.HgrnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The logic that the body's triples are stated in. -/
local notation "𝕄" => MT nD τ sig Unit (Elt F) ℕ (UR sig nD τ) ℕ

variable (m : (ℓ : Loc nD τ sig) → Buf (Elt F) ℓ) (ρ : Dev nD → PrngReg)

/-- Window 0's staging buffer at a point, and that it is whole. -/
abbrev mem0 (t : Fin cfg0.N) : Memref sig .tc .vmem S16x2560 .f32 := win0_0.stage (cfg0.slots t 0)
abbrev whole0 (t : Fin cfg0.N) : (mem0 t).IsWhole := hstage0_0 ((cfg0.slots t 0).cast nbuf0_0)
/-- Window 1's staging buffer at a point, and that it is whole. -/
abbrev mem1 (t : Fin cfg0.N) : Memref sig .tc .vmem S1x4x128x128 .f32 := win0_1.stage (cfg0.slots t 1)
abbrev whole1 (t : Fin cfg0.N) : (mem1 t).IsWhole := hstage0_1 ((cfg0.slots t 1).cast nbuf0_1)
/-- Window 2's staging buffer at a point, and that it is whole. -/
abbrev mem2 (t : Fin cfg0.N) : Memref sig .tc .vmem S1x512 .f32 := win0_2.stage (cfg0.slots t 2)
abbrev whole2 (t : Fin cfg0.N) : (mem2 t).IsWhole := hstage0_2 ((cfg0.slots t 2).cast nbuf0_2)
/-- Window 3's staging buffer at a point, and that it is whole. -/
abbrev mem3 (t : Fin cfg0.N) : Memref sig .tc .vmem S16x512 .bf16 := win0_3.stage (cfg0.slots t 3)
abbrev whole3 (t : Fin cfg0.N) : (mem3 t).IsWhole := hstage0_3 ((cfg0.slots t 3).cast nbuf0_3)
/-- Window 4's staging buffer at a point, and that it is whole. -/
abbrev mem4 (t : Fin cfg0.N) : Memref sig .tc .vmem S1x4x128x128 .f32 := win0_4.stage (cfg0.slots t 4)
abbrev whole4 (t : Fin cfg0.N) : (mem4 t).IsWhole := hstage0_4 ((cfg0.slots t 4).cast nbuf0_4)

/-- The two scratch buffers. -/
abbrev scr0 : Memref sig .tc .vmem S4x128x128 .f32 := Memref.whole cc0_scratch0
abbrev scr1 : Memref sig .tc .vmem S4x128x128 .f32 := Memref.whole cc0_scratch1

/-- One staging buffer of each output, through which its contents are stated. -/
abbrev view3 : View sig .tc .vmem S16x512 .bf16 := (Memref.whole cc0_stg3_0 : Memref sig .tc .vmem S16x512 .bf16).view
abbrev view4 : View sig .tc .vmem S1x4x128x128 .f32 := (Memref.whole cc0_stg4_0 : Memref sig .tc .vmem S1x4x128x128 .f32).view

/-- The test at a point, on the log gates as the body loads them from the staging buffer. -/
abbrev steepAt (c : Dev nD) (t : Fin cfg0.N) : Prop :=
  steep (View.readAt (Elt F) (mem0 t).view (Rect.unit (s := S16x2560) ![0, 512] S16x512.size inb_S16x2560_S16x512_0_512).toLoadRect ((whole0 t).unread (iblk m c 0 t)))

/-- The run of the body at a steep point. -/
abbrev exactAt (c : Dev nD) (t : Fin cfg0.N) (hw : steepAt m c t) :=
  runExact c (grid0.coords t) (mem0 t) (whole0 t) (mem1 t) (whole1 t) (mem2 t) (whole2 t) (mem3 t) (whole3 t) (mem4 t) (whole4 t) scr0 (Memref.isWhole_whole _) scr1 (Memref.isWhole_whole _) (first_all _) (last_all _) (iblk m c 0 t) (iblk m c 1 t) (iblk m c 2 t) hw

/-- The run of the body at another point. -/
abbrev fastAt (c : Dev nD) (t : Fin cfg0.N) (hw : ¬steepAt m c t) :=
  runFast c (grid0.coords t) (mem0 t) (whole0 t) (mem1 t) (whole1 t) (mem2 t) (whole2 t) (mem3 t) (whole3 t) (mem4 t) (whole4 t) scr0 (Memref.isWhole_whole _) scr1 (Memref.isWhole_whole _) (first_all _) (last_all _) (iblk m c 0 t) (iblk m c 1 t) (iblk m c 2 t) hw

/-- The stores of each run cover both outputs. -/
theorem cover_exact3 (c : Dev nD) (t : Fin cfg0.N) (hw : steepAt m c t) (y : S16x512.Idx) :
    ∃ p ∈ (exactAt m c t hw).1, y ∈ p.1.set :=
  View.cover_of_tiledL (exactAt m c t hw).1 S16x128.size (by sl_kernel_rfl) y
theorem cover_exact4 (c : Dev nD) (t : Fin cfg0.N) (hw : steepAt m c t) (y : S1x4x128x128.Idx) :
    ∃ p ∈ (exactAt m c t hw).2.1, y ∈ p.1.set :=
  View.cover_of_tiledL (exactAt m c t hw).2.1 S1x1x128x128.size (by sl_kernel_rfl) y
theorem cover_fast3 (c : Dev nD) (t : Fin cfg0.N) (hw : ¬steepAt m c t) (y : S16x512.Idx) :
    ∃ p ∈ (fastAt m c t hw).1, y ∈ p.1.set :=
  View.cover_of_tiledL (fastAt m c t hw).1 S16x128.size (by sl_kernel_rfl) y
theorem cover_fast4 (c : Dev nD) (t : Fin cfg0.N) (hw : ¬steepAt m c t) (y : S1x4x128x128.Idx) :
    ∃ p ∈ (fastAt m c t hw).2.1, y ∈ p.1.set :=
  View.cover_of_tiledL (fastAt m c t hw).2.1 S1x1x128x128.size (by sl_kernel_rfl) y

open Classical in
/-- What a point leaves in the mixed outputs' block. -/
def out3 (c : Dev nD) (t : Fin cfg0.N) : Vec F S16x512 .bf16 :=
  view3.read (Elt F) (view3.writes (Elt F) view3.junk (if hw : steepAt m c t then (exactAt m c t hw).1 else (fastAt m c t hw).1))

open Classical in
/-- What a point leaves in the states' block. -/
def out4 (c : Dev nD) (t : Fin cfg0.N) : Vec F S1x4x128x128 .f32 :=
  view4.read (Elt F) (view4.writes (Elt F) view4.junk (if hw : steepAt m c t then (exactAt m c t hw).2.1 else (fastAt m c t hw).2.1))

/-- The proof data: each input keeps its block, each output takes what the body leaves, and nothing else is carried. -/
def dats (p : Fin 1) (c : Dev nD) : Dat τ (Elt F) Unit ℕ (UR sig nD τ) ℕ (cfgs p) c :=
  match p with
  | ⟨0, _⟩ =>
  { A := fun w => V m c (Pipeline.arrRef spec0 w)
    after := fun w t => match w with
      | ⟨0, _⟩ => iblk m c 0 t
      | ⟨1, _⟩ => iblk m c 1 t
      | ⟨2, _⟩ => iblk m c 2 t
      | ⟨3, _⟩ => out3 m c t
      | ⟨4, _⟩ => out4 m c t
    Φ := fun _ => Pipeline.ΦA spec0 c
    q := fun _ => fullShare
    owed := fun _ => 0 }

/-- The arrays are as the region finds them. -/
theorem arrays_eq (c : Dev nD) (w : Fin cfg0.W) : (dats m 0 c).A w = V m c (Pipeline.arrRef spec0 w) := by dsimp only [dats]

/-- What the body leaves, window by window. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = out3 m c t := by dsimp only [dats]
theorem after_4 (c : Dev nD) (t : Fin cfg0.N) : (dats m 0 c).after 4 t = out4 m c t := by dsimp only [dats]

/-- What the body finds in each input's staging buffer is its block. -/
theorem found_0 (c : Dev nD) (t : Fin cfg0.N) (d) : (dats m 0 c).before 0 t d = iblk m c 0 t :=
  before0_0_of m (dats m 0 c) (arrays_eq m c 0) (after_0 m c) t d
theorem found_1 (c : Dev nD) (t : Fin cfg0.N) (d) : (dats m 0 c).before 1 t d = iblk m c 1 t :=
  before0_1_of m (dats m 0 c) (arrays_eq m c 1) (after_1 m c) t d
theorem found_2 (c : Dev nD) (t : Fin cfg0.N) (d) : (dats m 0 c).before 2 t d = iblk m c 2 t :=
  before0_2_of m (dats m 0 c) (arrays_eq m c 2) (after_2 m c) t d

/-- The states' block is stored at every point. -/
theorem live4 : ∀ t : Fin cfg0.N, cfg0.idle 4 (grid0.coords t) = false := by decide +kernel

/-- Window 0 is handed back at what the body leaves. -/
theorem leaves_0 (c : Dev nD) (t : Fin cfg0.N) :
    (dats m 0 c).leavesExact 0 t = owns (c : Thread nD τ) (mem0 t) fullShare ((dats m 0 c).after 0 t) := by
  unfold Dat.leavesExact
  rw [show cfg0.idle 0 (grid0.coords t) = false from rfl]
/-- Window 1 is handed back at what the body leaves. -/
theorem leaves_1 (c : Dev nD) (t : Fin cfg0.N) :
    (dats m 0 c).leavesExact 1 t = owns (c : Thread nD τ) (mem1 t) fullShare ((dats m 0 c).after 1 t) := by
  unfold Dat.leavesExact
  rw [show cfg0.idle 1 (grid0.coords t) = false from rfl]
/-- Window 2 is handed back at what the body leaves. -/
theorem leaves_2 (c : Dev nD) (t : Fin cfg0.N) :
    (dats m 0 c).leavesExact 2 t = owns (c : Thread nD τ) (mem2 t) fullShare ((dats m 0 c).after 2 t) := by
  unfold Dat.leavesExact
  rw [show cfg0.idle 2 (grid0.coords t) = false from rfl]
/-- Window 3 is handed back at what the body leaves. -/
theorem leaves_3 (c : Dev nD) (t : Fin cfg0.N) :
    (dats m 0 c).leavesExact 3 t = owns (c : Thread nD τ) (mem3 t) fullShare ((dats m 0 c).after 3 t) := by
  unfold Dat.leavesExact
  rw [show cfg0.idle 3 (grid0.coords t) = false from rfl]
/-- Window 4 is handed back at what the body leaves. -/
theorem leaves_4 (c : Dev nD) (t : Fin cfg0.N) :
    (dats m 0 c).leavesExact 4 t = owns (c : Thread nD τ) (mem4 t) fullShare ((dats m 0 c).after 4 t) := by
  unfold Dat.leavesExact
  rw [show cfg0.idle 4 (grid0.coords t) = false from live4 t]

/-- The scratch and the generator, spelt as buffers owned. -/
theorem carried_eq (c : Dev nD) : (Pipeline.ΦA spec0 c : sProp 𝕄)
    = iprop(iprop((∃ d : Vec F S4x128x128 .f32, owns (c : Thread nD τ) scr0 fullShare d) ∗ (∃ d : Vec F S4x128x128 .f32, owns (c : Thread nD τ) scr1 fullShare d)) ∗ (∃ r, prngReg c r)) := by
  unfold Pipeline.ΦA; rw [scopedRest0_eq]; simp only [scr0, scr1, owns_whole]; try rfl

/-- What the body is called with at a point, -/
def given (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d))
    ∗ (∃ d, owns (c : Thread nD τ) (mem4 t) fullShare ((dats m 0 c).before 4 t d)))

/-- and what it returns. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 1600000 in
/-- The body runs at every point, in whichever case the test selects. -/
theorem body_runs (c : Dev nD) (t : Fin cfg0.N) :
    given m c t ⊢ wp frame (wpE (defs₀ (F := F)) Variants.none c none) Set.univ (bodyAt0 t) (fun _ => returned m c t) := by
  unfold given returned bodyAt0
  simp only [found_0, found_1, found_2]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, carried_eq,
    leaves_0, leaves_1, leaves_2, leaves_3, leaves_4, after_0, after_1, after_2, after_3, after_4]
  unfold out3 out4
  by_cases hw : steepAt m c t
  · rw [dif_pos hw, dif_pos hw]
    iintro ⟨⟨⟨HS0, HS1⟩, Hg⟩, Ho, ⟨%d0, H0⟩, ⟨%d1, H1⟩, ⟨%d2, H2⟩, ⟨%d3, H3⟩, ⟨%d4, H4⟩⟩
    iapply ((exactAt m c t hw).2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_exact3 m c t hw)
    unfold owns; iexists _; isplitr
    swap; · iexact H4
    ipureintro; exact View.read_writes_of_cover _ _ _ _ _ (cover_exact4 m c t hw)
  · rw [dif_neg hw, dif_neg hw]
    iintro ⟨⟨⟨HS0, HS1⟩, Hg⟩, Ho, ⟨%d0, H0⟩, ⟨%d1, H1⟩, ⟨%d2, H2⟩, ⟨%d3, H3⟩, ⟨%d4, H4⟩⟩
    iapply ((fastAt m c t hw).2.2 Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, ⟨%e3, H3⟩, ⟨%e4, H4⟩, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover_fast3 m c t hw)
    unfold owns; iexists _; isplitr
    swap; · iexact H4
    ipureintro; exact View.read_writes_of_cover _ _ _ _ _ (cover_fast4 m c t hw)

/-- The body table's row at a point is the body at that point. -/
theorem row_eq (t : Fin cfg0.N) :
    defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ := fun t => by
  rw [bigSep_W0, bigSep_W0, row_eq]
  exact triple_restated (body_runs m c t) rfl .rfl fun _ => .rfl

set_option backward.isDefEq.respectTransparency.types false in
/-- The launch: every run ends with the arrays at what the proof data computes and every counter at zero. -/
theorem launched_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m) (hΦ := fun _ _ => rfl)

/-- The launch without the counters. -/
theorem launched : θ_run defs (onTc (τ := τ) (main (F := F))) (s₀ m ρ) (Pipeline.FramePost cfgs (dats m) 0 (V m)) :=
  (θ_run defs _ _).mono (fun _ h => h.1) (launched_quiet m ρ)

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays_eq m) (launched m ρ)) ((θ_run defs _ _).mono (fun _ h => h.2) (launched_quiet m ρ))

end Cert.HgIdeal

end
-- ==== Proof.HgMath.lean ====
/- The mathematics of one block of the gated recurrence: running sums of log gates, decayed scores, the mixed rows and the state that is kept. -/
module

public import Idealize.ShloMosaic.Lib.Pointwise

@[expose] public section

noncomputable section

namespace Cert.HgMath

open Idealize.ShloMosaic

/-- The sum of the terms up to and with `t`. -/
def run (g : Fin 16 → EReal) (t : Fin 16) : EReal := ∑ s : Fin 16, if s ≤ t then g s else 0

/-- A query against a key, each lane weighted by the decay between their times. -/
def score (q k b : Fin 16 → Fin 128 → EReal) (t s : Fin 16) : EReal := ∑ i, q t i * k s i * Ideal.exp (min (b t i - b s i) 0)

/-- A mixed row before its norm: what it takes from the state, and what it takes from the rows up to it. -/
def mix (q k v b : Fin 16 → Fin 128 → EReal) (S : Fin 128 → Fin 128 → EReal) (t : Fin 16) (j : Fin 128) : EReal :=
  (∑ i, q t i * Ideal.exp (b t i) * S i j) + ∑ s, (if s ≤ t then score q k b t s else 0) * v s j

/-- A row divided by the root of its mean square, scaled, and gated. -/
def gated (o gn gt : Fin 128 → EReal) (j : Fin 128) : EReal :=
  o j * Ideal.rsqrt (Ideal.div (∑ i, o i * o i) (Ideal.ofBits .f32 0x43000000#32) + Ideal.ofBits .f32 0x358637BD#32) * gn j
    * (gt j * Ideal.div 1 (1 + Ideal.exp (-gt j)))

/-- The state after the block. -/
def keep (k v b : Fin 16 → Fin 128 → EReal) (S : Fin 128 → Fin 128 → EReal) (i j : Fin 128) : EReal :=
  S i j * Ideal.exp (b 15 i) + ∑ s, v s j * (k s i * Ideal.exp (b 15 i - b s i))

/-- Log gates that are real and not positive. -/
def Decays (g : Fin 16 → Fin 128 → EReal) : Prop := ∀ t i, g t i ≤ 0 ∧ ⊥ < g t i

/-- A running sum of real numbers is real. -/
theorem run_coe (γ : Fin 16 → ℝ) (t : Fin 16) : run (fun s => (γ s : EReal)) t = ((∑ s : Fin 16, if s ≤ t then γ s else 0 : ℝ) : EReal) := by
  unfold run
  rw [show ((∑ s : Fin 16, if s ≤ t then γ s else 0 : ℝ) : EReal) = ∑ s : Fin 16, ((if s ≤ t then γ s else 0 : ℝ) : EReal) from
    map_sum (⟨⟨fun r : ℝ => (r : EReal), EReal.coe_zero⟩, EReal.coe_add⟩ : ℝ →+ EReal) _ _]
  refine Finset.sum_congr rfl fun s _ => ?_
  split <;> rfl

/-- Where the log gates are real and not positive, their running sums are real and fall. -/
theorem run_real {g : Fin 16 → Fin 128 → EReal} (hg : Decays g) :
    ∃ β : Fin 16 → Fin 128 → ℝ, (∀ t i, run (fun s => g s i) t = β t i) ∧ ∀ s t i, s ≤ t → β t i ≤ β s i := by
  have hr : ∀ t i, ∃ γ : ℝ, g t i = γ ∧ γ ≤ 0 := fun t i => by
    obtain ⟨h0, h1⟩ := hg t i
    lift g t i to ℝ using ⟨(lt_of_le_of_lt h0 EReal.zero_lt_top).ne, h1.ne'⟩ with γ
    exact ⟨γ, rfl, by exact_mod_cast h0⟩
  choose γ hγ hn using hr
  refine ⟨fun t i => ∑ s : Fin 16, if s ≤ t then γ s i else 0, fun t i => ?_, fun s t i hst => Finset.sum_le_sum fun r _ => ?_⟩
  · rw [← run_coe (fun s => γ s i)]
    simp only [hγ]
  · by_cases h : r ≤ s
    · rw [if_pos h, if_pos (h.trans hst)]
    · rw [if_neg h]
      split
      · exact hn r i
      · exact le_rfl

/-- A real number less itself is nothing. -/
theorem sub_self_of {x : EReal} (h0 : x ≤ 0) (h1 : ⊥ < x) : x - x = 0 :=
  EReal.sub_self (lt_of_le_of_lt h0 EReal.zero_lt_top).ne h1.ne'

/-- The decay from one time to a later one, taken through a third time. -/
theorem decay_split {g : Fin 16 → Fin 128 → EReal} (hg : Decays g) (q k : EReal) {s t : Fin 16} (r : Fin 16) (i : Fin 128) (hst : s ≤ t) :
    q * Ideal.exp (run (fun s => g s i) t - run (fun s => g s i) r) * (k * Ideal.exp (run (fun s => g s i) r - run (fun s => g s i) s))
      = q * k * Ideal.exp (min (run (fun s => g s i) t - run (fun s => g s i) s) 0) := by
  obtain ⟨β, hβ, hm⟩ := run_real hg
  rw [mul_mul_mul_comm, hβ, hβ, hβ]
  congr 1
  have h : min ((β t i : EReal) - (β s i : EReal)) 0 = ((β t i - β s i : ℝ) : EReal) := by
    rw [← EReal.coe_sub]
    exact min_eq_left (by exact_mod_cast sub_nonpos.2 (hm s t i hst))
  rw [h]
  simp only [← EReal.coe_sub, Ideal.exp_coe, ← EReal.coe_mul, ← Real.exp_add]
  congr 2
  ring

/-- The scores as the product of two decayed factors. -/
theorem score_split {g : Fin 16 → Fin 128 → EReal} (hg : Decays g) (q k : Fin 16 → Fin 128 → EReal) {s t : Fin 16} (r : Fin 16) (hst : s ≤ t) :
    ∑ i, q t i * Ideal.exp (run (fun s => g s i) t - run (fun s => g s i) r) * (k s i * Ideal.exp (run (fun s => g s i) r - run (fun s => g s i) s))
      = score q k (fun t i => run (fun s => g s i) t) t s :=
  Finset.sum_congr rfl fun i _ => decay_split hg (q t i) (k s i) r i hst

/-- A sum that keeps one row is that row's term. -/
theorem sum_pick (r : Fin 16) (f : Fin 16 → EReal) : (∑ s : Fin 16, if s = r then f s else 0) = f r := by
  rw [Finset.sum_ite_eq' Finset.univ r f, if_pos (Finset.mem_univ r)]

end Cert.HgMath

end
-- ==== Proof.HgKernel.lean ====
/- The parts of the recurrence's body, each read one row and one lane at a time. -/
module

public import proofs.«01_k».proof.Proof.HgFrame
public import proofs.«01_k».proof.Proof.HgMath
public import Idealize.ShloMosaic.Lib.Pipeline.ValueKit
public import Idealize.ShloMosaic.Lib.Pointwise

@[expose] public section

set_option maxRecDepth 16384

noncomputable section

namespace Cert.HgKernel

open Idealize.ShloMosaic Idealize.ShloMosaic.TcCoe Idealize.SL.Sem
open Cert.HgrnIdeal Cert.HgrnIdeal.Gen Cert.HgMath

/-- The mixed rows of a head: its decayed queries against the state, and its scores, those of later rows left out, against the values. -/
def mixV (qe : FVec Ideal S16x128 .bf16) (sc : FVec Ideal S16x16 .f32) (st : FVec Ideal S128x128 .f32) (v : Vec Ideal S16x128 .f32) : FVec Ideal S16x128 .f32 :=
  addf (matmul dot_S16x128_S128x128_S16x128_1_1_0_0_n_n none qe (truncf .bf16 st bitsLt_bf16_f32) (constant S16x128 .f32 0x00000000#32))
    (matmul dot_S16x16_S16x128_S16x128_1_0_0_1_n_n none (truncf .bf16 (select k0_pay48 sc (broadcast S16x16 (Scalar.ofBits .f32 0x00000000#32))) bitsLt_bf16_f32)
      (truncf .bf16 v bitsLt_bf16_f32) (constant S16x128 .f32 0x00000000#32))

/-- The scores of a head as a product of two decayed factors. -/
def pairV (qd kd : FVec Ideal S16x128 .bf16) : FVec Ideal S16x16 .f32 :=
  matmul dot_S16x128_S16x128_S16x16_1_1_0_0_n_n none qd kd (constant S16x16 .f32 0x00000000#32)

/-- The state of a head after the block. -/
def keepV (st : FVec Ideal S128x128 .f32) (e : FVec Ideal S1x128 .f32) (v : Vec Ideal S16x128 .f32) (kd : FVec Ideal S16x128 .bf16) : FVec Ideal S128x128 .f32 :=
  addf (mulf st (broadcastTo S128x128 e broadcasts_S1x128_S128x128))
    (matmul dot_S16x128_S16x128_S128x128_0_0_1_1_n_n none (truncf .bf16 v bitsLt_bf16_f32) kd (constant S128x128 .f32 0x00000000#32))

/-- The test of the lower triangle. -/
theorem mask_at : ∀ t s : Fin 16, k0_pay48 (ix2 t s) = if s ≤ t then 1#1 else 0#1 := by
  decide +kernel

/-- A choice on the lower triangle. -/
theorem pick (P : Prop) [Decidable P] (a b : EReal) : Scalar.select (if P then 1#1 else 0#1) a b = if P then a else b := by
  split <;> rfl

/-- One entry of the mixed rows. -/
theorem mixV_at (qe : FVec Ideal S16x128 .bf16) (sc : FVec Ideal S16x16 .f32) (st : FVec Ideal S128x128 .f32) (v : Vec Ideal S16x128 .f32) (t : Fin 16) (j : Fin 128) :
    mixV qe sc st v (ix2 t j) = ∑ i, qe (ix2 t i) * st (ix2 j i) + ∑ s, (if s ≤ t then sc (ix2 t s) else 0) * v (ix2 s j) := by
  pointwise [mixV]
  simp only [mask_at, pick, ite_mul, zero_mul]

/-- One entry of the product of the factors. -/
theorem pairV_at (qd kd : FVec Ideal S16x128 .bf16) (t s : Fin 16) : pairV qd kd (ix2 t s) = ∑ i, qd (ix2 t i) * kd (ix2 s i) := by
  pointwise [pairV]

/-- One entry of the state after the block. -/
theorem keepV_at (st : FVec Ideal S128x128 .f32) (e : FVec Ideal S1x128 .f32) (v : Vec Ideal S16x128 .f32) (kd : FVec Ideal S16x128 .bf16) (j i : Fin 128) :
    keepV st e v kd (ix2 j i) = st (ix2 j i) * e (ix2 0 i) + ∑ s, v (ix2 s j) * kd (ix2 s i) := by
  pointwise [keepV]

/-- One entry of the normed and gated rows. -/
theorem gated_at (o : FVec Ideal S16x128 .f32) (gt : Vec Ideal S16x128 .f32) (gn : Vec Ideal S1x128 .f32) (t : Fin 16) (j : Fin 128) :
    k0_pay67 gt o gn (ix2 t j) = gated (fun i => o (ix2 t i)) (fun i => gn (ix2 0 i)) (fun i => gt (ix2 t i)) j := by
  pointwise [k0_pay67]
  rfl

/-- The running sums that the body takes with three products are the running sums. -/
theorem sums_at (g : Vec Ideal S16x512 .f32) (hg : ∀ t c, g (ix2 t c) ≤ 0 ∧ ⊥ < g (ix2 t c)) (t : Fin 16) (c : Fin 512) :
    k0_pay52 g (ix2 t c) = run (fun s => g (ix2 s c)) t := by
  have hz : ∀ s, g (ix2 s c) - g (ix2 s c) = 0 := fun s => sub_self_of (hg s c).1 (hg s c).2
  have h1 : ∀ (P : Prop) [Decidable P] (x : EReal), (if P then (1 : EReal) else 0) * x = if P then x else 0 := fun P _ x => by
    split <;> simp
  pointwise [k0_pay52, k0_pay49]
  simp only [mask_at, pick, hz, h1]
  simp only [sub_zero, ite_self, Finset.sum_const_zero, add_zero]
  rfl

/-- The same, where the scores are computed again. -/
theorem sums_eq (g : Vec Ideal S16x512 .f32) : k0_pay7 (k0_pay49 (F := Ideal)) g = k0_pay52 g := rfl

/-- A part of 128 columns. -/
theorem part_at {α : Type} (o : ℕ) (ho : o + 128 ≤ 512) (x : S16x512.Idx → α) (hs : S16x512.Slices ![0, o] S16x128) (t : Fin 16) (i : Fin 128) :
    extractStridedSlice S16x128 ![0, o] x hs (ix2 t i) = x (ix2 t ⟨o + i.val, by omega⟩) := by
  refine congrArg x (funext fun a => Fin.ext ?_)
  match a with
  | ⟨0, _⟩ => exact Nat.zero_add _
  | ⟨1, _⟩ => rfl

/-- The same of one row. -/
theorem part1_at {α : Type} (o : ℕ) (ho : o + 128 ≤ 512) (x : S1x512.Idx → α) (hs : S1x512.Slices ![0, o] S1x128) (i : Fin 128) :
    extractStridedSlice S1x128 ![0, o] x hs (ix2 0 i) = x (ix2 0 ⟨o + i.val, by omega⟩) := by
  refine congrArg x (funext fun a => Fin.ext ?_)
  match a with
  | ⟨0, _⟩ => exact Nat.zero_add _
  | ⟨1, _⟩ => rfl

variable (G Q K : Vec Ideal S16x512 .f32) (t : Fin 16) (c : Fin 512)

/-- The queries decayed from the start. -/
theorem from_start : k0_pay56 Q (k0_pay55 G) (ix2 t c) = Q (ix2 t c) * Ideal.exp (k0_pay52 G (ix2 t c)) := by
  pointwise [k0_pay56, k0_pay55]

/-- The queries decayed from the middle. -/
theorem from_middle : k0_pay57 (k0_pay52 G) Q (k0_pay53 G) (ix2 t c) = Q (ix2 t c) * Ideal.exp (k0_pay52 G (ix2 t c) - k0_pay52 G (ix2 7 c)) := by
  pointwise [k0_pay57, k0_pay53]

/-- The keys decayed to the middle. -/
theorem to_middle : k0_pay58 (k0_pay52 G) K (k0_pay53 G) (ix2 t c) = K (ix2 t c) * Ideal.exp (k0_pay52 G (ix2 7 c) - k0_pay52 G (ix2 t c)) := by
  pointwise [k0_pay58, k0_pay53]

/-- The keys decayed to the end. -/
theorem to_end : k0_pay59 (k0_pay52 G) K (k0_pay54 G) (ix2 t c) = K (ix2 t c) * Ideal.exp (k0_pay52 G (ix2 15 c) - k0_pay52 G (ix2 t c)) := by
  pointwise [k0_pay59, k0_pay54]

/-- The decay of the whole block. -/
theorem whole_decay : k0_pay60 (k0_pay54 G) (ix2 0 c) = Ideal.exp (k0_pay52 G (ix2 15 c)) := by
  pointwise [k0_pay60, k0_pay54]

/-- The state of a head without its leading axis. -/
abbrev flat (st : Vec Ideal S1x128x128 .f32) : FVec Ideal S128x128 .f32 := shapeCast S128x128 st shapeCasts_S1x128x128_S128x128

/-- An entry of it. -/
theorem flat_at (st : Vec Ideal S1x128x128 .f32) (j i : Fin 128) : flat st (ix2 j i) = st (ix3 0 j i) := by
  pointwise [flat]

variable (o : ℕ) (hs : S16x512.Slices ![0, o] S16x128) (hs1 : S1x512.Slices ![0, o] S1x128)
  (st : Vec Ideal S1x128x128 .f32) (v gt : Vec Ideal S16x128 .f32) (gn : Vec Ideal S1x128 .f32)

/-- What a head gives where its scores are products of decayed factors. -/
def fastOut : FVec Ideal S16x128 .bf16 :=
  k0_pay67 gt (mixV (extractStridedSlice S16x128 ![0, o] (k0_pay56 Q (k0_pay55 G)) hs)
    (pairV (extractStridedSlice S16x128 ![0, o] (k0_pay57 (k0_pay52 G) Q (k0_pay53 G)) hs) (extractStridedSlice S16x128 ![0, o] (k0_pay58 (k0_pay52 G) K (k0_pay53 G)) hs))
    (flat st) v) gn

/-- The state it leaves. -/
def fastKeep : FVec Ideal S1x128x128 .f32 :=
  k0_pay66 (keepV (flat st) (extractStridedSlice S1x128 ![0, o] (k0_pay60 (k0_pay54 G)) hs1) v (extractStridedSlice S16x128 ![0, o] (k0_pay59 (k0_pay52 G) K (k0_pay54 G)) hs))

/-- The running sums of a head's log gates. -/
abbrev sumsOf (ho : o + 128 ≤ 512) : Fin 16 → Fin 128 → EReal := fun t i => run (fun s => G (ix2 s ⟨o + i.val, by omega⟩)) t

/-- An entry of what a head gives. -/
theorem fastOut_at (ho : o + 128 ≤ 512) (hG : ∀ t c, G (ix2 t c) ≤ 0 ∧ ⊥ < G (ix2 t c)) (j : Fin 128) :
    fastOut G Q K o hs st v gt gn (ix2 t j)
      = gated (mix (fun t i => Q (ix2 t ⟨o + i.val, by omega⟩)) (fun t i => K (ix2 t ⟨o + i.val, by omega⟩)) (fun t j => v (ix2 t j)) (sumsOf G o ho)
          (fun i j => st (ix3 0 j i)) t) (fun i => gn (ix2 0 i)) (fun i => gt (ix2 t i)) j := by
  unfold fastOut
  rw [gated_at]
  congr 1
  funext j
  rw [mixV_at]
  simp only [pairV_at, part_at o ho, from_start, from_middle, to_middle, flat_at, sums_at G hG]
  unfold mix
  congr 1
  refine Finset.sum_congr rfl fun s _ => congrArg (· * _) ?_
  split
  · next h => exact score_split (g := fun t i => G (ix2 t ⟨o + i.val, by omega⟩)) (fun t i => hG t _) (fun t i => Q (ix2 t ⟨o + i.val, by omega⟩)) (fun t i => K (ix2 t ⟨o + i.val, by omega⟩)) 7 h
  · rfl

/-- An entry of the state a head leaves. -/
theorem fastKeep_at (ho : o + 128 ≤ 512) (hG : ∀ t c, G (ix2 t c) ≤ 0 ∧ ⊥ < G (ix2 t c)) (i j : Fin 128) :
    fastKeep G K o hs hs1 st v (ix3 0 j i)
      = keep (fun t i => K (ix2 t ⟨o + i.val, by omega⟩)) (fun t j => v (ix2 t j)) (sumsOf G o ho) (fun i j => st (ix3 0 j i)) i j := by
  have h : fastKeep G K o hs hs1 st v (ix3 0 j i) = keepV (flat st) (extractStridedSlice S1x128 ![0, o] (k0_pay60 (k0_pay54 G)) hs1) v
      (extractStridedSlice S16x128 ![0, o] (k0_pay59 (k0_pay52 G) K (k0_pay54 G)) hs) (ix2 j i) := by
    pointwise [fastKeep, k0_pay66]
  rw [h, keepV_at]
  simp only [part_at o ho, part1_at o ho, to_end, whole_decay, flat_at, sums_at G hG]
  rfl

end Cert.HgKernel

end
-- ==== Proof.HgFast.lean ====
/- What the recurrence's body leaves in its outputs' blocks where the decay is not steep. -/
module

public import proofs.«01_k».proof.Proof.HgKernel
public import Idealize.ShloMosaic.Lib.Pipeline.ReadBack
public import Idealize.ShloMosaic.Lib.WholeRead

@[expose] public section

set_option maxRecDepth 16384

noncomputable section

namespace Cert.HgFast

open Idealize.ShloMosaic Idealize.ShloMosaic.TcCoe Idealize.SL.Sem
open Cert.HgrnIdeal Cert.HgrnIdeal.Gen Cert.HgMath Cert.HgKernel Cert.HgIdeal

/-- One of the five parts of a sequence's rows, of one head. -/
def sec (x0 : Vec Ideal S16x2560 .f32) (k : Fin 5) (h : Fin 4) (t : Fin 16) (i : Fin 128) : EReal :=
  x0 (ix2 t ⟨512 * k.val + (128 * h.val + i.val), by omega⟩)

/-- The running sums of its log gates. -/
def sums (x0 : Vec Ideal S16x2560 .f32) (h : Fin 4) (t : Fin 16) (i : Fin 128) : EReal := run (fun s => sec x0 1 h s i) t

/-- What a head gives. -/
def headOut (x0 : Vec Ideal S16x2560 .f32) (x1 : Vec Ideal S1x4x128x128 .f32) (x2 : Vec Ideal S1x512 .f32) (h : Fin 4) (t : Fin 16) (j : Fin 128) : EReal :=
  gated (mix (sec x0 0 h) (sec x0 2 h) (sec x0 3 h) (sums x0 h) (fun i j => x1 (ix4 0 h i j)) t)
    (fun i => x2 (ix2 0 ⟨128 * h.val + i.val, by omega⟩)) (sec x0 4 h t) j

/-- The state it leaves. -/
def headKeep (x0 : Vec Ideal S16x2560 .f32) (x1 : Vec Ideal S1x4x128x128 .f32) (h : Fin 4) (i j : Fin 128) : EReal :=
  keep (sec x0 2 h) (sec x0 3 h) (sums x0 h) (fun i j => x1 (ix4 0 h i j)) i j

/-- The log gates of every head decay. -/
def Decaying (x0 : Vec Ideal S16x2560 .f32) : Prop := ∀ (t : Fin 16) (c : Fin 512), x0 (ix2 t ⟨512 + c.val, by omega⟩) ≤ 0 ∧ ⊥ < x0 (ix2 t ⟨512 + c.val, by omega⟩)

/-- A head's running sums, from its log gates as the body holds them. -/
theorem sums_of (x0 : Vec Ideal S16x2560 .f32) (h : Fin 4) (G : Vec Ideal S16x512 .f32) (hG : ∀ t c, G (ix2 t c) = x0 (ix2 t ⟨512 + c.val, by omega⟩)) :
    sumsOf G (128 * h.val) (by omega) = sums x0 h :=
  funext fun t => funext fun i => congrArg (fun g => run g t) (funext fun s => hG s _)

/-- What a head gives, from its parts as the body holds them. -/
theorem fast_out (x0 : Vec Ideal S16x2560 .f32) (x1 : Vec Ideal S1x4x128x128 .f32) (x2 : Vec Ideal S1x512 .f32) (hd : Decaying x0)
    (h : Fin 4) (o : ℕ) (ho : o = 128 * h.val) (hs : S16x512.Slices ![0, o] S16x128) (G Q K : Vec Ideal S16x512 .f32) (st : Vec Ideal S1x128x128 .f32)
    (v gt : Vec Ideal S16x128 .f32) (gn : Vec Ideal S1x128 .f32)
    (hQ : ∀ t c, Q (ix2 t c) = x0 (ix2 t ⟨c.val, by omega⟩)) (hG : ∀ t c, G (ix2 t c) = x0 (ix2 t ⟨512 + c.val, by omega⟩))
    (hK : ∀ t c, K (ix2 t c) = x0 (ix2 t ⟨1024 + c.val, by omega⟩)) (hv : ∀ t i, v (ix2 t i) = sec x0 3 h t i) (hgt : ∀ t i, gt (ix2 t i) = sec x0 4 h t i)
    (hgn : ∀ i, gn (ix2 0 i) = x2 (ix2 0 ⟨128 * h.val + i.val, by omega⟩)) (hst : ∀ i j, st (ix3 0 j i) = x1 (ix4 0 h i j)) (t : Fin 16) (j : Fin 128) :
    fastOut G Q K o hs st v gt gn (ix2 t j) = headOut x0 x1 x2 h t j := by
  subst ho
  have hQ' : ∀ (t : Fin 16) (i : Fin 128), Q (ix2 t ⟨128 * h.val + i.val, by omega⟩) = sec x0 0 h t i := fun t i =>
    (hQ t _).trans (congrArg (fun k => x0 (ix2 t k)) (Fin.ext (Nat.zero_add _).symm))
  have hK' : ∀ (t : Fin 16) (i : Fin 128), K (ix2 t ⟨128 * h.val + i.val, by omega⟩) = sec x0 2 h t i := fun t i => hK t _
  rw [fastOut_at G Q K t _ hs st v gt gn (by omega) (fun t c => by rw [hG]; exact hd t c), sums_of x0 h G hG]
  simp only [hQ', hK', hv, hgt, hgn, hst]
  rfl

/-- The state a head leaves, from its parts as the body holds them. -/
theorem fast_keep (x0 : Vec Ideal S16x2560 .f32) (x1 : Vec Ideal S1x4x128x128 .f32) (hd : Decaying x0)
    (h : Fin 4) (o : ℕ) (ho : o = 128 * h.val) (hs : S16x512.Slices ![0, o] S16x128) (hs1 : S1x512.Slices ![0, o] S1x128) (G K : Vec Ideal S16x512 .f32) (st : Vec Ideal S1x128x128 .f32)
    (v : Vec Ideal S16x128 .f32) (hG : ∀ t c, G (ix2 t c) = x0 (ix2 t ⟨512 + c.val, by omega⟩))
    (hK : ∀ t c, K (ix2 t c) = x0 (ix2 t ⟨1024 + c.val, by omega⟩)) (hv : ∀ t i, v (ix2 t i) = sec x0 3 h t i)
    (hst : ∀ i j, st (ix3 0 j i) = x1 (ix4 0 h i j)) (i j : Fin 128) :
    fastKeep G K o hs hs1 st v (ix3 0 j i) = headKeep x0 x1 h i j := by
  subst ho
  have hK' : ∀ (t : Fin 16) (i : Fin 128), K (ix2 t ⟨128 * h.val + i.val, by omega⟩) = sec x0 2 h t i := fun t i => hK t _
  rw [fastKeep_at G K _ hs hs1 st v (by omega) (fun t c => by rw [hG]; exact hd t c), sums_of x0 h G hG]
  simp only [hK', hv, hst]
  rfl

/-- A load of 128 columns of a sequence's rows. -/
theorem load128 (M : Memref sig .tc .vmem S16x2560 .f32) (hM : M.IsWhole) (x0 : Vec Ideal S16x2560 .f32) (k : Fin 5) (h : Fin 4) (o : ℕ) (ho : o = 512 * k.val + 128 * h.val)
    (inb : ∀ a, (![0, o] : Fin 2 → ℕ) a + S16x128.size a ≤ S16x2560.size a) (t : Fin 16) (i : Fin 128) :
    View.readAt (Elt Ideal) M.view (Rect.unit (s := S16x2560) ![0, o] S16x128.size inb).toLoadRect (hM.unread x0) (ix2 t i) = sec x0 k h t i := by
  subst ho
  refine (Memref.IsWhole.readAt_unread hM x0 _ _).trans (congrArg x0 (funext fun a => Fin.ext ?_))
  match a with
  | ⟨0, _⟩ => exact (Nat.zero_add _).trans (Nat.one_mul _)
  | ⟨1, _⟩ =>
    show 512 * k.val + 128 * h.val + 1 * i.val = 512 * k.val + (128 * h.val + i.val)
    omega

/-- A load of a whole part of a sequence's rows. -/
theorem load512 (M : Memref sig .tc .vmem S16x2560 .f32) (hM : M.IsWhole) (x0 : Vec Ideal S16x2560 .f32) (o : ℕ) (ho : o + 512 ≤ 2560)
    (inb : ∀ a, (![0, o] : Fin 2 → ℕ) a + S16x512.size a ≤ S16x2560.size a) (t : Fin 16) (i : Fin 512) :
    View.readAt (Elt Ideal) M.view (Rect.unit (s := S16x2560) ![0, o] S16x512.size inb).toLoadRect (hM.unread x0) (ix2 t i) = x0 (ix2 t ⟨o + i.val, by omega⟩) := by
  refine (Memref.IsWhole.readAt_unread hM x0 _ _).trans (congrArg x0 (funext fun a => Fin.ext ?_))
  match a with
  | ⟨0, _⟩ => exact (Nat.zero_add _).trans (Nat.one_mul _)
  | ⟨1, _⟩ => exact congrArg (o + ·) (Nat.one_mul _)

/-- A load of a head's gains. -/
theorem loadGain (M : Memref sig .tc .vmem S1x512 .f32) (hM : M.IsWhole) (x2 : Vec Ideal S1x512 .f32) (o : ℕ) (h : Fin 4) (ho : o = 128 * h.val)
    (inb : ∀ a, (![0, o] : Fin 2 → ℕ) a + S1x128.size a ≤ S1x512.size a) (i : Fin 128) :
    View.readAt (Elt Ideal) M.view (Rect.unit (s := S1x512) ![0, o] S1x128.size inb).toLoadRect (hM.unread x2) (ix2 0 i) = x2 (ix2 0 ⟨128 * h.val + i.val, by omega⟩) := by
  subst ho
  refine (Memref.IsWhole.readAt_unread hM x2 _ _).trans (congrArg x2 (funext fun a => Fin.ext ?_))
  match a with
  | ⟨0, _⟩ => rfl
  | ⟨1, _⟩ => exact congrArg (128 * h.val + ·) (Nat.one_mul _)

/-- A load of a head's state. -/
theorem loadState (M : Memref sig .tc .vmem S1x4x128x128 .f32) (hM : M.IsWhole) (x1 : Vec Ideal S1x4x128x128 .f32) (o : ℕ) (h : Fin 4) (ho : o = h.val)
    (inb : ∀ a, (![0, o, 0, 0] : Fin 4 → ℕ) a + S1x1x128x128.size a ≤ S1x4x128x128.size a) (i j : Fin 128) :
    View.readAt (Elt Ideal) M.view (Rect.unit (s := S1x4x128x128) ![0, o, 0, 0] S1x1x128x128.size inb).toLoadRect (hM.unread x1) (ix4 0 0 i j) = x1 (ix4 0 h i j) := by
  subst ho
  refine (Memref.IsWhole.readAt_unread hM x1 _ _).trans (congrArg x1 (funext fun a => Fin.ext ?_))
  match a with
  | ⟨0, _⟩ => rfl
  | ⟨1, _⟩ => rfl
  | ⟨2, _⟩ => exact (Nat.zero_add _).trans (Nat.one_mul _)
  | ⟨3, _⟩ => exact (Nat.zero_add _).trans (Nat.one_mul _)

/-- A head's state as it is stored. -/
theorem turned_at (x : Vec Ideal S1x1x128x128 .f32) (i j : Fin 128) : k0_pay44 x (ix3 0 j i) = x (ix4 0 0 i j) := by
  pointwise [k0_pay44]

/-- A head's state as it is handed back. -/
theorem back_at (x : Vec Ideal S1x128x128 .f32) (i j : Fin 128) : k0_pay2 x (ix4 0 0 i j) = x (ix3 0 j i) := by
  pointwise [k0_pay2]

/-- Where a tile of a head's state lies. -/
theorem tile3 (o : ℕ) (h : Fin 4) (ho : o = h.val) (inb : ∀ a, (![o, 0, 0] : Fin 3 → ℕ) a + S1x128x128.size a ≤ S4x128x128.size a) (j i : Fin 128) :
    (Rect.unit (s := S4x128x128) ![o, 0, 0] S1x128x128.size inb).emb (ix3 (0 : Fin 1) j i : S1x128x128.Idx) = (ix3 h j i : S4x128x128.Idx) := by
  subst ho
  refine funext fun a => Fin.ext ?_
  match a with
  | ⟨0, _⟩ => rfl
  | ⟨1, _⟩ => exact (Nat.zero_add _).trans (Nat.one_mul _)
  | ⟨2, _⟩ => exact (Nat.zero_add _).trans (Nat.one_mul _)

/-- Where a tile of the outputs lies. -/
theorem tile2 (o : ℕ) (h : Fin 4) (ho : o = 128 * h.val) (inb : ∀ a, (![0, o] : Fin 2 → ℕ) a + S16x128.size a ≤ S16x512.size a) (t : Fin 16) (j : Fin 128) :
    (Rect.unit (s := S16x512) ![0, o] S16x128.size inb).emb (ix2 t j : S16x128.Idx) = (ix2 t (⟨128 * h.val + j.val, by omega⟩ : Fin 512) : S16x512.Idx) := by
  subst ho
  refine funext fun a => Fin.ext ?_
  match a with
  | ⟨0, _⟩ => exact (Nat.zero_add _).trans (Nat.one_mul _)
  | ⟨1, _⟩ => exact congrArg (128 * h.val + ·) (Nat.one_mul _)

/-- Where a tile of the states handed back lies. -/
theorem tile4 (o : ℕ) (h : Fin 4) (ho : o = h.val) (inb : ∀ a, (![0, o, 0, 0] : Fin 4 → ℕ) a + S1x1x128x128.size a ≤ S1x4x128x128.size a) (i j : Fin 128) :
    (Rect.unit (s := S1x4x128x128) ![0, o, 0, 0] S1x1x128x128.size inb).emb (ix4 (0 : Fin 1) (0 : Fin 1) i j : S1x1x128x128.Idx) = (ix4 (0 : Fin 1) h i j : S1x4x128x128.Idx) := by
  subst ho
  refine funext fun a => Fin.ext ?_
  match a with
  | ⟨0, _⟩ => rfl
  | ⟨1, _⟩ => rfl
  | ⟨2, _⟩ => exact (Nat.zero_add _).trans (Nat.one_mul _)
  | ⟨3, _⟩ => exact (Nat.zero_add _).trans (Nat.one_mul _)

/-- What the heads give, side by side. -/
def outs (x0 : Vec Ideal S16x2560 .f32) (x1 : Vec Ideal S1x4x128x128 .f32) (x2 : Vec Ideal S1x512 .f32) (y : S16x512.Idx) : EReal :=
  headOut x0 x1 x2 ⟨(y 1).val / 128, by have := (y 1).isLt; change (y 1).val < 512 at this; omega⟩ (y 0) ⟨(y 1).val % 128, by omega⟩

/-- A head's part of them. -/
theorem outs_at (x0 : Vec Ideal S16x2560 .f32) (x1 : Vec Ideal S1x4x128x128 .f32) (x2 : Vec Ideal S1x512 .f32) (h : Fin 4) (t : Fin 16) (j : Fin 128) :
    outs x0 x1 x2 (ix2 t (⟨128 * h.val + j.val, by omega⟩ : Fin 512)) = headOut x0 x1 x2 h t j := by
  unfold outs
  have e1 : (⟨(128 * h.val + j.val) / 128, by omega⟩ : Fin 4) = h := Fin.ext (by show (128 * h.val + j.val) / 128 = h.val; omega)
  have e2 : (⟨(128 * h.val + j.val) % 128, by omega⟩ : Fin 128) = j := Fin.ext (by show (128 * h.val + j.val) % 128 = j.val; omega)
  exact congrArg₂ (fun a b => headOut x0 x1 x2 a t b) e1 e2

/-- The states that the heads leave, one after another. -/
def keeps (x0 : Vec Ideal S16x2560 .f32) (x1 : Vec Ideal S1x4x128x128 .f32) (y : S1x4x128x128.Idx) : EReal := headKeep x0 x1 (y 1) (y 2) (y 3)

variable (c : Dev nD) (arg2 : Memref sig .tc .vmem S16x2560 .f32) (harg2 : arg2.IsWhole) (arg3 : Memref sig .tc .vmem S1x4x128x128 .f32) (harg3 : arg3.IsWhole)
  (arg4 : Memref sig .tc .vmem S1x512 .f32) (harg4 : arg4.IsWhole) (arg7 : Memref sig .tc .vmem S4x128x128 .f32)
  (x0 : Vec Ideal S16x2560 .f32) (x1 : Vec Ideal S1x4x128x128 .f32) (x2 : Vec Ideal S1x512 .f32)

/-- The states as the first point stores them. -/
def begun : S4x128x128.Idx → EReal := fun y => x1 (ix4 (0 : Fin 1) (y 0) (y 2) (y 1))

/-- The first point's stores leave them. -/
theorem begun_eq (y : S4x128x128.Idx) : View.canon (runFast.sl.HS0_4 (F := Ideal) c arg3 harg3 x1) y = begun x1 y := by
  refine View.canon_apply_of_pieces (begun x1) _ ?_ y (View.cover_of_tiledL (runFast.sl.HS0_4 (F := Ideal) c arg3 harg3 x1) S1x128x128.size (by sl_kernel_rfl) y)
  unfold runFast.sl.HS0_4
  intro p hp z
  simp only [List.mem_cons, List.not_mem_nil, or_false] at hp
  rcases hp with rfl | rfl | rfl | rfl
  all_goals
    obtain ⟨a, j, i, rfl⟩ : ∃ (a : Fin 1) (j i : Fin 128), z = (ix3 a j i : S1x128x128.Idx) := ⟨z 0, z 1, z 2, eq_ix3 z⟩
    obtain rfl : a = 0 := Subsingleton.elim _ _
  · rw [tile3 3 3 rfl]
    exact (turned_at _ i j).trans (loadState arg3 harg3 x1 3 3 rfl _ i j)
  · rw [tile3 2 2 rfl]
    exact (turned_at _ i j).trans (loadState arg3 harg3 x1 2 2 rfl _ i j)
  · rw [tile3 1 1 rfl]
    exact (turned_at _ i j).trans (loadState arg3 harg3 x1 1 1 rfl _ i j)
  · rw [tile3 0 0 rfl]
    exact (turned_at _ i j).trans (loadState arg3 harg3 x1 0 0 rfl _ i j)

/-- What a head finds of the states where only the heads before it have stored theirs. -/
theorem found (L : List (View.Piece (Elt Ideal) S4x128x128 .f32)) (o : ℕ) (h : Fin 4) (ho : o = h.val)
    (inb : ∀ a, (![o, 0, 0] : Fin 3 → ℕ) a + S1x128x128.size a ≤ S4x128x128.size a) (hL : ∀ y, View.canon L y = begun x1 y) (i j : Fin 128) :
    arg7.view.readCov L (Rect.unit (s := S4x128x128) ![o, 0, 0] S1x128x128.size inb).toLoadRect (ix3 0 j i) = x1 (ix4 0 h i j) := by
  rw [View.readCov_eq_canon']
  refine (hL _).trans ?_
  rw [show (Rect.unit (s := S4x128x128) ![o, 0, 0] S1x128x128.size inb).toLoadRect.idx (ix3 (0 : Fin 1) j i : S1x128x128.Idx) = (ix3 h j i : S4x128x128.Idx) from tile3 o h ho inb j i]
  rfl

/-- What each head finds. -/
theorem found0 (i j : Fin 128) : runFast.sl.v61 (F := Ideal) c arg3 harg3 arg7 x1 (ix3 0 j i) = x1 (ix4 0 0 i j) := by
  unfold runFast.sl.v61
  exact found arg7 x1 _ 0 0 rfl _ (begun_eq c arg3 harg3 x1) i j
theorem found1 (i j : Fin 128) : runFast.sl.v105 (F := Ideal) c arg2 harg2 arg3 harg3 arg7 x0 x1 (ix3 0 j i) = x1 (ix4 0 1 i j) := by
  unfold runFast.sl.v105 runFast.sl.HS0_5
  rw [View.readCov_skip _ _ _ _ _ (by decide)]
  exact found arg7 x1 _ 1 1 rfl _ (begun_eq c arg3 harg3 x1) i j
theorem found2 (i j : Fin 128) : runFast.sl.v149 (F := Ideal) c arg2 harg2 arg3 harg3 arg7 x0 x1 (ix3 0 j i) = x1 (ix4 0 2 i j) := by
  unfold runFast.sl.v149 runFast.sl.HS0_6 runFast.sl.HS0_5
  rw [View.readCov_skip _ _ _ _ _ (by decide), View.readCov_skip _ _ _ _ _ (by decide)]
  exact found arg7 x1 _ 2 2 rfl _ (begun_eq c arg3 harg3 x1) i j
theorem found3 (i j : Fin 128) : runFast.sl.v193 (F := Ideal) c arg2 harg2 arg3 harg3 arg7 x0 x1 (ix3 0 j i) = x1 (ix4 0 3 i j) := by
  unfold runFast.sl.v193 runFast.sl.HS0_7 runFast.sl.HS0_6 runFast.sl.HS0_5
  rw [View.readCov_skip _ _ _ _ _ (by decide), View.readCov_skip _ _ _ _ _ (by decide), View.readCov_skip _ _ _ _ _ (by decide)]
  exact found arg7 x1 _ 3 3 rfl _ (begun_eq c arg3 harg3 x1) i j

/-- The log gates as the body loads them. -/
abbrev gates : Vec Ideal S16x512 .f32 :=
  View.readAt (Elt Ideal) arg2.view (Rect.unit (s := S16x2560) ![0, 512] S16x512.size inb_S16x2560_S16x512_0_512).toLoadRect (harg2.unread x0)

/-- The values of a head as the body loads them. -/
abbrev part (o : ℕ) (inb : ∀ a, (![0, o] : Fin 2 → ℕ) a + S16x128.size a ≤ S16x2560.size a) : Vec Ideal S16x128 .f32 :=
  View.readAt (Elt Ideal) arg2.view (Rect.unit (s := S16x2560) ![0, o] S16x128.size inb).toLoadRect (harg2.unread x0)

/-- A head's gains as the body loads them. -/
abbrev gain (o : ℕ) (inb : ∀ a, (![0, o] : Fin 2 → ℕ) a + S1x128.size a ≤ S1x512.size a) : Vec Ideal S1x128 .f32 :=
  View.readAt (Elt Ideal) arg4.view (Rect.unit (s := S1x512) ![0, o] S1x128.size inb).toLoadRect (harg4.unread x2)

variable (hd : Decaying x0)
include hd

/-- The state each head leaves. -/
theorem kept0 (i j : Fin 128) : k0_pay66 (runFast.sl.r_14 (F := Ideal) c arg2 harg2 arg3 harg3 arg7 x0 x1) (ix3 0 j i) = headKeep x0 x1 0 i j :=
  fast_keep x0 x1 hd 0 0 rfl slices_S16x512_o0_0_S16x128 slices_S1x512_o0_0_S1x128 (gates arg2 harg2 x0) (runFast.sl.r_2 c arg2 harg2 x0)
    (runFast.sl.v61 c arg3 harg3 arg7 x1) (part arg2 harg2 x0 1536 inb_S16x2560_S16x128_0_1536)
    (load512 arg2 harg2 x0 512 (by decide) _) (load512 arg2 harg2 x0 1024 (by decide) _) (load128 arg2 harg2 x0 3 0 1536 rfl _) (found0 c arg3 harg3 arg7 x1) i j
theorem kept1 (i j : Fin 128) : k0_pay73 (runFast.sl.r_15 (F := Ideal) c arg2 harg2 arg3 harg3 arg7 x0 x1) (runFast.sl.r_16 c arg2 harg2 x0) (runFast.sl.r_17 c arg2 harg2 x0) (runFast.sl.r_18 c arg2 harg2 x0) (ix3 0 j i) = headKeep x0 x1 1 i j :=
  fast_keep x0 x1 hd 1 128 rfl slices_S16x512_o0_128_S16x128 slices_S1x512_o0_128_S1x128 (gates arg2 harg2 x0) (runFast.sl.r_2 c arg2 harg2 x0)
    (runFast.sl.v105 c arg2 harg2 arg3 harg3 arg7 x0 x1) (part arg2 harg2 x0 1664 inb_S16x2560_S16x128_0_1664)
    (load512 arg2 harg2 x0 512 (by decide) _) (load512 arg2 harg2 x0 1024 (by decide) _) (load128 arg2 harg2 x0 3 1 1664 rfl _) (found1 c arg2 harg2 arg3 harg3 arg7 x0 x1) i j
theorem kept2 (i j : Fin 128) : k0_pay82 (runFast.sl.r_22 (F := Ideal) c arg2 harg2 arg3 harg3 arg7 x0 x1) (runFast.sl.r_24 c arg2 harg2 x0) (runFast.sl.r_25 c arg2 harg2 x0) (runFast.sl.r_26 c arg2 harg2 x0) (ix3 0 j i) = headKeep x0 x1 2 i j :=
  fast_keep x0 x1 hd 2 256 rfl slices_S16x512_o0_256_S16x128 slices_S1x512_o0_256_S1x128 (gates arg2 harg2 x0) (runFast.sl.r_2 c arg2 harg2 x0)
    (runFast.sl.v149 c arg2 harg2 arg3 harg3 arg7 x0 x1) (part arg2 harg2 x0 1792 inb_S16x2560_S16x128_0_1792)
    (load512 arg2 harg2 x0 512 (by decide) _) (load512 arg2 harg2 x0 1024 (by decide) _) (load128 arg2 harg2 x0 3 2 1792 rfl _) (found2 c arg2 harg2 arg3 harg3 arg7 x0 x1) i j
theorem kept3 (i j : Fin 128) : k0_pay90 (runFast.sl.r_30 (F := Ideal) c arg2 harg2 arg3 harg3 arg7 x0 x1) (runFast.sl.r_32 c arg2 harg2 x0) (runFast.sl.r_33 c arg2 harg2 x0) (part arg2 harg2 x0 1920 inb_S16x2560_S16x128_0_1920) (ix3 0 j i) = headKeep x0 x1 3 i j :=
  fast_keep x0 x1 hd 3 384 rfl slices_S16x512_o0_384_S16x128 slices_S1x512_o0_384_S1x128 (gates arg2 harg2 x0) (runFast.sl.r_2 c arg2 harg2 x0)
    (runFast.sl.v193 c arg2 harg2 arg3 harg3 arg7 x0 x1) (part arg2 harg2 x0 1920 inb_S16x2560_S16x128_0_1920)
    (load512 arg2 harg2 x0 512 (by decide) _) (load512 arg2 harg2 x0 1024 (by decide) _) (load128 arg2 harg2 x0 3 3 1920 rfl _) (found3 c arg2 harg2 arg3 harg3 arg7 x0 x1) i j

/-- What each head gives. -/
theorem gave0 (t : Fin 16) (j : Fin 128) : k0_pay67 (runFast.sl.r_12 (F := Ideal) c arg2 harg2 x0) (runFast.sl.r_13 c arg2 harg2 arg3 harg3 arg7 x0 x1) (gain arg4 harg4 x2 0 inb_S1x512_S1x128_0_0) (ix2 t j) = headOut x0 x1 x2 0 t j :=
  fast_out x0 x1 x2 hd 0 0 rfl slices_S16x512_o0_0_S16x128 (gates arg2 harg2 x0) (runFast.sl.r_1 c arg2 harg2 x0) (runFast.sl.r_2 c arg2 harg2 x0)
    (runFast.sl.v61 c arg3 harg3 arg7 x1) (part arg2 harg2 x0 1536 inb_S16x2560_S16x128_0_1536) (part arg2 harg2 x0 2048 inb_S16x2560_S16x128_0_2048) (gain arg4 harg4 x2 0 inb_S1x512_S1x128_0_0)
    (fun t c => (load512 arg2 harg2 x0 0 (by decide) _ t c).trans (congrArg (fun k => x0 (ix2 t k)) (Fin.ext (Nat.zero_add _))))
    (load512 arg2 harg2 x0 512 (by decide) _) (load512 arg2 harg2 x0 1024 (by decide) _) (load128 arg2 harg2 x0 3 0 1536 rfl _) (load128 arg2 harg2 x0 4 0 2048 rfl _)
    (loadGain arg4 harg4 x2 0 0 rfl _) (found0 c arg3 harg3 arg7 x1) t j
theorem gave1 (t : Fin 16) (j : Fin 128) : k0_pay74 (runFast.sl.r_19 (F := Ideal) c arg2 harg2 x0) (runFast.sl.r_20 c arg2 harg2 arg3 harg3 arg7 x0 x1) (gain arg4 harg4 x2 128 inb_S1x512_S1x128_0_128) (ix2 t j) = headOut x0 x1 x2 1 t j :=
  fast_out x0 x1 x2 hd 1 128 rfl slices_S16x512_o0_128_S16x128 (gates arg2 harg2 x0) (runFast.sl.r_1 c arg2 harg2 x0) (runFast.sl.r_2 c arg2 harg2 x0)
    (runFast.sl.v105 c arg2 harg2 arg3 harg3 arg7 x0 x1) (part arg2 harg2 x0 1664 inb_S16x2560_S16x128_0_1664) (part arg2 harg2 x0 2176 inb_S16x2560_S16x128_0_2176) (gain arg4 harg4 x2 128 inb_S1x512_S1x128_0_128)
    (fun t c => (load512 arg2 harg2 x0 0 (by decide) _ t c).trans (congrArg (fun k => x0 (ix2 t k)) (Fin.ext (Nat.zero_add _))))
    (load512 arg2 harg2 x0 512 (by decide) _) (load512 arg2 harg2 x0 1024 (by decide) _) (load128 arg2 harg2 x0 3 1 1664 rfl _) (load128 arg2 harg2 x0 4 1 2176 rfl _)
    (loadGain arg4 harg4 x2 128 1 rfl _) (found1 c arg2 harg2 arg3 harg3 arg7 x0 x1) t j

theorem gave2 (t : Fin 16) (j : Fin 128) : k0_pay83 (F := Ideal) k0_pay48 (runFast.sl.r_21 c arg2 harg2 x0) (runFast.sl.r_23 c arg2 harg2 x0) (runFast.sl.r_26 c arg2 harg2 x0) (runFast.sl.r_27 c arg2 harg2 x0) (runFast.sl.r_28 c arg2 harg2 arg3 harg3 arg7 x0 x1) (constant S16x128 .f32 0x00000000#32) (gain arg4 harg4 x2 256 inb_S1x512_S1x128_0_256) (ix2 t j) = headOut x0 x1 x2 2 t j :=
  fast_out x0 x1 x2 hd 2 256 rfl slices_S16x512_o0_256_S16x128 (gates arg2 harg2 x0) (runFast.sl.r_1 c arg2 harg2 x0) (runFast.sl.r_2 c arg2 harg2 x0)
    (runFast.sl.v149 c arg2 harg2 arg3 harg3 arg7 x0 x1) (part arg2 harg2 x0 1792 inb_S16x2560_S16x128_0_1792) (part arg2 harg2 x0 2304 inb_S16x2560_S16x128_0_2304) (gain arg4 harg4 x2 256 inb_S1x512_S1x128_0_256)
    (fun t c => (load512 arg2 harg2 x0 0 (by decide) _ t c).trans (congrArg (fun k => x0 (ix2 t k)) (Fin.ext (Nat.zero_add _))))
    (load512 arg2 harg2 x0 512 (by decide) _) (load512 arg2 harg2 x0 1024 (by decide) _) (load128 arg2 harg2 x0 3 2 1792 rfl _) (load128 arg2 harg2 x0 4 2 2304 rfl _)
    (loadGain arg4 harg4 x2 256 2 rfl _) (found2 c arg2 harg2 arg3 harg3 arg7 x0 x1) t j
theorem gave3 (t : Fin 16) (j : Fin 128) : k0_pay91 (F := Ideal) k0_pay48 (runFast.sl.r_29 c arg2 harg2 x0) (runFast.sl.r_30 c arg2 harg2 arg3 harg3 arg7 x0 x1) (runFast.sl.r_31 c arg2 harg2 x0) (part arg2 harg2 x0 1920 inb_S16x2560_S16x128_0_1920) (part arg2 harg2 x0 2432 inb_S16x2560_S16x128_0_2432) (gain arg4 harg4 x2 384 inb_S1x512_S1x128_0_384) (ix2 t j) = headOut x0 x1 x2 3 t j :=
  fast_out x0 x1 x2 hd 3 384 rfl slices_S16x512_o0_384_S16x128 (gates arg2 harg2 x0) (runFast.sl.r_1 c arg2 harg2 x0) (runFast.sl.r_2 c arg2 harg2 x0)
    (runFast.sl.v193 c arg2 harg2 arg3 harg3 arg7 x0 x1) (part arg2 harg2 x0 1920 inb_S16x2560_S16x128_0_1920) (part arg2 harg2 x0 2432 inb_S16x2560_S16x128_0_2432) (gain arg4 harg4 x2 384 inb_S1x512_S1x128_0_384)
    (fun t c => (load512 arg2 harg2 x0 0 (by decide) _ t c).trans (congrArg (fun k => x0 (ix2 t k)) (Fin.ext (Nat.zero_add _))))
    (load512 arg2 harg2 x0 512 (by decide) _) (load512 arg2 harg2 x0 1024 (by decide) _) (load128 arg2 harg2 x0 3 3 1920 rfl _) (load128 arg2 harg2 x0 4 3 2432 rfl _)
    (loadGain arg4 harg4 x2 384 3 rfl _) (found3 c arg2 harg2 arg3 harg3 arg7 x0 x1) t j

variable (i : grid0.Coords) (arg5 : Memref sig .tc .vmem S16x512 .bf16) (harg5 : arg5.IsWhole) (arg6 : Memref sig .tc .vmem S1x4x128x128 .f32) (harg6 : arg6.IsWhole)
  (harg7 : arg7.IsWhole) (arg8 : Memref sig .tc .vmem S4x128x128 .f32) (harg8 : arg8.IsWhole) (hc0 : first i) (hc1 : last i)
  (hw : ¬steep (View.readAt (Elt Ideal) arg2.view (Rect.unit (s := S16x2560) ![0, 512] S16x512.size inb_S16x2560_S16x512_0_512).toLoadRect (harg2.unread x0)))

/-- What the stores leave in the outputs. -/
theorem left3 (y : S16x512.Idx) :
    View.canon (runFast (F := Ideal) c i arg2 harg2 arg3 harg3 arg4 harg4 arg5 harg5 arg6 harg6 arg7 harg7 arg8 harg8 hc0 hc1 x0 x1 x2 hw).1 y = outs x0 x1 x2 y := by
  refine View.canon_apply_of_pieces (outs x0 x1 x2) _ ?_ y (View.cover_of_tiledL (runFast (F := Ideal) c i arg2 harg2 arg3 harg3 arg4 harg4 arg5 harg5 arg6 harg6 arg7 harg7 arg8 harg8 hc0 hc1 x0 x1 x2 hw).1 S16x128.size (by sl_kernel_rfl) y)
  unfold runFast
  dsimp only
  intro p hp z
  simp only [List.mem_cons, List.not_mem_nil, or_false] at hp
  rcases hp with rfl | rfl | rfl | rfl
  all_goals
    obtain ⟨t, j, rfl⟩ : ∃ (t : Fin 16) (j : Fin 128), z = (ix2 t j : S16x128.Idx) := ⟨z 0, z 1, eq_ix2 z⟩
  · rw [tile2 384 3 rfl, outs_at]
    exact gave3 c arg2 harg2 arg3 harg3 arg4 harg4 arg7 x0 x1 x2 hd t j
  · rw [tile2 256 2 rfl, outs_at]
    exact gave2 c arg2 harg2 arg3 harg3 arg4 harg4 arg7 x0 x1 x2 hd t j
  · rw [tile2 128 1 rfl, outs_at]
    exact gave1 c arg2 harg2 arg3 harg3 arg4 harg4 arg7 x0 x1 x2 hd t j
  · rw [tile2 0 0 rfl, outs_at]
    exact gave0 c arg2 harg2 arg3 harg3 arg4 harg4 arg7 x0 x1 x2 hd t j

/-- The states that the heads leave in the scratch, turned. -/
theorem ended0 (i j : Fin 128) : runFast.sl.v244 (F := Ideal) c arg2 harg2 arg3 harg3 arg7 x0 x1 (ix3 0 j i) = headKeep x0 x1 0 i j := by
  unfold runFast.sl.v244 runFast.sl.HS0_8 runFast.sl.HS0_7 runFast.sl.HS0_6 runFast.sl.HS0_5
  rw [View.readCov_skip _ _ _ _ _ (by decide), View.readCov_skip _ _ _ _ _ (by decide), View.readCov_skip _ _ _ _ _ (by decide), View.readCov_cons_toLoadRect]
  exact kept0 c arg2 harg2 arg3 harg3 arg7 x0 x1 hd i j
theorem ended1 (i j : Fin 128) : runFast.sl.v250 (F := Ideal) c arg2 harg2 arg3 harg3 arg7 x0 x1 (ix3 0 j i) = headKeep x0 x1 1 i j := by
  unfold runFast.sl.v250 runFast.sl.HS0_8 runFast.sl.HS0_7 runFast.sl.HS0_6
  rw [View.readCov_skip _ _ _ _ _ (by decide), View.readCov_skip _ _ _ _ _ (by decide), View.readCov_cons_toLoadRect]
  exact kept1 c arg2 harg2 arg3 harg3 arg7 x0 x1 hd i j
theorem ended2 (i j : Fin 128) : runFast.sl.v256 (F := Ideal) c arg2 harg2 arg3 harg3 arg7 x0 x1 (ix3 0 j i) = headKeep x0 x1 2 i j := by
  unfold runFast.sl.v256 runFast.sl.HS0_8 runFast.sl.HS0_7
  rw [View.readCov_skip _ _ _ _ _ (by decide), View.readCov_cons_toLoadRect]
  exact kept2 c arg2 harg2 arg3 harg3 arg7 x0 x1 hd i j
theorem ended3 (i j : Fin 128) : runFast.sl.v262 (F := Ideal) c arg2 harg2 arg3 harg3 arg7 x0 x1 (ix3 0 j i) = headKeep x0 x1 3 i j := by
  unfold runFast.sl.v262 runFast.sl.HS0_8
  rw [View.readCov_cons_toLoadRect]
  exact kept3 c arg2 harg2 arg3 harg3 arg7 x0 x1 hd i j

/-- What the stores leave in the states. -/
theorem left4 (y : S1x4x128x128.Idx) :
    View.canon (runFast (F := Ideal) c i arg2 harg2 arg3 harg3 arg4 harg4 arg5 harg5 arg6 harg6 arg7 harg7 arg8 harg8 hc0 hc1 x0 x1 x2 hw).2.1 y = keeps x0 x1 y := by
  refine View.canon_apply_of_pieces (keeps x0 x1) _ ?_ y (View.cover_of_tiledL (runFast (F := Ideal) c i arg2 harg2 arg3 harg3 arg4 harg4 arg5 harg5 arg6 harg6 arg7 harg7 arg8 harg8 hc0 hc1 x0 x1 x2 hw).2.1 S1x1x128x128.size (by sl_kernel_rfl) y)
  unfold runFast
  dsimp only
  intro p hp z
  simp only [List.mem_cons, List.not_mem_nil, or_false] at hp
  rcases hp with rfl | rfl | rfl | rfl
  all_goals
    obtain ⟨a, b, i, j, rfl⟩ : ∃ (a b : Fin 1) (i j : Fin 128), z = (ix4 a b i j : S1x1x128x128.Idx) := ⟨z 0, z 1, z 2, z 3, eq_ix4 z⟩
    obtain rfl : a = 0 := Subsingleton.elim _ _
    obtain rfl : b = 0 := Subsingleton.elim _ _
  · rw [tile4 3 3 rfl]
    exact (back_at _ i j).trans (ended3 c arg2 harg2 arg3 harg3 arg7 x0 x1 hd i j)
  · rw [tile4 2 2 rfl]
    exact (back_at _ i j).trans (ended2 c arg2 harg2 arg3 harg3 arg7 x0 x1 hd i j)
  · rw [tile4 1 1 rfl]
    exact (back_at _ i j).trans (ended1 c arg2 harg2 arg3 harg3 arg7 x0 x1 hd i j)
  · rw [tile4 0 0 rfl]
    exact (back_at _ i j).trans (ended0 c arg2 harg2 arg3 harg3 arg7 x0 x1 hd i j)

end Cert.HgFast

end
-- ==== Proof.HgExact.lean ====
/- The part of the recurrence's body that takes the scores one by one, read one row and one lane at a time. -/
module

public import proofs.«01_k».proof.Proof.HgKernel

@[expose] public section

set_option maxRecDepth 16384

noncomputable section

namespace Cert.HgKernel

open Idealize.ShloMosaic Idealize.ShloMosaic.TcCoe Idealize.SL.Sem
open Cert.HgrnIdeal Cert.HgrnIdeal.Gen Cert.HgMath

/-- One row of a block, spread over all the rows: the other rows are zeroed and the columns summed. -/
def rowV (a : BitVec 32) (x : Vec Ideal S16x128 .f32) : FVec Ideal S16x128 .f32 :=
  broadcastTo S16x128 (shapeCast S1x128 (multiReduction .add [0] S128
    (select (broadcastTo S16x128 (shapeCast S16x1 (cmpi .eq (iota .tc S16x1 32 [0] iota_S16x1_d0_w32) (broadcast S16x1 a)) shapeCasts_S16x1_S16x1) broadcasts_S16x1_S16x128) x
      (broadcast S16x128 (Scalar.ofBits .f32 0x00000000#32))) 0x00000000#32 reduces_S16x128_S128 (.inl rfl) rfl) shapeCasts_S128_S1x128) broadcasts_S1x128_S16x128

/-- One column of the scores put in its place. -/
def stepV (b q k : Vec Ideal S16x128 .f32) (a : BitVec 32) (acc : FVec Ideal S16x128 .f32) : FVec Ideal S16x128 .f32 :=
  select (cmpi .eq (iota .tc S16x128 32 [1] iota_S16x128_d1_w32) (broadcast S16x128 a))
    (broadcastTo S16x128 (shapeCast S16x1 (shapeCast S16x1 (multiReduction .add [1] S16
      (mulf (mulf q (rowV a k)) (exp (minimumf (subf b (rowV a b)) (broadcast S16x128 (Scalar.ofBits .f32 0x00000000#32))))) 0x00000000#32 reduces_S16x128_S16 (.inl rfl) rfl)
      shapeCasts_S16_S16x1) shapeCasts_S16x1_S16x1) broadcasts_S16x1_S16x128) acc

/-- The test of a row's number. -/
theorem row_test : ∀ s n : Fin 16, IntOp.cmpi .eq (BitVec.ofNat 32 s.val) (BitVec.ofNat 32 n.val) = if s = n then 1#1 else 0#1 := by
  decide +kernel

/-- The test of a lane's number. -/
theorem lane_test : ∀ (s : Fin 128) (n : Fin 16), IntOp.cmpi .eq (BitVec.ofNat 32 s.val) (BitVec.ofNat 32 n.val) = if s.val = n.val then 1#1 else 0#1 := by
  decide +kernel

/-- The row that is spread. -/
theorem rowV_at (n : Fin 16) (x : Vec Ideal S16x128 .f32) (t : Fin 16) (i : Fin 128) : rowV (BitVec.ofNat 32 n.val) x (ix2 t i) = x (ix2 n i) := by
  pointwise [rowV]
  simp only [row_test, pick]
  exact sum_pick n (fun s => x (ix2 s i))

/-- A column of the scores. -/
theorem stepV_at (b q k : Vec Ideal S16x128 .f32) (n : Fin 16) (acc : FVec Ideal S16x128 .f32) (t : Fin 16) (s : Fin 128) :
    stepV b q k (BitVec.ofNat 32 n.val) acc (ix2 t s)
      = if s.val = n.val then score (fun t i => q (ix2 t i)) (fun t i => k (ix2 t i)) (fun t i => b (ix2 t i)) t n else acc (ix2 t s) := by
  pointwise [stepV]
  simp only [lane_test, pick, rowV_at]
  rfl

/-- Columns put in their places one after another. -/
theorem columns_at {N : ℕ} (g : Fin N → FVec Ideal S16x128 .f32 → FVec Ideal S16x128 .f32) (f : Fin 16 → ℕ → EReal)
    (hg : ∀ a acc t s, g a acc (ix2 t s) = if s.val = a.val then f t a.val else acc (ix2 t s)) (l : List (Fin N)) (acc : FVec Ideal S16x128 .f32) (t : Fin 16) (s : Fin 128) :
    l.foldl (fun acc a => g a acc) acc (ix2 t s) = if ∃ a ∈ l, a.val = s.val then f t s.val else acc (ix2 t s) := by
  induction l generalizing acc with
  | nil => simp
  | cons a l ih =>
    rw [List.foldl_cons, ih, hg]
    by_cases h : ∃ a ∈ l, a.val = s.val
    · rw [if_pos h, if_pos (let ⟨x, hx, e⟩ := h; ⟨x, List.mem_cons_of_mem _ hx, e⟩)]
    · rw [if_neg h]
      by_cases ha : s.val = a.val
      · rw [if_pos ha, if_pos ⟨a, List.mem_cons_self, ha.symm⟩, ha]
      · rw [if_neg ha, if_neg]
        rintro ⟨x, hx, e⟩
        rcases List.mem_cons.mp hx with rfl | hx
        · exact ha e.symm
        · exact h ⟨x, hx, e⟩

/-- All the columns. -/
theorem fold_at {N : ℕ} (hN : N = 16) (b q k : Vec Ideal S16x128 .f32) (g : Fin N → FVec Ideal S16x128 .f32 → FVec Ideal S16x128 .f32)
    (hg : ∀ a acc, g a acc = stepV b q k (BitVec.ofNat 32 a.val) acc) (init : FVec Ideal S16x128 .f32) (t s : Fin 16) :
    Scf.fold g init (ix2 t ⟨s.val, by omega⟩) = score (fun t i => q (ix2 t i)) (fun t i => k (ix2 t i)) (fun t i => b (ix2 t i)) t s := by
  subst hN
  rw [Scf.fold_eq, columns_at g (fun t n => if h : n < 16 then score (fun t i => q (ix2 t i)) (fun t i => k (ix2 t i)) (fun t i => b (ix2 t i)) t ⟨n, h⟩ else 0)
    (fun a acc t s => by rw [hg, stepV_at, dif_pos a.isLt]), if_pos ⟨s, List.mem_finRange s, rfl⟩, dif_pos s.isLt]

variable (G : Vec Ideal S16x512 .f32) (t : Fin 16)
  (o : ℕ) (hs : S16x512.Slices ![0, o] S16x128)
  (st : Vec Ideal S1x128x128 .f32) (q k v gt : Vec Ideal S16x128 .f32) (sc : FVec Ideal S16x128 .f32) (gn : Vec Ideal S1x128 .f32)

/-- A head's running sums. -/
abbrev sumsV : FVec Ideal S16x128 .f32 := extractStridedSlice S16x128 ![0, o] (k0_pay52 G) hs

/-- The last row of them. -/
abbrev lastV : FVec Ideal S1x128 .f32 := extractStridedSlice S1x128 ![15, 0] (sumsV G o hs) slices_S16x128_o15_0_S1x128

/-- What a head gives where its scores are taken one by one. -/
def exactOut : FVec Ideal S16x128 .bf16 :=
  k0_pay67 gt (mixV (truncf .bf16 (mulf q (exp (sumsV G o hs))) bitsLt_bf16_f32) (extractStridedSlice S16x16 ![0, 0] sc slices_S16x128_o0_0_S16x16) (flat st) v) gn

/-- The state it leaves. -/
def exactKeep : FVec Ideal S1x128x128 .f32 :=
  k0_pay66 (keepV (flat st) (exp (lastV G o hs)) v
    (truncf .bf16 (mulf k (exp (subf (broadcastTo S16x128 (lastV G o hs) broadcasts_S1x128_S16x128) (sumsV G o hs)))) bitsLt_bf16_f32))

/-- The queries decayed from the start. -/
theorem start_at (i : Fin 128) : truncf .bf16 (mulf q (exp (sumsV G o hs))) bitsLt_bf16_f32 (ix2 t i) = q (ix2 t i) * Ideal.exp (sumsV G o hs (ix2 t i)) := by
  pointwise []

/-- The keys decayed to the end. -/
theorem end_at (i : Fin 128) : truncf .bf16 (mulf k (exp (subf (broadcastTo S16x128 (lastV G o hs) broadcasts_S1x128_S16x128) (sumsV G o hs)))) bitsLt_bf16_f32 (ix2 t i)
    = k (ix2 t i) * Ideal.exp (sumsV G o hs (ix2 15 i) - sumsV G o hs (ix2 t i)) := by
  pointwise []

/-- The decay of the whole block. -/
theorem last_at (i : Fin 128) : exp (lastV G o hs) (ix2 0 i) = Ideal.exp (sumsV G o hs (ix2 15 i)) := by
  pointwise []

/-- An entry of what a head gives. -/
theorem exactOut_at (ho : o + 128 ≤ 512) (hG : ∀ t c, G (ix2 t c) ≤ 0 ∧ ⊥ < G (ix2 t c))
    (hsc : ∀ t s : Fin 16, sc (ix2 t ⟨s.val, by omega⟩) = score (fun t i => q (ix2 t i)) (fun t i => k (ix2 t i)) (fun t i => sumsV G o hs (ix2 t i)) t s) (j : Fin 128) :
    exactOut G o hs st q v gt sc gn (ix2 t j)
      = gated (mix (fun t i => q (ix2 t i)) (fun t i => k (ix2 t i)) (fun t j => v (ix2 t j)) (sumsOf G o ho) (fun i j => st (ix3 0 j i)) t)
          (fun i => gn (ix2 0 i)) (fun i => gt (ix2 t i)) j := by
  have h16 : ∀ t s : Fin 16, extractStridedSlice S16x16 ![0, 0] sc slices_S16x128_o0_0_S16x16 (ix2 t s) = sc (ix2 t ⟨s.val, by omega⟩) := fun t s => by
    pointwise []
  unfold exactOut
  rw [gated_at]
  congr 1
  funext j
  rw [mixV_at]
  simp only [h16, hsc, start_at, flat_at, sumsV, part_at o ho, sums_at G hG]
  rfl

/-- An entry of the state a head leaves. -/
theorem exactKeep_at (ho : o + 128 ≤ 512) (hG : ∀ t c, G (ix2 t c) ≤ 0 ∧ ⊥ < G (ix2 t c)) (i j : Fin 128) :
    exactKeep G o hs st k v (ix3 0 j i)
      = keep (fun t i => k (ix2 t i)) (fun t j => v (ix2 t j)) (sumsOf G o ho) (fun i j => st (ix3 0 j i)) i j := by
  have h : exactKeep G o hs st k v (ix3 0 j i) = keepV (flat st) (exp (lastV G o hs)) v
    (truncf .bf16 (mulf k (exp (subf (broadcastTo S16x128 (lastV G o hs) broadcasts_S1x128_S16x128) (sumsV G o hs)))) bitsLt_bf16_f32) (ix2 j i) := by
    pointwise [exactKeep, k0_pay66]
  rw [h, keepV_at]
  simp only [last_at, end_at, flat_at, sumsV, part_at o ho, sums_at G hG]
  rfl

end Cert.HgKernel

end
-- ==== Proof.HgSteep.lean ====
/- What the recurrence's body leaves in its outputs' blocks where the decay is steep. -/
module

public import proofs.«01_k».proof.Proof.HgFast
public import proofs.«01_k».proof.Proof.HgExact
public import Idealize.ShloMosaic.Lib.VecWindow

@[expose] public section

set_option maxRecDepth 16384

noncomputable section

namespace Cert.HgSteep

open Idealize.ShloMosaic Idealize.ShloMosaic.TcCoe Idealize.SL.Sem
open Cert.HgrnIdeal Cert.HgrnIdeal.Gen Cert.HgMath Cert.HgKernel Cert.HgIdeal Cert.HgFast

/-- What a head gives, from its parts as the body holds them. -/
theorem exact_out (x0 : Vec Ideal S16x2560 .f32) (x1 : Vec Ideal S1x4x128x128 .f32) (x2 : Vec Ideal S1x512 .f32) (hd : Decaying x0)
    (h : Fin 4) (o : ℕ) (ho : o = 128 * h.val) (hs : S16x512.Slices ![0, o] S16x128) (G : Vec Ideal S16x512 .f32) (st : Vec Ideal S1x128x128 .f32)
    (q k v gt : Vec Ideal S16x128 .f32) (gn : Vec Ideal S1x128 .f32) {N : ℕ} (hN : N = 16) (g : Fin N → FVec Ideal S16x128 .f32 → FVec Ideal S16x128 .f32)
    (hg : ∀ a acc, g a acc = stepV (sumsV G o hs) q k (Scf.iv 0#32 1#32 a.val) acc) (init : FVec Ideal S16x128 .f32)
    (hG : ∀ t c, G (ix2 t c) = x0 (ix2 t ⟨512 + c.val, by omega⟩)) (hq : ∀ t i, q (ix2 t i) = sec x0 0 h t i) (hk : ∀ t i, k (ix2 t i) = sec x0 2 h t i)
    (hv : ∀ t i, v (ix2 t i) = sec x0 3 h t i) (hgt : ∀ t i, gt (ix2 t i) = sec x0 4 h t i)
    (hgn : ∀ i, gn (ix2 0 i) = x2 (ix2 0 ⟨128 * h.val + i.val, by omega⟩)) (hst : ∀ i j, st (ix3 0 j i) = x1 (ix4 0 h i j)) (t : Fin 16) (j : Fin 128) :
    exactOut G o hs st q v gt (Scf.fold g init) gn (ix2 t j) = headOut x0 x1 x2 h t j := by
  subst ho
  rw [exactOut_at G t _ hs st q k v gt (Scf.fold g init) gn (by omega) (fun t c => by rw [hG]; exact hd t c)
    (fun t s => fold_at hN (sumsV G _ hs) q k g (fun a acc => (hg a acc).trans (congrArg (fun n => stepV (sumsV G _ hs) q k n acc) (by simp [Scf.iv]))) init t s), sums_of x0 h G hG]
  simp only [hq, hk, hv, hgt, hgn, hst]
  rfl

/-- The state a head leaves, from its parts as the body holds them. -/
theorem exact_keep (x0 : Vec Ideal S16x2560 .f32) (x1 : Vec Ideal S1x4x128x128 .f32) (hd : Decaying x0)
    (h : Fin 4) (o : ℕ) (ho : o = 128 * h.val) (hs : S16x512.Slices ![0, o] S16x128) (G : Vec Ideal S16x512 .f32) (st : Vec Ideal S1x128x128 .f32)
    (k v : Vec Ideal S16x128 .f32) (hG : ∀ t c, G (ix2 t c) = x0 (ix2 t ⟨512 + c.val, by omega⟩)) (hk : ∀ t i, k (ix2 t i) = sec x0 2 h t i)
    (hv : ∀ t i, v (ix2 t i) = sec x0 3 h t i) (hst : ∀ i j, st (ix3 0 j i) = x1 (ix4 0 h i j)) (i j : Fin 128) :
    exactKeep G o hs st k v (ix3 0 j i) = headKeep x0 x1 h i j := by
  subst ho
  rw [exactKeep_at G _ hs st k v (by omega) (fun t c => by rw [hG]; exact hd t c), sums_of x0 h G hG]
  simp only [hk, hv, hst]
  rfl

variable (c : Dev nD) (arg2 : Memref sig .tc .vmem S16x2560 .f32) (harg2 : arg2.IsWhole) (arg3 : Memref sig .tc .vmem S1x4x128x128 .f32) (harg3 : arg3.IsWhole)
  (arg4 : Memref sig .tc .vmem S1x512 .f32) (harg4 : arg4.IsWhole) (arg7 : Memref sig .tc .vmem S4x128x128 .f32) (arg8 : Memref sig .tc .vmem S4x128x128 .f32)
  (x0 : Vec Ideal S16x2560 .f32) (x1 : Vec Ideal S1x4x128x128 .f32) (x2 : Vec Ideal S1x512 .f32)

/-- A shape cast to the same shape. -/
theorem same_at (x : Vec Ideal S4x128x128 .f32) (y : S4x128x128.Idx) : k0_pay6 x y = x y := by
  obtain ⟨a, j, i, rfl⟩ : ∃ (a : Fin 4) (j i : Fin 128), y = (ix3 a j i : S4x128x128.Idx) := ⟨y 0, y 1, y 2, eq_ix3 y⟩
  pointwise [k0_pay6]

/-- The states as they are put back before the heads run again. -/
theorem again_eq (y : S4x128x128.Idx) : View.canon (runExact.sl.HS0_9 (F := Ideal) c arg2 harg2 arg3 harg3 arg7 arg8 x0 x1) y = begun x1 y := by
  unfold runExact.sl.HS0_9
  rw [View.canon_cons_unit_lit _ _ _ (by decide), same_at]
  unfold runExact.sl.v244 runExact.sl.HS1_1
  rw [View.readCov_full]
  refine (same_at _ y).trans ?_
  unfold runExact.sl.v10
  rw [View.readCov_eq_canon']
  refine (begun_eq c arg3 harg3 x1 _).trans (congrArg (begun x1) ?_)
  exact Rect.emb_unit_full _ _

/-- What each head finds. -/
theorem found0 (i j : Fin 128) : runExact.sl.v272 (F := Ideal) c arg2 harg2 arg3 harg3 arg7 arg8 x0 x1 (ix3 0 j i) = x1 (ix4 0 0 i j) := by
  unfold runExact.sl.v272
  exact found arg7 x1 _ 0 0 rfl _ (again_eq c arg2 harg2 arg3 harg3 arg7 arg8 x0 x1) i j
theorem found1 (i j : Fin 128) : runExact.sl.v333 (F := Ideal) c arg2 harg2 arg3 harg3 arg7 arg8 x0 x1 (ix3 0 j i) = x1 (ix4 0 1 i j) := by
  unfold runExact.sl.v333 runExact.sl.HS0_10
  rw [View.readCov_skip _ _ _ _ _ (by decide)]
  exact found arg7 x1 _ 1 1 rfl _ (again_eq c arg2 harg2 arg3 harg3 arg7 arg8 x0 x1) i j
theorem found2 (i j : Fin 128) : runExact.sl.v394 (F := Ideal) c arg2 harg2 arg3 harg3 arg7 arg8 x0 x1 (ix3 0 j i) = x1 (ix4 0 2 i j) := by
  unfold runExact.sl.v394 runExact.sl.HS0_11 runExact.sl.HS0_10
  rw [View.readCov_skip _ _ _ _ _ (by decide), View.readCov_skip _ _ _ _ _ (by decide)]
  exact found arg7 x1 _ 2 2 rfl _ (again_eq c arg2 harg2 arg3 harg3 arg7 arg8 x0 x1) i j
theorem found3 (i j : Fin 128) : runExact.sl.v455 (F := Ideal) c arg2 harg2 arg3 harg3 arg7 arg8 x0 x1 (ix3 0 j i) = x1 (ix4 0 3 i j) := by
  unfold runExact.sl.v455 runExact.sl.HS0_12 runExact.sl.HS0_11 runExact.sl.HS0_10
  rw [View.readCov_skip _ _ _ _ _ (by decide), View.readCov_skip _ _ _ _ _ (by decide), View.readCov_skip _ _ _ _ _ (by decide)]
  exact found arg7 x1 _ 3 3 rfl _ (again_eq c arg2 harg2 arg3 harg3 arg7 arg8 x0 x1) i j

variable (hd : Decaying x0)
include hd

/-- The state each head leaves. -/
theorem kept0 (i j : Fin 128) : k0_pay15 (F := Ideal) (runExact.sl.r_37 c arg2 harg2 x0) (runExact.sl.r_38 c arg2 harg2 x0) (runExact.sl.r_39 c arg2 harg2 x0) (runExact.sl.r_40 c arg2 harg2 arg3 harg3 arg7 arg8 x0 x1) (part arg2 harg2 x0 1536 (by decide)) (ix3 0 j i) = headKeep x0 x1 0 i j :=
  exact_keep x0 x1 hd 0 0 rfl slices_S16x512_o0_0_S16x128 (gates arg2 harg2 x0) (runExact.sl.v272 c arg2 harg2 arg3 harg3 arg7 arg8 x0 x1) (part arg2 harg2 x0 1024 (by decide)) (part arg2 harg2 x0 1536 (by decide))
    (load512 arg2 harg2 x0 512 (by decide) _) (load128 arg2 harg2 x0 2 0 1024 rfl _) (load128 arg2 harg2 x0 3 0 1536 rfl _) (found0 c arg2 harg2 arg3 harg3 arg7 arg8 x0 x1) i j
theorem kept1 (i j : Fin 128) : k0_pay24 (F := Ideal) (runExact.sl.r_46 c arg2 harg2 arg3 harg3 arg7 arg8 x0 x1) (ix3 0 j i) = headKeep x0 x1 1 i j :=
  exact_keep x0 x1 hd 1 128 rfl slices_S16x512_o0_128_S16x128 (gates arg2 harg2 x0) (runExact.sl.v333 c arg2 harg2 arg3 harg3 arg7 arg8 x0 x1) (part arg2 harg2 x0 1152 (by decide)) (part arg2 harg2 x0 1664 (by decide))
    (load512 arg2 harg2 x0 512 (by decide) _) (load128 arg2 harg2 x0 2 1 1152 rfl _) (load128 arg2 harg2 x0 3 1 1664 rfl _) (found1 c arg2 harg2 arg3 harg3 arg7 arg8 x0 x1) i j
theorem kept2 (i j : Fin 128) : k0_pay35 (F := Ideal) (runExact.sl.r_48 c arg2 harg2 x0) (runExact.sl.r_49 c arg2 harg2 x0) (runExact.sl.r_50 c arg2 harg2 arg3 harg3 arg7 arg8 x0 x1) (runExact.sl.r_53 c arg2 harg2 x0) (part arg2 harg2 x0 1792 (by decide)) (ix3 0 j i) = headKeep x0 x1 2 i j :=
  exact_keep x0 x1 hd 2 256 rfl slices_S16x512_o0_256_S16x128 (gates arg2 harg2 x0) (runExact.sl.v394 c arg2 harg2 arg3 harg3 arg7 arg8 x0 x1) (part arg2 harg2 x0 1280 (by decide)) (part arg2 harg2 x0 1792 (by decide))
    (load512 arg2 harg2 x0 512 (by decide) _) (load128 arg2 harg2 x0 2 2 1280 rfl _) (load128 arg2 harg2 x0 3 2 1792 rfl _) (found2 c arg2 harg2 arg3 harg3 arg7 arg8 x0 x1) i j
theorem kept3 (i j : Fin 128) : runExact.sl.r_57 (F := Ideal) c arg2 harg2 arg3 harg3 arg7 arg8 x0 x1 (ix3 0 j i) = headKeep x0 x1 3 i j :=
  exact_keep x0 x1 hd 3 384 rfl slices_S16x512_o0_384_S16x128 (gates arg2 harg2 x0) (runExact.sl.v455 c arg2 harg2 arg3 harg3 arg7 arg8 x0 x1) (part arg2 harg2 x0 1408 (by decide)) (part arg2 harg2 x0 1920 (by decide))
    (load512 arg2 harg2 x0 512 (by decide) _) (load128 arg2 harg2 x0 2 3 1408 rfl _) (load128 arg2 harg2 x0 3 3 1920 rfl _) (found3 c arg2 harg2 arg3 harg3 arg7 arg8 x0 x1) i j

/-- What each head gives. -/
theorem gave0 (t : Fin 16) (j : Fin 128) : runExact.sl.r_42 (F := Ideal) c arg2 harg2 arg3 harg3 arg4 harg4 arg7 arg8 x0 x1 x2 (ix2 t j) = headOut x0 x1 x2 0 t j :=
  exact_out x0 x1 x2 hd 0 0 rfl slices_S16x512_o0_0_S16x128 (gates arg2 harg2 x0) (runExact.sl.v272 c arg2 harg2 arg3 harg3 arg7 arg8 x0 x1) (part arg2 harg2 x0 0 (by decide)) (part arg2 harg2 x0 1024 (by decide)) (part arg2 harg2 x0 1536 (by decide)) (part arg2 harg2 x0 2048 (by decide)) (gain arg4 harg4 x2 0 (by decide))
    (N := k0_t1_loop.trips) (by decide) (k0_pay13 k0_pay49 (gates arg2 harg2 x0) (part arg2 harg2 x0 0 (by decide)) (part arg2 harg2 x0 1024 (by decide))) (fun a acc => rfl) k0_pay12
    (load512 arg2 harg2 x0 512 (by decide) _) (load128 arg2 harg2 x0 0 0 0 rfl _) (load128 arg2 harg2 x0 2 0 1024 rfl _) (load128 arg2 harg2 x0 3 0 1536 rfl _)
    (load128 arg2 harg2 x0 4 0 2048 rfl _) (loadGain arg4 harg4 x2 0 0 rfl _) (found0 c arg2 harg2 arg3 harg3 arg7 arg8 x0 x1) t j
theorem gave1 (t : Fin 16) (j : Fin 128) : k0_pay25 (F := Ideal) (runExact.sl.r_44 c arg2 harg2 x0) (runExact.sl.r_45 c arg2 harg2 arg3 harg3 arg7 arg8 x0 x1) (gain arg4 harg4 x2 128 (by decide)) (ix2 t j) = headOut x0 x1 x2 1 t j :=
  exact_out x0 x1 x2 hd 1 128 rfl slices_S16x512_o0_128_S16x128 (gates arg2 harg2 x0) (runExact.sl.v333 c arg2 harg2 arg3 harg3 arg7 arg8 x0 x1) (part arg2 harg2 x0 128 (by decide)) (part arg2 harg2 x0 1152 (by decide)) (part arg2 harg2 x0 1664 (by decide)) (part arg2 harg2 x0 2176 (by decide)) (gain arg4 harg4 x2 128 (by decide))
    (N := k0_t2_loop.trips) (by decide) (k0_pay20 (runExact.sl.r_36 c arg2 harg2 x0) (part arg2 harg2 x0 128 (by decide)) (part arg2 harg2 x0 1152 (by decide))) (fun a acc => rfl) k0_pay19
    (load512 arg2 harg2 x0 512 (by decide) _) (load128 arg2 harg2 x0 0 1 128 rfl _) (load128 arg2 harg2 x0 2 1 1152 rfl _) (load128 arg2 harg2 x0 3 1 1664 rfl _)
    (load128 arg2 harg2 x0 4 1 2176 rfl _) (loadGain arg4 harg4 x2 128 1 rfl _) (found1 c arg2 harg2 arg3 harg3 arg7 arg8 x0 x1) t j
theorem gave2 (t : Fin 16) (j : Fin 128) : k0_pay36 (F := Ideal) k0_pay48 (runExact.sl.r_50 c arg2 harg2 arg3 harg3 arg7 arg8 x0 x1) (runExact.sl.r_51 c arg2 harg2 x0) (runExact.sl.r_52 c arg2 harg2 x0) (part arg2 harg2 x0 1792 (by decide)) (part arg2 harg2 x0 2304 (by decide)) (gain arg4 harg4 x2 256 (by decide)) (ix2 t j) = headOut x0 x1 x2 2 t j :=
  exact_out x0 x1 x2 hd 2 256 rfl slices_S16x512_o0_256_S16x128 (gates arg2 harg2 x0) (runExact.sl.v394 c arg2 harg2 arg3 harg3 arg7 arg8 x0 x1) (part arg2 harg2 x0 256 (by decide)) (part arg2 harg2 x0 1280 (by decide)) (part arg2 harg2 x0 1792 (by decide)) (part arg2 harg2 x0 2304 (by decide)) (gain arg4 harg4 x2 256 (by decide))
    (N := k0_t3_loop.trips) (by decide) (k0_pay31 (runExact.sl.r_36 c arg2 harg2 x0) (part arg2 harg2 x0 256 (by decide)) (part arg2 harg2 x0 1280 (by decide))) (fun a acc => rfl) k0_pay30
    (load512 arg2 harg2 x0 512 (by decide) _) (load128 arg2 harg2 x0 0 2 256 rfl _) (load128 arg2 harg2 x0 2 2 1280 rfl _) (load128 arg2 harg2 x0 3 2 1792 rfl _)
    (load128 arg2 harg2 x0 4 2 2304 rfl _) (loadGain arg4 harg4 x2 256 2 rfl _) (found2 c arg2 harg2 arg3 harg3 arg7 arg8 x0 x1) t j
theorem gave3 (t : Fin 16) (j : Fin 128) : k0_pay1 (F := Ideal) (runExact.sl.r_55 c arg2 harg2 x0) (runExact.sl.r_56 c arg2 harg2 arg3 harg3 arg7 arg8 x0 x1) (gain arg4 harg4 x2 384 (by decide)) (ix2 t j) = headOut x0 x1 x2 3 t j :=
  exact_out x0 x1 x2 hd 3 384 rfl slices_S16x512_o0_384_S16x128 (gates arg2 harg2 x0) (runExact.sl.v455 c arg2 harg2 arg3 harg3 arg7 arg8 x0 x1) (part arg2 harg2 x0 384 (by decide)) (part arg2 harg2 x0 1408 (by decide)) (part arg2 harg2 x0 1920 (by decide)) (part arg2 harg2 x0 2432 (by decide)) (gain arg4 harg4 x2 384 (by decide))
    (N := k0_t4_loop.trips) (by decide) (k0_pay40 (runExact.sl.r_36 c arg2 harg2 x0) (part arg2 harg2 x0 384 (by decide)) (part arg2 harg2 x0 1408 (by decide))) (fun a acc => rfl) k0_pay39
    (load512 arg2 harg2 x0 512 (by decide) _) (load128 arg2 harg2 x0 0 3 384 rfl _) (load128 arg2 harg2 x0 2 3 1408 rfl _) (load128 arg2 harg2 x0 3 3 1920 rfl _)
    (load128 arg2 harg2 x0 4 3 2432 rfl _) (loadGain arg4 harg4 x2 384 3 rfl _) (found3 c arg2 harg2 arg3 harg3 arg7 arg8 x0 x1) t j

variable (i : grid0.Coords) (arg5 : Memref sig .tc .vmem S16x512 .bf16) (harg5 : arg5.IsWhole) (arg6 : Memref sig .tc .vmem S1x4x128x128 .f32) (harg6 : arg6.IsWhole)
  (harg7 : arg7.IsWhole) (harg8 : arg8.IsWhole) (hc0 : first i) (hc1 : last i)
  (hw : steep (View.readAt (Elt Ideal) arg2.view (Rect.unit (s := S16x2560) ![0, 512] S16x512.size inb_S16x2560_S16x512_0_512).toLoadRect (harg2.unread x0)))

/-- What the stores leave in the outputs. -/
theorem left3 (y : S16x512.Idx) :
    View.canon (runExact (F := Ideal) c i arg2 harg2 arg3 harg3 arg4 harg4 arg5 harg5 arg6 harg6 arg7 harg7 arg8 harg8 hc0 hc1 x0 x1 x2 hw).1 y = outs x0 x1 x2 y := by
  refine View.canon_apply_of_pieces (outs x0 x1 x2) _ ?_ y (View.cover_of_tiledL (runExact (F := Ideal) c i arg2 harg2 arg3 harg3 arg4 harg4 arg5 harg5 arg6 harg6 arg7 harg7 arg8 harg8 hc0 hc1 x0 x1 x2 hw).1 S16x128.size (by sl_kernel_rfl) y)
  unfold runExact
  dsimp only
  intro p hp z
  simp only [List.mem_cons, List.not_mem_nil, or_false] at hp
  rcases hp with rfl | rfl | rfl | rfl | rfl | rfl | rfl | rfl
  all_goals
    obtain ⟨t, j, rfl⟩ : ∃ (t : Fin 16) (j : Fin 128), z = (ix2 t j : S16x128.Idx) := ⟨z 0, z 1, eq_ix2 z⟩
  · refine Eq.trans ?_ ((congrArg (outs x0 x1 x2) (tile2 384 3 rfl (by decide) t j)).trans (outs_at x0 x1 x2 3 t j)).symm
    exact gave3 c arg2 harg2 arg3 harg3 arg4 harg4 arg7 arg8 x0 x1 x2 hd t j
  · refine Eq.trans ?_ ((congrArg (outs x0 x1 x2) (tile2 256 2 rfl (by decide) t j)).trans (outs_at x0 x1 x2 2 t j)).symm
    exact gave2 c arg2 harg2 arg3 harg3 arg4 harg4 arg7 arg8 x0 x1 x2 hd t j
  · refine Eq.trans ?_ ((congrArg (outs x0 x1 x2) (tile2 128 1 rfl (by decide) t j)).trans (outs_at x0 x1 x2 1 t j)).symm
    exact gave1 c arg2 harg2 arg3 harg3 arg4 harg4 arg7 arg8 x0 x1 x2 hd t j
  · refine Eq.trans ?_ ((congrArg (outs x0 x1 x2) (tile2 0 0 rfl (by decide) t j)).trans (outs_at x0 x1 x2 0 t j)).symm
    exact gave0 c arg2 harg2 arg3 harg3 arg4 harg4 arg7 arg8 x0 x1 x2 hd t j
  · refine Eq.trans ?_ ((congrArg (outs x0 x1 x2) (tile2 384 3 rfl (by decide) t j)).trans (outs_at x0 x1 x2 3 t j)).symm
    exact Cert.HgFast.gave3 c arg2 harg2 arg3 harg3 arg4 harg4 arg7 x0 x1 x2 hd t j
  · refine Eq.trans ?_ ((congrArg (outs x0 x1 x2) (tile2 256 2 rfl (by decide) t j)).trans (outs_at x0 x1 x2 2 t j)).symm
    exact Cert.HgFast.gave2 c arg2 harg2 arg3 harg3 arg4 harg4 arg7 x0 x1 x2 hd t j
  · refine Eq.trans ?_ ((congrArg (outs x0 x1 x2) (tile2 128 1 rfl (by decide) t j)).trans (outs_at x0 x1 x2 1 t j)).symm
    exact Cert.HgFast.gave1 c arg2 harg2 arg3 harg3 arg4 harg4 arg7 x0 x1 x2 hd t j
  · refine Eq.trans ?_ ((congrArg (outs x0 x1 x2) (tile2 0 0 rfl (by decide) t j)).trans (outs_at x0 x1 x2 0 t j)).symm
    exact Cert.HgFast.gave0 c arg2 harg2 arg3 harg3 arg4 harg4 arg7 x0 x1 x2 hd t j

/-- The states that the heads leave in the scratch, turned. -/
theorem ended0 (i j : Fin 128) : runExact.sl.v244_1 (F := Ideal) c arg2 harg2 arg3 harg3 arg7 arg8 x0 x1 (ix3 0 j i) = headKeep x0 x1 0 i j := by
  unfold runExact.sl.v244_1 runExact.sl.HS0_13 runExact.sl.HS0_12 runExact.sl.HS0_11 runExact.sl.HS0_10
  rw [View.readCov_skip _ _ _ _ _ (by decide)]
  rw [View.readCov_skip _ _ _ _ _ (by decide)]
  rw [View.readCov_skip _ _ _ _ _ (by decide)]
  refine (congrFun (View.readCov_cons_toLoadRect _ _ _ _) _).trans ?_
  exact kept0 c arg2 harg2 arg3 harg3 arg7 arg8 x0 x1 hd i j
theorem ended1 (i j : Fin 128) : runExact.sl.v250 (F := Ideal) c arg2 harg2 arg3 harg3 arg7 arg8 x0 x1 (ix3 0 j i) = headKeep x0 x1 1 i j := by
  unfold runExact.sl.v250 runExact.sl.HS0_13 runExact.sl.HS0_12 runExact.sl.HS0_11
  rw [View.readCov_skip _ _ _ _ _ (by decide)]
  rw [View.readCov_skip _ _ _ _ _ (by decide)]
  refine (congrFun (View.readCov_cons_toLoadRect _ _ _ _) _).trans ?_
  exact kept1 c arg2 harg2 arg3 harg3 arg7 arg8 x0 x1 hd i j
theorem ended2 (i j : Fin 128) : runExact.sl.v256 (F := Ideal) c arg2 harg2 arg3 harg3 arg7 arg8 x0 x1 (ix3 0 j i) = headKeep x0 x1 2 i j := by
  unfold runExact.sl.v256 runExact.sl.HS0_13 runExact.sl.HS0_12
  rw [View.readCov_skip _ _ _ _ _ (by decide)]
  refine (congrFun (View.readCov_cons_toLoadRect _ _ _ _) _).trans ?_
  exact kept2 c arg2 harg2 arg3 harg3 arg7 arg8 x0 x1 hd i j
theorem ended3 (i j : Fin 128) : runExact.sl.v262 (F := Ideal) c arg2 harg2 arg3 harg3 arg7 arg8 x0 x1 (ix3 0 j i) = headKeep x0 x1 3 i j := by
  unfold runExact.sl.v262 runExact.sl.HS0_13
  refine (congrFun (View.readCov_cons_toLoadRect _ _ _ _) _).trans ?_
  exact kept3 c arg2 harg2 arg3 harg3 arg7 arg8 x0 x1 hd i j

/-- What the stores leave in the states. -/
theorem left4 (y : S1x4x128x128.Idx) :
    View.canon (runExact (F := Ideal) c i arg2 harg2 arg3 harg3 arg4 harg4 arg5 harg5 arg6 harg6 arg7 harg7 arg8 harg8 hc0 hc1 x0 x1 x2 hw).2.1 y = keeps x0 x1 y := by
  refine View.canon_apply_of_pieces (keeps x0 x1) _ ?_ y (View.cover_of_tiledL (runExact (F := Ideal) c i arg2 harg2 arg3 harg3 arg4 harg4 arg5 harg5 arg6 harg6 arg7 harg7 arg8 harg8 hc0 hc1 x0 x1 x2 hw).2.1 S1x1x128x128.size (by sl_kernel_rfl) y)
  unfold runExact
  dsimp only
  intro p hp z
  simp only [List.mem_cons, List.not_mem_nil, or_false] at hp
  rcases hp with rfl | rfl | rfl | rfl
  all_goals
    obtain ⟨a, b, i, j, rfl⟩ : ∃ (a b : Fin 1) (i j : Fin 128), z = (ix4 a b i j : S1x1x128x128.Idx) := ⟨z 0, z 1, z 2, z 3, eq_ix4 z⟩
    obtain rfl : a = 0 := Subsingleton.elim _ _
    obtain rfl : b = 0 := Subsingleton.elim _ _
  · refine Eq.trans ?_ (congrArg (keeps x0 x1) (tile4 3 3 rfl (by decide) i j)).symm
    exact (back_at _ i j).trans (ended3 c arg2 harg2 arg3 harg3 arg7 arg8 x0 x1 hd i j)
  · refine Eq.trans ?_ (congrArg (keeps x0 x1) (tile4 2 2 rfl (by decide) i j)).symm
    exact (back_at _ i j).trans (ended2 c arg2 harg2 arg3 harg3 arg7 arg8 x0 x1 hd i j)
  · refine Eq.trans ?_ (congrArg (keeps x0 x1) (tile4 1 1 rfl (by decide) i j)).symm
    exact (back_at _ i j).trans (ended1 c arg2 harg2 arg3 harg3 arg7 arg8 x0 x1 hd i j)
  · refine Eq.trans ?_ (congrArg (keeps x0 x1) (tile4 0 0 rfl (by decide) i j)).symm
    exact (back_at _ i j).trans (ended0 c arg2 harg2 arg3 harg3 arg7 arg8 x0 x1 hd i j)

end Cert.HgSteep

end
-- ==== Proof.HgRef.lean ====
/- The reference of the recurrence, read one row of one head at a time. -/
module

public import proofs.«01_k».proof.Proof.Gen.HgrnRefIdeal.Run
public import proofs.«01_k».proof.Proof.HgMath
public import Idealize.ShloMosaic.Lib.Pointwise

@[expose] public section

set_option maxRecDepth 16384

noncomputable section

namespace Cert.HgRef

open Idealize.ShloMosaic Idealize.ShloMosaic.TcCoe Idealize.SL.Sem
open Cert.HgrnRefIdeal Cert.HgrnRefIdeal.Gen Cert.HgMath

/-- One of the five parts of the rows, heads first. -/
def secR (o : ℕ) (hs : S512x2560.Slices ![0, o] S512x512) (x : FVec Ideal S512x2560 .f32) : FVec Ideal S32x4x16x128 .f32 :=
  transpose S32x4x16x128 [0, 2, 1, 3] (shapeCast S32x16x4x128 (extractStridedSlice S512x512 ![0, o] x hs) shapeCasts_S512x512_S32x16x4x128) transposes_S32x16x4x128_S32x4x16x128_0_2_1_3

/-- The running sums over time. -/
def cumR (g : FVec Ideal S32x4x16x128 .f32) : FVec Ideal S32x4x16x128 .f32 :=
  Host.reduceWindowAdd ![1, 1, 16, 1] ![1, 1, 1, 1] ![0, 0, 15, 0] ![0, 0, 0, 0] g (broadcastInDim S_ ![] bcast_S_S_ (constant S_ .f32 0x00000000#32)) reduceWindows_S32x4x16x128_S32x4x16x128_w1s1p0_0_w1s1p0_0_w16s1p15_0_w1s1p0_0 h_S_

/-- Which times come no later than which. -/
def trilR : IVec S16x16x1 1 :=
  broadcastInDim S16x16x1 ![0, 1] bcast_S16x16_S16x16x1_0_1 (select (cmpi .sge (addi (iotaInDim S16x16 32 0) (broadcastInDim S16x16 ![] bcast_S_S16x16 (constantI S_ 32 0#32))) (iotaInDim S16x16 32 1)) (broadcastInDim S16x16 ![] bcast_S_S16x16 (constantI S_ 1 1#1)) (broadcastInDim S16x16 ![] bcast_S_S16x16 (constantI S_ 1 0#1)))

/-- The decay between two times. -/
def decayR (b : FVec Ideal S32x4x16x128 .f32) : FVec Ideal S32x4x16x16x128 .f32 :=
  select (broadcastInDim S32x4x16x16x128 ![2, 3, 4] bcast_S16x16x1_S32x4x16x16x128_2_3_4 trilR) (Host.exp (minimumf (subf (broadcastInDim S32x4x16x16x128 ![0, 1, 2, 3, 4] bcast_S32x4x16x1x128_S32x4x16x16x128_0_1_2_3_4 (broadcastInDim S32x4x16x1x128 ![0, 1, 2, 4] bcast_S32x4x16x128_S32x4x16x1x128_0_1_2_4 b)) (broadcastInDim S32x4x16x16x128 ![0, 1, 2, 3, 4] bcast_S32x4x1x16x128_S32x4x16x16x128_0_1_2_3_4 (broadcastInDim S32x4x1x16x128 ![0, 1, 3, 4] bcast_S32x4x16x128_S32x4x1x16x128_0_1_3_4 b))) (broadcastInDim S32x4x16x16x128 ![] bcast_S_S32x4x16x16x128 (constant S_ .f32 0x00000000#32)))) (broadcastInDim S32x4x16x16x128 ![] bcast_S_S32x4x16x16x128 (id (constant S_ .f32 0x00000000#32)))

/-- The scores. -/
def scoreR (q k b : FVec Ideal S32x4x16x128 .f32) : FVec Ideal S32x4x16x16 .f32 :=
  transpose S32x4x16x16 [0, 1, 3, 2] (Host.dotGeneral (F := Ideal) (φ₁ := .f32) (φ₂ := .f32) dot_S32x4x16x128_S32x4x16x16x128_S32x4x16x16_3_4_n_2_012_013 none k (mulf (broadcastInDim S32x4x16x16x128 ![0, 1, 2, 3, 4] bcast_S32x4x16x1x128_S32x4x16x16x128_0_1_2_3_4 (broadcastInDim S32x4x16x1x128 ![0, 1, 2, 4] bcast_S32x4x16x128_S32x4x16x1x128_0_1_2_4 q)) (decayR b))) transposes_S32x4x16x16_S32x4x16x16_0_1_3_2

/-- The mixed rows. -/
def mixR (q k v b : FVec Ideal S32x4x16x128 .f32) (s : FVec Ideal S32x4x128x128 .f32) : FVec Ideal S32x4x16x128 .f32 :=
  addf (Host.dotGeneral dot_S32x4x16x128_S32x4x128x128_S32x4x16x128_3_2_2_3_01_01 none (mulf q (Host.exp b)) s) (Host.dotGeneral dot_S32x4x16x16_S32x4x16x128_S32x4x16x128_3_2_2_3_01_01 none (scoreR q k b) v)

/-- The norm and the gate. -/
def gatedR (o gt : FVec Ideal S32x4x16x128 .f32) (g : FVec Ideal S512 .f32) : FVec Ideal S32x4x16x128 .f32 :=
  mulf (mulf (mulf o (broadcastInDim S32x4x16x128 ![0, 1, 2, 3] bcast_S32x4x16x1_S32x4x16x128_0_1_2_3 (Host.rsqrt (addf (Host.divf (broadcastInDim S32x4x16x1 ![0, 1, 2] bcast_S32x4x16_S32x4x16x1_0_1_2 (Host.reduceAdd (mulf o o) (constant S_ .f32 0x00000000#32) reducesTo_S32x4x16x128_S32x4x16_d3 h_S_)) (broadcastInDim S32x4x16x1 ![] bcast_S_S32x4x16x1 (constant S_ .f32 0x43000000#32))) (broadcastInDim S32x4x16x1 ![] bcast_S_S32x4x16x1 (constant S_ .f32 0x358637BD#32))))))
      (broadcastInDim S32x4x16x128 ![0, 1, 2, 3] bcast_S1x4x1x128_S32x4x16x128_0_1_2_3 (broadcastInDim S1x4x1x128 ![1, 2, 3] bcast_S4x1x128_S1x4x1x128_1_2_3 (shapeCast S4x1x128 g shapeCasts_S512_S4x1x128))))
    (mulf gt (Host.divf (broadcastInDim S32x4x16x128 ![] bcast_S_S32x4x16x128 (constant S_ .f32 0x3F800000#32)) (addf (broadcastInDim S32x4x16x128 ![] bcast_S_S32x4x16x128 (constant S_ .f32 0x3F800000#32)) (Host.exp (Host.negf gt)))))

/-- The new states. -/
def keepR (k v b : FVec Ideal S32x4x16x128 .f32) (s : FVec Ideal S32x4x128x128 .f32) : FVec Ideal S32x4x128x128 .f32 :=
  addf (mulf (broadcastInDim S32x4x128x128 ![0, 1, 2, 3] bcast_S32x4x128x1_S32x4x128x128_0_1_2_3 (broadcastInDim S32x4x128x1 ![0, 1, 2] bcast_S32x4x128_S32x4x128x1_0_1_2 (Host.exp (shapeCast S32x4x128 (extractStridedSlice S32x4x1x128 ![0, 0, 15, 0] b slices_S32x4x16x128_S32x4x1x128_0_0_15_0) shapeCasts_S32x4x1x128_S32x4x128)))) s)
    (Host.dotGeneral dot_S32x4x16x128_S32x4x16x128_S32x4x128x128_2_2_3_3_01_01 none (mulf k (Host.exp (subf (broadcastInDim S32x4x16x128 ![0, 1, 2, 3] bcast_S32x4x1x128_S32x4x16x128_0_1_2_3 (extractStridedSlice S32x4x1x128 ![0, 0, 15, 0] b slices_S32x4x16x128_S32x4x1x128_0_0_15_0)) b))) v)

/-- The reference's first composed term, -/
def REF (x : FVec Ideal S512x2560 .f32) (s : FVec Ideal S32x4x128x128 .f32) (g : FVec Ideal S512 .f32) : FVec Ideal S512x512 .bf16 :=
  truncf .bf16 (shapeCast S512x512 (transpose S32x16x4x128 [0, 2, 1, 3] (gatedR (mixR (secR 0 slices_S512x2560_S512x512_0_0 x) (secR 1024 slices_S512x2560_S512x512_0_1024 x) (secR 1536 slices_S512x2560_S512x512_0_1536 x) (cumR (secR 512 slices_S512x2560_S512x512_0_512 x)) s)
    (secR 2048 slices_S512x2560_S512x512_0_2048 x) g) transposes_S32x4x16x128_S32x16x4x128_0_2_1_3) shapeCasts_S32x16x4x128_S512x512) bitsLt_bf16_f32

/-- and its second. -/
def REFS (x : FVec Ideal S512x2560 .f32) (s : FVec Ideal S32x4x128x128 .f32) : FVec Ideal S32x4x128x128 .f32 :=
  keepR (secR 1024 slices_S512x2560_S512x512_0_1024 x) (secR 1536 slices_S512x2560_S512x512_0_1536 x) (cumR (secR 512 slices_S512x2560_S512x512_0_512 x)) s

/-- The reference's run states these terms. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = REF (m ((c.tc : Thread nD τ).loc main_arg0)) (m ((c.tc : Thread nD τ).loc main_arg1)) (m ((c.tc : Thread nD τ).loc main_arg2))
      ∧ r.2.mem ((c.tc : Thread nD τ).loc main_v48) = REFS (m ((c.tc : Thread nD τ).loc main_arg0)) (m ((c.tc : Thread nD τ).loc main_arg1)) :=
  (θ_run defs _ _).mono (fun _ h c => ⟨(h c).1.trans (by unfold Cert.HgrnRefIdeal.Value.res_main_v74; rfl), (h c).2.1.trans rfl⟩) (Cert.HgrnRefIdeal.Value.run m ρ)

/-- An entry of a part of the rows. -/
theorem secR_at (o : ℕ) (ho : o + 512 ≤ 2560) (hs : S512x2560.Slices ![0, o] S512x512) (x : FVec Ideal S512x2560 .f32) (b : Fin 32) (h : Fin 4) (t : Fin 16) (i : Fin 128) :
    secR o hs x (ix4 b h t i) = x (ix2 ⟨b.val * 16 + t.val, by omega⟩ ⟨o + (128 * h.val + i.val), by omega⟩) := by
  have e : ∀ y : FVec Ideal S512x512 .f32, transpose S32x4x16x128 [0, 2, 1, 3] (shapeCast S32x16x4x128 y shapeCasts_S512x512_S32x16x4x128) transposes_S32x16x4x128_S32x4x16x128_0_2_1_3 (ix4 b h t i)
      = y (ix2 ⟨b.val * 16 + t.val, by omega⟩ ⟨h.val * 128 + i.val, by omega⟩) := fun y => by
    pointwise []
  refine (e _).trans (congrArg x (funext fun a => Fin.ext ?_))
  match a with
  | ⟨0, _⟩ => exact Nat.zero_add _
  | ⟨1, _⟩ => exact congrArg (fun n => o + (n + i.val)) (Nat.mul_comm _ _)

/-- The place of a window's position. -/
theorem place : ∀ n : Fin (Shape.numel ⟨4, ![1, 1, 16, 1]⟩), ((Shape.rowMajor ⟨4, ![1, 1, 16, 1]⟩).symm n 2).val = n.val := by
  decide +kernel

/-- The terms of a window that ends at `t`, summed. -/
theorem window_sum (f : Fin 16 → EReal) (t : Fin 16) : (∑ n : Fin 16, if h : 15 ≤ t.val + n.val then f ⟨t.val + n.val - 15, by omega⟩ else 0) = run f t := by
  refine Eq.trans (Finset.sum_congr rfl fun n _ => ?_) (Equiv.sum_comp (Equiv.addRight (t + 1)) fun s => if s ≤ t then f s else 0)
  have hv : (n + (t + 1)).val = (n.val + (t.val + 1) % 16) % 16 := by
    rw [Fin.val_add, Fin.val_add]
    rfl
  show _ = if n + (t + 1) ≤ t then f (n + (t + 1)) else 0
  have hn := n.isLt
  have ht := t.isLt
  by_cases h : 15 ≤ t.val + n.val
  · rw [dif_pos h, if_pos (by rw [Fin.le_def, hv]; omega)]
    exact congrArg f (Fin.ext (by rw [hv]; show t.val + n.val - 15 = _; omega))
  · rw [dif_neg h, if_neg (by rw [Fin.le_def, hv]; omega)]

/-- A fold that adds one term at a time. -/
theorem fold_sum {n : ℕ} (F : EReal → Fin n → EReal) (f : Fin n → EReal) (h : ∀ r k, F r k = r + f k) : (List.finRange n).foldl F 0 = ∑ k, f k := by
  have e : ∀ (L : List (Fin n)) (r : EReal), L.foldl F r = r + (L.map f).sum := fun L => by
    induction L with
    | nil => exact fun r => (add_zero r).symm
    | cons a L ih =>
      intro r
      rw [List.foldl_cons, ih, h, List.map_cons, List.sum_cons, add_assoc]
  rw [e, zero_add, Fin.sum_univ_def]

/-- The first value of the running sums. -/
theorem start_zero (j : S_.Idx) : (broadcastInDim S_ ![] bcast_S_S_ (constant (F := Ideal) S_ .f32 0x00000000#32)) j = 0 := by
  pointwise []

/-- A running sum. -/
theorem cumR_at (g : FVec Ideal S32x4x16x128 .f32) (b : Fin 32) (h : Fin 4) (t : Fin 16) (i : Fin 128) :
    cumR g (ix4 b h t i) = run (fun s => g (ix4 b h s i)) t := by
  have hN : Shape.numel ⟨4, ![1, 1, 16, 1]⟩ = 16 := by decide
  rw [← window_sum, ← Equiv.sum_comp (finCongr hN)]
  unfold cumR Host.reduceWindowAdd
  rw [start_zero]
  refine fold_sum _ _ fun r n => congrArg (r + ·) ?_
  have h2 := place n
  have hn : n.val < 16 := lt_of_lt_of_eq n.isLt hN
  have h0 : ((Shape.rowMajor ⟨4, ![1, 1, 16, 1]⟩).symm n 0).val = 0 := Nat.lt_one_iff.mp ((Shape.rowMajor ⟨4, ![1, 1, 16, 1]⟩).symm n 0).isLt
  have h1 : ((Shape.rowMajor ⟨4, ![1, 1, 16, 1]⟩).symm n 1).val = 0 := Nat.lt_one_iff.mp ((Shape.rowMajor ⟨4, ![1, 1, 16, 1]⟩).symm n 1).isLt
  have h3 : ((Shape.rowMajor ⟨4, ![1, 1, 16, 1]⟩).symm n 3).val = 0 := Nat.lt_one_iff.mp ((Shape.rowMajor ⟨4, ![1, 1, 16, 1]⟩).symm n 3).isLt
  have ht := t.isLt
  by_cases hin : 15 ≤ t.val + n.val
  · refine Eq.trans ?_ (dif_pos hin).symm
    refine Eq.trans (dif_pos fun a => ?_) (congrArg g (funext fun a => Fin.ext ?_))
    · match a with
      | ⟨0, _⟩ =>
        show 0 ≤ b.val * 1 + ((Shape.rowMajor ⟨4, ![1, 1, 16, 1]⟩).symm n 0).val ∧ b.val * 1 + ((Shape.rowMajor ⟨4, ![1, 1, 16, 1]⟩).symm n 0).val - 0 < 32
        rw [h0]
        omega
      | ⟨1, _⟩ =>
        show 0 ≤ h.val * 1 + ((Shape.rowMajor ⟨4, ![1, 1, 16, 1]⟩).symm n 1).val ∧ h.val * 1 + ((Shape.rowMajor ⟨4, ![1, 1, 16, 1]⟩).symm n 1).val - 0 < 4
        rw [h1]
        omega
      | ⟨2, _⟩ =>
        show 15 ≤ t.val * 1 + ((Shape.rowMajor ⟨4, ![1, 1, 16, 1]⟩).symm n 2).val ∧ t.val * 1 + ((Shape.rowMajor ⟨4, ![1, 1, 16, 1]⟩).symm n 2).val - 15 < 16
        rw [h2]
        omega
      | ⟨3, _⟩ =>
        show 0 ≤ i.val * 1 + ((Shape.rowMajor ⟨4, ![1, 1, 16, 1]⟩).symm n 3).val ∧ i.val * 1 + ((Shape.rowMajor ⟨4, ![1, 1, 16, 1]⟩).symm n 3).val - 0 < 128
        rw [h3]
        omega
    · match a with
      | ⟨0, _⟩ =>
        show b.val * 1 + ((Shape.rowMajor ⟨4, ![1, 1, 16, 1]⟩).symm n 0).val - 0 = b.val
        rw [h0]
        omega
      | ⟨1, _⟩ =>
        show h.val * 1 + ((Shape.rowMajor ⟨4, ![1, 1, 16, 1]⟩).symm n 1).val - 0 = h.val
        rw [h1]
        omega
      | ⟨2, _⟩ =>
        show t.val * 1 + ((Shape.rowMajor ⟨4, ![1, 1, 16, 1]⟩).symm n 2).val - 15 = t.val + n.val - 15
        rw [h2, Nat.mul_one]
      | ⟨3, _⟩ =>
        show i.val * 1 + ((Shape.rowMajor ⟨4, ![1, 1, 16, 1]⟩).symm n 3).val - 0 = i.val
        rw [h3]
        omega
  · refine Eq.trans ?_ (dif_neg hin).symm
    refine dif_neg fun a => hin ?_
    have a2 := a 2
    change 15 ≤ t.val * 1 + ((Shape.rowMajor ⟨4, ![1, 1, 16, 1]⟩).symm n 2).val ∧ _ at a2
    rw [h2] at a2
    omega

/-- Which times come no later than which. -/
theorem trilR_at (t s : Fin 16) : trilR (ix3 t s 0) = if s ≤ t then 1#1 else 0#1 := by
  have e : trilR (ix3 t s 0) = Scalar.select (IntOp.cmpi .sge (IntOp.addi (BitVec.ofNat 32 t.val) 0#32) (BitVec.ofNat 32 s.val)) 1#1 0#1 := by
    pointwise [trilR]
  rw [e]
  revert t s
  decide +kernel

/-- A score. -/
theorem scoreR_at (q k b : FVec Ideal S32x4x16x128 .f32) (n : Fin 32) (h : Fin 4) (t s : Fin 16) :
    scoreR q k b (ix4 n h t s) = if s ≤ t then score (fun t i => q (ix4 n h t i)) (fun t i => k (ix4 n h t i)) (fun t i => b (ix4 n h t i)) t s else 0 := by
  have e : scoreR q k b (ix4 n h t s) = ∑ i : Fin 128, k (ix4 n h s i) * (q (ix4 n h t i) * Scalar.select (trilR (ix3 t s 0)) (Ideal.exp (min (b (ix4 n h t i) - b (ix4 n h s i)) 0)) 0) := by
    pointwise [scoreR, decayR, id]
  rw [e, trilR_at]
  by_cases hs : s ≤ t
  · rw [if_pos hs, if_pos hs]
    exact Finset.sum_congr rfl fun i _ => (mul_assoc _ _ _).symm.trans (congrArg (· * _) (mul_comm _ _))
  · rw [if_neg hs, if_neg hs]
    exact Finset.sum_eq_zero fun i _ => (congrArg (_ * ·) (mul_zero _)).trans (mul_zero _)

/-- A mixed row. -/
theorem mixR_at (q k v b : FVec Ideal S32x4x16x128 .f32) (s : FVec Ideal S32x4x128x128 .f32) (n : Fin 32) (h : Fin 4) (t : Fin 16) (j : Fin 128) :
    mixR q k v b s (ix4 n h t j) = mix (fun t i => q (ix4 n h t i)) (fun t i => k (ix4 n h t i)) (fun t i => v (ix4 n h t i)) (fun t i => b (ix4 n h t i)) (fun i j => s (ix4 n h i j)) t j := by
  have e : mixR q k v b s (ix4 n h t j) = (∑ i : Fin 128, q (ix4 n h t i) * Ideal.exp (b (ix4 n h t i)) * s (ix4 n h i j)) + ∑ r : Fin 16, scoreR q k b (ix4 n h t r) * v (ix4 n h r j) := by
    pointwise [mixR]
  rw [e]
  exact congrArg (_ + ·) (Finset.sum_congr rfl fun r _ => by rw [scoreR_at])

/-- A normed and gated row. -/
theorem gatedR_at (o gt : FVec Ideal S32x4x16x128 .f32) (g : FVec Ideal S512 .f32) (n : Fin 32) (h : Fin 4) (t : Fin 16) (j : Fin 128) :
    gatedR o gt g (ix4 n h t j) = gated (fun j => o (ix4 n h t j)) (fun i => g (ix1 ⟨h.val * 128 + i.val, by omega⟩)) (fun j => gt (ix4 n h t j)) j := by
  pointwise [gatedR, gated]

/-- A new state. -/
theorem keepR_at (k v b : FVec Ideal S32x4x16x128 .f32) (s : FVec Ideal S32x4x128x128 .f32) (n : Fin 32) (h : Fin 4) (i j : Fin 128) :
    keepR k v b s (ix4 n h i j) = keep (fun t i => k (ix4 n h t i)) (fun t i => v (ix4 n h t i)) (fun t i => b (ix4 n h t i)) (fun i j => s (ix4 n h i j)) i j := by
  have e : keepR k v b s (ix4 n h i j) = Ideal.exp (b (ix4 n h 15 i)) * s (ix4 n h i j) + ∑ r : Fin 16, k (ix4 n h r i) * Ideal.exp (b (ix4 n h 15 i) - b (ix4 n h r i)) * v (ix4 n h r j) := by
    pointwise [keepR]
  rw [e, mul_comm (Ideal.exp _)]
  exact congrArg (_ + ·) (Finset.sum_congr rfl fun r _ => mul_comm _ _)

/-- Head `h`'s part `k` of the rows of sequence `b`. -/
def rows (x : FVec Ideal S512x2560 .f32) (b : Fin 32) (k : Fin 5) (h : Fin 4) (t : Fin 16) (i : Fin 128) : EReal :=
  x (ix2 ⟨b.val * 16 + t.val, by omega⟩ ⟨512 * k.val + (128 * h.val + i.val), by omega⟩)

/-- Their running sums. -/
def rowSums (x : FVec Ideal S512x2560 .f32) (b : Fin 32) (h : Fin 4) (t : Fin 16) (i : Fin 128) : EReal :=
  run (fun s => rows x b 1 h s i) t

/-- The sums of the second part are the running sums. -/
theorem sums_at (x : FVec Ideal S512x2560 .f32) (b : Fin 32) (h : Fin 4) (t : Fin 16) (i : Fin 128) :
    cumR (secR 512 slices_S512x2560_S512x512_0_512 x) (ix4 b h t i) = rowSums x b h t i :=
  (cumR_at _ b h t i).trans (congrArg (fun f => run f t) (funext fun s => secR_at 512 (by omega) _ x b h s i))

/-- The last step lays the heads side by side. -/
theorem laid (y : FVec Ideal S32x4x16x128 .f32) (b : Fin 32) (h : Fin 4) (t : Fin 16) (j : Fin 128) :
    (truncf .bf16 (shapeCast S512x512 (transpose S32x16x4x128 [0, 2, 1, 3] y transposes_S32x4x16x128_S32x16x4x128_0_2_1_3) shapeCasts_S32x16x4x128_S512x512) bitsLt_bf16_f32 : FVec Ideal S512x512 .bf16)
      (ix2 ⟨b.val * 16 + t.val, by omega⟩ ⟨h.val * 128 + j.val, by omega⟩) = y (ix4 b h t j) := by
  have e : ∀ (r : Fin 512) (c : Fin 512), (truncf .bf16 (shapeCast S512x512 (transpose S32x16x4x128 [0, 2, 1, 3] y transposes_S32x4x16x128_S32x16x4x128_0_2_1_3) shapeCasts_S32x16x4x128_S512x512) bitsLt_bf16_f32 : FVec Ideal S512x512 .bf16)
      (ix2 r c) = y (ix4 ⟨r.val / 16, by omega⟩ ⟨c.val / 128, by omega⟩ ⟨r.val % 16, by omega⟩ ⟨c.val % 128, by omega⟩) := fun r c => by
    pointwise []
  rw [e]
  refine congrArg y ?_
  congr 1 <;> exact Fin.ext (by dsimp only; omega)

/-- An entry of the reference's first result: the mixed row of its sequence and head, normed and gated. -/
theorem REF_at (x : FVec Ideal S512x2560 .f32) (s : FVec Ideal S32x4x128x128 .f32) (g : FVec Ideal S512 .f32) (b : Fin 32) (h : Fin 4) (t : Fin 16) (j : Fin 128) :
    REF x s g (ix2 ⟨b.val * 16 + t.val, by omega⟩ ⟨h.val * 128 + j.val, by omega⟩)
      = gated (mix (rows x b 0 h) (rows x b 2 h) (rows x b 3 h) (rowSums x b h) (fun i j => s (ix4 b h i j)) t) (fun i => g (ix1 ⟨h.val * 128 + i.val, by omega⟩)) (rows x b 4 h t) j := by
  have eq : (fun (t : Fin 16) (i : Fin 128) => secR 0 slices_S512x2560_S512x512_0_0 x (ix4 b h t i)) = rows x b 0 h := funext fun t => funext fun i => secR_at 0 (by omega) _ x b h t i
  have ek : (fun (t : Fin 16) (i : Fin 128) => secR 1024 slices_S512x2560_S512x512_0_1024 x (ix4 b h t i)) = rows x b 2 h := funext fun t => funext fun i => secR_at 1024 (by omega) _ x b h t i
  have ev : (fun (t : Fin 16) (i : Fin 128) => secR 1536 slices_S512x2560_S512x512_0_1536 x (ix4 b h t i)) = rows x b 3 h := funext fun t => funext fun i => secR_at 1536 (by omega) _ x b h t i
  have eg : (fun (i : Fin 128) => secR 2048 slices_S512x2560_S512x512_0_2048 x (ix4 b h t i)) = rows x b 4 h t := funext fun i => secR_at 2048 (by omega) _ x b h t i
  have eb : (fun (t : Fin 16) (i : Fin 128) => cumR (secR 512 slices_S512x2560_S512x512_0_512 x) (ix4 b h t i)) = rowSums x b h := funext fun t => funext fun i => sums_at x b h t i
  refine (laid _ b h t j).trans ((gatedR_at _ _ g b h t j).trans ?_)
  rw [eg]
  refine congrArg (fun o => gated o (fun i => g (ix1 ⟨h.val * 128 + i.val, by omega⟩)) (rows x b 4 h t) j) (funext fun j => (mixR_at _ _ _ _ s b h t j).trans ?_)
  rw [eq, ek, ev, eb]

/-- An entry of the reference's second result: the state its sequence and head leave. -/
theorem REFS_at (x : FVec Ideal S512x2560 .f32) (s : FVec Ideal S32x4x128x128 .f32) (b : Fin 32) (h : Fin 4) (i j : Fin 128) :
    REFS x s (ix4 b h i j) = keep (rows x b 2 h) (rows x b 3 h) (rowSums x b h) (fun i j => s (ix4 b h i j)) i j := by
  have ek : (fun (t : Fin 16) (i : Fin 128) => secR 1024 slices_S512x2560_S512x512_0_1024 x (ix4 b h t i)) = rows x b 2 h := funext fun t => funext fun i => secR_at 1024 (by omega) _ x b h t i
  have ev : (fun (t : Fin 16) (i : Fin 128) => secR 1536 slices_S512x2560_S512x512_0_1536 x (ix4 b h t i)) = rows x b 3 h := funext fun t => funext fun i => secR_at 1536 (by omega) _ x b h t i
  have eb : (fun (t : Fin 16) (i : Fin 128) => cumR (secR 512 slices_S512x2560_S512x512_0_512 x) (ix4 b h t i)) = rowSums x b h := funext fun t => funext fun i => sums_at x b h t i
  refine (keepR_at _ _ _ s b h i j).trans ?_
  rw [ek, ev, eb]

end Cert.HgRef

end
-- ==== Proof.HgValue.lean ====
/- What the recurrence leaves in its results: the reference's terms. -/
module

public import proofs.«01_k».proof.Proof.HgFrame
public import proofs.«01_k».proof.Proof.HgSteep
public import proofs.«01_k».proof.Proof.HgRef
public import Idealize.ShloMosaic.Lib.Pipeline.ValueKit
public import Idealize.ShloMosaic.Lib.Pointwise

@[expose] public section

set_option maxRecDepth 16384

noncomputable section

namespace Cert.HgValue

open Idealize.ShloMosaic Idealize.ShloMosaic.TcCoe Idealize.SL.Sem
open Idealize.ShloMosaic.Pipeline (Dat)
open Cert.HgrnIdeal Cert.HgrnIdeal.Gen Cert.HgMath Cert.HgFast Cert.HgIdeal

variable (m : (ℓ : Loc nD τ sig) → Buf (Elt Ideal) ℓ)

/-- Which block each window reads or writes at each point: a sequence's rows and its states move, the gains stay. -/
theorem idx : ∀ t : Fin cfg0.N, win0_0.index t = ![t.val, 0] ∧ win0_1.index t = ![t.val, 0, 0, 0] ∧ win0_2.index t = ![0, 0]
    ∧ win0_3.index t = ![t.val, 0] ∧ win0_4.index t = ![t.val, 0, 0, 0] ∧ t.val < 32 :=
  (by decide +kernel : ∀ t : Fin grid0.N, _)

/-- The arguments. -/
abbrev X (c : Dev nD) : FVec Ideal Cert.HgrnRefIdeal.S512x2560 .f32 := m ((c : Thread nD τ).loc main_arg0)
abbrev S0 (c : Dev nD) : FVec Ideal Cert.HgrnRefIdeal.S32x4x128x128 .f32 := m ((c : Thread nD τ).loc main_arg1)
abbrev G (c : Dev nD) : FVec Ideal Cert.HgrnRefIdeal.S512 .f32 := m ((c : Thread nD τ).loc main_arg2)

/-- An entry of a sequence's rows. -/
theorem rows_at (c : Dev nD) (t : Fin cfg0.N) (ht : t.val < 32) (r : Fin 16) (k : Fin 2560) :
    iblk m c 0 t (ix2 r k : S16x2560.Idx) = X m c (ix2 (⟨t.val * 16 + r.val, by omega⟩ : Fin 512) k) := by
  blk_point [iblk, V, idx t]

/-- An entry of its states. -/
theorem states_at (c : Dev nD) (t : Fin cfg0.N) (ht : t.val < 32) (h : Fin 4) (i j : Fin 128) :
    iblk m c 1 t (ix4 0 h i j : S1x4x128x128.Idx) = S0 m c (ix4 (⟨t.val, ht⟩ : Fin 32) h i j) := by
  blk_point [iblk, V, idx t]

/-- A gain. -/
theorem gain_at (c : Dev nD) (t : Fin cfg0.N) (k : Fin 512) :
    iblk m c 2 t (ix2 0 k : S1x512.Idx) = G m c (ix1 k) := by
  blk_point [iblk, V, idx t]

/-- A head's part of a block is its part of the sequence's rows. -/
theorem sec_eq (c : Dev nD) (t : Fin cfg0.N) (ht : t.val < 32) (k : Fin 5) (h : Fin 4) :
    sec (iblk m c 0 t) k h = Cert.HgRef.rows (X m c) ⟨t.val, ht⟩ k h :=
  funext fun r => funext fun i => rows_at m c t ht r _

/-- The running sums likewise. -/
theorem sums_eq (c : Dev nD) (t : Fin cfg0.N) (ht : t.val < 32) (h : Fin 4) :
    sums (iblk m c 0 t) h = Cert.HgRef.rowSums (X m c) ⟨t.val, ht⟩ h :=
  funext fun r => funext fun i => congrArg (fun f : Fin 16 → Fin 128 → EReal => run (fun s => f s i) r) (sec_eq m c t ht 1 h)

/-- The states likewise. -/
theorem state_eq (c : Dev nD) (t : Fin cfg0.N) (ht : t.val < 32) (h : Fin 4) :
    (fun i j : Fin 128 => iblk m c 1 t (ix4 0 h i j : S1x4x128x128.Idx)) = fun i j => S0 m c (ix4 (⟨t.val, ht⟩ : Fin 32) h i j) :=
  funext fun i => funext fun j => states_at m c t ht h i j

/-- The log gates of the arguments decay. -/
def Decays (c : Dev nD) : Prop := ∀ (r : Fin 512) (k : Fin 512), X m c (ix2 r ⟨512 + k.val, by omega⟩) ≤ 0 ∧ ⊥ < X m c (ix2 r ⟨512 + k.val, by omega⟩)

/-- Then so do those of every block. -/
theorem block_decays (c : Dev nD) (hd : Cert.HgValue.Decays m c) (t : Fin cfg0.N) (ht : t.val < 32) : Decaying (iblk m c 0 t) := fun r k => by
  have e := rows_at m c t ht r ⟨512 + k.val, by omega⟩
  rw [e]
  exact hd _ k

/-- What a point leaves in the mixed outputs' block, -/
theorem out3_eq (c : Dev nD) (hd : Cert.HgValue.Decays m c) (t : Fin cfg0.N) (ht : t.val < 32) (y : S16x512.Idx) :
    out3 m c t y = outs (iblk m c 0 t) (iblk m c 1 t) (iblk m c 2 t) y := by
  unfold out3
  rw [View.read_writes_junk_eq_canon]
  by_cases hw : steepAt m c t
  · rw [dif_pos hw]
    exact Cert.HgSteep.left3 _ _ _ _ _ _ _ _ _ _ _ _ (block_decays m c hd t ht) _ _ _ _ _ _ _ _ _ hw y
  · rw [dif_neg hw]
    exact Cert.HgFast.left3 _ _ _ _ _ _ _ _ _ _ _ (block_decays m c hd t ht) _ _ _ _ _ _ _ _ _ _ hw y

/-- and in the states' block. -/
theorem out4_eq (c : Dev nD) (hd : Cert.HgValue.Decays m c) (t : Fin cfg0.N) (ht : t.val < 32) (y : S1x4x128x128.Idx) :
    out4 m c t y = keeps (iblk m c 0 t) (iblk m c 1 t) y := by
  unfold out4
  rw [View.read_writes_junk_eq_canon]
  by_cases hw : steepAt m c t
  · rw [dif_pos hw]
    exact Cert.HgSteep.left4 _ _ _ _ _ _ _ _ _ _ _ _ (block_decays m c hd t ht) _ _ _ _ _ _ _ _ _ hw y
  · rw [dif_neg hw]
    exact Cert.HgFast.left4 _ _ _ _ _ _ _ _ _ _ _ (block_decays m c hd t ht) _ _ _ _ _ _ _ _ _ _ hw y

/-- The mixed outputs. -/
theorem final3 (c : Dev nD) (hd : Cert.HgValue.Decays m c) : (dats m 0 c).arrAt 3 (cfgs 0).N = Cert.HgRef.REF (X m c) (S0 m c) (G m c) := by
  refine (dats m 0 c).arrAt_eq_of_covers 3 _ (by decide +kernel) fun t _ y => ?_
  blk_simp
  rw [after_3]
  have ht : t.val < 32 := (idx t).2.2.2.2.2
  obtain ⟨r, k, rfl⟩ : ∃ (r : Fin 16) (k : Fin 512), y = (ix2 r k : S16x512.Idx) := ⟨y 0, y 1, eq_ix2 y⟩
  obtain ⟨h, j, rfl⟩ : ∃ (h : Fin 4) (j : Fin 128), k = ⟨h.val * 128 + j.val, by omega⟩ :=
    ⟨⟨k.val / 128, by omega⟩, ⟨k.val % 128, by omega⟩, Fin.ext (by dsimp only; omega)⟩
  have he : ((View.whole main_v1_0).slice (win0_3.rect t)).emb (ix2 r ⟨h.val * 128 + j.val, by omega⟩ : S16x512.Idx) = (ix2 (⟨t.val * 16 + r.val, by omega⟩ : Fin 512) ⟨h.val * 128 + j.val, by omega⟩ : S512x512.Idx) := by
    blk_ext [idx t]
  rw [he]
  refine (out3_eq m c hd t ht _).trans (Eq.trans ?_ (Cert.HgRef.REF_at (X m c) (S0 m c) (G m c) ⟨t.val, ht⟩ h r j).symm)
  have hk : (ix2 r ⟨h.val * 128 + j.val, by omega⟩ : S16x512.Idx) = ix2 r ⟨128 * h.val + j.val, by omega⟩ :=
    congrArg (ix2 r) (Fin.ext (congrArg (· + j.val) (Nat.mul_comm _ _)))
  rw [hk, outs_at]
  unfold headOut
  rw [sec_eq m c t ht, sec_eq m c t ht, sec_eq m c t ht, sec_eq m c t ht, sums_eq m c t ht, state_eq m c t ht]
  refine congrArg (fun gn => gated _ gn _ j) (funext fun i => (gain_at m c t _).trans ?_)
  exact congrArg (fun k => G m c (ix1 k)) (Fin.ext (congrArg (· + i.val) (Nat.mul_comm _ _)))

/-- The new states. -/
theorem final4 (c : Dev nD) (hd : Cert.HgValue.Decays m c) : (dats m 0 c).arrAt 4 (cfgs 0).N = Cert.HgRef.REFS (X m c) (S0 m c) := by
  refine (dats m 0 c).arrAt_eq_of_covers 4 _ (by decide +kernel) fun t _ y => ?_
  blk_simp
  rw [after_4]
  have ht : t.val < 32 := (idx t).2.2.2.2.2
  obtain ⟨h, i, j, rfl⟩ : ∃ (h : Fin 4) (i j : Fin 128), y = (ix4 0 h i j : S1x4x128x128.Idx) :=
    ⟨y 1, y 2, y 3, (eq_ix4 y).trans (congrArg (fun z => ix4 z (y 1) (y 2) (y 3)) (Subsingleton.elim _ _))⟩
  have he : ((View.whole main_v1_1).slice (win0_4.rect t)).emb (ix4 0 h i j : S1x4x128x128.Idx) = (ix4 (⟨t.val, ht⟩ : Fin 32) h i j : S32x4x128x128.Idx) := by
    blk_ext [idx t]
  rw [he]
  refine (out4_eq m c hd t ht _).trans (Eq.trans ?_ (Cert.HgRef.REFS_at (X m c) (S0 m c) ⟨t.val, ht⟩ h i j).symm)
  show headKeep _ _ h i j = _
  unfold headKeep
  rw [sec_eq m c t ht, sec_eq m c t ht, sums_eq m c t ht, state_eq m c t ht]

/-- The launch, read at the arrays. -/
theorem run_arrays (ρ : Dev nD → PrngReg) : θ_run defs (onTc (τ := τ) (main (F := Ideal))) ⟨m, fun _ => 0, ρ⟩ fun r => ∀ c : Dev nD,
    r.2.mem ((c.tc : Thread nD τ).loc main_v1_0) = (dats m 0 c).arrAt 3 (cfgs 0).N
    ∧ r.2.mem ((c.tc : Thread nD τ).loc main_v1_1) = (dats m 0 c).arrAt 4 (cfgs 0).N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c => ⟨(h.1 c).1 3, (h.1 c).1 4, h.2 c⟩)
    (θ_run_and (launched m ρ) (frame_of m ρ (dats m) (arrays_eq m) (launched m ρ)))

end Cert.HgValue

end
-- ==== Proof.HgClaims.lean ====
/- The claims about the recurrence. -/
module

public import proofs.«01_k».proof.Defs
public import proofs.«01_k».proof.Proof.Gen.HgrnRefIdeal.Run
public import proofs.«01_k».proof.Proof.Pre
public import proofs.«01_k».proof.Proof.Consts
public import proofs.«01_k».proof.Proof.HgBitsFrame
public import proofs.«01_k».proof.Proof.HgValue
public import Idealize.ShloMosaic.Lib.ReduceAll
public import Idealize.ShloMosaic.Lib.Affine
public import Idealize.ShloMosaic.Lib.Quiescent

@[expose] public section

set_option maxRecDepth 16384

noncomputable section

namespace Cert.HgClaims

open Idealize.ShloMosaic Idealize.SL.Sem

/-- The side conditions of the precondition's operations hold. -/
instance facts : Cert.Pre_decaying.Facts where
  slices_S512x2560_S512x512_0_512 := by decide
  bcast_S_S512x512 := by decide
  reducesTo_S512x512_S_d0_1 := by decide
  h_S_ := by decide

instance : Subsingleton Cert.Pre_decaying.S_.Idx := ⟨fun a b => funext fun i => i.elim0⟩

/-- A number that compares at most zero and above the start of a maximum. -/
theorem decays_of {x : EReal} (h0 : Ideal.cmp .ole x (Ideal.ofBits .f32 0x00000000#32) = 1#1) (h1 : Ideal.cmp .ogt x (Ideal.ofBits .f32 0xFF800000#32) = 1#1) : x ≤ 0 ∧ ⊥ < x := by
  rw [Cert.Consts.neg_inf] at h1
  rw [show Ideal.ofBits .f32 0x00000000#32 = 0 by simp [Ideal.ofBits, Ideal.ieee]] at h0
  constructor
  · by_contra hn
    simp [Ideal.cmp, hn] at h0
  · by_contra hn
    simp [Ideal.cmp, hn] at h1

/-- The precondition: the log gates are at most zero, none infinite. -/
theorem decays {m : (ℓ : Loc Cert.HgrnIdeal.nD Cert.HgrnIdeal.τ Cert.HgrnIdeal.sig) → Buf (Elt Ideal) ℓ} (h : Cert.Pre_HgrnIdeal_decaying m) (c : Dev Cert.HgrnIdeal.nD) :
    Cert.HgValue.Decays m c := fun r k => by
  have e := congrFun (h c) (fun i => i.elim0)
  have ei := Host.reduce_andi_all _ _ _ _ _ e (ix2 r k : Cert.Pre_decaying.S512x512.Idx)
  obtain ⟨e0, e1⟩ := IntOp.andi_eq_one.1 ei
  have hx : (extractStridedSlice Cert.Pre_decaying.S512x512 ![0, 512] (Cert.HgValue.X m c) Cert.Pre_decaying.Facts.slices_S512x2560_S512x512_0_512) (ix2 r k)
      = Cert.HgValue.X m c (ix2 r ⟨512 + k.val, by omega⟩) := by
    pointwise []
  rw [← hx]
  exact decays_of e0 e1

/-- The reference runs and leaves its arguments as they were. -/
theorem frame_ri : Cert.quiescent_HgrnRefIdeal := fun m ρ _ =>
  (θ_run Cert.HgrnRefIdeal.defs _ _).mono (fun r h => ⟨fun c => (h c).2.2, Idealize.ShloMosaic.sem_eq_zero_of_no_sems (by decide) r.2⟩)
    (Cert.HgrnRefIdeal.Value.run (F := Ideal) m ρ)

/-- Over the reals the two results are the reference's, of log gates that decay. -/
theorem algebraic : Cert.algebraic_HgrnIdeal_HgrnRefIdeal_pre_decaying := by
  intro m ρ m' ρ' hpre hagree
  refine ⟨_, _, Cert.HgValue.run_arrays m ρ, ?_⟩
  refine (θ_run Cert.HgrnRefIdeal.defs _ _).mono (fun _ h c => ?_) (θ_run_and (Cert.HgRef.run_ref m' ρ') (Cert.HgrnRefIdeal.Value.run (F := Ideal) m' ρ'))
  obtain ⟨h0, h1, h2⟩ := hagree c
  have hd := decays hpre c
  refine ⟨(h.1 c).1.trans (Eq.trans ?_ (Cert.HgValue.final3 m c hd).symm), (h.1 c).2.trans (Eq.trans ?_ (Cert.HgValue.final4 m c hd).symm), (h.2 c).2.2⟩
  · rw [h0, h1, h2]
  · rw [h0, h1]

end Cert.HgClaims

end
-- ==== Proof.MlpSampleRef.lean ====
/- The reference of the output projection and network on the sample rows, read one row at a time. -/
module

public import proofs.«01_k».proof.Proof.Gen.MlpSampleRefIdeal.Run
public import proofs.«01_k».proof.Proof.MlpMath
public import Idealize.ShloMosaic.Lib.Pointwise

@[expose] public section

set_option maxRecDepth 16384

noncomputable section

namespace Cert.MlpSampleRef

open Idealize.ShloMosaic Idealize.ShloMosaic.TcCoe Idealize.SL.Sem
open Cert.MlpSampleRefIdeal Cert.MlpSampleRefIdeal.Gen Cert.MlpMath

/-- The residual rows after the output projection. -/
def hidR (x : FVec Ideal S512x1024 .f32) (a b : FVec Ideal S512x512 .bf16) (w : FVec Ideal S1024x1024 .f32) : FVec Ideal S512x1024 .f32 :=
  addf x (Host.dotGeneral dot_S512x1024_S1024x1024_S512x1024_1_0_0_1_n_n none (concatenate S512x1024 1 [⟨S512x512, (extf .f32 a bitsLt_bf16_f32)⟩, ⟨S512x512, (extf .f32 b bitsLt_bf16_f32)⟩] concatenates_S512x512_S512x512_S512x1024_d1) w)

/-- The rows of `x`, each divided by the root of its mean square and scaled by `g`. -/
def nrmR (x : FVec Ideal S512x1024 .f32) (g : FVec Ideal S1024 .f32) : FVec Ideal S512x1024 .f32 :=
  mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g))

/-- The network applied to the rows of `n`. -/
def mlpR (n : FVec Ideal S512x1024 .f32) (u : FVec Ideal S1024x4096 .f32) (d : FVec Ideal S4096x1024 .f32) : FVec Ideal S512x1024 .f32 :=
  Host.dotGeneral dot_S512x4096_S4096x1024_S512x1024_1_0_0_1_n_n none (mulf (maximumf (Host.dotGeneral dot_S512x1024_S1024x4096_S512x4096_1_0_0_1_n_n none n u) (broadcastInDim S512x4096 ![] bcast_S_S512x4096 (constant S_ .f32 0x00000000#32))) (maximumf (Host.dotGeneral dot_S512x1024_S1024x4096_S512x4096_1_0_0_1_n_n none n u) (broadcastInDim S512x4096 ![] bcast_S_S512x4096 (constant S_ .f32 0x00000000#32)))) d

/-- The reference's composed term. -/
def REF (x : FVec Ideal S512x1024 .f32) (a b : FVec Ideal S512x512 .bf16) (w : FVec Ideal S1024x1024 .f32) (g : FVec Ideal S1024 .f32)
    (u : FVec Ideal S1024x4096 .f32) (d : FVec Ideal S4096x1024 .f32) (g' : FVec Ideal S1024 .f32) : FVec Ideal S512x1024 .f32 :=
  nrmR (addf (hidR x a b w) (mlpR (nrmR (hidR x a b w) g) u d)) g'

/-- The reference's run states this term. -/
theorem res_eq (m : (ℓ : Loc nD τ sig) → Buf (Elt Ideal) ℓ) (c : Dev nD) :
    Cert.MlpSampleRefIdeal.Value.res_out0 m c = REF (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) (m ((c.tc : Thread nD τ).loc main_arg7)) := by
  unfold Cert.MlpSampleRefIdeal.Value.res_out0 Cert.MlpSampleRefIdeal.Value.res_main_v36
  rfl

/-- One entry of the projection's residual. -/
theorem hidR_at (x : FVec Ideal S512x1024 .f32) (a b : FVec Ideal S512x512 .bf16) (w : FVec Ideal S1024x1024 .f32) (r : Fin 512) (j : Fin 1024) :
    hidR x a b w (ix2 r j) = hid (fun j => x (ix2 r j)) (fun k => a (ix2 r k)) (fun k => b (ix2 r k)) (fun k j => w (ix2 k j)) j := by
  pointwise [hidR, hid]

/-- One entry of the norm. -/
theorem nrmR_at (x : FVec Ideal S512x1024 .f32) (g : FVec Ideal S1024 .f32) (r : Fin 512) (j : Fin 1024) :
    nrmR x g (ix2 r j) = nrm (fun j => x (ix2 r j)) (fun j => g (ix1 j)) j := by
  pointwise [nrmR, nrm]

/-- One entry of the network. -/
theorem mlpR_at (n : FVec Ideal S512x1024 .f32) (u : FVec Ideal S1024x4096 .f32) (d : FVec Ideal S4096x1024 .f32) (r : Fin 512) (j : Fin 1024) :
    mlpR n u d (ix2 r j) = mlp (fun j => n (ix2 r j)) (fun i k => u (ix2 i k)) (fun k j => d (ix2 k j)) j := by
  pointwise [mlpR, mlp, relu2]

/-- One entry of the reference is the row function of its row. -/
theorem REF_at (x : FVec Ideal S512x1024 .f32) (a b : FVec Ideal S512x512 .bf16) (w : FVec Ideal S1024x1024 .f32) (g : FVec Ideal S1024 .f32)
    (u : FVec Ideal S1024x4096 .f32) (d : FVec Ideal S4096x1024 .f32) (g' : FVec Ideal S1024 .f32) (r : Fin 512) (j : Fin 1024) :
    REF x a b w g u d g' (ix2 r j)
      = row (fun j => x (ix2 r j)) (fun k => a (ix2 r k)) (fun k => b (ix2 r k)) (fun k j => w (ix2 k j)) (fun j => g (ix1 j))
          (fun i k => u (ix2 i k)) (fun k j => d (ix2 k j)) (fun j => g' (ix1 j)) j := by
  unfold REF row
  rw [nrmR_at]
  congr 1
  funext j
  refine congrArg₂ (· + ·) (hidR_at ..) ?_
  rw [mlpR_at]
  congr 1
  funext i
  rw [nrmR_at]
  congr 1
  funext l
  exact hidR_at ..

end Cert.MlpSampleRef

end
-- ==== Proof.MlpSampleValue.lean ====
/- What the output projection and network leave in their result on the sample rows: the reference's term. -/
module

public import proofs.«01_k».proof.Proof.Gen.MlpSampleIdeal.Value
public import proofs.«01_k».proof.Proof.MlpKernel
public import proofs.«01_k».proof.Proof.MlpSampleRef
public import Idealize.ShloMosaic.Lib.Pipeline.ValueKit
public import Idealize.ShloMosaic.Lib.Pointwise

@[expose] public section

set_option maxRecDepth 16384

noncomputable section

namespace Cert.MlpSampleValue

open Idealize.ShloMosaic Idealize.ShloMosaic.TcCoe Idealize.SL.Sem
open Idealize.ShloMosaic.Pipeline (Dat)
open Cert.MlpSampleIdeal Cert.MlpSampleIdeal.Gen Cert.MlpMath

variable (m : (ℓ : Loc nD τ sig) → Buf (Elt Ideal) ℓ)

/-- Which block each window reads or writes at each point: the row windows move, the weights stay. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ t.val < 1 :=
  (by decide +kernel : ∀ t : Fin grid0.N, _)

/-- The result array is the reference's term over the argument arrays. -/
theorem final (c : Dev nD) : (dats m 0 c).arrAt 8 (cfgs 0).N
    = Cert.MlpSampleRef.REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]
  unfold_out out0_8
  frame_out
  obtain ⟨r, j, rfl⟩ : ∃ (r : Fin 512) (j : Fin 1024), y = (ix2 r j : S512x1024.Idx) := ⟨y 0, y 1, eq_ix2 y⟩
  refine (Cert.MlpKernel.body_at _ _ _ _ _ _ (iblk m c 5 t) (iblk m c 6 t) _ _ _ _ _ _ _ _
    (by intro i k; pointwise [r0_4]) (by intro i k; pointwise [r0_6]) (by intro i k; pointwise [r0_8]) (by intro i k; pointwise [r0_10])
    (by intro i k; pointwise [r0_5]) (by intro i k; pointwise [r0_7]) (by intro i k; pointwise [r0_9]) (by intro i k; pointwise [r0_11]) r j).trans ?_
  have ht : t.val < 1 := (idx t).2.2.2.2.2.2.2.2.2
  have he : ((View.whole main_v5).slice (win0_8.rect t)).emb (ix2 r j : S512x1024.Idx) = (ix2 (⟨t.val * 512 + r.val, by omega⟩ : Fin 512) j : S512x1024.Idx) := by
    blk_ext [idx t]
  rw [he]
  refine Eq.trans ?_ (Cert.MlpSampleRef.REF_at _ _ _ _ _ _ _ _ _ _).symm
  refine row_congr ?_ ?_ ?_ ?_ ?_ ?_ ?_ ?_ j <;> intros
  · blk_ext [iblk, V, idx t]
  · blk_ext [iblk, V, idx t]
  · blk_ext [iblk, V, idx t]
  all_goals blk_point [iblk, idx t]

end Cert.MlpSampleValue

end
-- ==== Proof.MlpSampleClaims.lean ====
/- The claims about the output projection and network on the sample rows. -/
module

public import proofs.«01_k».proof.Defs
public import proofs.«01_k».proof.Proof.Gen.MlpSample.Frame
public import proofs.«01_k».proof.Proof.MlpSampleValue
public import Idealize.ShloMosaic.Lib.Quiescent

@[expose] public section

noncomputable section

namespace Cert.MlpSampleClaims

open Idealize.ShloMosaic Idealize.SL.Sem

/-- The reference runs and leaves its arguments as they were. -/
theorem frame_ri : Cert.quiescent_MlpSampleRefIdeal := fun m ρ _ =>
  (θ_run Cert.MlpSampleRefIdeal.defs _ _).mono (fun r h => ⟨fun c => (h c).2, Idealize.ShloMosaic.sem_eq_zero_of_no_sems (by decide) r.2⟩)
    (Cert.MlpSampleRefIdeal.Value.run (F := Ideal) m ρ)

/-- Over the reals the two results are one: the kernel's result array is the reference's term. -/
theorem algebraic : Cert.algebraic_MlpSampleIdeal_MlpSampleRefIdeal := by
  intro m ρ m' ρ' _ hagree
  refine ⟨_, Cert.MlpSampleIdeal.Value.run_blocks (F := Ideal) m ρ, ?_⟩
  refine (θ_run Cert.MlpSampleRefIdeal.defs _ _).mono (fun _ h c => ⟨(h c).1.trans ?_, (h c).2⟩)
    (Cert.MlpSampleRefIdeal.Value.run (F := Ideal) m' ρ')
  refine (Cert.MlpSampleRef.res_eq m' c).trans (Eq.trans ?_ (Cert.MlpSampleValue.final m c).symm)
  obtain ⟨h0, h1, h2, h3, h4, h5, h6, h7⟩ := hagree c
  rw [h0, h1, h2, h3, h4, h5, h6, h7]

end Cert.MlpSampleClaims

end
-- ==== Proof.InSampleRef.lean ====
/- The reference of the input projection on the sample rows, read one row at a time. -/
module

public import proofs.«01_k».proof.Proof.Gen.InprojSampleRefIdeal.Run
public import proofs.«01_k».proof.Proof.InRef
public import Idealize.ShloMosaic.Lib.Pointwise

@[expose] public section

set_option maxRecDepth 16384

noncomputable section

namespace Cert.InSampleRef

open Idealize.ShloMosaic Idealize.ShloMosaic.TcCoe Idealize.SL.Sem
open Cert.InprojSampleRefIdeal Cert.InprojSampleRefIdeal.Gen Cert.MlpMath Cert.InMath

/-- The rows of `x`, each divided by the root of its mean square and scaled by `g`. -/
def nrmR (x : FVec Ideal S512x1024 .f32) (g : FVec Ideal S1024 .f32) : FVec Ideal S512x1024 .f32 :=
  (mulf (mulf x (broadcastInDim S512x1024 ![0, 1] bcast_S512x1_S512x1024_0_1 (Host.rsqrt (addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32)))))) (broadcastInDim S512x1024 ![0, 1] bcast_S1x1024_S512x1024_0_1 (broadcastInDim S1x1024 ![1] bcast_S1024_S1x1024_1 g)))

/-- All the projections of the normed rows. -/
def projR (x : FVec Ideal S512x1024 .f32) (g : FVec Ideal S1024 .f32) (w : FVec Ideal S1024x3584 .f32) : FVec Ideal S512x3584 .f32 :=
  Host.dotGeneral dot_S512x1024_S1024x3584_S512x3584_1_0_0_1_n_n none (nrmR x g) w

/-- The forget gate of the projections `p`. -/
def gateR (b : FVec Ideal S2x512 .f32) (p : FVec Ideal S512x3584 .f32) : FVec Ideal S512x512 .f32 :=
  addf (broadcastInDim S512x512 ![0, 1] bcast_S1x512_S512x512_0_1 (broadcastInDim S1x512 ![1] bcast_S512_S1x512_1 (Cert.InRef.lowR b))) (mulf (broadcastInDim S512x512 ![0, 1] bcast_S1x512_S512x512_0_1 (broadcastInDim S1x512 ![1] bcast_S512_S1x512_1 (subf (broadcastInDim S512 ![] bcast_S_S512 (constant S_ .f32 0x3F800000#32)) (Cert.InRef.lowR b)))) (Host.divf (broadcastInDim S512x512 ![] bcast_S_S512x512 (constant S_ .f32 0x3F800000#32)) (addf (broadcastInDim S512x512 ![] bcast_S_S512x512 (constant S_ .f32 0x3F800000#32)) (Host.exp (Host.negf (extractStridedSlice S512x512 ![0, 512] p slices_S512x3584_S512x512_0_512))))))

/-- The reference's first result: what the recurrence takes. -/
def hgR (b : FVec Ideal S2x512 .f32) (p : FVec Ideal S512x3584 .f32) : FVec Ideal S512x2560 .f32 :=
  concatenate S512x2560 1 [⟨S512x512, extractStridedSlice S512x512 ![0, 0] p slices_S512x3584_S512x512_0_0⟩, ⟨S512x512, Host.log (gateR b p)⟩, ⟨S512x512, subf (broadcastInDim S512x512 ![] bcast_S_S512x512 (constant S_ .f32 0x3F800000#32)) (gateR b p)⟩, ⟨S512x512, extractStridedSlice S512x512 ![0, 1024] p slices_S512x3584_S512x512_0_1024⟩, ⟨S512x512, extractStridedSlice S512x512 ![0, 1536] p slices_S512x3584_S512x512_0_1536⟩] concatenates_S512x512_S512x512_S512x512_S512x512_S512x512_S512x2560_d1

/-- The reference's second result: the queries on the kernel's scale. -/
def aqR (p : FVec Ideal S512x3584 .f32) : FVec Ideal S512x512 .bf16 :=
  truncf .bf16 (Host.divf (extractStridedSlice S512x512 ![0, 2048] p slices_S512x3584_S512x512_0_2048) (broadcastInDim S512x512 ![] bcast_S_S512x512 (mulf (Host.log (constant S_ .f32 0x40000000#32)) (constant S_ .f32 0x41000000#32)))) bitsLt_bf16_f32

/-- The reference's third result: the keys. -/
def akR (p : FVec Ideal S512x3584 .f32) : FVec Ideal S512x512 .bf16 :=
  truncf .bf16 (extractStridedSlice S512x512 ![0, 2560] p slices_S512x3584_S512x512_0_2560) bitsLt_bf16_f32

/-- The reference's fourth result: the values. -/
def avR (p : FVec Ideal S512x3584 .f32) : FVec Ideal S512x512 .bf16 :=
  truncf .bf16 (extractStridedSlice S512x512 ![0, 3072] p slices_S512x3584_S512x512_0_3072) bitsLt_bf16_f32

/-- The reference's fifth result: the keys in full width. -/
def kfR (p : FVec Ideal S512x3584 .f32) : FVec Ideal S512x512 .f32 :=
  extractStridedSlice S512x512 ![0, 2560] p slices_S512x3584_S512x512_0_2560

/-- The reference's sixth result: the values in full width. -/
def vfR (p : FVec Ideal S512x3584 .f32) : FVec Ideal S512x512 .f32 :=
  extractStridedSlice S512x512 ![0, 3072] p slices_S512x3584_S512x512_0_3072

/-- The reference's run states the first result's term. -/
theorem res_eq (m : (ℓ : Loc nD τ sig) → Buf (Elt Ideal) ℓ) (c : Dev nD) :
    Cert.InprojSampleRefIdeal.Value.res_out0 m c = hgR (m ((c.tc : Thread nD τ).loc main_arg3)) (projR (m ((c.tc : Thread nD τ).loc main_arg0)) (m ((c.tc : Thread nD τ).loc main_arg1)) (m ((c.tc : Thread nD τ).loc main_arg2))) := by
  unfold Cert.InprojSampleRefIdeal.Value.res_out0 Cert.InprojSampleRefIdeal.Value.res_main_v59
  rfl

/-- One entry of the norm. -/
theorem nrmR_at (x : FVec Ideal S512x1024 .f32) (g : FVec Ideal S1024 .f32) (r : Fin 512) (j : Fin 1024) :
    nrmR x g (ix2 r j) = nrm (fun j => x (ix2 r j)) (fun j => g (ix1 j)) j := by
  pointwise [nrmR, nrm]

/-- One entry of the projections. -/
theorem projR_at (x : FVec Ideal S512x1024 .f32) (g : FVec Ideal S1024 .f32) (w : FVec Ideal S1024x3584 .f32) (r : Fin 512) (j : Fin 3584) :
    projR x g w (ix2 r j) = proj (fun j => x (ix2 r j)) (fun j => g (ix1 j)) (fun k => w (ix2 k j)) := by
  unfold proj
  simp only [← nrmR_at]
  pointwise [projR]

/-- One gate. -/
theorem gateR_at (b : FVec Ideal S2x512 .f32) (p : FVec Ideal S512x3584 .f32) (r : Fin 512) (j : Fin 512) :
    gateR b p (ix2 r j) = gate (fun i => b (ix2 i j)) (p (ix2 r ⟨512 + j.val, by omega⟩)) := by
  unfold gate
  simp only [← Cert.InRef.lowR_at]
  pointwise [gateR]
  rfl

/-- One entry of the first result. -/
theorem hgR_at (b : FVec Ideal S2x512 .f32) (p : FVec Ideal S512x3584 .f32) (r : Fin 512) (j : Fin 2560) :
    hgR b p (ix2 r j) = cols (fun j i => b (ix2 i j)) (fun j => p (ix2 r j)) j := by
  unfold cols
  simp only [← gateR_at]
  pointwise [hgR]

/-- One query. -/
theorem aqR_at (p : FVec Ideal S512x3584 .f32) (r : Fin 512) (j : Fin 512) :
    aqR p (ix2 r j) = p (ix2 r ⟨2048 + j.val, by omega⟩) * (((Real.log 256)⁻¹ : ℝ) : EReal) := by
  pointwise [aqR]
  rw [Cert.Consts.two, Cert.Consts.eight, Ideal.log_coe, if_neg (by norm_num), ← EReal.coe_mul, show Real.log 2 * 8 = Real.log 256 by
    rw [show (256 : ℝ) = 2 ^ (8 : ℕ) by norm_num, Real.log_pow]
    ring, Ideal.div_coe (Real.log_pos (by norm_num)).ne', one_div]

/-- One key. -/
theorem akR_at (p : FVec Ideal S512x3584 .f32) (r : Fin 512) (j : Fin 512) : akR p (ix2 r j) = p (ix2 r ⟨2560 + j.val, by omega⟩) := by
  pointwise [akR]

/-- One value. -/
theorem avR_at (p : FVec Ideal S512x3584 .f32) (r : Fin 512) (j : Fin 512) : avR p (ix2 r j) = p (ix2 r ⟨3072 + j.val, by omega⟩) := by
  pointwise [avR]

/-- One key in full width. -/
theorem kfR_at (p : FVec Ideal S512x3584 .f32) (r : Fin 512) (j : Fin 512) :
    kfR p (ix2 r j) = p (ix2 r ⟨2560 + j.val, by omega⟩) := by
  pointwise [kfR]

/-- One value in full width. -/
theorem vfR_at (p : FVec Ideal S512x3584 .f32) (r : Fin 512) (j : Fin 512) :
    vfR p (ix2 r j) = p (ix2 r ⟨3072 + j.val, by omega⟩) := by
  pointwise [vfR]

end Cert.InSampleRef

end
-- ==== Proof.InSampleValue.lean ====
/- What the input projection leaves in its results on the sample rows: the reference's terms. -/
module

public import proofs.«01_k».proof.Proof.Gen.InprojSampleIdeal.Value
public import proofs.«01_k».proof.Proof.InKernel
public import proofs.«01_k».proof.Proof.InSampleRef
public import Idealize.ShloMosaic.Lib.Pipeline.ValueKit
public import Idealize.ShloMosaic.Lib.Pointwise

@[expose] public section

set_option maxRecDepth 16384

noncomputable section

namespace Cert.InSampleValue

open Idealize.ShloMosaic Idealize.ShloMosaic.TcCoe Idealize.SL.Sem
open Idealize.ShloMosaic.Pipeline (Dat)
open Cert.InprojSampleIdeal Cert.InprojSampleIdeal.Gen Cert.MlpMath Cert.InMath

variable (m : (ℓ : Loc nD τ sig) → Buf (Elt Ideal) ℓ)

/-- Which block each window reads or writes at each point: the row windows move, the weights stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ t.val < 1 :=
  (by decide +kernel : ∀ t : Fin grid0.N, _)

/-- The projections that the reference takes of the arguments. -/
def PR (c : Dev nD) : FVec Ideal Cert.InprojSampleRefIdeal.S512x3584 .f32 :=
  Cert.InSampleRef.projR (m ((c : Thread nD τ).loc main_arg0)) (m ((c : Thread nD τ).loc main_arg1)) (m ((c : Thread nD τ).loc main_arg2))

/-- One projection of a block's row: `w` is the columns from `o` on. -/
theorem block_proj (c : Dev nD) (t : Fin cfg0.N) (ht : t.val < 1) (w : Vec Ideal S1024x512 .bf16) (o : ℕ) (ho : o + 512 ≤ 3584)
    (hw : ∀ (k : Fin 1024) (j : Fin 512), w (ix2 k j) = iblk m c 2 t (ix2 k (⟨o + j.val, by omega⟩ : Fin 3584))) (r j : Fin 512) :
    k0_pay1 (k0_pay4 (iblk m c 0 t) (iblk m c 1 t)) w (ix2 r j)
      = PR m c (ix2 (⟨t.val * 512 + r.val, by omega⟩ : Fin 512) (⟨o + j.val, by omega⟩ : Fin 3584)) := by
  unfold PR
  refine (Cert.InKernel.pay1_proj _ _ _ _ _).trans ?_
  rw [Cert.InSampleRef.projR_at]
  refine proj_congr ?_ ?_ ?_ <;> intro k
  · blk_ext [iblk, V, idx t]
  · blk_point [iblk, V, idx t]
  · rw [hw]
    blk_point [iblk, V, idx t]

/-- The gate of a block's row. -/
theorem block_gate (c : Dev nD) (t : Fin cfg0.N) (ht : t.val < 1) (w : Vec Ideal S1024x512 .bf16)
    (hw : ∀ (k : Fin 1024) (j : Fin 512), w (ix2 k j) = iblk m c 2 t (ix2 k (⟨512 + j.val, by omega⟩ : Fin 3584))) (r j : Fin 512) :
    k0_pay5 (iblk m c 0 t) (iblk m c 1 t) (iblk m c 3 t) w (ix2 r j)
      = gate (fun i => m ((c : Thread nD τ).loc main_arg3) (ix2 i j)) (PR m c (ix2 (⟨t.val * 512 + r.val, by omega⟩ : Fin 512) (⟨512 + j.val, by omega⟩ : Fin 3584))) := by
  refine (Cert.InKernel.pay5_at _ _ _ _ _ _).trans (congrArg₂ gate (funext fun i => ?_) (block_proj m c t ht w 512 (by omega) hw r j))
  blk_point [iblk, V, idx t]

/-- What the recurrence takes. -/
theorem final4 (c : Dev nD) : (dats m 0 c).arrAt 4 (cfgs 0).N = Cert.InSampleRef.hgR (m ((c : Thread nD τ).loc main_arg3)) (PR m c) := by
  refine (dats m 0 c).arrAt_eq_of_covers 4 _ (by decide +kernel) fun t _ y => ?_
  blk_simp
  rw [after0_4]
  obtain ⟨r, j, rfl⟩ : ∃ (r : Fin 512) (j : Fin 2560), y = (ix2 r j : S512x2560.Idx) := ⟨y 0, y 1, eq_ix2 y⟩
  have ht : t.val < 1 := (idx t).2.2.2.2.2.2.2.2.2.2
  have he : ((View.whole main_v2_0).slice (win0_4.rect t)).emb (ix2 r j : S512x2560.Idx) = (ix2 (⟨t.val * 512 + r.val, by omega⟩ : Fin 512) j : S512x2560.Idx) := by
    blk_ext [idx t]
  rw [he, Cert.InSampleRef.hgR_at]
  unfold outsAt0
  frame_out
  canon_tiles x h
  all_goals
    obtain ⟨a, b, rfl⟩ : ∃ (a : Fin 512) (b : Fin 512), x = (ix2 a b : S512x512.Idx) := ⟨x 0, x 1, eq_ix2 x⟩
    obtain rfl : r = a := Fin.ext h0
    change j.val = _ at h1
  · refine Eq.trans ?_ (cols_out _ _ b h1).symm
    exact (block_proj m c t ht _ 1536 (by omega) (by intro k j; pointwise) r b)
  · refine Eq.trans ?_ (cols_val _ _ b h1).symm
    exact (block_proj m c t ht _ 1024 (by omega) (by intro k j; pointwise) r b)
  · refine Eq.trans ?_ (cols_key _ _ b h1).symm
    exact (congrArg (fun z => Ideal.ofBits .f32 0x3F800000#32 - z) (block_gate m c t ht _ (by intro k j; pointwise) r b))
  · refine Eq.trans ?_ (cols_log _ _ b h1).symm
    exact (congrArg Ideal.log (block_gate m c t ht _ (by intro k j; pointwise) r b))
  · refine Eq.trans ?_ (cols_q _ _ b h1).symm
    exact (block_proj m c t ht _ 0 (by omega) (by intro k j; pointwise) r b)

/-- The queries. -/
theorem final5 (c : Dev nD) : (dats m 0 c).arrAt 5 (cfgs 0).N = Cert.InSampleRef.aqR (PR m c) := by
  refine (dats m 0 c).arrAt_eq_of_covers 5 _ (by decide +kernel) fun t _ y => ?_
  blk_simp
  rw [after0_5]
  obtain ⟨r, j, rfl⟩ : ∃ (r : Fin 512) (j : Fin 512), y = (ix2 r j : S512x512.Idx) := ⟨y 0, y 1, eq_ix2 y⟩
  have ht : t.val < 1 := (idx t).2.2.2.2.2.2.2.2.2.2
  have he : ((View.whole main_v2_1).slice (win0_5.rect t)).emb (ix2 r j : S512x512.Idx) = (ix2 (⟨t.val * 512 + r.val, by omega⟩ : Fin 512) j : S512x512.Idx) := by
    blk_ext [idx t]
  rw [he, Cert.InSampleRef.aqR_at]
  unfold outsAt0
  frame_out
  exact (Cert.InKernel.pay11_at _ _ r j).trans (congrArg (· * _) (block_proj m c t ht _ 2048 (by omega) (by intro k j; pointwise) r j))

/-- The keys. -/
theorem final6 (c : Dev nD) : (dats m 0 c).arrAt 6 (cfgs 0).N = Cert.InSampleRef.akR (PR m c) := by
  refine (dats m 0 c).arrAt_eq_of_covers 6 _ (by decide +kernel) fun t _ y => ?_
  blk_simp
  rw [after0_6]
  obtain ⟨r, j, rfl⟩ : ∃ (r : Fin 512) (j : Fin 512), y = (ix2 r j : S512x512.Idx) := ⟨y 0, y 1, eq_ix2 y⟩
  have ht : t.val < 1 := (idx t).2.2.2.2.2.2.2.2.2.2
  have he : ((View.whole main_v2_2).slice (win0_6.rect t)).emb (ix2 r j : S512x512.Idx) = (ix2 (⟨t.val * 512 + r.val, by omega⟩ : Fin 512) j : S512x512.Idx) := by
    blk_ext [idx t]
  rw [he, Cert.InSampleRef.akR_at]
  unfold outsAt0
  frame_out
  exact block_proj m c t ht _ 2560 (by omega) (by intro k j; pointwise) r j

/-- The values. -/
theorem final7 (c : Dev nD) : (dats m 0 c).arrAt 7 (cfgs 0).N = Cert.InSampleRef.avR (PR m c) := by
  refine (dats m 0 c).arrAt_eq_of_covers 7 _ (by decide +kernel) fun t _ y => ?_
  blk_simp
  rw [after0_7]
  obtain ⟨r, j, rfl⟩ : ∃ (r : Fin 512) (j : Fin 512), y = (ix2 r j : S512x512.Idx) := ⟨y 0, y 1, eq_ix2 y⟩
  have ht : t.val < 1 := (idx t).2.2.2.2.2.2.2.2.2.2
  have he : ((View.whole main_v2_3).slice (win0_7.rect t)).emb (ix2 r j : S512x512.Idx) = (ix2 (⟨t.val * 512 + r.val, by omega⟩ : Fin 512) j : S512x512.Idx) := by
    blk_ext [idx t]
  rw [he, Cert.InSampleRef.avR_at]
  unfold outsAt0
  frame_out
  exact block_proj m c t ht _ 3072 (by omega) (by intro k j; pointwise) r j

/-- The keys in full width. -/
theorem final8 (c : Dev nD) : (dats m 0 c).arrAt 8 (cfgs 0).N = Cert.InSampleRef.kfR (PR m c) := by
  refine (dats m 0 c).arrAt_eq_of_covers 8 _ (by decide +kernel) fun t _ y => ?_
  blk_simp
  rw [after0_8]
  obtain ⟨r, j, rfl⟩ : ∃ (r : Fin 512) (j : Fin 512), y = (ix2 r j : S512x512.Idx) := ⟨y 0, y 1, eq_ix2 y⟩
  have ht : t.val < 1 := (idx t).2.2.2.2.2.2.2.2.2.2
  have he : ((View.whole main_v2_4).slice (win0_8.rect t)).emb (ix2 r j : S512x512.Idx) = (ix2 (⟨t.val * 512 + r.val, by omega⟩ : Fin 512) j : S512x512.Idx) := by
    blk_ext [idx t]
  rw [he, Cert.InSampleRef.kfR_at]
  unfold outsAt0
  frame_out
  exact block_proj m c t ht _ 2560 (by omega) (by intro k j; pointwise) r j

/-- The values in full width. -/
theorem final9 (c : Dev nD) : (dats m 0 c).arrAt 9 (cfgs 0).N = Cert.InSampleRef.vfR (PR m c) := by
  refine (dats m 0 c).arrAt_eq_of_covers 9 _ (by decide +kernel) fun t _ y => ?_
  blk_simp
  rw [after0_9]
  obtain ⟨r, j, rfl⟩ : ∃ (r : Fin 512) (j : Fin 512), y = (ix2 r j : S512x512.Idx) := ⟨y 0, y 1, eq_ix2 y⟩
  have ht : t.val < 1 := (idx t).2.2.2.2.2.2.2.2.2.2
  have he : ((View.whole main_v2_5).slice (win0_9.rect t)).emb (ix2 r j : S512x512.Idx) = (ix2 (⟨t.val * 512 + r.val, by omega⟩ : Fin 512) j : S512x512.Idx) := by
    blk_ext [idx t]
  rw [he, Cert.InSampleRef.vfR_at]
  unfold outsAt0
  frame_out
  exact block_proj m c t ht _ 3072 (by omega) (by intro k j; pointwise) r j

end Cert.InSampleValue

end
-- ==== Proof.InSampleClaims.lean ====
/- The claims about the input projection on the sample rows. -/
module

public import proofs.«01_k».proof.Defs
public import proofs.«01_k».proof.Proof.Gen.InprojSample.Frame
public import proofs.«01_k».proof.Proof.InSampleValue
public import Idealize.ShloMosaic.Lib.Quiescent

@[expose] public section

noncomputable section

namespace Cert.InSampleClaims

open Idealize.ShloMosaic Idealize.SL.Sem

/-- The reference runs and leaves its arguments as they were. -/
theorem frame_ri : Cert.quiescent_InprojSampleRefIdeal := fun m ρ _ =>
  (θ_run Cert.InprojSampleRefIdeal.defs _ _).mono (fun r h => ⟨fun c => (h c).2.2.2.2.2.2, Idealize.ShloMosaic.sem_eq_zero_of_no_sems (by decide) r.2⟩)
    (Cert.InprojSampleRefIdeal.Value.run (F := Ideal) m ρ)

/-- The scale of the queries is named: over the reals it is one over the logarithm of 256. -/
theorem preserves : Cert.preserves_InprojSample_InprojSampleIdeal :=
  IdealRules.named_const.statement Cert.InprojSampleIdeal.κ "log2e_8" .f32 0x3E38AA3B#32 (((Real.log 256)⁻¹ : ℝ) : EReal) rfl

/-- Over the reals the six results are the reference's. -/
theorem algebraic : Cert.algebraic_InprojSampleIdeal_InprojSampleRefIdeal := by
  intro m ρ m' ρ' _ hagree
  refine ⟨_, _, _, _, _, _, Cert.InprojSampleIdeal.Value.run_blocks (F := Ideal) m ρ, ?_⟩
  refine (θ_run Cert.InprojSampleRefIdeal.defs _ _).mono (fun _ h c => ?_) (Cert.InprojSampleRefIdeal.Value.run (F := Ideal) m' ρ')
  obtain ⟨e0, e1, e2, e3, e4, e5, hk⟩ := h c
  obtain ⟨h0, h1, h2, h3⟩ := hagree c
  have hp : Cert.InSampleRef.projR (m' ((c.tc : Thread Cert.InprojSampleRefIdeal.nD Cert.InprojSampleRefIdeal.τ).loc Cert.InprojSampleRefIdeal.main_arg0)) (m' ((c.tc : Thread Cert.InprojSampleRefIdeal.nD Cert.InprojSampleRefIdeal.τ).loc Cert.InprojSampleRefIdeal.main_arg1)) (m' ((c.tc : Thread Cert.InprojSampleRefIdeal.nD Cert.InprojSampleRefIdeal.τ).loc Cert.InprojSampleRefIdeal.main_arg2)) = Cert.InSampleValue.PR m c := by
    rw [h0, h1, h2]
    rfl
  refine ⟨e0.trans ((Cert.InSampleRef.res_eq m' c).trans ?_), e1.trans (Eq.trans (congrArg Cert.InSampleRef.aqR hp) (Cert.InSampleValue.final5 m c).symm),
    e2.trans (Eq.trans (congrArg Cert.InSampleRef.akR hp) (Cert.InSampleValue.final6 m c).symm), e3.trans (Eq.trans (congrArg Cert.InSampleRef.avR hp) (Cert.InSampleValue.final7 m c).symm),
    e4.trans (Eq.trans (congrArg Cert.InSampleRef.kfR hp) (Cert.InSampleValue.final8 m c).symm), e5.trans (Eq.trans (congrArg Cert.InSampleRef.vfR hp) (Cert.InSampleValue.final9 m c).symm), hk⟩
  rw [hp, h3]
  exact (Cert.InSampleValue.final4 m c).symm

end Cert.InSampleClaims

end
-- ==== Proof.lean ====
/- All the claims, assembled. -/
module

public import proofs.«01_k».proof.Defs
public import proofs.«01_k».proof.Proof.Gen.AttnIdeal.Value
public import proofs.«01_k».proof.Proof.Gen.AttnPrompt
public import proofs.«01_k».proof.Proof.Gen.AttnPrompt.Skeleton
public import proofs.«01_k».proof.Proof.Gen.AttnPrompt.Launch
public import proofs.«01_k».proof.Proof.Gen.AttnPrompt.Points
public import proofs.«01_k».proof.Proof.Gen.AttnPrompt.Frame
public import proofs.«01_k».proof.Proof.Gen.AttnPromptIdeal
public import proofs.«01_k».proof.Proof.Gen.AttnPromptIdeal.Skeleton
public import proofs.«01_k».proof.Proof.Gen.AttnPromptIdeal.Launch
public import proofs.«01_k».proof.Proof.Gen.AttnPromptIdeal.Points
public import proofs.«01_k».proof.Proof.Gen.AttnPromptIdeal.Frame
public import proofs.«01_k».proof.Proof.Gen.AttnPromptIdeal.Value
public import proofs.«01_k».proof.Proof.Gen.AttnPromptRefIdeal
public import proofs.«01_k».proof.Proof.Gen.AttnPromptRefIdeal.Run
public import proofs.«01_k».proof.Proof.BandClaims
public import proofs.«01_k».proof.Proof.MlpClaims
public import proofs.«01_k».proof.Proof.AttnClaims
public import proofs.«01_k».proof.Proof.InClaims
public import proofs.«01_k».proof.Proof.HgClaims
public import proofs.«01_k».proof.Proof.MlpSampleClaims
public import proofs.«01_k».proof.Proof.InSampleClaims
public import proofs.«01_k».proof.Proof.Pre
public import proofs.«01_k».proof.Proof.Gen.MlpIdeal.Value
public import proofs.«01_k».proof.Proof.Gen.AttnRefIdeal.Run
public import proofs.«01_k».proof.Proof.Gen.MlpRefIdeal.Run
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpRefIdeal
public import proofs.«01_k».proof.Proof.Gen.Inproj
public import proofs.«01_k».proof.Proof.Gen.Inproj.Skeleton
public import proofs.«01_k».proof.Proof.Gen.Inproj.Launch
public import proofs.«01_k».proof.Proof.Gen.Inproj.Points
public import proofs.«01_k».proof.Proof.Gen.Inproj.Frame
public import proofs.«01_k».proof.Proof.Gen.InprojIdeal
public import proofs.«01_k».proof.Proof.Gen.InprojIdeal.Skeleton
public import proofs.«01_k».proof.Proof.Gen.InprojIdeal.Launch
public import proofs.«01_k».proof.Proof.Gen.InprojIdeal.Points
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.Gen.Hgrn
public import proofs.«01_k».proof.Proof.Gen.Hgrn.Skeleton
public import proofs.«01_k».proof.Proof.Gen.Hgrn.Launch
public import proofs.«01_k».proof.Proof.Gen.Hgrn.Points
public import proofs.«01_k».proof.Proof.Gen.Hgrn.Frame
public import proofs.«01_k».proof.Proof.Gen.HgrnIdeal
public import proofs.«01_k».proof.Proof.Gen.HgrnIdeal.Skeleton
public import proofs.«01_k».proof.Proof.Gen.HgrnIdeal.Launch
public import proofs.«01_k».proof.Proof.Gen.HgrnIdeal.Points
public import proofs.«01_k».proof.Proof.Gen.HgrnIdeal.Frame
public import proofs.«01_k».proof.Proof.Gen.HgrnRefIdeal
public import proofs.«01_k».proof.Proof.Gen.HgrnRefIdeal.Run
public import proofs.«01_k».proof.Proof.Gen.MlpSample
public import proofs.«01_k».proof.Proof.Gen.MlpSample.Skeleton
public import proofs.«01_k».proof.Proof.Gen.MlpSample.Launch
public import proofs.«01_k».proof.Proof.Gen.MlpSample.Points
public import proofs.«01_k».proof.Proof.Gen.MlpSample.Frame
public import proofs.«01_k».proof.Proof.Gen.MlpSampleIdeal
public import proofs.«01_k».proof.Proof.Gen.MlpSampleIdeal.Skeleton
public import proofs.«01_k».proof.Proof.Gen.MlpSampleIdeal.Launch
public import proofs.«01_k».proof.Proof.Gen.MlpSampleIdeal.Points
public import proofs.«01_k».proof.Proof.Gen.MlpSampleIdeal.Frame
public import proofs.«01_k».proof.Proof.Gen.MlpSampleIdeal.Value
public import proofs.«01_k».proof.Proof.Gen.InprojSample
public import proofs.«01_k».proof.Proof.Gen.InprojSample.Skeleton
public import proofs.«01_k».proof.Proof.Gen.InprojSample.Launch
public import proofs.«01_k».proof.Proof.Gen.InprojSample.Points
public import proofs.«01_k».proof.Proof.Gen.InprojSample.Frame
public import proofs.«01_k».proof.Proof.Gen.InprojSampleIdeal
public import proofs.«01_k».proof.Proof.Gen.InprojSampleIdeal.Skeleton
public import proofs.«01_k».proof.Proof.Gen.InprojSampleIdeal.Launch
public import proofs.«01_k».proof.Proof.Gen.InprojSampleIdeal.Points
public import proofs.«01_k».proof.Proof.Gen.InprojSampleIdeal.Frame
public import proofs.«01_k».proof.Proof.Gen.InprojSampleIdeal.Value
public import proofs.«01_k».proof.Proof.Gen.MlpSampleRefIdeal
public import proofs.«01_k».proof.Proof.Gen.MlpSampleRefIdeal.Run
public import proofs.«01_k».proof.Proof.Gen.InprojSampleRefIdeal
public import proofs.«01_k».proof.Proof.Gen.InprojSampleRefIdeal.Run
public import Idealize.ShloMosaic.Adequacy
public import Idealize.ShloMosaic.Init

@[expose] public section

noncomputable section

namespace Cert.Proof

open Idealize.ShloMosaic Idealize.SL.Sem Cert.Attn

/-- All the claims. -/
theorem claim : Cert.Claim := ⟨Cert.Attn.Gen.facts, Cert.AttnIdeal.Gen.facts, Cert.AttnRefIdeal.Gen.facts, Cert.Mlp.Gen.facts, Cert.MlpIdeal.Gen.facts, Cert.MlpRefIdeal.Gen.facts, Cert.Inproj.Gen.facts, Cert.InprojIdeal.Gen.facts, Cert.InprojRefIdeal.Gen.facts, Cert.Hgrn.Gen.facts, Cert.HgrnIdeal.Gen.facts, Cert.HgrnRefIdeal.Gen.facts, Cert.MlpSample.Gen.facts, Cert.MlpSampleIdeal.Gen.facts, Cert.MlpSampleRefIdeal.Gen.facts, Cert.InprojSample.Gen.facts, Cert.InprojSampleIdeal.Gen.facts, Cert.InprojSampleRefIdeal.Gen.facts, Cert.AttnPrompt.Gen.facts, Cert.AttnPromptIdeal.Gen.facts, Cert.AttnPromptRefIdeal.Gen.facts, Cert.Pre.facts, Cert.HgClaims.facts, Cert.BandPre.facts,
  fun m ρ _ => Cert.Attn.Gen.frame m ρ,
  fun m ρ _ => Cert.AttnIdeal.Gen.frame m ρ,
  fun m ρ _ => Cert.AttnIdeal.Gen.frame m ρ,
  fun m ρ _ => Cert.AttnClaims.frame_ri m ρ trivial,
  fun m ρ _ => Cert.AttnClaims.frame_ri m ρ trivial,
  fun m ρ _ => Cert.Mlp.Gen.frame m ρ,
  fun m ρ _ => Cert.MlpIdeal.Gen.frame m ρ,
  Cert.MlpClaims.frame_ri,
  fun m ρ _ => Cert.Inproj.Gen.frame m ρ,
  fun m ρ _ => Cert.InprojIdeal.Gen.frame m ρ,
  Cert.InClaims.frame_ri,
  fun m ρ _ => Cert.HgBits.frame m ρ,
  fun m ρ _ => Cert.HgIdeal.frame m ρ,
  fun m ρ _ => Cert.HgIdeal.frame m ρ,
  fun m ρ _ => Cert.HgClaims.frame_ri m ρ trivial,
  fun m ρ _ => Cert.HgClaims.frame_ri m ρ trivial,
  fun m ρ _ => Cert.MlpSample.Gen.frame m ρ,
  fun m ρ _ => Cert.MlpSampleIdeal.Gen.frame m ρ,
  Cert.MlpSampleClaims.frame_ri,
  fun m ρ _ => Cert.InprojSample.Gen.frame m ρ,
  fun m ρ _ => Cert.InprojSampleIdeal.Gen.frame m ρ,
  Cert.InSampleClaims.frame_ri,
  fun m ρ _ => Cert.AttnPrompt.Gen.frame m ρ,
  fun m ρ _ => Cert.AttnPromptIdeal.Gen.frame m ρ,
  fun m ρ _ => Cert.AttnPromptIdeal.Gen.frame m ρ,
  fun m ρ _ => Cert.BandClaims.frame_ri m ρ trivial,
  fun m ρ _ => Cert.BandClaims.frame_ri m ρ trivial,
  Cert.AttnClaims.preserves,
  Cert.AttnClaims.algebraic,
  trivial,
  Cert.MlpClaims.algebraic,
  Cert.InClaims.preserves,
  Cert.InClaims.algebraic,
  trivial,
  Cert.HgClaims.algebraic,
  trivial,
  Cert.MlpSampleClaims.algebraic,
  Cert.InSampleClaims.preserves,
  Cert.InSampleClaims.algebraic,
  Cert.BandClaims.preserves,
  Cert.BandClaims.algebraic⟩

end Cert.Proof

end
